-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite [hPre_finite : Cert.Pre_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite [hPre_finite : Cert.Pre_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite [hKernel3Ideal : Cert.Kernel3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite [hReference3Ideal : Cert.Reference3Ideal.Facts] [hPre_finite : Cert.Pre_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)) (v2 : (c : Dev Cert.KernelIdeal.nD) → Buf (Elt Ideal) ((c.tc : Thread Cert.KernelIdeal.nD Cert.KernelIdeal.τ).loc Cert.KernelIdeal.main_v20_2)) (v3 : (c : Dev Cert.KernelIdeal.nD) → Buf (Elt Ideal) ((c.tc : Thread Cert.KernelIdeal.nD Cert.KernelIdeal.τ).loc Cert.KernelIdeal.main_v20_3)) (v4 : (c : Dev Cert.KernelIdeal.nD) → Buf (Elt Ideal) ((c.tc : Thread Cert.KernelIdeal.nD Cert.KernelIdeal.τ).loc Cert.KernelIdeal.main_v20_4)) (v5 : (c : Dev Cert.KernelIdeal.nD) → Buf (Elt Ideal) ((c.tc : Thread Cert.KernelIdeal.nD Cert.KernelIdeal.τ).loc Cert.KernelIdeal.main_v20_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_v20_2) = v2 c
          ∧ r.2.mem ((c.tc : Thread Cert.KernelIdeal.nD Cert.KernelIdeal.τ).loc Cert.KernelIdeal.main_v20_3) = v3 c
          ∧ r.2.mem ((c.tc : Thread Cert.KernelIdeal.nD Cert.KernelIdeal.τ).loc Cert.KernelIdeal.main_v20_4) = v4 c
          ∧ r.2.mem ((c.tc : Thread Cert.KernelIdeal.nD Cert.KernelIdeal.τ).loc Cert.KernelIdeal.main_v20_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_v171) = v1 c
          ∧ r.2.mem ((c.tc : Thread Cert.ReferenceIdeal.nD Cert.ReferenceIdeal.τ).loc Cert.ReferenceIdeal.main_v172) = v2 c
          ∧ r.2.mem ((c.tc : Thread Cert.ReferenceIdeal.nD Cert.ReferenceIdeal.τ).loc Cert.ReferenceIdeal.main_v200) = v3 c
          ∧ r.2.mem ((c.tc : Thread Cert.ReferenceIdeal.nD Cert.ReferenceIdeal.τ).loc Cert.ReferenceIdeal.main_v95) = v4 c
          ∧ r.2.mem ((c.tc : Thread Cert.ReferenceIdeal.nD Cert.ReferenceIdeal.τ).loc Cert.ReferenceIdeal.main_v201) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal_pre_finite [hKernel3Ideal : Cert.Kernel3Ideal.Facts] [hReference3Ideal : Cert.Reference3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v24_0)) (v1 : (c : Dev Cert.Kernel3Ideal.nD) → Buf (Elt Ideal) ((c.tc : Thread Cert.Kernel3Ideal.nD Cert.Kernel3Ideal.τ).loc Cert.Kernel3Ideal.main_v24_1)) (v2 : (c : Dev Cert.Kernel3Ideal.nD) → Buf (Elt Ideal) ((c.tc : Thread Cert.Kernel3Ideal.nD Cert.Kernel3Ideal.τ).loc Cert.Kernel3Ideal.main_v24_2)) (v3 : (c : Dev Cert.Kernel3Ideal.nD) → Buf (Elt Ideal) ((c.tc : Thread Cert.Kernel3Ideal.nD Cert.Kernel3Ideal.τ).loc Cert.Kernel3Ideal.main_v24_3)) (v4 : (c : Dev Cert.Kernel3Ideal.nD) → Buf (Elt Ideal) ((c.tc : Thread Cert.Kernel3Ideal.nD Cert.Kernel3Ideal.τ).loc Cert.Kernel3Ideal.main_v24_4)) (v5 : (c : Dev Cert.Kernel3Ideal.nD) → Buf (Elt Ideal) ((c.tc : Thread Cert.Kernel3Ideal.nD Cert.Kernel3Ideal.τ).loc Cert.Kernel3Ideal.main_v24_5)) (v6 : (c : Dev Cert.Kernel3Ideal.nD) → Buf (Elt Ideal) ((c.tc : Thread Cert.Kernel3Ideal.nD Cert.Kernel3Ideal.τ).loc Cert.Kernel3Ideal.main_v24_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v24_0) = v0 c
          ∧ r.2.mem ((c.tc : Thread Cert.Kernel3Ideal.nD Cert.Kernel3Ideal.τ).loc Cert.Kernel3Ideal.main_v24_1) = v1 c
          ∧ r.2.mem ((c.tc : Thread Cert.Kernel3Ideal.nD Cert.Kernel3Ideal.τ).loc Cert.Kernel3Ideal.main_v24_2) = v2 c
          ∧ r.2.mem ((c.tc : Thread Cert.Kernel3Ideal.nD Cert.Kernel3Ideal.τ).loc Cert.Kernel3Ideal.main_v24_3) = v3 c
          ∧ r.2.mem ((c.tc : Thread Cert.Kernel3Ideal.nD Cert.Kernel3Ideal.τ).loc Cert.Kernel3Ideal.main_v24_4) = v4 c
          ∧ r.2.mem ((c.tc : Thread Cert.Kernel3Ideal.nD Cert.Kernel3Ideal.τ).loc Cert.Kernel3Ideal.main_v24_5) = v5 c
          ∧ r.2.mem ((c.tc : Thread Cert.Kernel3Ideal.nD Cert.Kernel3Ideal.τ).loc Cert.Kernel3Ideal.main_v24_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v69) = v0 c
          ∧ r.2.mem ((c.tc : Thread Cert.Reference3Ideal.nD Cert.Reference3Ideal.τ).loc Cert.Reference3Ideal.main_v81) = v1 c
          ∧ r.2.mem ((c.tc : Thread Cert.Reference3Ideal.nD Cert.Reference3Ideal.τ).loc Cert.Reference3Ideal.main_v84) = v2 c
          ∧ r.2.mem ((c.tc : Thread Cert.Reference3Ideal.nD Cert.Reference3Ideal.τ).loc Cert.Reference3Ideal.main_v87) = v3 c
          ∧ r.2.mem ((c.tc : Thread Cert.Reference3Ideal.nD Cert.Reference3Ideal.τ).loc Cert.Reference3Ideal.main_v88) = v4 c
          ∧ r.2.mem ((c.tc : Thread Cert.Reference3Ideal.nD Cert.Reference3Ideal.τ).loc Cert.Reference3Ideal.main_v89) = v5 c
          ∧ r.2.mem ((c.tc : Thread Cert.Reference3Ideal.nD Cert.Reference3Ideal.τ).loc Cert.Reference3Ideal.main_v90) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)) (v2 : (c : Dev Cert.Kernel4Ideal.nD) → Buf (Elt Ideal) ((c.tc : Thread Cert.Kernel4Ideal.nD Cert.Kernel4Ideal.τ).loc Cert.Kernel4Ideal.main_v4_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_v4_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v33) = v0 c
          ∧ r.2.mem ((c.tc : Thread Cert.Reference4Ideal.nD Cert.Reference4Ideal.τ).loc Cert.Reference4Ideal.main_v35) = v1 c
          ∧ r.2.mem ((c.tc : Thread Cert.Reference4Ideal.nD Cert.Reference4Ideal.τ).loc Cert.Reference4Ideal.main_v37) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  IdealRules.named_const.Statement Cert.Kernel5Ideal.κ "log2e" .f32 0x3FB8AA3B#32 (((Real.log 2)⁻¹ : ℝ) : EReal)

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v10_0)) (v1 : (c : Dev Cert.Kernel5Ideal.nD) → Buf (Elt Ideal) ((c.tc : Thread Cert.Kernel5Ideal.nD Cert.Kernel5Ideal.τ).loc Cert.Kernel5Ideal.main_v10_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10_0) = v0 c
          ∧ r.2.mem ((c.tc : Thread Cert.Kernel5Ideal.nD Cert.Kernel5Ideal.τ).loc Cert.Kernel5Ideal.main_v10_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v37) = v0 c
          ∧ r.2.mem ((c.tc : Thread Cert.Reference5Ideal.nD Cert.Reference5Ideal.τ).loc Cert.Reference5Ideal.main_v38) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  IdealRules.named_const.Statement Cert.Kernel6Ideal.κ "ln2" .f32 0x3F317218#32 ((Real.log 2 : ℝ) : EReal)

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v42_0)) (v1 : (c : Dev Cert.Kernel6Ideal.nD) → Buf (Elt Ideal) ((c.tc : Thread Cert.Kernel6Ideal.nD Cert.Kernel6Ideal.τ).loc Cert.Kernel6Ideal.main_v42_1)) (v2 : (c : Dev Cert.Kernel6Ideal.nD) → Buf (Elt Ideal) ((c.tc : Thread Cert.Kernel6Ideal.nD Cert.Kernel6Ideal.τ).loc Cert.Kernel6Ideal.main_v42_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v42_0) = v0 c
          ∧ r.2.mem ((c.tc : Thread Cert.Kernel6Ideal.nD Cert.Kernel6Ideal.τ).loc Cert.Kernel6Ideal.main_v42_1) = v1 c
          ∧ r.2.mem ((c.tc : Thread Cert.Kernel6Ideal.nD Cert.Kernel6Ideal.τ).loc Cert.Kernel6Ideal.main_v42_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v67) = v0 c
          ∧ r.2.mem ((c.tc : Thread Cert.Reference6Ideal.nD Cert.Reference6Ideal.τ).loc Cert.Reference6Ideal.main_v68) = v1 c
          ∧ r.2.mem ((c.tc : Thread Cert.Reference6Ideal.nD Cert.Reference6Ideal.τ).loc Cert.Reference6Ideal.main_v66) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite5 : Cert.Pre_finite5.Facts) (hPre_finite6 : Cert.Pre_finite6.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite (hKernel3Ideal := hKernel3Ideal) (hPre_finite := hPre_finite)
    ∧ quiescent_Reference3Ideal (hReference3Ideal := hReference3Ideal)
    ∧ quiescent_Reference3Ideal_pre_finite (hReference3Ideal := hReference3Ideal) (hPre_finite := hPre_finite)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite (hKernel3Ideal := hKernel3Ideal) (hReference3Ideal := hReference3Ideal) (hPre_finite := hPre_finite)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal_pre_finite6 (hKernel6Ideal := hKernel6Ideal) (hReference6Ideal := hReference6Ideal) (hPre_finite6 := hPre_finite6)
-- ==== Pre_finite.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  main_v18

def fn {F : FTy → Type} [FloatOps F] (main_arg0 : FVec F S16384x1024 .f32) (main_arg1 : FVec F S16384x1024 .f32) (main_arg2 : FVec F S1024 .f32) (main_arg3 : FVec F S1024x2816 .f32) (main_arg4 : FVec F S1024x2816 .f32) (main_arg5 : FVec F S2816x1024 .f32) : IVec S_ 1 :=
  let main_v0 : FVec F S16384x1024 .f32 := Host.absf main_arg1
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x2816 .f32 := Host.absf main_arg4
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S2816x1024 .f32 := Host.absf main_arg5
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_v13 main_v16
-- ==== Pre_finite5.lean ====
abbrev S16384x1024 : Shape := ⟨2, ![16384, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel

variable [Facts]

def fn {F : FTy → Type} [FloatOps F] (main_arg0 : FVec F S16384x1024 .f32) (main_arg1 : FVec F S16384x1024 .f32) (main_arg2 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  main_v8
-- ==== Pre_finite6.lean ====
abbrev S16384x1024 : Shape := ⟨2, ![16384, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel

variable [Facts]

def fn_part1 {F : FTy → Type} [FloatOps F] (main_v13 : IVec S_ 1) (main_v16 : IVec S16384x1024 1) : IVec S_ 1 :=
  let main_c_5 : IVec S_ 1 := constantI S_ 1 1#1
  let main_v17 : IVec S_ 1 := (fun x v => Host.reduce IntOp.andi x v reducesTo_S16384x1024_S_d0_1 h_S_) main_v16 main_c_5
  let main_v18 : IVec S_ 1 := andi main_v13 main_v17
  main_v18

def fn {F : FTy → Type} [FloatOps F] (main_arg0 : FVec F S16384x1024 .f32) (main_arg1 : FVec F S16384x1024 .f32) (main_arg2 : FVec F S16384x1024 .f32) (main_arg3 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S16384x1024 .f32 := Host.absf main_arg3
  let main_cst_4 : FVec F S_ .f32 := constant S_ .f32 0x7F800000#32
  let main_v15 : FVec F S16384x1024 .f32 := broadcastInDim S16384x1024 ![] bcast_S_S16384x1024 main_cst_4
  let main_v16 : IVec S16384x1024 1 := cmpf .olt main_v14 main_v15
  fn_part1 (F := F) main_v13 main_v16
-- ==== Kernel.lean ====
abbrev S16384x1024 : Shape := ⟨2, ![16384, 1024]⟩
abbrev S1024 : Shape := ⟨1, ![1024]⟩
abbrev S1024x3072 : Shape := ⟨2, ![1024, 3072]⟩
abbrev S3x1024 : Shape := ⟨2, ![3, 1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3072 : Shape := ⟨2, ![16384, 3072]⟩
abbrev S3072x1024 : Shape := ⟨2, ![3072, 1024]⟩
abbrev S256x1024 : Shape := ⟨2, ![256, 1024]⟩
abbrev S16x1024 : Shape := ⟨2, ![16, 1024]⟩
abbrev S256x3072 : Shape := ⟨2, ![256, 3072]⟩
abbrev S16x3072 : Shape := ⟨2, ![16, 3072]⟩
abbrev S256 : Shape := ⟨1, ![256]⟩
abbrev S256x1 : Shape := ⟨2, ![256, 1]⟩
abbrev S272x1024 : Shape := ⟨2, ![272, 1024]⟩

abbrev nBuf : Space → Nat
  | .hbm => 35
  | .vmem => 26
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024x3072, .f32⟩
  | .hbm, ⟨4, _⟩ => ⟨S3x1024, .f32⟩
  | .hbm, ⟨5, _⟩ => ⟨S1024x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x3072, .f32⟩
  | .hbm, ⟨23, _⟩ => ⟨S16384x3072, .bf16⟩
  | .hbm, ⟨24, _⟩ => ⟨S1x1024, .f32⟩
  | .hbm, ⟨25, _⟩ => ⟨S1024x3072, .bf16⟩
  | .hbm, ⟨26, _⟩ => ⟨S3072x1024, .bf16⟩
  | .hbm, ⟨27, _⟩ => ⟨S1024x1024, .bf16⟩
  | .hbm, ⟨28, _⟩ => ⟨S1024x1024, .bf16⟩
  | .hbm, ⟨29, _⟩ => ⟨S16384x1024, .f32⟩
  | .hbm, ⟨30, _⟩ => ⟨S16384x1024, .bf16⟩
  | .hbm, ⟨31, _⟩ => ⟨S16384x3072, .bf16⟩
  | .hbm, ⟨32, _⟩ => ⟨S16384x1024, .bf16⟩
  | .hbm, ⟨33, _⟩ => ⟨S3x1024, .f32⟩
  | .hbm, ⟨34, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S16x1024, .f32⟩
  | .local _ .vmem, ⟨5, _⟩ => ⟨S16x1024, .f32⟩
  | .local _ .vmem, ⟨6, _⟩ => ⟨S256x3072, .bf16⟩
  | .local _ .vmem, ⟨7, _⟩ => ⟨S256x3072, .bf16⟩
  | .local _ .vmem, ⟨8, _⟩ => ⟨S16x3072, .bf16⟩
  | .local _ .vmem, ⟨9, _⟩ => ⟨S16x3072, .bf16⟩
  | .local _ .vmem, ⟨10, _⟩ => ⟨S16x3072, .bf16⟩
  | .local _ .vmem, ⟨11, _⟩ => ⟨S16x3072, .bf16⟩
  | .local _ .vmem, ⟨12, _⟩ => ⟨S1x1024, .f32⟩
  | .local _ .vmem, ⟨13, _⟩ => ⟨S3072x1024, .bf16⟩
  | .local _ .vmem, ⟨14, _⟩ => ⟨S3x1024, .f32⟩
  | .local _ .vmem, ⟨15, _⟩ => ⟨S1024x1024, .bf16⟩
  | .local _ .vmem, ⟨16, _⟩ => ⟨S256x1024, .f32⟩
  | .local _ .vmem, ⟨17, _⟩ => ⟨S256x1024, .f32⟩
  | .local _ .vmem, ⟨18, _⟩ => ⟨S256x1024, .bf16⟩
  | .local _ .vmem, ⟨19, _⟩ => ⟨S256x1024, .bf16⟩
  | .local _ .vmem, ⟨20, _⟩ => ⟨S256x3072, .bf16⟩
  | .local _ .vmem, ⟨21, _⟩ => ⟨S256x3072, .bf16⟩
  | .local _ .vmem, ⟨22, _⟩ => ⟨S256x1024, .bf16⟩
  | .local _ .vmem, ⟨23, _⟩ => ⟨S256x1024, .bf16⟩
  | .local _ .vmem, ⟨24, _⟩ => ⟨S3x1024, .f32⟩
  | .local _ .vmem, ⟨25, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20_0 : Ref sig .tc := ⟨.hbm, 29, rfl⟩
abbrev main_v20_1 : Ref sig .tc := ⟨.hbm, 30, rfl⟩
abbrev main_v20_2 : Ref sig .tc := ⟨.hbm, 31, rfl⟩
abbrev main_v20_3 : Ref sig .tc := ⟨.hbm, 32, rfl⟩
abbrev main_v20_4 : Ref sig .tc := ⟨.hbm, 33, rfl⟩
abbrev main_v20_5 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg15_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem15_0 : DmaSem sig := 25

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v91 : BitVec 32 := Scalar.extui v0
  let c0_i32_40 : BitVec 32 := 0#32
  let v92 : BitVec 1 := Scalar.cmpi .ne v91 c0_i32_40
  v92

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v93 : BitVec 1 := Scalar.xori v0 v_true
  let v94 : BitVec 32 := Scalar.extui v93
  let c0_i32_41 : BitVec 32 := 0#32
  let v95 : BitVec 1 := Scalar.cmpi .ne v94 c0_i32_41
  v95

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v99 : BitVec 32 := Scalar.extui v0
  let c0_i32_43 : BitVec 32 := 0#32
  let v100 : BitVec 1 := Scalar.cmpi .ne v99 c0_i32_43
  v100

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_44 : BitVec 1 := 1#1
  let v101 : BitVec 1 := Scalar.xori v0 true_44
  let v102 : BitVec 32 := Scalar.extui v101
  let c0_i32_45 : BitVec 32 := 0#32
  let v103 : BitVec 1 := Scalar.cmpi .ne v102 c0_i32_45
  v103

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v107 : BitVec 32 := Scalar.extui v0
  let c0_i32_47 : BitVec 32 := 0#32
  let v108 : BitVec 1 := Scalar.cmpi .ne v107 c0_i32_47
  v108

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_48 : BitVec 1 := 1#1
  let v109 : BitVec 1 := Scalar.xori v0 true_48
  let v110 : BitVec 32 := Scalar.extui v109
  let c0_i32_49 : BitVec 32 := 0#32
  let v111 : BitVec 1 := Scalar.cmpi .ne v110 c0_i32_49
  v111

def k0_cond7 (i : grid0.Coords) : BitVec 1 :=
  let arg0 : BitVec 32 := BitVec.ofNat 32 (i 0).val
  let c0_i32 : BitVec 32 := 0#32
  let v0 : BitVec 1 := Scalar.cmpi .eq arg0 c0_i32
  let v124 : BitVec 32 := Scalar.extui v0
  let c0_i32_56 : BitVec 32 := 0#32
  let v125 : BitVec 1 := Scalar.cmpi .ne v124 c0_i32_56
  v125

def k0_cond8 (i : grid0.Coords) : BitVec 1 :=
  let arg0 : BitVec 32 := BitVec.ofNat 32 (i 0).val
  let c0_i32 : BitVec 32 := 0#32
  let v0 : BitVec 1 := Scalar.cmpi .eq arg0 c0_i32
  let true_57 : BitVec 1 := 1#1
  let v126 : BitVec 1 := Scalar.xori v0 true_57
  let v127 : BitVec 32 := Scalar.extui v126
  let c0_i32_58 : BitVec 32 := 0#32
  let v128 : BitVec 1 := Scalar.cmpi .ne v127 c0_i32_58
  v128

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3072x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x3072 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S3x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ReferenceIdeal.lean ====
abbrev S16384x1024 : Shape := ⟨2, ![16384, 1024]⟩
abbrev S1024 : Shape := ⟨1, ![1024]⟩
abbrev S1024x3072 : Shape := ⟨2, ![1024, 3072]⟩
abbrev S3x1024 : Shape := ⟨2, ![3, 1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3072 : Shape := ⟨2, ![16384, 3072]⟩
abbrev S2x1024 : Shape := ⟨2, ![2, 1024]⟩
abbrev S16386x1024 : Shape := ⟨2, ![16386, 1024]⟩

abbrev nBuf : Space → Nat
  | .hbm => 240
  | .vmem => 0
  | .smem => 0
  | _ => 0

abbrev hbmTy0_0 (i : Nat) : BufTy := match i % 128 with
  | 0 => ⟨S16384x1024, .f32⟩
  | 1 => ⟨S16384x1024, .f32⟩
  | 2 => ⟨S1024, .f32⟩
  | 3 => ⟨S1024x3072, .f32⟩
  | 4 => ⟨S3x1024, .f32⟩
  | 5 => ⟨S1024x1024, .f32⟩
  | 6 => ⟨S16384x1024, .f32⟩
  | 7 => ⟨S_, .f32⟩
  | 8 => ⟨S16384, .f32⟩
  | 9 => ⟨S16384x1, .f32⟩
  | 10 => ⟨S_, .f32⟩
  | 11 => ⟨S16384x1, .f32⟩
  | 12 => ⟨S16384x1, .f32⟩
  | 13 => ⟨S_, .f32⟩
  | 14 => ⟨S16384x1, .f32⟩
  | 15 => ⟨S16384x1, .f32⟩
  | 16 => ⟨S16384x1, .f32⟩
  | 17 => ⟨S16384x1024, .f32⟩
  | 18 => ⟨S16384x1024, .f32⟩
  | 19 => ⟨S1x1024, .f32⟩
  | 20 => ⟨S16384x1024, .f32⟩
  | 21 => ⟨S16384x1024, .f32⟩
  | 22 => ⟨S16384x3072, .f32⟩
  | 23 => ⟨S16384x1024, .f32⟩
  | 24 => ⟨S_, .f32⟩
  | 25 => ⟨S16384, .f32⟩
  | 26 => ⟨S16384x1, .f32⟩
  | 27 => ⟨S_, .f32⟩
  | 28 => ⟨S16384x1, .f32⟩
  | 29 => ⟨S16384x1, .f32⟩
  | 30 => ⟨S_, .f32⟩
  | 31 => ⟨S16384x1, .f32⟩
  | 32 => ⟨S16384x1, .f32⟩
  | 33 => ⟨S16384x1, .f32⟩
  | 34 => ⟨S16384x1, .f32⟩
  | 35 => ⟨S_, .f32⟩
  | 36 => ⟨S16384x1, .f32⟩
  | 37 => ⟨S16384x1, .f32⟩
  | 38 => ⟨S16384x1024, .f32⟩
  | 39 => ⟨S16384x1024, .f32⟩
  | 40 => ⟨S1x1024, .f32⟩
  | 41 => ⟨S16384x1024, .f32⟩
  | 42 => ⟨S16384x1024, .f32⟩
  | 43 => ⟨S16384x3072, .f32⟩
  | 44 => ⟨S16384x1024, .f32⟩
  | 45 => ⟨S16384x1024, .f32⟩
  | 46 => ⟨S16384x1024, .f32⟩
  | 47 => ⟨S16384x1024, .f32⟩
  | 48 => ⟨S_, .f32⟩
  | 49 => ⟨S2x1024, .f32⟩
  | 50 => ⟨S16386x1024, .f32⟩
  | 51 => ⟨S_, .f32⟩
  | 52 => ⟨S2x1024, .f32⟩
  | 53 => ⟨S1x1024, .f32⟩
  | 54 => ⟨S1024, .f32⟩
  | 55 => ⟨S16384x1024, .f32⟩
  | 56 => ⟨S1x1024, .f32⟩
  | 57 => ⟨S16384x1024, .f32⟩
  | 58 => ⟨S16384x1024, .f32⟩
  | 59 => ⟨S1x1024, .f32⟩
  | 60 => ⟨S1024, .f32⟩
  | 61 => ⟨S16384x1024, .f32⟩
  | 62 => ⟨S1x1024, .f32⟩
  | 63 => ⟨S16384x1024, .f32⟩
  | 64 => ⟨S16384x1024, .f32⟩
  | 65 => ⟨S16384x1024, .f32⟩
  | 66 => ⟨S1x1024, .f32⟩
  | 67 => ⟨S1024, .f32⟩
  | 68 => ⟨S16384x1024, .f32⟩
  | 69 => ⟨S1x1024, .f32⟩
  | 70 => ⟨S16384x1024, .f32⟩
  | 71 => ⟨S16384x1024, .f32⟩
  | 72 => ⟨S16384x1024, .f32⟩
  | 73 => ⟨S16384x1024, .f32⟩
  | 74 => ⟨S16384x1024, .f32⟩
  | 75 => ⟨S16384x1024, .f32⟩
  | 76 => ⟨S16384x1024, .f32⟩
  | 77 => ⟨S16384x1024, .f32⟩
  | 78 => ⟨S16384x1024, .f32⟩
  | 79 => ⟨S16384x1024, .f32⟩
  | 80 => ⟨S16384x1024, .f32⟩
  | 81 => ⟨S16384x1024, .f32⟩
  | 82 => ⟨S16384x1024, .f32⟩
  | 83 => ⟨S_, .f32⟩
  | 84 => ⟨S1024, .f32⟩
  | 85 => ⟨S1x1024, .f32⟩
  | 86 => ⟨S_, .f32⟩
  | 87 => ⟨S1024, .f32⟩
  | 88 => ⟨S_, .f32⟩
  | 89 => ⟨S16386x1024, .f32⟩
  | 90 => ⟨S1x1024, .f32⟩
  | 91 => ⟨S_, .f32⟩
  | 92 => ⟨S3x1024, .f32⟩
  | 93 => ⟨S16384x1024, .f32⟩
  | 94 => ⟨S16384x1024, .f32⟩
  | 95 => ⟨S16384x1024, .f32⟩
  | 96 => ⟨S_, .f32⟩
  | 97 => ⟨S1024, .f32⟩
  | 98 => ⟨S1x1024, .f32⟩
  | 99 => ⟨S_, .f32⟩
  | 100 => ⟨S1024, .f32⟩
  | 101 => ⟨S_, .f32⟩
  | 102 => ⟨S16386x1024, .f32⟩
  | 103 => ⟨S16386x1024, .f32⟩
  | 104 => ⟨S1x1024, .f32⟩
  | 105 => ⟨S_, .f32⟩
  | 106 => ⟨S3x1024, .f32⟩
  | 107 => ⟨S3x1024, .f32⟩
  | 108 => ⟨S16384x1024, .f32⟩
  | 109 => ⟨S16384x1024, .f32⟩
  | 110 => ⟨S16384x1024, .f32⟩
  | 111 => ⟨S_, .f32⟩
  | 112 => ⟨S1024, .f32⟩
  | 113 => ⟨S1x1024, .f32⟩
  | 114 => ⟨S_, .f32⟩
  | 115 => ⟨S1024, .f32⟩
  | 116 => ⟨S_, .f32⟩
  | 117 => ⟨S16386x1024, .f32⟩
  | 118 => ⟨S16386x1024, .f32⟩
  | 119 => ⟨S1x1024, .f32⟩
  | 120 => ⟨S_, .f32⟩
  | 121 => ⟨S3x1024, .f32⟩
  | 122 => ⟨S3x1024, .f32⟩
  | 123 => ⟨S2x1024, .f32⟩
  | 124 => ⟨S16384x1024, .f32⟩
  | 125 => ⟨S16384x1024, .f32⟩
  | 126 => ⟨S16384x1024, .f32⟩
  | 127 => ⟨S16384x3072, .f32⟩
  | _ => ⟨S16384x1024, .f32⟩

abbrev hbmTy0_1 (i : Nat) : BufTy := match i % 128 with
  | 0 => ⟨S16384x1024, .f32⟩
  | 1 => ⟨S16384x1024, .f32⟩
  | 2 => ⟨S_, .f32⟩
  | 3 => ⟨S1024, .f32⟩
  | 4 => ⟨S1x1024, .f32⟩
  | 5 => ⟨S16384x1024, .f32⟩
  | 6 => ⟨S16384x1024, .f32⟩
  | 7 => ⟨S_, .f32⟩
  | 8 => ⟨S1024, .f32⟩
  | 9 => ⟨S16384x1024, .f32⟩
  | 10 => ⟨S_, .f32⟩
  | 11 => ⟨S16384, .f32⟩
  | 12 => ⟨S16384x1, .f32⟩
  | 13 => ⟨S16384x1024, .f32⟩
  | 14 => ⟨S16384x1024, .f32⟩
  | 15 => ⟨S16384x1024, .f32⟩
  | 16 => ⟨S16384x1, .f32⟩
  | 17 => ⟨S_, .f32⟩
  | 18 => ⟨S16384x1, .f32⟩
  | 19 => ⟨S16384x1, .f32⟩
  | 20 => ⟨S_, .f32⟩
  | 21 => ⟨S16384, .f32⟩
  | 22 => ⟨S16384x1024, .f32⟩
  | 23 => ⟨S16384x1024, .f32⟩
  | 24 => ⟨S16384x1024, .f32⟩
  | 25 => ⟨S16384x1024, .f32⟩
  | 26 => ⟨S16384x1024, .f32⟩
  | 27 => ⟨S16384x1024, .f32⟩
  | 28 => ⟨S16384x1024, .f32⟩
  | 29 => ⟨S16384x1024, .f32⟩
  | 30 => ⟨S16384x1024, .f32⟩
  | 31 => ⟨S_, .f32⟩
  | 32 => ⟨S2x1024, .f32⟩
  | 33 => ⟨S16386x1024, .f32⟩
  | 34 => ⟨S_, .f32⟩
  | 35 => ⟨S2x1024, .f32⟩
  | 36 => ⟨S1x1024, .f32⟩
  | 37 => ⟨S1024, .f32⟩
  | 38 => ⟨S16384x1024, .f32⟩
  | 39 => ⟨S1x1024, .f32⟩
  | 40 => ⟨S16384x1024, .f32⟩
  | 41 => ⟨S16384x1024, .f32⟩
  | 42 => ⟨S1x1024, .f32⟩
  | 43 => ⟨S1024, .f32⟩
  | 44 => ⟨S16384x1024, .f32⟩
  | 45 => ⟨S1x1024, .f32⟩
  | 46 => ⟨S16384x1024, .f32⟩
  | 47 => ⟨S16384x1024, .f32⟩
  | 48 => ⟨S16384x1024, .f32⟩
  | 49 => ⟨S1x1024, .f32⟩
  | 50 => ⟨S1024, .f32⟩
  | 51 => ⟨S16384x1024, .f32⟩
  | 52 => ⟨S1x1024, .f32⟩
  | 53 => ⟨S16384x1024, .f32⟩
  | 54 => ⟨S16384x1024, .f32⟩
  | 55 => ⟨S16384x1024, .f32⟩
  | 56 => ⟨S16384x1024, .f32⟩
  | 57 => ⟨S16384x1024, .f32⟩
  | 58 => ⟨S16384x1024, .f32⟩
  | 59 => ⟨S16384x1024, .f32⟩
  | 60 => ⟨S16384x1024, .f32⟩
  | 61 => ⟨S16384x1024, .f32⟩
  | 62 => ⟨S16384x1024, .f32⟩
  | 63 => ⟨S_, .f32⟩
  | 64 => ⟨S16386x1024, .f32⟩
  | 65 => ⟨S16384x1024, .f32⟩
  | 66 => ⟨S16384x1024, .f32⟩
  | 67 => ⟨S_, .f32⟩
  | 68 => ⟨S16386x1024, .f32⟩
  | 69 => ⟨S16386x1024, .f32⟩
  | 70 => ⟨S16384x1024, .f32⟩
  | 71 => ⟨S16384x1024, .f32⟩
  | 72 => ⟨S_, .f32⟩
  | 73 => ⟨S16386x1024, .f32⟩
  | 74 => ⟨S16386x1024, .f32⟩
  | 75 => ⟨S2x1024, .f32⟩
  | 76 => ⟨S16384x1024, .f32⟩
  | 77 => ⟨S16384x1024, .f32⟩
  | 78 => ⟨S16384x1024, .f32⟩
  | 79 => ⟨S16384x3072, .f32⟩
  | 80 => ⟨S16384x1024, .bf16⟩
  | 81 => ⟨S16384x3072, .bf16⟩
  | 82 => ⟨S16384x1024, .f32⟩
  | 83 => ⟨S16384x1024, .f32⟩
  | 84 => ⟨S16384x1024, .f32⟩
  | 85 => ⟨S16384x1024, .f32⟩
  | 86 => ⟨S_, .f32⟩
  | 87 => ⟨S2x1024, .f32⟩
  | 88 => ⟨S16386x1024, .f32⟩
  | 89 => ⟨S1x1024, .f32⟩
  | 90 => ⟨S1024, .f32⟩
  | 91 => ⟨S16384x1024, .f32⟩
  | 92 => ⟨S1x1024, .f32⟩
  | 93 => ⟨S16384x1024, .f32⟩
  | 94 => ⟨S16384x1024, .f32⟩
  | 95 => ⟨S1x1024, .f32⟩
  | 96 => ⟨S1024, .f32⟩
  | 97 => ⟨S16384x1024, .f32⟩
  | 98 => ⟨S1x1024, .f32⟩
  | 99 => ⟨S16384x1024, .f32⟩
  | 100 => ⟨S16384x1024, .f32⟩
  | 101 => ⟨S16384x1024, .f32⟩
  | 102 => ⟨S1x1024, .f32⟩
  | 103 => ⟨S1024, .f32⟩
  | 104 => ⟨S16384x1024, .f32⟩
  | 105 => ⟨S1x1024, .f32⟩
  | 106 => ⟨S16384x1024, .f32⟩
  | 107 => ⟨S16384x1024, .f32⟩
  | 108 => ⟨S16384x1024, .f32⟩
  | 109 => ⟨S16384x1024, .f32⟩
  | 110 => ⟨S16384x1024, .bf16⟩
  | 111 => ⟨S1x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_8 : Ref sig .tc := ⟨.hbm, 83, rfl⟩
abbrev main_v68 : Ref sig .tc := ⟨.hbm, 84, rfl⟩
abbrev main_v69 : Ref sig .tc := ⟨.hbm, 85, rfl⟩
abbrev main_cst_9 : Ref sig .tc := ⟨.hbm, 86, rfl⟩
abbrev main_v70 : Ref sig .tc := ⟨.hbm, 87, rfl⟩
abbrev main_cst_10 : Ref sig .tc := ⟨.hbm, 88, rfl⟩
abbrev main_v71 : Ref sig .tc := ⟨.hbm, 89, rfl⟩
abbrev main_v72 : Ref sig .tc := ⟨.hbm, 90, rfl⟩
abbrev main_cst_11 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_cst_12 : Ref sig .tc := ⟨.hbm, 96, rfl⟩
abbrev main_v77 : Ref sig .tc := ⟨.hbm, 97, rfl⟩
abbrev main_v78 : Ref sig .tc := ⟨.hbm, 98, rfl⟩
abbrev main_cst_13 : Ref sig .tc := ⟨.hbm, 99, rfl⟩
abbrev main_v79 : Ref sig .tc := ⟨.hbm, 100, rfl⟩
abbrev main_cst_14 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_cst_15 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_cst_16 : Ref sig .tc := ⟨.hbm, 111, rfl⟩
abbrev main_v88 : Ref sig .tc := ⟨.hbm, 112, rfl⟩
abbrev main_v89 : Ref sig .tc := ⟨.hbm, 113, rfl⟩
abbrev main_cst_17 : Ref sig .tc := ⟨.hbm, 114, rfl⟩
abbrev main_v90 : Ref sig .tc := ⟨.hbm, 115, rfl⟩
abbrev main_cst_18 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_cst_19 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_cst_20 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_cst_21 : Ref sig .tc := ⟨.hbm, 135, rfl⟩
abbrev main_v107 : Ref sig .tc := ⟨.hbm, 136, rfl⟩
abbrev main_v108 : Ref sig .tc := ⟨.hbm, 137, rfl⟩
abbrev main_cst_22 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_cst_23 : Ref sig .tc := ⟨.hbm, 145, rfl⟩
abbrev main_v115 : Ref sig .tc := ⟨.hbm, 146, rfl⟩
abbrev main_v116 : Ref sig .tc := ⟨.hbm, 147, rfl⟩
abbrev main_cst_24 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_cst_25 : Ref sig .tc := ⟨.hbm, 159, rfl⟩
abbrev main_v127 : Ref sig .tc := ⟨.hbm, 160, rfl⟩
abbrev main_v128 : Ref sig .tc := ⟨.hbm, 161, rfl⟩
abbrev main_cst_26 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_cst_27 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_cst_28 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_cst_29 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_cst_30 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_v186 : Ref sig .tc := ⟨.hbm, 224, rfl⟩
abbrev main_v187 : Ref sig .tc := ⟨.hbm, 225, rfl⟩
abbrev main_v188 : Ref sig .tc := ⟨.hbm, 226, rfl⟩
abbrev main_v189 : Ref sig .tc := ⟨.hbm, 227, rfl⟩
abbrev main_v190 : Ref sig .tc := ⟨.hbm, 228, rfl⟩
abbrev main_v191 : Ref sig .tc := ⟨.hbm, 229, rfl⟩
abbrev main_v192 : Ref sig .tc := ⟨.hbm, 230, rfl⟩
abbrev main_v193 : Ref sig .tc := ⟨.hbm, 231, rfl⟩
abbrev main_v194 : Ref sig .tc := ⟨.hbm, 232, rfl⟩
abbrev main_v195 : Ref sig .tc := ⟨.hbm, 233, rfl⟩
abbrev main_v196 : Ref sig .tc := ⟨.hbm, 234, rfl⟩
abbrev main_v197 : Ref sig .tc := ⟨.hbm, 235, rfl⟩
abbrev main_v198 : Ref sig .tc := ⟨.hbm, 236, rfl⟩
abbrev main_v199 : Ref sig .tc := ⟨.hbm, 237, rfl⟩
abbrev main_v200 : Ref sig .tc := ⟨.hbm, 238, rfl⟩
abbrev main_v201 : Ref sig .tc := ⟨.hbm, 239, rfl⟩

abbrev nD : Nat := 1
abbrev τ : Topo := Topo.v7x

variable {F : FTy → Type} [FloatOps F]
-- ==== Kernel2.lean ====
abbrev S16384x1024 : Shape := ⟨2, ![16384, 1024]⟩
abbrev S16384x2816 : Shape := ⟨2, ![16384, 2816]⟩
abbrev S1024x2816 : Shape := ⟨2, ![1024, 2816]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x2816, .bf16⟩
  | .hbm, ⟨2, _⟩ => ⟨S1024x2816, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32 : BitVec 32 := 0#32
  let v3 : BitVec 1 := Scalar.cmpi .eq arg2 c0_i32
  let v_true : BitVec 1 := 1#1
  let v6 : BitVec 1 := Scalar.xori v3 v_true
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S16384x1024 : Shape := ⟨2, ![16384, 1024]⟩
abbrev S16384x2816 : Shape := ⟨2, ![16384, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x2816, .bf16⟩
  | .hbm, ⟨2, _⟩ => ⟨S_, .f32⟩
  | .hbm, ⟨3, _⟩ => ⟨S1024x2816, .f32⟩
  | .hbm, ⟨4, _⟩ => ⟨S16384x1024, .f32⟩
  | .hbm, ⟨5, _⟩ => ⟨S16384x2816, .f32⟩
  | .hbm, ⟨6, _⟩ => ⟨S16384x2816, .f32⟩
  | .hbm, ⟨7, _⟩ => ⟨S2816x1024, .f32⟩
  | .hbm, ⟨8, _⟩ => ⟨S1024x2816, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩

abbrev nBuf : Space → Nat
  | .hbm => 40
  | .vmem => 25
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x2816, .f32⟩
  | .hbm, ⟨24, _⟩ => ⟨S16384x2816, .bf16⟩
  | .hbm, ⟨25, _⟩ => ⟨S16384x2816, .f32⟩
  | .hbm, ⟨26, _⟩ => ⟨S16384x2816, .bf16⟩
  | .hbm, ⟨27, _⟩ => ⟨S2816x1024, .bf16⟩
  | .hbm, ⟨28, _⟩ => ⟨S1024x2816, .bf16⟩
  | .hbm, ⟨29, _⟩ => ⟨S1024x2816, .bf16⟩
  | .hbm, ⟨30, _⟩ => ⟨S2816x1024, .bf16⟩
  | .hbm, ⟨31, _⟩ => ⟨S1024x2816, .bf16⟩
  | .hbm, ⟨32, _⟩ => ⟨S2816x1024, .bf16⟩
  | .hbm, ⟨33, _⟩ => ⟨S16384x1024, .f32⟩
  | .hbm, ⟨34, _⟩ => ⟨S16384x1024, .bf16⟩
  | .hbm, ⟨35, _⟩ => ⟨S16384x1024, .bf16⟩
  | .hbm, ⟨36, _⟩ => ⟨S16384x2816, .bf16⟩
  | .hbm, ⟨37, _⟩ => ⟨S16384x2816, .bf16⟩
  | .hbm, ⟨38, _⟩ => ⟨S16384x2816, .bf16⟩
  | .hbm, ⟨39, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S1024x2816, .bf16⟩
  | .local _ .vmem, ⟨10, _⟩ => ⟨S2816x1024, .bf16⟩
  | .local _ .vmem, ⟨11, _⟩ => ⟨S2816x1024, .bf16⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x2816, .bf16⟩
  | .local _ .vmem, ⟨19, _⟩ => ⟨S256x2816, .bf16⟩
  | .local _ .vmem, ⟨20, _⟩ => ⟨S256x2816, .bf16⟩
  | .local _ .vmem, ⟨21, _⟩ => ⟨S256x2816, .bf16⟩
  | .local _ .vmem, ⟨22, _⟩ => ⟨S256x2816, .bf16⟩
  | .local _ .vmem, ⟨23, _⟩ => ⟨S256x2816, .bf16⟩
  | .local _ .vmem, ⟨24, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24_0 : Ref sig .tc := ⟨.hbm, 33, rfl⟩
abbrev main_v24_1 : Ref sig .tc := ⟨.hbm, 34, rfl⟩
abbrev main_v24_2 : Ref sig .tc := ⟨.hbm, 35, rfl⟩
abbrev main_v24_3 : Ref sig .tc := ⟨.hbm, 36, rfl⟩
abbrev main_v24_4 : Ref sig .tc := ⟨.hbm, 37, rfl⟩
abbrev main_v24_5 : Ref sig .tc := ⟨.hbm, 38, rfl⟩
abbrev main_v24_6 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v346 : BitVec 1 := Scalar.cmpi .eq arg0 c0_i32
  let v350 : BitVec 32 := Scalar.extui v346
  let c0_i32_184 : BitVec 32 := 0#32
  let v351 : BitVec 1 := Scalar.cmpi .ne v350 c0_i32_184
  v351

def k0_cond2 (i : grid0.Coords) : BitVec 1 :=
  let arg0 : BitVec 32 := BitVec.ofNat 32 (i 0).val
  let c0_i32 : BitVec 32 := 0#32
  let v346 : BitVec 1 := Scalar.cmpi .eq arg0 c0_i32
  let v_true : BitVec 1 := 1#1
  let v352 : BitVec 1 := Scalar.xori v346 v_true
  let v353 : BitVec 32 := Scalar.extui v352
  let c0_i32_185 : BitVec 32 := 0#32
  let v354 : BitVec 1 := Scalar.cmpi .ne v353 c0_i32_185
  v354

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2816 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference3Ideal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 152
  | .vmem => 0
  | .smem => 0
  | _ => 0

abbrev hbmTy0_0 (i : Nat) : BufTy := match i % 128 with
  | 0 => ⟨S16384x1024, .f32⟩
  | 1 => ⟨S16384x1024, .f32⟩
  | 2 => ⟨S1024, .f32⟩
  | 3 => ⟨S1024x2816, .f32⟩
  | 4 => ⟨S1024x2816, .f32⟩
  | 5 => ⟨S2816x1024, .f32⟩
  | 6 => ⟨S16384x1024, .f32⟩
  | 7 => ⟨S_, .f32⟩
  | 8 => ⟨S16384, .f32⟩
  | 9 => ⟨S16384x1, .f32⟩
  | 10 => ⟨S_, .f32⟩
  | 11 => ⟨S16384x1, .f32⟩
  | 12 => ⟨S16384x1, .f32⟩
  | 13 => ⟨S_, .f32⟩
  | 14 => ⟨S16384x1, .f32⟩
  | 15 => ⟨S16384x1, .f32⟩
  | 16 => ⟨S16384x1, .f32⟩
  | 17 => ⟨S16384x1024, .f32⟩
  | 18 => ⟨S16384x1024, .f32⟩
  | 19 => ⟨S1x1024, .f32⟩
  | 20 => ⟨S16384x1024, .f32⟩
  | 21 => ⟨S16384x1024, .f32⟩
  | 22 => ⟨S16384x2816, .f32⟩
  | 23 => ⟨S16384x2816, .f32⟩
  | 24 => ⟨S16384x1024, .f32⟩
  | 25 => ⟨S_, .f32⟩
  | 26 => ⟨S16384, .f32⟩
  | 27 => ⟨S16384x1, .f32⟩
  | 28 => ⟨S_, .f32⟩
  | 29 => ⟨S16384x1, .f32⟩
  | 30 => ⟨S16384x1, .f32⟩
  | 31 => ⟨S_, .f32⟩
  | 32 => ⟨S16384x1, .f32⟩
  | 33 => ⟨S16384x1, .f32⟩
  | 34 => ⟨S16384x1, .f32⟩
  | 35 => ⟨S16384x1, .f32⟩
  | 36 => ⟨S_, .f32⟩
  | 37 => ⟨S16384x1, .f32⟩
  | 38 => ⟨S16384x1, .f32⟩
  | 39 => ⟨S16384x1024, .f32⟩
  | 40 => ⟨S16384x1024, .f32⟩
  | 41 => ⟨S1x1024, .f32⟩
  | 42 => ⟨S16384x1024, .f32⟩
  | 43 => ⟨S16384x1024, .f32⟩
  | 44 => ⟨S16384x2816, .f32⟩
  | 45 => ⟨S16384x2816, .f32⟩
  | 46 => ⟨S16384x2816, .f32⟩
  | 47 => ⟨S16384x2816, .f32⟩
  | 48 => ⟨S_, .f32⟩
  | 49 => ⟨S16384x2816, .f32⟩
  | 50 => ⟨S16384x2816, .f32⟩
  | 51 => ⟨S_, .f32⟩
  | 52 => ⟨S16384x2816, .f32⟩
  | 53 => ⟨S16384x2816, .f32⟩
  | 54 => ⟨S_, .f32⟩
  | 55 => ⟨S16384x2816, .f32⟩
  | 56 => ⟨S16384x2816, .f32⟩
  | 57 => ⟨S16384x2816, .f32⟩
  | 58 => ⟨S16384x2816, .f32⟩
  | 59 => ⟨S16384x2816, .f32⟩
  | 60 => ⟨S16384x1024, .f32⟩
  | 61 => ⟨S_, .f32⟩
  | 62 => ⟨S16384x1024, .f32⟩
  | 63 => ⟨S16384x1024, .f32⟩
  | 64 => ⟨S16384x1024, .f32⟩
  | 65 => ⟨S16384x1024, .f32⟩
  | 66 => ⟨S_, .f32⟩
  | 67 => ⟨S16384x1024, .f32⟩
  | 68 => ⟨S16384x1024, .f32⟩
  | 69 => ⟨S16384x2816, .f32⟩
  | 70 => ⟨S16384x2816, .f32⟩
  | 71 => ⟨S16384x2816, .f32⟩
  | 72 => ⟨S16384x2816, .f32⟩
  | 73 => ⟨S16384x2816, .f32⟩
  | 74 => ⟨S16384x2816, .f32⟩
  | 75 => ⟨S16384x2816, .f32⟩
  | 76 => ⟨S16384x1024, .f32⟩
  | 77 => ⟨S16384x1024, .f32⟩
  | 78 => ⟨S16384x1024, .f32⟩
  | 79 => ⟨S16384x1024, .f32⟩
  | 80 => ⟨S_, .f32⟩
  | 81 => ⟨S1024, .f32⟩
  | 82 => ⟨S1x1024, .f32⟩
  | 83 => ⟨S16384x1024, .f32⟩
  | 84 => ⟨S16384x1024, .f32⟩
  | 85 => ⟨S_, .f32⟩
  | 86 => ⟨S1024, .f32⟩
  | 87 => ⟨S16384x1024, .f32⟩
  | 88 => ⟨S_, .f32⟩
  | 89 => ⟨S16384, .f32⟩
  | 90 => ⟨S16384x1, .f32⟩
  | 91 => ⟨S16384x1024, .f32⟩
  | 92 => ⟨S16384x1024, .f32⟩
  | 93 => ⟨S16384x1024, .f32⟩
  | 94 => ⟨S16384x1, .f32⟩
  | 95 => ⟨S_, .f32⟩
  | 96 => ⟨S16384x1, .f32⟩
  | 97 => ⟨S16384x1, .f32⟩
  | 98 => ⟨S_, .f32⟩
  | 99 => ⟨S16384, .f32⟩
  | 100 => ⟨S16384x1024, .f32⟩
  | 101 => ⟨S16384x1024, .f32⟩
  | 102 => ⟨S16384x1024, .f32⟩
  | 103 => ⟨S16384x1024, .f32⟩
  | 104 => ⟨S16384x1024, .f32⟩
  | 105 => ⟨S16384x2816, .f32⟩
  | 106 => ⟨S16384x2816, .f32⟩
  | 107 => ⟨S_, .f32⟩
  | 108 => ⟨S16384x2816, .f32⟩
  | 109 => ⟨S16384x2816, .f32⟩
  | 110 => ⟨S_, .f32⟩
  | 111 => ⟨S16384x2816, .f32⟩
  | 112 => ⟨S16384x2816, .f32⟩
  | 113 => ⟨S_, .f32⟩
  | 114 => ⟨S16384x2816, .f32⟩
  | 115 => ⟨S16384x2816, .f32⟩
  | 116 => ⟨S16384x2816, .f32⟩
  | 117 => ⟨S16384x2816, .f32⟩
  | 118 => ⟨S16384x2816, .f32⟩
  | 119 => ⟨S16384x1024, .f32⟩
  | 120 => ⟨S_, .f32⟩
  | 121 => ⟨S16384x1024, .f32⟩
  | 122 => ⟨S16384x1024, .f32⟩
  | 123 => ⟨S_, .f32⟩
  | 124 => ⟨S16384x1024, .f32⟩
  | 125 => ⟨S16384x1024, .f32⟩
  | 126 => ⟨S16384x2816, .f32⟩
  | 127 => ⟨S16384x2816, .f32⟩
  | _ => ⟨S16384x1024, .f32⟩

abbrev hbmTy0_1 (i : Nat) : BufTy := match i % 128 with
  | 0 => ⟨S16384x2816, .f32⟩
  | 1 => ⟨S16384x2816, .f32⟩
  | 2 => ⟨S16384x2816, .f32⟩
  | 3 => ⟨S16384x2816, .f32⟩
  | 4 => ⟨S16384x2816, .f32⟩
  | 5 => ⟨S16384x1024, .bf16⟩
  | 6 => ⟨S_, .f32⟩
  | 7 => ⟨S16384x1024, .f32⟩
  | 8 => ⟨S16384x1024, .f32⟩
  | 9 => ⟨S16384x1024, .bf16⟩
  | 10 => ⟨S16384x2816, .f32⟩
  | 11 => ⟨S16384x2816, .f32⟩
  | 12 => ⟨S_, .f32⟩
  | 13 => ⟨S16384x2816, .f32⟩
  | 14 => ⟨S16384x2816, .f32⟩
  | 15 => ⟨S_, .f32⟩
  | 16 => ⟨S16384x2816, .f32⟩
  | 17 => ⟨S16384x2816, .f32⟩
  | 18 => ⟨S16384x2816, .f32⟩
  | 19 => ⟨S16384x2816, .f32⟩
  | 20 => ⟨S16384x2816, .bf16⟩
  | 21 => ⟨S16384x2816, .bf16⟩
  | 22 => ⟨S16384x2816, .bf16⟩
  | 23 => ⟨S1x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_v33_2 : Ref sig .tc := ⟨.hbm, 53, rfl⟩
abbrev main_call0_cst_1 : Ref sig .tc := ⟨.hbm, 54, rfl⟩
abbrev main_call0_v6 : Ref sig .tc := ⟨.hbm, 55, rfl⟩
abbrev main_call0_v7 : Ref sig .tc := ⟨.hbm, 56, rfl⟩
abbrev main_v33_1 : Ref sig .tc := ⟨.hbm, 57, rfl⟩
abbrev main_v33_0 : Ref sig .tc := ⟨.hbm, 58, rfl⟩
abbrev main_v34 : Ref sig .tc := ⟨.hbm, 59, rfl⟩
abbrev main_v35 : Ref sig .tc := ⟨.hbm, 60, rfl⟩
abbrev main_cst_6 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_7 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_8 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_9 : Ref sig .tc := ⟨.hbm, 85, rfl⟩
abbrev main_v54 : Ref sig .tc := ⟨.hbm, 86, rfl⟩
abbrev main_v55 : Ref sig .tc := ⟨.hbm, 87, rfl⟩
abbrev main_cst_10 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_11 : Ref sig .tc := ⟨.hbm, 95, rfl⟩
abbrev main_v62 : Ref sig .tc := ⟨.hbm, 96, rfl⟩
abbrev main_v63 : Ref sig .tc := ⟨.hbm, 97, rfl⟩
abbrev main_cst_12 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_call2_v0 : Ref sig .tc := ⟨.hbm, 105, rfl⟩
abbrev main_call2_v1 : Ref sig .tc := ⟨.hbm, 106, rfl⟩
abbrev main_call2_cst : Ref sig .tc := ⟨.hbm, 107, rfl⟩
abbrev main_call2_v2 : Ref sig .tc := ⟨.hbm, 108, rfl⟩
abbrev main_call2_v3 : Ref sig .tc := ⟨.hbm, 109, rfl⟩
abbrev main_call2_cst_0 : Ref sig .tc := ⟨.hbm, 110, rfl⟩
abbrev main_call2_v4 : Ref sig .tc := ⟨.hbm, 111, rfl⟩
abbrev main_v70_2 : Ref sig .tc := ⟨.hbm, 112, rfl⟩
abbrev main_call2_cst_1 : Ref sig .tc := ⟨.hbm, 113, rfl⟩
abbrev main_call2_v6 : Ref sig .tc := ⟨.hbm, 114, rfl⟩
abbrev main_call2_v7 : Ref sig .tc := ⟨.hbm, 115, rfl⟩
abbrev main_v70_1 : Ref sig .tc := ⟨.hbm, 116, rfl⟩
abbrev main_v70_0 : Ref sig .tc := ⟨.hbm, 117, rfl⟩
abbrev main_v71 : Ref sig .tc := ⟨.hbm, 118, rfl⟩
abbrev main_v72 : Ref sig .tc := ⟨.hbm, 119, rfl⟩
abbrev main_cst_13 : Ref sig .tc := ⟨.hbm, 120, rfl⟩
abbrev main_v73 : Ref sig .tc := ⟨.hbm, 121, rfl⟩
abbrev main_v74 : Ref sig .tc := ⟨.hbm, 122, rfl⟩
abbrev main_cst_14 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_call3_v0 : Ref sig .tc := ⟨.hbm, 129, rfl⟩
abbrev main_call3_v1 : Ref sig .tc := ⟨.hbm, 130, rfl⟩
abbrev main_call3_v2 : Ref sig .tc := ⟨.hbm, 131, rfl⟩
abbrev main_v80 : Ref sig .tc := ⟨.hbm, 132, rfl⟩
abbrev main_v81 : Ref sig .tc := ⟨.hbm, 133, rfl⟩
abbrev main_cst_15 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_call4_v0 : Ref sig .tc := ⟨.hbm, 138, rfl⟩
abbrev main_call4_v1 : Ref sig .tc := ⟨.hbm, 139, rfl⟩
abbrev main_call4_cst : Ref sig .tc := ⟨.hbm, 140, rfl⟩
abbrev main_call4_v2 : Ref sig .tc := ⟨.hbm, 141, rfl⟩
abbrev main_call4_v3 : Ref sig .tc := ⟨.hbm, 142, rfl⟩
abbrev main_call4_cst_0 : Ref sig .tc := ⟨.hbm, 143, rfl⟩
abbrev main_call4_v4 : Ref sig .tc := ⟨.hbm, 144, rfl⟩
abbrev main_call4_v5 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩

abbrev nD : Nat := 1
abbrev τ : Topo := Topo.v7x

variable {F : FTy → Type} [FloatOps F]
-- ==== Kernel4.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S16384x2816 : Shape := ⟨2, ![16384, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 12
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S16384x1024, .f32⟩
  | .hbm, ⟨10, _⟩ => ⟨S16384x2816, .bf16⟩
  | .hbm, ⟨11, _⟩ => ⟨S16384x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 58
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x1024, .f32⟩
  | .hbm, ⟨33, _⟩ => ⟨S16384x1024, .f32⟩
  | .hbm, ⟨34, _⟩ => ⟨S1x1024, .f32⟩
  | .hbm, ⟨35, _⟩ => ⟨S16384x1024, .f32⟩
  | .hbm, ⟨36, _⟩ => ⟨S16384x1024, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S16384x2816, .f32⟩
  | .hbm, ⟨41, _⟩ => ⟨S_, .f32⟩
  | .hbm, ⟨42, _⟩ => ⟨S16384x2816, .f32⟩
  | .hbm, ⟨43, _⟩ => ⟨S16384x2816, .f32⟩
  | .hbm, ⟨44, _⟩ => ⟨S_, .f32⟩
  | .hbm, ⟨45, _⟩ => ⟨S16384x2816, .f32⟩
  | .hbm, ⟨46, _⟩ => ⟨S16384x2816, .f32⟩
  | .hbm, ⟨47, _⟩ => ⟨S16384x2816, .f32⟩
  | .hbm, ⟨48, _⟩ => ⟨S16384x2816, .f32⟩
  | .hbm, ⟨49, _⟩ => ⟨S16384x1024, .f32⟩
  | .hbm, ⟨50, _⟩ => ⟨S_, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x2816, .f32⟩
  | .hbm, ⟨55, _⟩ => ⟨S16384x2816, .bf16⟩
  | .hbm, ⟨56, _⟩ => ⟨S16384x2816, .f32⟩
  | .hbm, ⟨57, _⟩ => ⟨S16384x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩

abbrev nD : Nat := 1
abbrev τ : Topo := Topo.v7x

variable {F : FTy → Type} [FloatOps F]
-- ==== Kernel5.lean ====
abbrev S16384x1024 : Shape := ⟨2, ![16384, 1024]⟩
abbrev S32x512x8x128 : Shape := ⟨4, ![32, 512, 8, 128]⟩
abbrev S8x32x128x512 : Shape := ⟨4, ![8, 32, 128, 512]⟩
abbrev S_ : Shape := ⟨0, ![]⟩
abbrev S8x32x1x512 : Shape := ⟨4, ![8, 32, 1, 512]⟩
abbrev S512x128 : Shape := ⟨2, ![512, 128]⟩
abbrev S16384x128 : Shape := ⟨2, ![16384, 128]⟩
abbrev S1x32x128x512 : Shape := ⟨4, ![1, 32, 128, 512]⟩
abbrev S1x1x128x512 : Shape := ⟨4, ![1, 1, 128, 512]⟩
abbrev S1x1x1x512 : Shape := ⟨4, ![1, 1, 1, 512]⟩
abbrev S1x512 : Shape := ⟨2, ![1, 512]⟩
abbrev S128x512 : Shape := ⟨2, ![128, 512]⟩
abbrev S512x512 : Shape := ⟨2, ![512, 512]⟩
abbrev S512 : Shape := ⟨1, ![512]⟩

abbrev nBuf : Space → Nat
  | .hbm => 17
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .bf16⟩
  | .hbm, ⟨4, _⟩ => ⟨S32x512x8x128, .bf16⟩
  | .hbm, ⟨5, _⟩ => ⟨S8x32x128x512, .bf16⟩
  | .hbm, ⟨6, _⟩ => ⟨S_, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S16384x1024, .bf16⟩
  | .hbm, ⟨14, _⟩ => ⟨S16384x1024, .bf16⟩
  | .hbm, ⟨15, _⟩ => ⟨S8x32x128x512, .bf16⟩
  | .hbm, ⟨16, _⟩ => ⟨S8x32x1x512, .f32⟩
  | .local _ .vmem, ⟨0, _⟩ => ⟨S512x128, .bf16⟩
  | .local _ .vmem, ⟨1, _⟩ => ⟨S512x128, .bf16⟩
  | .local _ .vmem, ⟨2, _⟩ => ⟨S16384x128, .bf16⟩
  | .local _ .vmem, ⟨3, _⟩ => ⟨S16384x128, .bf16⟩
  | .local _ .vmem, ⟨4, _⟩ => ⟨S1x32x128x512, .bf16⟩
  | .local _ .vmem, ⟨5, _⟩ => ⟨S1x32x128x512, .bf16⟩
  | .local _ .vmem, ⟨6, _⟩ => ⟨S1x1x128x512, .bf16⟩
  | .local _ .vmem, ⟨7, _⟩ => ⟨S1x1x128x512, .bf16⟩
  | .local _ .vmem, ⟨8, _⟩ => ⟨S1x1x1x512, .f32⟩
  | .local _ .vmem, ⟨9, _⟩ => ⟨S1x1x1x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 32], ![false, false]⟩

@[reducible] def k0_t1_loop (i : grid0.Coords) : Scf.Loop 32 :=
  let c0_i32_7 : BitVec 32 := 0#32
  let arg1 : BitVec 32 := BitVec.ofNat 32 (i 1).val
  let c0_i32 : BitVec 32 := 0#32
  let v6 : BitVec 1 := Scalar.cmpi .sgt arg1 c0_i32
  let v7 : BitVec 32 := Scalar.extui v6
  let c0_i32_3 : BitVec 32 := 0#32
  let v8 : BitVec 1 := Scalar.cmpi .slt arg1 c0_i32_3
  let v9 : BitVec 32 := Scalar.extui v8
  let v10 : BitVec 32 := Scalar.subi v7 v9
  let c2_i32 : BitVec 32 := 2#32
  let c0_i32_4 : BitVec 32 := 0#32
  let v11 : BitVec 1 := Scalar.cmpi .sgt c2_i32 c0_i32_4
  let v12 : BitVec 32 := Scalar.extui v11
  let c0_i32_5 : BitVec 32 := 0#32
  let v13 : BitVec 1 := Scalar.cmpi .slt c2_i32 c0_i32_5
  let v14 : BitVec 32 := Scalar.extui v13
  let v15 : BitVec 32 := Scalar.subi v12 v14
  let v16 : BitVec 1 := Scalar.cmpi .ne v10 v15
  let v17 : BitVec 32 := Scalar.remsi arg1 c2_i32
  let c0_i32_6 : BitVec 32 := 0#32
  let v18 : BitVec 1 := Scalar.cmpi .ne v17 c0_i32_6
  let v19 : BitVec 1 := Scalar.andi v16 v18
  let v5 : BitVec 32 := Scalar.divsi arg1 c2_i32
  let c1_i32 : BitVec 32 := 1#32
  let v20 : BitVec 32 := Scalar.subi v5 c1_i32
  let v21 : BitVec 32 := Scalar.select v19 v20 v5
  let v22 : BitVec 32 := Scalar.subi v21 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let c1_i32_9 : BitVec 32 := 1#32
  ⟨c0_i32_7, v26, c1_i32_9⟩
def k0_mult1 (i : grid0.Coords) (k0_t1 : Fin (k0_t1_loop i).trips) : BitVec 32 :=
  let c2_i32_28 : BitVec 32 := 2#32
  let c0_i32_7 : BitVec 32 := 0#32
  let c1_i32_9 : BitVec 32 := 1#32
  let arg7 : BitVec 32 := Scf.iv c0_i32_7 c1_i32_9 k0_t1
  let v56 : BitVec 32 := Scalar.muli c2_i32_28 arg7
  let c512_i32 : BitVec 32 := 512#32
  let v57 : BitVec 32 := Scalar.muli v56 c512_i32
  v57
def k0_off1 (i : grid0.Coords) (k0_t1 : Fin (k0_t1_loop i).trips) : Fin 2 → Nat :=
  let c2_i32_28 : BitVec 32 := 2#32
  let c0_i32_7 : BitVec 32 := 0#32
  let c1_i32_9 : BitVec 32 := 1#32
  let arg7 : BitVec 32 := Scf.iv c0_i32_7 c1_i32_9 k0_t1
  let v56 : BitVec 32 := Scalar.muli c2_i32_28 arg7
  let c512_i32 : BitVec 32 := 512#32
  let v57 : BitVec 32 := Scalar.muli v56 c512_i32
  let v58 : BitVec 32 := v57
  let v59 : Index := Scalar.indexCast v58
  let c0_29 : Index := 0#32
  ![v59.toNat, 0]
def k0_mult2 (i : grid0.Coords) (k0_t1 : Fin (k0_t1_loop i).trips) : BitVec 32 :=
  let c2_i32_28 : BitVec 32 := 2#32
  let c0_i32_7 : BitVec 32 := 0#32
  let c1_i32_9 : BitVec 32 := 1#32
  let arg7 : BitVec 32 := Scf.iv c0_i32_7 c1_i32_9 k0_t1
  let v56 : BitVec 32 := Scalar.muli c2_i32_28 arg7
  let c1_i32_31 : BitVec 32 := 1#32
  let v63 : BitVec 32 := Scalar.addi v56 c1_i32_31
  let c512_i32_32 : BitVec 32 := 512#32
  let v64 : BitVec 32 := Scalar.muli v63 c512_i32_32
  v64
def k0_off2 (i : grid0.Coords) (k0_t1 : Fin (k0_t1_loop i).trips) : Fin 2 → Nat :=
  let c2_i32_28 : BitVec 32 := 2#32
  let c0_i32_7 : BitVec 32 := 0#32
  let c1_i32_9 : BitVec 32 := 1#32
  let arg7 : BitVec 32 := Scf.iv c0_i32_7 c1_i32_9 k0_t1
  let v56 : BitVec 32 := Scalar.muli c2_i32_28 arg7
  let c1_i32_31 : BitVec 32 := 1#32
  let v63 : BitVec 32 := Scalar.addi v56 c1_i32_31
  let c512_i32_32 : BitVec 32 := 512#32
  let v64 : BitVec 32 := Scalar.muli v63 c512_i32_32
  let v65 : BitVec 32 := v64
  let v66 : Index := Scalar.indexCast v65
  let c0_33 : Index := 0#32
  ![v66.toNat, 0]
def k0_off3 (i : grid0.Coords) (k0_t1 : Fin (k0_t1_loop i).trips) : Fin 4 → Nat :=
  let c0_38 : Index := 0#32
  let c2_i32_28 : BitVec 32 := 2#32
  let c0_i32_7 : BitVec 32 := 0#32
  let c1_i32_9 : BitVec 32 := 1#32
  let arg7 : BitVec 32 := Scf.iv c0_i32_7 c1_i32_9 k0_t1
  let v56 : BitVec 32 := Scalar.muli c2_i32_28 arg7
  let v85 : Index := Scalar.indexCast v56
  let c0_39 : Index := 0#32
  let c0_40 : Index := 0#32
  ![0, v85.toNat, 0, 0]
def k0_off4 (i : grid0.Coords) (k0_t1 : Fin (k0_t1_loop i).trips) : Fin 4 → Nat :=
  let c0_44 : Index := 0#32
  let c2_i32_28 : BitVec 32 := 2#32
  let c0_i32_7 : BitVec 32 := 0#32
  let c1_i32_9 : BitVec 32 := 1#32
  let arg7 : BitVec 32 := Scf.iv c0_i32_7 c1_i32_9 k0_t1
  let v56 : BitVec 32 := Scalar.muli c2_i32_28 arg7
  let c1_i32_35 : BitVec 32 := 1#32
  let v70 : BitVec 32 := Scalar.addi v56 c1_i32_35
  let v105 : Index := Scalar.indexCast v70
  let c0_45 : Index := 0#32
  let c0_46 : Index := 0#32
  ![0, v105.toNat, 0, 0]
@[reducible] def k0_t2_loop (i : grid0.Coords) : Scf.Loop 32 :=
  let c0_i32_7 : BitVec 32 := 0#32
  let arg1 : BitVec 32 := BitVec.ofNat 32 (i 1).val
  let c0_i32 : BitVec 32 := 0#32
  let v6 : BitVec 1 := Scalar.cmpi .sgt arg1 c0_i32
  let v7 : BitVec 32 := Scalar.extui v6
  let c0_i32_3 : BitVec 32 := 0#32
  let v8 : BitVec 1 := Scalar.cmpi .slt arg1 c0_i32_3
  let v9 : BitVec 32 := Scalar.extui v8
  let v10 : BitVec 32 := Scalar.subi v7 v9
  let c2_i32 : BitVec 32 := 2#32
  let c0_i32_4 : BitVec 32 := 0#32
  let v11 : BitVec 1 := Scalar.cmpi .sgt c2_i32 c0_i32_4
  let v12 : BitVec 32 := Scalar.extui v11
  let c0_i32_5 : BitVec 32 := 0#32
  let v13 : BitVec 1 := Scalar.cmpi .slt c2_i32 c0_i32_5
  let v14 : BitVec 32 := Scalar.extui v13
  let v15 : BitVec 32 := Scalar.subi v12 v14
  let v16 : BitVec 1 := Scalar.cmpi .ne v10 v15
  let v17 : BitVec 32 := Scalar.remsi arg1 c2_i32
  let c0_i32_6 : BitVec 32 := 0#32
  let v18 : BitVec 1 := Scalar.cmpi .ne v17 c0_i32_6
  let v19 : BitVec 1 := Scalar.andi v16 v18
  let v5 : BitVec 32 := Scalar.divsi arg1 c2_i32
  let c1_i32 : BitVec 32 := 1#32
  let v20 : BitVec 32 := Scalar.subi v5 c1_i32
  let v21 : BitVec 32 := Scalar.select v19 v20 v5
  let v22 : BitVec 32 := Scalar.subi v21 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let v23 : BitVec 32 := Scalar.addi c0_i32_7 v22
  let c1_i32_10 : BitVec 32 := 1#32
  ⟨v26, v23, c1_i32_10⟩
def k0_mult3 (i : grid0.Coords) (k0_t2 : Fin (k0_t2_loop i).trips) : BitVec 32 :=
  let c2_i32_28 : BitVec 32 := 2#32
  let c0_i32_7 : BitVec 32 := 0#32
  let arg1 : BitVec 32 := BitVec.ofNat 32 (i 1).val
  let c0_i32 : BitVec 32 := 0#32
  let v6 : BitVec 1 := Scalar.cmpi .sgt arg1 c0_i32
  let v7 : BitVec 32 := Scalar.extui v6
  let c0_i32_3 : BitVec 32 := 0#32
  let v8 : BitVec 1 := Scalar.cmpi .slt arg1 c0_i32_3
  let v9 : BitVec 32 := Scalar.extui v8
  let v10 : BitVec 32 := Scalar.subi v7 v9
  let c2_i32 : BitVec 32 := 2#32
  let c0_i32_4 : BitVec 32 := 0#32
  let v11 : BitVec 1 := Scalar.cmpi .sgt c2_i32 c0_i32_4
  let v12 : BitVec 32 := Scalar.extui v11
  let c0_i32_5 : BitVec 32 := 0#32
  let v13 : BitVec 1 := Scalar.cmpi .slt c2_i32 c0_i32_5
  let v14 : BitVec 32 := Scalar.extui v13
  let v15 : BitVec 32 := Scalar.subi v12 v14
  let v16 : BitVec 1 := Scalar.cmpi .ne v10 v15
  let v17 : BitVec 32 := Scalar.remsi arg1 c2_i32
  let c0_i32_6 : BitVec 32 := 0#32
  let v18 : BitVec 1 := Scalar.cmpi .ne v17 c0_i32_6
  let v19 : BitVec 1 := Scalar.andi v16 v18
  let v5 : BitVec 32 := Scalar.divsi arg1 c2_i32
  let c1_i32 : BitVec 32 := 1#32
  let v20 : BitVec 32 := Scalar.subi v5 c1_i32
  let v21 : BitVec 32 := Scalar.select v19 v20 v5
  let v22 : BitVec 32 := Scalar.subi v21 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let c1_i32_10 : BitVec 32 := 1#32
  let arg7 : BitVec 32 := Scf.iv v26 c1_i32_10 k0_t2
  let v56 : BitVec 32 := Scalar.muli c2_i32_28 arg7
  let c512_i32 : BitVec 32 := 512#32
  let v57 : BitVec 32 := Scalar.muli v56 c512_i32
  v57
def k0_off5 (i : grid0.Coords) (k0_t2 : Fin (k0_t2_loop i).trips) : Fin 2 → Nat :=
  let c2_i32_28 : BitVec 32 := 2#32
  let c0_i32_7 : BitVec 32 := 0#32
  let arg1 : BitVec 32 := BitVec.ofNat 32 (i 1).val
  let c0_i32 : BitVec 32 := 0#32
  let v6 : BitVec 1 := Scalar.cmpi .sgt arg1 c0_i32
  let v7 : BitVec 32 := Scalar.extui v6
  let c0_i32_3 : BitVec 32 := 0#32
  let v8 : BitVec 1 := Scalar.cmpi .slt arg1 c0_i32_3
  let v9 : BitVec 32 := Scalar.extui v8
  let v10 : BitVec 32 := Scalar.subi v7 v9
  let c2_i32 : BitVec 32 := 2#32
  let c0_i32_4 : BitVec 32 := 0#32
  let v11 : BitVec 1 := Scalar.cmpi .sgt c2_i32 c0_i32_4
  let v12 : BitVec 32 := Scalar.extui v11
  let c0_i32_5 : BitVec 32 := 0#32
  let v13 : BitVec 1 := Scalar.cmpi .slt c2_i32 c0_i32_5
  let v14 : BitVec 32 := Scalar.extui v13
  let v15 : BitVec 32 := Scalar.subi v12 v14
  let v16 : BitVec 1 := Scalar.cmpi .ne v10 v15
  let v17 : BitVec 32 := Scalar.remsi arg1 c2_i32
  let c0_i32_6 : BitVec 32 := 0#32
  let v18 : BitVec 1 := Scalar.cmpi .ne v17 c0_i32_6
  let v19 : BitVec 1 := Scalar.andi v16 v18
  let v5 : BitVec 32 := Scalar.divsi arg1 c2_i32
  let c1_i32 : BitVec 32 := 1#32
  let v20 : BitVec 32 := Scalar.subi v5 c1_i32
  let v21 : BitVec 32 := Scalar.select v19 v20 v5
  let v22 : BitVec 32 := Scalar.subi v21 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let c1_i32_10 : BitVec 32 := 1#32
  let arg7 : BitVec 32 := Scf.iv v26 c1_i32_10 k0_t2
  let v56 : BitVec 32 := Scalar.muli c2_i32_28 arg7
  let c512_i32 : BitVec 32 := 512#32
  let v57 : BitVec 32 := Scalar.muli v56 c512_i32
  let v58 : BitVec 32 := v57
  let v59 : Index := Scalar.indexCast v58
  let c0_29 : Index := 0#32
  ![v59.toNat, 0]
def k0_mult4 (i : grid0.Coords) (k0_t2 : Fin (k0_t2_loop i).trips) : BitVec 32 :=
  let c2_i32_28 : BitVec 32 := 2#32
  let c0_i32_7 : BitVec 32 := 0#32
  let arg1 : BitVec 32 := BitVec.ofNat 32 (i 1).val
  let c0_i32 : BitVec 32 := 0#32
  let v6 : BitVec 1 := Scalar.cmpi .sgt arg1 c0_i32
  let v7 : BitVec 32 := Scalar.extui v6
  let c0_i32_3 : BitVec 32 := 0#32
  let v8 : BitVec 1 := Scalar.cmpi .slt arg1 c0_i32_3
  let v9 : BitVec 32 := Scalar.extui v8
  let v10 : BitVec 32 := Scalar.subi v7 v9
  let c2_i32 : BitVec 32 := 2#32
  let c0_i32_4 : BitVec 32 := 0#32
  let v11 : BitVec 1 := Scalar.cmpi .sgt c2_i32 c0_i32_4
  let v12 : BitVec 32 := Scalar.extui v11
  let c0_i32_5 : BitVec 32 := 0#32
  let v13 : BitVec 1 := Scalar.cmpi .slt c2_i32 c0_i32_5
  let v14 : BitVec 32 := Scalar.extui v13
  let v15 : BitVec 32 := Scalar.subi v12 v14
  let v16 : BitVec 1 := Scalar.cmpi .ne v10 v15
  let v17 : BitVec 32 := Scalar.remsi arg1 c2_i32
  let c0_i32_6 : BitVec 32 := 0#32
  let v18 : BitVec 1 := Scalar.cmpi .ne v17 c0_i32_6
  let v19 : BitVec 1 := Scalar.andi v16 v18
  let v5 : BitVec 32 := Scalar.divsi arg1 c2_i32
  let c1_i32 : BitVec 32 := 1#32
  let v20 : BitVec 32 := Scalar.subi v5 c1_i32
  let v21 : BitVec 32 := Scalar.select v19 v20 v5
  let v22 : BitVec 32 := Scalar.subi v21 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let c1_i32_10 : BitVec 32 := 1#32
  let arg7 : BitVec 32 := Scf.iv v26 c1_i32_10 k0_t2
  let v56 : BitVec 32 := Scalar.muli c2_i32_28 arg7
  let c1_i32_31 : BitVec 32 := 1#32
  let v63 : BitVec 32 := Scalar.addi v56 c1_i32_31
  let c512_i32_32 : BitVec 32 := 512#32
  let v64 : BitVec 32 := Scalar.muli v63 c512_i32_32
  v64
def k0_off6 (i : grid0.Coords) (k0_t2 : Fin (k0_t2_loop i).trips) : Fin 2 → Nat :=
  let c2_i32_28 : BitVec 32 := 2#32
  let c0_i32_7 : BitVec 32 := 0#32
  let arg1 : BitVec 32 := BitVec.ofNat 32 (i 1).val
  let c0_i32 : BitVec 32 := 0#32
  let v6 : BitVec 1 := Scalar.cmpi .sgt arg1 c0_i32
  let v7 : BitVec 32 := Scalar.extui v6
  let c0_i32_3 : BitVec 32 := 0#32
  let v8 : BitVec 1 := Scalar.cmpi .slt arg1 c0_i32_3
  let v9 : BitVec 32 := Scalar.extui v8
  let v10 : BitVec 32 := Scalar.subi v7 v9
  let c2_i32 : BitVec 32 := 2#32
  let c0_i32_4 : BitVec 32 := 0#32
  let v11 : BitVec 1 := Scalar.cmpi .sgt c2_i32 c0_i32_4
  let v12 : BitVec 32 := Scalar.extui v11
  let c0_i32_5 : BitVec 32 := 0#32
  let v13 : BitVec 1 := Scalar.cmpi .slt c2_i32 c0_i32_5
  let v14 : BitVec 32 := Scalar.extui v13
  let v15 : BitVec 32 := Scalar.subi v12 v14
  let v16 : BitVec 1 := Scalar.cmpi .ne v10 v15
  let v17 : BitVec 32 := Scalar.remsi arg1 c2_i32
  let c0_i32_6 : BitVec 32 := 0#32
  let v18 : BitVec 1 := Scalar.cmpi .ne v17 c0_i32_6
  let v19 : BitVec 1 := Scalar.andi v16 v18
  let v5 : BitVec 32 := Scalar.divsi arg1 c2_i32
  let c1_i32 : BitVec 32 := 1#32
  let v20 : BitVec 32 := Scalar.subi v5 c1_i32
  let v21 : BitVec 32 := Scalar.select v19 v20 v5
  let v22 : BitVec 32 := Scalar.subi v21 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let c1_i32_10 : BitVec 32 := 1#32
  let arg7 : BitVec 32 := Scf.iv v26 c1_i32_10 k0_t2
  let v56 : BitVec 32 := Scalar.muli c2_i32_28 arg7
  let c1_i32_31 : BitVec 32 := 1#32
  let v63 : BitVec 32 := Scalar.addi v56 c1_i32_31
  let c512_i32_32 : BitVec 32 := 512#32
  let v64 : BitVec 32 := Scalar.muli v63 c512_i32_32
  let v65 : BitVec 32 := v64
  let v66 : Index := Scalar.indexCast v65
  let c0_33 : Index := 0#32
  ![v66.toNat, 0]
def k0_off7 (i : grid0.Coords) (k0_t2 : Fin (k0_t2_loop i).trips) : Fin 4 → Nat :=
  let c0_38 : Index := 0#32
  let c2_i32_28 : BitVec 32 := 2#32
  let c0_i32_7 : BitVec 32 := 0#32
  let arg1 : BitVec 32 := BitVec.ofNat 32 (i 1).val
  let c0_i32 : BitVec 32 := 0#32
  let v6 : BitVec 1 := Scalar.cmpi .sgt arg1 c0_i32
  let v7 : BitVec 32 := Scalar.extui v6
  let c0_i32_3 : BitVec 32 := 0#32
  let v8 : BitVec 1 := Scalar.cmpi .slt arg1 c0_i32_3
  let v9 : BitVec 32 := Scalar.extui v8
  let v10 : BitVec 32 := Scalar.subi v7 v9
  let c2_i32 : BitVec 32 := 2#32
  let c0_i32_4 : BitVec 32 := 0#32
  let v11 : BitVec 1 := Scalar.cmpi .sgt c2_i32 c0_i32_4
  let v12 : BitVec 32 := Scalar.extui v11
  let c0_i32_5 : BitVec 32 := 0#32
  let v13 : BitVec 1 := Scalar.cmpi .slt c2_i32 c0_i32_5
  let v14 : BitVec 32 := Scalar.extui v13
  let v15 : BitVec 32 := Scalar.subi v12 v14
  let v16 : BitVec 1 := Scalar.cmpi .ne v10 v15
  let v17 : BitVec 32 := Scalar.remsi arg1 c2_i32
  let c0_i32_6 : BitVec 32 := 0#32
  let v18 : BitVec 1 := Scalar.cmpi .ne v17 c0_i32_6
  let v19 : BitVec 1 := Scalar.andi v16 v18
  let v5 : BitVec 32 := Scalar.divsi arg1 c2_i32
  let c1_i32 : BitVec 32 := 1#32
  let v20 : BitVec 32 := Scalar.subi v5 c1_i32
  let v21 : BitVec 32 := Scalar.select v19 v20 v5
  let v22 : BitVec 32 := Scalar.subi v21 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let c1_i32_10 : BitVec 32 := 1#32
  let arg7 : BitVec 32 := Scf.iv v26 c1_i32_10 k0_t2
  let v56 : BitVec 32 := Scalar.muli c2_i32_28 arg7
  let v85 : Index := Scalar.indexCast v56
  let c0_39 : Index := 0#32
  let c0_40 : Index := 0#32
  ![0, v85.toNat, 0, 0]
def k0_off8 (i : grid0.Coords) (k0_t2 : Fin (k0_t2_loop i).trips) : Fin 4 → Nat :=
  let c0_44 : Index := 0#32
  let c2_i32_28 : BitVec 32 := 2#32
  let c0_i32_7 : BitVec 32 := 0#32
  let arg1 : BitVec 32 := BitVec.ofNat 32 (i 1).val
  let c0_i32 : BitVec 32 := 0#32
  let v6 : BitVec 1 := Scalar.cmpi .sgt arg1 c0_i32
  let v7 : BitVec 32 := Scalar.extui v6
  let c0_i32_3 : BitVec 32 := 0#32
  let v8 : BitVec 1 := Scalar.cmpi .slt arg1 c0_i32_3
  let v9 : BitVec 32 := Scalar.extui v8
  let v10 : BitVec 32 := Scalar.subi v7 v9
  let c2_i32 : BitVec 32 := 2#32
  let c0_i32_4 : BitVec 32 := 0#32
  let v11 : BitVec 1 := Scalar.cmpi .sgt c2_i32 c0_i32_4
  let v12 : BitVec 32 := Scalar.extui v11
  let c0_i32_5 : BitVec 32 := 0#32
  let v13 : BitVec 1 := Scalar.cmpi .slt c2_i32 c0_i32_5
  let v14 : BitVec 32 := Scalar.extui v13
  let v15 : BitVec 32 := Scalar.subi v12 v14
  let v16 : BitVec 1 := Scalar.cmpi .ne v10 v15
  let v17 : BitVec 32 := Scalar.remsi arg1 c2_i32
  let c0_i32_6 : BitVec 32 := 0#32
  let v18 : BitVec 1 := Scalar.cmpi .ne v17 c0_i32_6
  let v19 : BitVec 1 := Scalar.andi v16 v18
  let v5 : BitVec 32 := Scalar.divsi arg1 c2_i32
  let c1_i32 : BitVec 32 := 1#32
  let v20 : BitVec 32 := Scalar.subi v5 c1_i32
  let v21 : BitVec 32 := Scalar.select v19 v20 v5
  let v22 : BitVec 32 := Scalar.subi v21 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let c1_i32_10 : BitVec 32 := 1#32
  let arg7 : BitVec 32 := Scf.iv v26 c1_i32_10 k0_t2
  let v56 : BitVec 32 := Scalar.muli c2_i32_28 arg7
  let c1_i32_35 : BitVec 32 := 1#32
  let v70 : BitVec 32 := Scalar.addi v56 c1_i32_35
  let v105 : Index := Scalar.indexCast v70
  let c0_45 : Index := 0#32
  let c0_46 : Index := 0#32
  ![0, v105.toNat, 0, 0]
def k0_cond1 (i : grid0.Coords) : BitVec 1 :=
  let arg1 : BitVec 32 := BitVec.ofNat 32 (i 1).val
  let c2_i32_11 : BitVec 32 := 2#32
  let c0_i32_12 : BitVec 32 := 0#32
  let v29 : BitVec 1 := Scalar.cmpi .eq c2_i32_11 c0_i32_12
  let c1_i32_13 : BitVec 32 := 1#32
  let v30 : BitVec 32 := Scalar.select v29 c1_i32_13 c2_i32_11
  let v31 : BitVec 32 := Scalar.remsi arg1 v30
  let c0_i32_15 : BitVec 32 := 0#32
  let v33 : BitVec 1 := Scalar.cmpi .slt v31 c0_i32_15
  let c0_i32_16 : BitVec 32 := 0#32
  let v34 : BitVec 1 := Scalar.cmpi .slt v30 c0_i32_16
  let v35 : BitVec 1 := Scalar.xori v33 v34
  let c0_i32_14 : BitVec 32 := 0#32
  let v32 : BitVec 1 := Scalar.cmpi .ne v31 c0_i32_14
  let v36 : BitVec 1 := Scalar.andi v35 v32
  let v37 : BitVec 32 := Scalar.addi v31 v30
  let v38 : BitVec 32 := Scalar.select v36 v37 v31
  let c1_i32_17 : BitVec 32 := 1#32
  let v39 : BitVec 1 := Scalar.cmpi .eq v38 c1_i32_17
  let v40 : BitVec 32 := Scalar.extui v39
  let c0_i32_18 : BitVec 32 := 0#32
  let v41 : BitVec 1 := Scalar.cmpi .ne v40 c0_i32_18
  v41

def k0_mult5 (i : grid0.Coords) : BitVec 32 :=
  let arg1 : BitVec 32 := BitVec.ofNat 32 (i 1).val
  let c1_i32_28 : BitVec 32 := 1#32
  let v56 : BitVec 32 := Scalar.subi arg1 c1_i32_28
  let c512_i32 : BitVec 32 := 512#32
  let v57 : BitVec 32 := Scalar.muli v56 c512_i32
  v57
def k0_off9 (i : grid0.Coords) : Fin 2 → Nat :=
  let arg1 : BitVec 32 := BitVec.ofNat 32 (i 1).val
  let c1_i32_28 : BitVec 32 := 1#32
  let v56 : BitVec 32 := Scalar.subi arg1 c1_i32_28
  let c512_i32 : BitVec 32 := 512#32
  let v57 : BitVec 32 := Scalar.muli v56 c512_i32
  let v58 : BitVec 32 := v57
  let v59 : Index := Scalar.indexCast v58
  let c0_29 : Index := 0#32
  ![v59.toNat, 0]
def k0_mult6 (i : grid0.Coords) : BitVec 32 :=
  let arg1 : BitVec 32 := BitVec.ofNat 32 (i 1).val
  let c1_i32_28 : BitVec 32 := 1#32
  let v56 : BitVec 32 := Scalar.subi arg1 c1_i32_28
  let c1_i32_31 : BitVec 32 := 1#32
  let v63 : BitVec 32 := Scalar.addi v56 c1_i32_31
  let c512_i32_32 : BitVec 32 := 512#32
  let v64 : BitVec 32 := Scalar.muli v63 c512_i32_32
  v64
def k0_off10 (i : grid0.Coords) : Fin 2 → Nat :=
  let arg1 : BitVec 32 := BitVec.ofNat 32 (i 1).val
  let c1_i32_28 : BitVec 32 := 1#32
  let v56 : BitVec 32 := Scalar.subi arg1 c1_i32_28
  let c1_i32_31 : BitVec 32 := 1#32
  let v63 : BitVec 32 := Scalar.addi v56 c1_i32_31
  let c512_i32_32 : BitVec 32 := 512#32
  let v64 : BitVec 32 := Scalar.muli v63 c512_i32_32
  let v65 : BitVec 32 := v64
  let v66 : Index := Scalar.indexCast v65
  let c0_33 : Index := 0#32
  ![v66.toNat, 0]
def k0_off11 (i : grid0.Coords) : Fin 4 → Nat :=
  let c0_39 : Index := 0#32
  let arg1 : BitVec 32 := BitVec.ofNat 32 (i 1).val
  let c1_i32_28 : BitVec 32 := 1#32
  let v56 : BitVec 32 := Scalar.subi arg1 c1_i32_28
  let v90 : Index := Scalar.indexCast v56
  let c0_40 : Index := 0#32
  let c0_41 : Index := 0#32
  ![0, v90.toNat, 0, 0]
def k0_off12 (i : grid0.Coords) : Fin 4 → Nat :=
  let c0_45 : Index := 0#32
  let arg1 : BitVec 32 := BitVec.ofNat 32 (i 1).val
  let c1_i32_28 : BitVec 32 := 1#32
  let v56 : BitVec 32 := Scalar.subi arg1 c1_i32_28
  let c1_i32_36 : BitVec 32 := 1#32
  let v75 : BitVec 32 := Scalar.addi v56 c1_i32_36
  let v110 : Index := Scalar.indexCast v75
  let c0_46 : Index := 0#32
  let c0_47 : Index := 0#32
  ![0, v110.toNat, 0, 0]
def k0_mult7 (i : grid0.Coords) : BitVec 32 :=
  let arg1 : BitVec 32 := BitVec.ofNat 32 (i 1).val
  let c512_i32 : BitVec 32 := 512#32
  let v56 : BitVec 32 := Scalar.muli arg1 c512_i32
  v56
def k0_off13 (i : grid0.Coords) : Fin 2 → Nat :=
  let arg1 : BitVec 32 := BitVec.ofNat 32 (i 1).val
  let c512_i32 : BitVec 32 := 512#32
  let v56 : BitVec 32 := Scalar.muli arg1 c512_i32
  let v57 : BitVec 32 := v56
  let v58 : Index := Scalar.indexCast v57
  let c0_28 : Index := 0#32
  ![v58.toNat, 0]
def k0_off14 (i : grid0.Coords) : Fin 4 → Nat :=
  let c0_33 : Index := 0#32
  let arg1 : BitVec 32 := BitVec.ofNat 32 (i 1).val
  let v81 : Index := Scalar.indexCast arg1
  let c0_34 : Index := 0#32
  let c0_35 : Index := 0#32
  ![0, v81.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x32x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel5Ideal.lean ====
variable {F : FTy → Type} [FloatOps F] [Named F]
def κ : String → Option EReal := fun
  | "log2e" => some (((Real.log 2)⁻¹ : ℝ) : EReal)
  | _ => none
-- ==== Reference5Ideal.lean ====
abbrev S16384x1024 : Shape := ⟨2, ![16384, 1024]⟩
abbrev S16384x8x128 : Shape := ⟨3, ![16384, 8, 128]⟩
abbrev S8x16384x16384 : Shape := ⟨3, ![8, 16384, 16384]⟩
abbrev S_ : Shape := ⟨0, ![]⟩
abbrev S8x16384 : Shape := ⟨2, ![8, 16384]⟩
abbrev S8x16384x1 : Shape := ⟨3, ![8, 16384, 1]⟩
abbrev S8x128x16384 : Shape := ⟨3, ![8, 128, 16384]⟩
abbrev S8x128x32x512 : Shape := ⟨4, ![8, 128, 32, 512]⟩
abbrev S8x32x128x512 : Shape := ⟨4, ![8, 32, 128, 512]⟩
abbrev S8x32x1x512 : Shape := ⟨4, ![8, 32, 1, 512]⟩

abbrev nBuf : Space → Nat
  | .hbm => 50
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x8x128, .f32⟩
  | .hbm, ⟨4, _⟩ => ⟨S16384x8x128, .f32⟩
  | .hbm, ⟨5, _⟩ => ⟨S8x16384x16384, .f32⟩
  | .hbm, ⟨6, _⟩ => ⟨S_, .f32⟩
  | .hbm, ⟨7, _⟩ => ⟨S8x16384x16384, .f32⟩
  | .hbm, ⟨8, _⟩ => ⟨S8x16384x16384, .f32⟩
  | .hbm, ⟨9, _⟩ => ⟨S8x16384x16384, .i32⟩
  | .hbm, ⟨10, _⟩ => ⟨S8x16384x16384, .i32⟩
  | .hbm, ⟨11, _⟩ => ⟨S8x16384x16384, .i1⟩
  | .hbm, ⟨12, _⟩ => ⟨S_, .f32⟩
  | .hbm, ⟨13, _⟩ => ⟨S8x16384x16384, .f32⟩
  | .hbm, ⟨14, _⟩ => ⟨S8x16384x16384, .f32⟩
  | .hbm, ⟨15, _⟩ => ⟨S_, .f32⟩
  | .hbm, ⟨16, _⟩ => ⟨S8x16384, .f32⟩
  | .hbm, ⟨17, _⟩ => ⟨S_, .f32⟩
  | .hbm, ⟨18, _⟩ => ⟨S8x16384, .f32⟩
  | .hbm, ⟨19, _⟩ => ⟨S8x16384, .f32⟩
  | .hbm, ⟨20, _⟩ => ⟨S8x16384x1, .f32⟩
  | .hbm, ⟨21, _⟩ => ⟨S8x16384x16384, .f32⟩
  | .hbm, ⟨22, _⟩ => ⟨S8x16384x16384, .f32⟩
  | .hbm, ⟨23, _⟩ => ⟨S8x16384x16384, .f32⟩
  | .hbm, ⟨24, _⟩ => ⟨S_, .f32⟩
  | .hbm, ⟨25, _⟩ => ⟨S8x16384, .f32⟩
  | .hbm, ⟨26, _⟩ => ⟨S8x16384x1, .f32⟩
  | .hbm, ⟨27, _⟩ => ⟨S8x16384x16384, .f32⟩
  | .hbm, ⟨28, _⟩ => ⟨S8x16384x16384, .f32⟩
  | .hbm, ⟨29, _⟩ => ⟨S16384x8x128, .f32⟩
  | .hbm, ⟨30, _⟩ => ⟨S8x128x16384, .f32⟩
  | .hbm, ⟨31, _⟩ => ⟨S8x128x16384, .bf16⟩
  | .hbm, ⟨32, _⟩ => ⟨S_, .f32⟩
  | .hbm, ⟨33, _⟩ => ⟨S8x16384, .f32⟩
  | .hbm, ⟨34, _⟩ => ⟨S8x16384x1, .f32⟩
  | .hbm, ⟨35, _⟩ => ⟨S8x16384x16384, .f32⟩
  | .hbm, ⟨36, _⟩ => ⟨S8x16384x16384, .f32⟩
  | .hbm, ⟨37, _⟩ => ⟨S8x16384x16384, .f32⟩
  | .hbm, ⟨38, _⟩ => ⟨S_, .f32⟩
  | .hbm, ⟨39, _⟩ => ⟨S8x16384, .f32⟩
  | .hbm, ⟨40, _⟩ => ⟨S8x16384x1, .f32⟩
  | .hbm, ⟨41, _⟩ => ⟨S8x16384x1, .f32⟩
  | .hbm, ⟨42, _⟩ => ⟨S8x16384x1, .f32⟩
  | .hbm, ⟨43, _⟩ => ⟨S_, .f32⟩
  | .hbm, ⟨44, _⟩ => ⟨S_, .f32⟩
  | .hbm, ⟨45, _⟩ => ⟨S8x16384x1, .f32⟩
  | .hbm, ⟨46, _⟩ => ⟨S8x16384x1, .f32⟩
  | .hbm, ⟨47, _⟩ => ⟨S8x128x32x512, .bf16⟩
  | .hbm, ⟨48, _⟩ => ⟨S8x32x128x512, .bf16⟩
  | .hbm, ⟨49, _⟩ => ⟨S8x32x1x512, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_6 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== Kernel6.lean ====
abbrev S16384x1024 : Shape := ⟨2, ![16384, 1024]⟩
abbrev S16384x8x128 : Shape := ⟨3, ![16384, 8, 128]⟩
abbrev S8x16384x16384 : Shape := ⟨3, ![8, 16384, 16384]⟩
abbrev S_ : Shape := ⟨0, ![]⟩
abbrev S8x16384 : Shape := ⟨2, ![8, 16384]⟩
abbrev S8x16384x1 : Shape := ⟨3, ![8, 16384, 1]⟩
abbrev S8x16384x128 : Shape := ⟨3, ![8, 16384, 128]⟩
abbrev S1024x16384 : Shape := ⟨2, ![1024, 16384]⟩
abbrev S8x32x512 : Shape := ⟨3, ![8, 32, 512]⟩
abbrev S8x32x128x512 : Shape := ⟨4, ![8, 32, 128, 512]⟩
abbrev S16384x128 : Shape := ⟨2, ![16384, 128]⟩
abbrev S512x128 : Shape := ⟨2, ![512, 128]⟩
abbrev S128x512 : Shape := ⟨2, ![128, 512]⟩
abbrev S1x32x512 : Shape := ⟨3, ![1, 32, 512]⟩
abbrev S1x32x128x512 : Shape := ⟨4, ![1, 32, 128, 512]⟩
abbrev S32x128x512 : Shape := ⟨3, ![32, 128, 512]⟩
abbrev S512x512 : Shape := ⟨2, ![512, 512]⟩
abbrev S1x1x512 : Shape := ⟨3, ![1, 1, 512]⟩
abbrev S1x512 : Shape := ⟨2, ![1, 512]⟩
abbrev S1x1x128x512 : Shape := ⟨4, ![1, 1, 128, 512]⟩

abbrev nBuf : Space → Nat
  | .hbm => 57
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x8x128, .f32⟩
  | .hbm, ⟨5, _⟩ => ⟨S16384x8x128, .f32⟩
  | .hbm, ⟨6, _⟩ => ⟨S8x16384x16384, .f32⟩
  | .hbm, ⟨7, _⟩ => ⟨S_, .f32⟩
  | .hbm, ⟨8, _⟩ => ⟨S8x16384x16384, .f32⟩
  | .hbm, ⟨9, _⟩ => ⟨S8x16384x16384, .f32⟩
  | .hbm, ⟨10, _⟩ => ⟨S8x16384x16384, .i32⟩
  | .hbm, ⟨11, _⟩ => ⟨S8x16384x16384, .i32⟩
  | .hbm, ⟨12, _⟩ => ⟨S8x16384x16384, .i1⟩
  | .hbm, ⟨13, _⟩ => ⟨S_, .f32⟩
  | .hbm, ⟨14, _⟩ => ⟨S8x16384x16384, .f32⟩
  | .hbm, ⟨15, _⟩ => ⟨S8x16384x16384, .f32⟩
  | .hbm, ⟨16, _⟩ => ⟨S_, .f32⟩
  | .hbm, ⟨17, _⟩ => ⟨S8x16384, .f32⟩
  | .hbm, ⟨18, _⟩ => ⟨S8x16384x1, .f32⟩
  | .hbm, ⟨19, _⟩ => ⟨S8x16384x16384, .f32⟩
  | .hbm, ⟨20, _⟩ => ⟨S8x16384x16384, .f32⟩
  | .hbm, ⟨21, _⟩ => ⟨S8x16384x16384, .f32⟩
  | .hbm, ⟨22, _⟩ => ⟨S_, .f32⟩
  | .hbm, ⟨23, _⟩ => ⟨S8x16384, .f32⟩
  | .hbm, ⟨24, _⟩ => ⟨S8x16384x1, .f32⟩
  | .hbm, ⟨25, _⟩ => ⟨S8x16384x16384, .f32⟩
  | .hbm, ⟨26, _⟩ => ⟨S8x16384x16384, .f32⟩
  | .hbm, ⟨27, _⟩ => ⟨S16384x8x128, .f32⟩
  | .hbm, ⟨28, _⟩ => ⟨S8x16384x128, .f32⟩
  | .hbm, ⟨29, _⟩ => ⟨S16384x8x128, .f32⟩
  | .hbm, ⟨30, _⟩ => ⟨S8x16384x128, .f32⟩
  | .hbm, ⟨31, _⟩ => ⟨S8x16384x128, .f32⟩
  | .hbm, ⟨32, _⟩ => ⟨S_, .f32⟩
  | .hbm, ⟨33, _⟩ => ⟨S8x16384, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S_, .f32⟩
  | .hbm, ⟨39, _⟩ => ⟨S16384x1024, .f32⟩
  | .hbm, ⟨40, _⟩ => ⟨S16384x1024, .f32⟩
  | .hbm, ⟨41, _⟩ => ⟨S16384x1024, .bf16⟩
  | .hbm, ⟨42, _⟩ => ⟨S16384x1024, .bf16⟩
  | .hbm, ⟨43, _⟩ => ⟨S1024x16384, .bf16⟩
  | .hbm, ⟨44, _⟩ => ⟨S16384x1024, .bf16⟩
  | .hbm, ⟨45, _⟩ => ⟨S16384x1024, .bf16⟩
  | .hbm, ⟨46, _⟩ => ⟨S8x16384x1, .f32⟩
  | .hbm, ⟨47, _⟩ => ⟨S8x16384x1, .f32⟩
  | .hbm, ⟨48, _⟩ => ⟨S_, .f32⟩
  | .hbm, ⟨49, _⟩ => ⟨S_, .f32⟩
  | .hbm, ⟨50, _⟩ => ⟨S8x16384x1, .f32⟩
  | .hbm, ⟨51, _⟩ => ⟨S8x16384x1, .f32⟩
  | .hbm, ⟨52, _⟩ => ⟨S8x32x512, .f32⟩
  | .hbm, ⟨53, _⟩ => ⟨S8x32x512, .f32⟩
  | .hbm, ⟨54, _⟩ => ⟨S16384x1024, .f32⟩
  | .hbm, ⟨55, _⟩ => ⟨S16384x1024, .f32⟩
  | .hbm, ⟨56, _⟩ => ⟨S8x32x128x512, .f32⟩
  | .local _ .vmem, ⟨0, _⟩ => ⟨S16384x128, .bf16⟩
  | .local _ .vmem, ⟨1, _⟩ => ⟨S16384x128, .bf16⟩
  | .local _ .vmem, ⟨2, _⟩ => ⟨S512x128, .bf16⟩
  | .local _ .vmem, ⟨3, _⟩ => ⟨S512x128, .bf16⟩
  | .local _ .vmem, ⟨4, _⟩ => ⟨S128x512, .bf16⟩
  | .local _ .vmem, ⟨5, _⟩ => ⟨S128x512, .bf16⟩
  | .local _ .vmem, ⟨6, _⟩ => ⟨S512x128, .bf16⟩
  | .local _ .vmem, ⟨7, _⟩ => ⟨S512x128, .bf16⟩
  | .local _ .vmem, ⟨8, _⟩ => ⟨S16384x128, .bf16⟩
  | .local _ .vmem, ⟨9, _⟩ => ⟨S16384x128, .bf16⟩
  | .local _ .vmem, ⟨10, _⟩ => ⟨S1x32x512, .f32⟩
  | .local _ .vmem, ⟨11, _⟩ => ⟨S1x32x512, .f32⟩
  | .local _ .vmem, ⟨12, _⟩ => ⟨S1x32x512, .f32⟩
  | .local _ .vmem, ⟨13, _⟩ => ⟨S1x32x512, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S1x32x128x512, .f32⟩
  | .local _ .vmem, ⟨19, _⟩ => ⟨S1x32x128x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_6 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42_0 : Ref sig .tc := ⟨.hbm, 54, rfl⟩
abbrev main_v42_1 : Ref sig .tc := ⟨.hbm, 55, rfl⟩
abbrev main_v42_2 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 32], ![false, false]⟩

def k0_mult1 (i : grid0.Coords) : BitVec 32 :=
  let arg1 : BitVec 32 := BitVec.ofNat 32 (i 1).val
  let c512_i32 : BitVec 32 := 512#32
  let v10 : BitVec 32 := Scalar.muli arg1 c512_i32
  v10
def k0_off1 (i : grid0.Coords) : Fin 2 → Nat :=
  let arg1 : BitVec 32 := BitVec.ofNat 32 (i 1).val
  let c512_i32 : BitVec 32 := 512#32
  let v10 : BitVec 32 := Scalar.muli arg1 c512_i32
  let v11 : BitVec 32 := v10
  let v12 : Index := Scalar.indexCast v11
  let c0_6 : Index := 0#32
  ![v12.toNat, 0]
def k0_mult2 (i : grid0.Coords) : BitVec 32 :=
  let arg1 : BitVec 32 := BitVec.ofNat 32 (i 1).val
  let c512_i32_9 : BitVec 32 := 512#32
  let v21 : BitVec 32 := Scalar.muli arg1 c512_i32_9
  v21
def k0_mult3 (i : grid0.Coords) : BitVec 32 :=
  let arg1 : BitVec 32 := BitVec.ofNat 32 (i 1).val
  let c512_i32_11 : BitVec 32 := 512#32
  let v26 : BitVec 32 := Scalar.muli arg1 c512_i32_11
  v26
def k0_off2 (i : grid0.Coords) : Fin 3 → Nat :=
  let c0_13 : Index := 0#32
  let arg1 : BitVec 32 := BitVec.ofNat 32 (i 1).val
  let v31 : Index := Scalar.indexCast arg1
  let c0_14 : Index := 0#32
  ![0, v31.toNat, 0]
def k0_off3 (i : grid0.Coords) : Fin 4 → Nat :=
  let c0_18 : Index := 0#32
  let arg1 : BitVec 32 := BitVec.ofNat 32 (i 1).val
  let v45 : Index := Scalar.indexCast arg1
  let c0_19 : Index := 0#32
  let c0_20 : Index := 0#32
  ![0, v45.toNat, 0, 0]
@[reducible] def k0_t1_loop (i : grid0.Coords) : Scf.Loop 32 :=
  let c0_i32_32 : BitVec 32 := 0#32
  let c31_i32 : BitVec 32 := 31#32
  let arg1 : BitVec 32 := BitVec.ofNat 32 (i 1).val
  let v59 : BitVec 32 := Scalar.subi c31_i32 arg1
  let c0_i32_27 : BitVec 32 := 0#32
  let v61 : BitVec 1 := Scalar.cmpi .sgt v59 c0_i32_27
  let v62 : BitVec 32 := Scalar.extui v61
  let c0_i32_28 : BitVec 32 := 0#32
  let v63 : BitVec 1 := Scalar.cmpi .slt v59 c0_i32_28
  let v64 : BitVec 32 := Scalar.extui v63
  let v65 : BitVec 32 := Scalar.subi v62 v64
  let c2_i32 : BitVec 32 := 2#32
  let c0_i32_29 : BitVec 32 := 0#32
  let v66 : BitVec 1 := Scalar.cmpi .sgt c2_i32 c0_i32_29
  let v67 : BitVec 32 := Scalar.extui v66
  let c0_i32_30 : BitVec 32 := 0#32
  let v68 : BitVec 1 := Scalar.cmpi .slt c2_i32 c0_i32_30
  let v69 : BitVec 32 := Scalar.extui v68
  let v70 : BitVec 32 := Scalar.subi v67 v69
  let v71 : BitVec 1 := Scalar.cmpi .ne v65 v70
  let v72 : BitVec 32 := Scalar.remsi v59 c2_i32
  let c0_i32_31 : BitVec 32 := 0#32
  let v73 : BitVec 1 := Scalar.cmpi .ne v72 c0_i32_31
  let v74 : BitVec 1 := Scalar.andi v71 v73
  let v60 : BitVec 32 := Scalar.divsi v59 c2_i32
  let c1_i32 : BitVec 32 := 1#32
  let v75 : BitVec 32 := Scalar.subi v60 c1_i32
  let v76 : BitVec 32 := Scalar.select v74 v75 v60
  let v77 : BitVec 32 := Scalar.subi v76 c0_i32_32
  let c1_i32_33 : BitVec 32 := 1#32
  let v79 : BitVec 32 := Scalar.divsi v77 c1_i32_33
  let v80 : BitVec 32 := Scalar.muli v79 c1_i32_33
  let v81 : BitVec 32 := Scalar.addi c0_i32_32 v80
  let c1_i32_34 : BitVec 32 := 1#32
  ⟨c0_i32_32, v81, c1_i32_34⟩
def k0_mult4 (i : grid0.Coords) (k0_t1 : Fin (k0_t1_loop i).trips) : BitVec 32 :=
  let arg1 : BitVec 32 := BitVec.ofNat 32 (i 1).val
  let c1_i32_49 : BitVec 32 := 1#32
  let v102 : BitVec 32 := Scalar.addi arg1 c1_i32_49
  let c2_i32_50 : BitVec 32 := 2#32
  let c0_i32_32 : BitVec 32 := 0#32
  let c1_i32_34 : BitVec 32 := 1#32
  let arg12 : BitVec 32 := Scf.iv c0_i32_32 c1_i32_34 k0_t1
  let v103 : BitVec 32 := Scalar.muli c2_i32_50 arg12
  let v104 : BitVec 32 := Scalar.addi v102 v103
  let c512_i32_51 : BitVec 32 := 512#32
  let v105 : BitVec 32 := Scalar.muli v104 c512_i32_51
  v105
def k0_off4 (i : grid0.Coords) (k0_t1 : Fin (k0_t1_loop i).trips) : Fin 2 → Nat :=
  let arg1 : BitVec 32 := BitVec.ofNat 32 (i 1).val
  let c1_i32_49 : BitVec 32 := 1#32
  let v102 : BitVec 32 := Scalar.addi arg1 c1_i32_49
  let c2_i32_50 : BitVec 32 := 2#32
  let c0_i32_32 : BitVec 32 := 0#32
  let c1_i32_34 : BitVec 32 := 1#32
  let arg12 : BitVec 32 := Scf.iv c0_i32_32 c1_i32_34 k0_t1
  let v103 : BitVec 32 := Scalar.muli c2_i32_50 arg12
  let v104 : BitVec 32 := Scalar.addi v102 v103
  let c512_i32_51 : BitVec 32 := 512#32
  let v105 : BitVec 32 := Scalar.muli v104 c512_i32_51
  let v106 : BitVec 32 := v105
  let v107 : Index := Scalar.indexCast v106
  let c0_52 : Index := 0#32
  ![v107.toNat, 0]
def k0_mult5 (i : grid0.Coords) (k0_t1 : Fin (k0_t1_loop i).trips) : BitVec 32 :=
  let arg1 : BitVec 32 := BitVec.ofNat 32 (i 1).val
  let c1_i32_49 : BitVec 32 := 1#32
  let v102 : BitVec 32 := Scalar.addi arg1 c1_i32_49
  let c2_i32_50 : BitVec 32 := 2#32
  let c0_i32_32 : BitVec 32 := 0#32
  let c1_i32_34 : BitVec 32 := 1#32
  let arg12 : BitVec 32 := Scf.iv c0_i32_32 c1_i32_34 k0_t1
  let v103 : BitVec 32 := Scalar.muli c2_i32_50 arg12
  let v104 : BitVec 32 := Scalar.addi v102 v103
  let c1_i32_54 : BitVec 32 := 1#32
  let v111 : BitVec 32 := Scalar.addi v104 c1_i32_54
  let c512_i32_55 : BitVec 32 := 512#32
  let v112 : BitVec 32 := Scalar.muli v111 c512_i32_55
  v112
def k0_off5 (i : grid0.Coords) (k0_t1 : Fin (k0_t1_loop i).trips) : Fin 2 → Nat :=
  let arg1 : BitVec 32 := BitVec.ofNat 32 (i 1).val
  let c1_i32_49 : BitVec 32 := 1#32
  let v102 : BitVec 32 := Scalar.addi arg1 c1_i32_49
  let c2_i32_50 : BitVec 32 := 2#32
  let c0_i32_32 : BitVec 32 := 0#32
  let c1_i32_34 : BitVec 32 := 1#32
  let arg12 : BitVec 32 := Scf.iv c0_i32_32 c1_i32_34 k0_t1
  let v103 : BitVec 32 := Scalar.muli c2_i32_50 arg12
  let v104 : BitVec 32 := Scalar.addi v102 v103
  let c1_i32_54 : BitVec 32 := 1#32
  let v111 : BitVec 32 := Scalar.addi v104 c1_i32_54
  let c512_i32_55 : BitVec 32 := 512#32
  let v112 : BitVec 32 := Scalar.muli v111 c512_i32_55
  let v113 : BitVec 32 := v112
  let v114 : Index := Scalar.indexCast v113
  let c0_56 : Index := 0#32
  ![v114.toNat, 0]
def k0_mult6 (i : grid0.Coords) (k0_t1 : Fin (k0_t1_loop i).trips) : BitVec 32 :=
  let arg1 : BitVec 32 := BitVec.ofNat 32 (i 1).val
  let c1_i32_49 : BitVec 32 := 1#32
  let v102 : BitVec 32 := Scalar.addi arg1 c1_i32_49
  let c2_i32_50 : BitVec 32 := 2#32
  let c0_i32_32 : BitVec 32 := 0#32
  let c1_i32_34 : BitVec 32 := 1#32
  let arg12 : BitVec 32 := Scf.iv c0_i32_32 c1_i32_34 k0_t1
  let v103 : BitVec 32 := Scalar.muli c2_i32_50 arg12
  let v104 : BitVec 32 := Scalar.addi v102 v103
  let c512_i32_58 : BitVec 32 := 512#32
  let v118 : BitVec 32 := Scalar.muli v104 c512_i32_58
  v118
def k0_mult7 (i : grid0.Coords) (k0_t1 : Fin (k0_t1_loop i).trips) : BitVec 32 :=
  let arg1 : BitVec 32 := BitVec.ofNat 32 (i 1).val
  let c1_i32_49 : BitVec 32 := 1#32
  let v102 : BitVec 32 := Scalar.addi arg1 c1_i32_49
  let c2_i32_50 : BitVec 32 := 2#32
  let c0_i32_32 : BitVec 32 := 0#32
  let c1_i32_34 : BitVec 32 := 1#32
  let arg12 : BitVec 32 := Scf.iv c0_i32_32 c1_i32_34 k0_t1
  let v103 : BitVec 32 := Scalar.muli c2_i32_50 arg12
  let v104 : BitVec 32 := Scalar.addi v102 v103
  let c512_i32_60 : BitVec 32 := 512#32
  let v123 : BitVec 32 := Scalar.muli v104 c512_i32_60
  v123
def k0_off6 (i : grid0.Coords) (k0_t1 : Fin (k0_t1_loop i).trips) : Fin 3 → Nat :=
  let c0_62 : Index := 0#32
  let arg1 : BitVec 32 := BitVec.ofNat 32 (i 1).val
  let c1_i32_49 : BitVec 32 := 1#32
  let v102 : BitVec 32 := Scalar.addi arg1 c1_i32_49
  let c2_i32_50 : BitVec 32 := 2#32
  let c0_i32_32 : BitVec 32 := 0#32
  let c1_i32_34 : BitVec 32 := 1#32
  let arg12 : BitVec 32 := Scf.iv c0_i32_32 c1_i32_34 k0_t1
  let v103 : BitVec 32 := Scalar.muli c2_i32_50 arg12
  let v104 : BitVec 32 := Scalar.addi v102 v103
  let v128 : Index := Scalar.indexCast v104
  let c0_63 : Index := 0#32
  ![0, v128.toNat, 0]
def k0_off7 (i : grid0.Coords) (k0_t1 : Fin (k0_t1_loop i).trips) : Fin 4 → Nat :=
  let c0_67 : Index := 0#32
  let arg1 : BitVec 32 := BitVec.ofNat 32 (i 1).val
  let c1_i32_49 : BitVec 32 := 1#32
  let v102 : BitVec 32 := Scalar.addi arg1 c1_i32_49
  let c2_i32_50 : BitVec 32 := 2#32
  let c0_i32_32 : BitVec 32 := 0#32
  let c1_i32_34 : BitVec 32 := 1#32
  let arg12 : BitVec 32 := Scf.iv c0_i32_32 c1_i32_34 k0_t1
  let v103 : BitVec 32 := Scalar.muli c2_i32_50 arg12
  let v104 : BitVec 32 := Scalar.addi v102 v103
  let v142 : Index := Scalar.indexCast v104
  let c0_68 : Index := 0#32
  let c0_69 : Index := 0#32
  ![0, v142.toNat, 0, 0]
def k0_mult8 (i : grid0.Coords) (k0_t1 : Fin (k0_t1_loop i).trips) : BitVec 32 :=
  let arg1 : BitVec 32 := BitVec.ofNat 32 (i 1).val
  let c1_i32_49 : BitVec 32 := 1#32
  let v102 : BitVec 32 := Scalar.addi arg1 c1_i32_49
  let c2_i32_50 : BitVec 32 := 2#32
  let c0_i32_32 : BitVec 32 := 0#32
  let c1_i32_34 : BitVec 32 := 1#32
  let arg12 : BitVec 32 := Scf.iv c0_i32_32 c1_i32_34 k0_t1
  let v103 : BitVec 32 := Scalar.muli c2_i32_50 arg12
  let v104 : BitVec 32 := Scalar.addi v102 v103
  let c1_i32_76 : BitVec 32 := 1#32
  let v156 : BitVec 32 := Scalar.addi v104 c1_i32_76
  let c512_i32_77 : BitVec 32 := 512#32
  let v157 : BitVec 32 := Scalar.muli v156 c512_i32_77
  v157
def k0_mult9 (i : grid0.Coords) (k0_t1 : Fin (k0_t1_loop i).trips) : BitVec 32 :=
  let arg1 : BitVec 32 := BitVec.ofNat 32 (i 1).val
  let c1_i32_49 : BitVec 32 := 1#32
  let v102 : BitVec 32 := Scalar.addi arg1 c1_i32_49
  let c2_i32_50 : BitVec 32 := 2#32
  let c0_i32_32 : BitVec 32 := 0#32
  let c1_i32_34 : BitVec 32 := 1#32
  let arg12 : BitVec 32 := Scf.iv c0_i32_32 c1_i32_34 k0_t1
  let v103 : BitVec 32 := Scalar.muli c2_i32_50 arg12
  let v104 : BitVec 32 := Scalar.addi v102 v103
  let c1_i32_76 : BitVec 32 := 1#32
  let v156 : BitVec 32 := Scalar.addi v104 c1_i32_76
  let c512_i32_79 : BitVec 32 := 512#32
  let v162 : BitVec 32 := Scalar.muli v156 c512_i32_79
  v162
def k0_off8 (i : grid0.Coords) (k0_t1 : Fin (k0_t1_loop i).trips) : Fin 3 → Nat :=
  let c0_81 : Index := 0#32
  let arg1 : BitVec 32 := BitVec.ofNat 32 (i 1).val
  let c1_i32_49 : BitVec 32 := 1#32
  let v102 : BitVec 32 := Scalar.addi arg1 c1_i32_49
  let c2_i32_50 : BitVec 32 := 2#32
  let c0_i32_32 : BitVec 32 := 0#32
  let c1_i32_34 : BitVec 32 := 1#32
  let arg12 : BitVec 32 := Scf.iv c0_i32_32 c1_i32_34 k0_t1
  let v103 : BitVec 32 := Scalar.muli c2_i32_50 arg12
  let v104 : BitVec 32 := Scalar.addi v102 v103
  let c1_i32_76 : BitVec 32 := 1#32
  let v156 : BitVec 32 := Scalar.addi v104 c1_i32_76
  let v167 : Index := Scalar.indexCast v156
  let c0_82 : Index := 0#32
  ![0, v167.toNat, 0]
def k0_off9 (i : grid0.Coords) (k0_t1 : Fin (k0_t1_loop i).trips) : Fin 4 → Nat :=
  let c0_86 : Index := 0#32
  let arg1 : BitVec 32 := BitVec.ofNat 32 (i 1).val
  let c1_i32_49 : BitVec 32 := 1#32
  let v102 : BitVec 32 := Scalar.addi arg1 c1_i32_49
  let c2_i32_50 : BitVec 32 := 2#32
  let c0_i32_32 : BitVec 32 := 0#32
  let c1_i32_34 : BitVec 32 := 1#32
  let arg12 : BitVec 32 := Scf.iv c0_i32_32 c1_i32_34 k0_t1
  let v103 : BitVec 32 := Scalar.muli c2_i32_50 arg12
  let v104 : BitVec 32 := Scalar.addi v102 v103
  let c1_i32_76 : BitVec 32 := 1#32
  let v156 : BitVec 32 := Scalar.addi v104 c1_i32_76
  let v181 : Index := Scalar.indexCast v156
  let c0_87 : Index := 0#32
  let c0_88 : Index := 0#32
  ![0, v181.toNat, 0, 0]
@[reducible] def k0_t2_loop (i : grid0.Coords) : Scf.Loop 32 :=
  let c0_i32_32 : BitVec 32 := 0#32
  let c31_i32 : BitVec 32 := 31#32
  let arg1 : BitVec 32 := BitVec.ofNat 32 (i 1).val
  let v59 : BitVec 32 := Scalar.subi c31_i32 arg1
  let c0_i32_27 : BitVec 32 := 0#32
  let v61 : BitVec 1 := Scalar.cmpi .sgt v59 c0_i32_27
  let v62 : BitVec 32 := Scalar.extui v61
  let c0_i32_28 : BitVec 32 := 0#32
  let v63 : BitVec 1 := Scalar.cmpi .slt v59 c0_i32_28
  let v64 : BitVec 32 := Scalar.extui v63
  let v65 : BitVec 32 := Scalar.subi v62 v64
  let c2_i32 : BitVec 32 := 2#32
  let c0_i32_29 : BitVec 32 := 0#32
  let v66 : BitVec 1 := Scalar.cmpi .sgt c2_i32 c0_i32_29
  let v67 : BitVec 32 := Scalar.extui v66
  let c0_i32_30 : BitVec 32 := 0#32
  let v68 : BitVec 1 := Scalar.cmpi .slt c2_i32 c0_i32_30
  let v69 : BitVec 32 := Scalar.extui v68
  let v70 : BitVec 32 := Scalar.subi v67 v69
  let v71 : BitVec 1 := Scalar.cmpi .ne v65 v70
  let v72 : BitVec 32 := Scalar.remsi v59 c2_i32
  let c0_i32_31 : BitVec 32 := 0#32
  let v73 : BitVec 1 := Scalar.cmpi .ne v72 c0_i32_31
  let v74 : BitVec 1 := Scalar.andi v71 v73
  let v60 : BitVec 32 := Scalar.divsi v59 c2_i32
  let c1_i32 : BitVec 32 := 1#32
  let v75 : BitVec 32 := Scalar.subi v60 c1_i32
  let v76 : BitVec 32 := Scalar.select v74 v75 v60
  let v77 : BitVec 32 := Scalar.subi v76 c0_i32_32
  let c1_i32_33 : BitVec 32 := 1#32
  let v79 : BitVec 32 := Scalar.divsi v77 c1_i32_33
  let v80 : BitVec 32 := Scalar.muli v79 c1_i32_33
  let v81 : BitVec 32 := Scalar.addi c0_i32_32 v80
  let v78 : BitVec 32 := Scalar.addi c0_i32_32 v77
  let c1_i32_35 : BitVec 32 := 1#32
  ⟨v81, v78, c1_i32_35⟩
def k0_mult10 (i : grid0.Coords) (k0_t2 : Fin (k0_t2_loop i).trips) : BitVec 32 :=
  let arg1 : BitVec 32 := BitVec.ofNat 32 (i 1).val
  let c1_i32_49 : BitVec 32 := 1#32
  let v102 : BitVec 32 := Scalar.addi arg1 c1_i32_49
  let c2_i32_50 : BitVec 32 := 2#32
  let c0_i32_32 : BitVec 32 := 0#32
  let c31_i32 : BitVec 32 := 31#32
  let v59 : BitVec 32 := Scalar.subi c31_i32 arg1
  let c0_i32_27 : BitVec 32 := 0#32
  let v61 : BitVec 1 := Scalar.cmpi .sgt v59 c0_i32_27
  let v62 : BitVec 32 := Scalar.extui v61
  let c0_i32_28 : BitVec 32 := 0#32
  let v63 : BitVec 1 := Scalar.cmpi .slt v59 c0_i32_28
  let v64 : BitVec 32 := Scalar.extui v63
  let v65 : BitVec 32 := Scalar.subi v62 v64
  let c2_i32 : BitVec 32 := 2#32
  let c0_i32_29 : BitVec 32 := 0#32
  let v66 : BitVec 1 := Scalar.cmpi .sgt c2_i32 c0_i32_29
  let v67 : BitVec 32 := Scalar.extui v66
  let c0_i32_30 : BitVec 32 := 0#32
  let v68 : BitVec 1 := Scalar.cmpi .slt c2_i32 c0_i32_30
  let v69 : BitVec 32 := Scalar.extui v68
  let v70 : BitVec 32 := Scalar.subi v67 v69
  let v71 : BitVec 1 := Scalar.cmpi .ne v65 v70
  let v72 : BitVec 32 := Scalar.remsi v59 c2_i32
  let c0_i32_31 : BitVec 32 := 0#32
  let v73 : BitVec 1 := Scalar.cmpi .ne v72 c0_i32_31
  let v74 : BitVec 1 := Scalar.andi v71 v73
  let v60 : BitVec 32 := Scalar.divsi v59 c2_i32
  let c1_i32 : BitVec 32 := 1#32
  let v75 : BitVec 32 := Scalar.subi v60 c1_i32
  let v76 : BitVec 32 := Scalar.select v74 v75 v60
  let v77 : BitVec 32 := Scalar.subi v76 c0_i32_32
  let c1_i32_33 : BitVec 32 := 1#32
  let v79 : BitVec 32 := Scalar.divsi v77 c1_i32_33
  let v80 : BitVec 32 := Scalar.muli v79 c1_i32_33
  let v81 : BitVec 32 := Scalar.addi c0_i32_32 v80
  let c1_i32_35 : BitVec 32 := 1#32
  let arg12 : BitVec 32 := Scf.iv v81 c1_i32_35 k0_t2
  let v103 : BitVec 32 := Scalar.muli c2_i32_50 arg12
  let v104 : BitVec 32 := Scalar.addi v102 v103
  let c512_i32_51 : BitVec 32 := 512#32
  let v105 : BitVec 32 := Scalar.muli v104 c512_i32_51
  v105
def k0_off10 (i : grid0.Coords) (k0_t2 : Fin (k0_t2_loop i).trips) : Fin 2 → Nat :=
  let arg1 : BitVec 32 := BitVec.ofNat 32 (i 1).val
  let c1_i32_49 : BitVec 32 := 1#32
  let v102 : BitVec 32 := Scalar.addi arg1 c1_i32_49
  let c2_i32_50 : BitVec 32 := 2#32
  let c0_i32_32 : BitVec 32 := 0#32
  let c31_i32 : BitVec 32 := 31#32
  let v59 : BitVec 32 := Scalar.subi c31_i32 arg1
  let c0_i32_27 : BitVec 32 := 0#32
  let v61 : BitVec 1 := Scalar.cmpi .sgt v59 c0_i32_27
  let v62 : BitVec 32 := Scalar.extui v61
  let c0_i32_28 : BitVec 32 := 0#32
  let v63 : BitVec 1 := Scalar.cmpi .slt v59 c0_i32_28
  let v64 : BitVec 32 := Scalar.extui v63
  let v65 : BitVec 32 := Scalar.subi v62 v64
  let c2_i32 : BitVec 32 := 2#32
  let c0_i32_29 : BitVec 32 := 0#32
  let v66 : BitVec 1 := Scalar.cmpi .sgt c2_i32 c0_i32_29
  let v67 : BitVec 32 := Scalar.extui v66
  let c0_i32_30 : BitVec 32 := 0#32
  let v68 : BitVec 1 := Scalar.cmpi .slt c2_i32 c0_i32_30
  let v69 : BitVec 32 := Scalar.extui v68
  let v70 : BitVec 32 := Scalar.subi v67 v69
  let v71 : BitVec 1 := Scalar.cmpi .ne v65 v70
  let v72 : BitVec 32 := Scalar.remsi v59 c2_i32
  let c0_i32_31 : BitVec 32 := 0#32
  let v73 : BitVec 1 := Scalar.cmpi .ne v72 c0_i32_31
  let v74 : BitVec 1 := Scalar.andi v71 v73
  let v60 : BitVec 32 := Scalar.divsi v59 c2_i32
  let c1_i32 : BitVec 32 := 1#32
  let v75 : BitVec 32 := Scalar.subi v60 c1_i32
  let v76 : BitVec 32 := Scalar.select v74 v75 v60
  let v77 : BitVec 32 := Scalar.subi v76 c0_i32_32
  let c1_i32_33 : BitVec 32 := 1#32
  let v79 : BitVec 32 := Scalar.divsi v77 c1_i32_33
  let v80 : BitVec 32 := Scalar.muli v79 c1_i32_33
  let v81 : BitVec 32 := Scalar.addi c0_i32_32 v80
  let c1_i32_35 : BitVec 32 := 1#32
  let arg12 : BitVec 32 := Scf.iv v81 c1_i32_35 k0_t2
  let v103 : BitVec 32 := Scalar.muli c2_i32_50 arg12
  let v104 : BitVec 32 := Scalar.addi v102 v103
  let c512_i32_51 : BitVec 32 := 512#32
  let v105 : BitVec 32 := Scalar.muli v104 c512_i32_51
  let v106 : BitVec 32 := v105
  let v107 : Index := Scalar.indexCast v106
  let c0_52 : Index := 0#32
  ![v107.toNat, 0]
def k0_mult11 (i : grid0.Coords) (k0_t2 : Fin (k0_t2_loop i).trips) : BitVec 32 :=
  let arg1 : BitVec 32 := BitVec.ofNat 32 (i 1).val
  let c1_i32_49 : BitVec 32 := 1#32
  let v102 : BitVec 32 := Scalar.addi arg1 c1_i32_49
  let c2_i32_50 : BitVec 32 := 2#32
  let c0_i32_32 : BitVec 32 := 0#32
  let c31_i32 : BitVec 32 := 31#32
  let v59 : BitVec 32 := Scalar.subi c31_i32 arg1
  let c0_i32_27 : BitVec 32 := 0#32
  let v61 : BitVec 1 := Scalar.cmpi .sgt v59 c0_i32_27
  let v62 : BitVec 32 := Scalar.extui v61
  let c0_i32_28 : BitVec 32 := 0#32
  let v63 : BitVec 1 := Scalar.cmpi .slt v59 c0_i32_28
  let v64 : BitVec 32 := Scalar.extui v63
  let v65 : BitVec 32 := Scalar.subi v62 v64
  let c2_i32 : BitVec 32 := 2#32
  let c0_i32_29 : BitVec 32 := 0#32
  let v66 : BitVec 1 := Scalar.cmpi .sgt c2_i32 c0_i32_29
  let v67 : BitVec 32 := Scalar.extui v66
  let c0_i32_30 : BitVec 32 := 0#32
  let v68 : BitVec 1 := Scalar.cmpi .slt c2_i32 c0_i32_30
  let v69 : BitVec 32 := Scalar.extui v68
  let v70 : BitVec 32 := Scalar.subi v67 v69
  let v71 : BitVec 1 := Scalar.cmpi .ne v65 v70
  let v72 : BitVec 32 := Scalar.remsi v59 c2_i32
  let c0_i32_31 : BitVec 32 := 0#32
  let v73 : BitVec 1 := Scalar.cmpi .ne v72 c0_i32_31
  let v74 : BitVec 1 := Scalar.andi v71 v73
  let v60 : BitVec 32 := Scalar.divsi v59 c2_i32
  let c1_i32 : BitVec 32 := 1#32
  let v75 : BitVec 32 := Scalar.subi v60 c1_i32
  let v76 : BitVec 32 := Scalar.select v74 v75 v60
  let v77 : BitVec 32 := Scalar.subi v76 c0_i32_32
  let c1_i32_33 : BitVec 32 := 1#32
  let v79 : BitVec 32 := Scalar.divsi v77 c1_i32_33
  let v80 : BitVec 32 := Scalar.muli v79 c1_i32_33
  let v81 : BitVec 32 := Scalar.addi c0_i32_32 v80
  let c1_i32_35 : BitVec 32 := 1#32
  let arg12 : BitVec 32 := Scf.iv v81 c1_i32_35 k0_t2
  let v103 : BitVec 32 := Scalar.muli c2_i32_50 arg12
  let v104 : BitVec 32 := Scalar.addi v102 v103
  let c1_i32_54 : BitVec 32 := 1#32
  let v111 : BitVec 32 := Scalar.addi v104 c1_i32_54
  let c512_i32_55 : BitVec 32 := 512#32
  let v112 : BitVec 32 := Scalar.muli v111 c512_i32_55
  v112
def k0_off11 (i : grid0.Coords) (k0_t2 : Fin (k0_t2_loop i).trips) : Fin 2 → Nat :=
  let arg1 : BitVec 32 := BitVec.ofNat 32 (i 1).val
  let c1_i32_49 : BitVec 32 := 1#32
  let v102 : BitVec 32 := Scalar.addi arg1 c1_i32_49
  let c2_i32_50 : BitVec 32 := 2#32
  let c0_i32_32 : BitVec 32 := 0#32
  let c31_i32 : BitVec 32 := 31#32
  let v59 : BitVec 32 := Scalar.subi c31_i32 arg1
  let c0_i32_27 : BitVec 32 := 0#32
  let v61 : BitVec 1 := Scalar.cmpi .sgt v59 c0_i32_27
  let v62 : BitVec 32 := Scalar.extui v61
  let c0_i32_28 : BitVec 32 := 0#32
  let v63 : BitVec 1 := Scalar.cmpi .slt v59 c0_i32_28
  let v64 : BitVec 32 := Scalar.extui v63
  let v65 : BitVec 32 := Scalar.subi v62 v64
  let c2_i32 : BitVec 32 := 2#32
  let c0_i32_29 : BitVec 32 := 0#32
  let v66 : BitVec 1 := Scalar.cmpi .sgt c2_i32 c0_i32_29
  let v67 : BitVec 32 := Scalar.extui v66
  let c0_i32_30 : BitVec 32 := 0#32
  let v68 : BitVec 1 := Scalar.cmpi .slt c2_i32 c0_i32_30
  let v69 : BitVec 32 := Scalar.extui v68
  let v70 : BitVec 32 := Scalar.subi v67 v69
  let v71 : BitVec 1 := Scalar.cmpi .ne v65 v70
  let v72 : BitVec 32 := Scalar.remsi v59 c2_i32
  let c0_i32_31 : BitVec 32 := 0#32
  let v73 : BitVec 1 := Scalar.cmpi .ne v72 c0_i32_31
  let v74 : BitVec 1 := Scalar.andi v71 v73
  let v60 : BitVec 32 := Scalar.divsi v59 c2_i32
  let c1_i32 : BitVec 32 := 1#32
  let v75 : BitVec 32 := Scalar.subi v60 c1_i32
  let v76 : BitVec 32 := Scalar.select v74 v75 v60
  let v77 : BitVec 32 := Scalar.subi v76 c0_i32_32
  let c1_i32_33 : BitVec 32 := 1#32
  let v79 : BitVec 32 := Scalar.divsi v77 c1_i32_33
  let v80 : BitVec 32 := Scalar.muli v79 c1_i32_33
  let v81 : BitVec 32 := Scalar.addi c0_i32_32 v80
  let c1_i32_35 : BitVec 32 := 1#32
  let arg12 : BitVec 32 := Scf.iv v81 c1_i32_35 k0_t2
  let v103 : BitVec 32 := Scalar.muli c2_i32_50 arg12
  let v104 : BitVec 32 := Scalar.addi v102 v103
  let c1_i32_54 : BitVec 32 := 1#32
  let v111 : BitVec 32 := Scalar.addi v104 c1_i32_54
  let c512_i32_55 : BitVec 32 := 512#32
  let v112 : BitVec 32 := Scalar.muli v111 c512_i32_55
  let v113 : BitVec 32 := v112
  let v114 : Index := Scalar.indexCast v113
  let c0_56 : Index := 0#32
  ![v114.toNat, 0]
def k0_mult12 (i : grid0.Coords) (k0_t2 : Fin (k0_t2_loop i).trips) : BitVec 32 :=
  let arg1 : BitVec 32 := BitVec.ofNat 32 (i 1).val
  let c1_i32_49 : BitVec 32 := 1#32
  let v102 : BitVec 32 := Scalar.addi arg1 c1_i32_49
  let c2_i32_50 : BitVec 32 := 2#32
  let c0_i32_32 : BitVec 32 := 0#32
  let c31_i32 : BitVec 32 := 31#32
  let v59 : BitVec 32 := Scalar.subi c31_i32 arg1
  let c0_i32_27 : BitVec 32 := 0#32
  let v61 : BitVec 1 := Scalar.cmpi .sgt v59 c0_i32_27
  let v62 : BitVec 32 := Scalar.extui v61
  let c0_i32_28 : BitVec 32 := 0#32
  let v63 : BitVec 1 := Scalar.cmpi .slt v59 c0_i32_28
  let v64 : BitVec 32 := Scalar.extui v63
  let v65 : BitVec 32 := Scalar.subi v62 v64
  let c2_i32 : BitVec 32 := 2#32
  let c0_i32_29 : BitVec 32 := 0#32
  let v66 : BitVec 1 := Scalar.cmpi .sgt c2_i32 c0_i32_29
  let v67 : BitVec 32 := Scalar.extui v66
  let c0_i32_30 : BitVec 32 := 0#32
  let v68 : BitVec 1 := Scalar.cmpi .slt c2_i32 c0_i32_30
  let v69 : BitVec 32 := Scalar.extui v68
  let v70 : BitVec 32 := Scalar.subi v67 v69
  let v71 : BitVec 1 := Scalar.cmpi .ne v65 v70
  let v72 : BitVec 32 := Scalar.remsi v59 c2_i32
  let c0_i32_31 : BitVec 32 := 0#32
  let v73 : BitVec 1 := Scalar.cmpi .ne v72 c0_i32_31
  let v74 : BitVec 1 := Scalar.andi v71 v73
  let v60 : BitVec 32 := Scalar.divsi v59 c2_i32
  let c1_i32 : BitVec 32 := 1#32
  let v75 : BitVec 32 := Scalar.subi v60 c1_i32
  let v76 : BitVec 32 := Scalar.select v74 v75 v60
  let v77 : BitVec 32 := Scalar.subi v76 c0_i32_32
  let c1_i32_33 : BitVec 32 := 1#32
  let v79 : BitVec 32 := Scalar.divsi v77 c1_i32_33
  let v80 : BitVec 32 := Scalar.muli v79 c1_i32_33
  let v81 : BitVec 32 := Scalar.addi c0_i32_32 v80
  let c1_i32_35 : BitVec 32 := 1#32
  let arg12 : BitVec 32 := Scf.iv v81 c1_i32_35 k0_t2
  let v103 : BitVec 32 := Scalar.muli c2_i32_50 arg12
  let v104 : BitVec 32 := Scalar.addi v102 v103
  let c512_i32_58 : BitVec 32 := 512#32
  let v118 : BitVec 32 := Scalar.muli v104 c512_i32_58
  v118
def k0_mult13 (i : grid0.Coords) (k0_t2 : Fin (k0_t2_loop i).trips) : BitVec 32 :=
  let arg1 : BitVec 32 := BitVec.ofNat 32 (i 1).val
  let c1_i32_49 : BitVec 32 := 1#32
  let v102 : BitVec 32 := Scalar.addi arg1 c1_i32_49
  let c2_i32_50 : BitVec 32 := 2#32
  let c0_i32_32 : BitVec 32 := 0#32
  let c31_i32 : BitVec 32 := 31#32
  let v59 : BitVec 32 := Scalar.subi c31_i32 arg1
  let c0_i32_27 : BitVec 32 := 0#32
  let v61 : BitVec 1 := Scalar.cmpi .sgt v59 c0_i32_27
  let v62 : BitVec 32 := Scalar.extui v61
  let c0_i32_28 : BitVec 32 := 0#32
  let v63 : BitVec 1 := Scalar.cmpi .slt v59 c0_i32_28
  let v64 : BitVec 32 := Scalar.extui v63
  let v65 : BitVec 32 := Scalar.subi v62 v64
  let c2_i32 : BitVec 32 := 2#32
  let c0_i32_29 : BitVec 32 := 0#32
  let v66 : BitVec 1 := Scalar.cmpi .sgt c2_i32 c0_i32_29
  let v67 : BitVec 32 := Scalar.extui v66
  let c0_i32_30 : BitVec 32 := 0#32
  let v68 : BitVec 1 := Scalar.cmpi .slt c2_i32 c0_i32_30
  let v69 : BitVec 32 := Scalar.extui v68
  let v70 : BitVec 32 := Scalar.subi v67 v69
  let v71 : BitVec 1 := Scalar.cmpi .ne v65 v70
  let v72 : BitVec 32 := Scalar.remsi v59 c2_i32
  let c0_i32_31 : BitVec 32 := 0#32
  let v73 : BitVec 1 := Scalar.cmpi .ne v72 c0_i32_31
  let v74 : BitVec 1 := Scalar.andi v71 v73
  let v60 : BitVec 32 := Scalar.divsi v59 c2_i32
  let c1_i32 : BitVec 32 := 1#32
  let v75 : BitVec 32 := Scalar.subi v60 c1_i32
  let v76 : BitVec 32 := Scalar.select v74 v75 v60
  let v77 : BitVec 32 := Scalar.subi v76 c0_i32_32
  let c1_i32_33 : BitVec 32 := 1#32
  let v79 : BitVec 32 := Scalar.divsi v77 c1_i32_33
  let v80 : BitVec 32 := Scalar.muli v79 c1_i32_33
  let v81 : BitVec 32 := Scalar.addi c0_i32_32 v80
  let c1_i32_35 : BitVec 32 := 1#32
  let arg12 : BitVec 32 := Scf.iv v81 c1_i32_35 k0_t2
  let v103 : BitVec 32 := Scalar.muli c2_i32_50 arg12
  let v104 : BitVec 32 := Scalar.addi v102 v103
  let c512_i32_60 : BitVec 32 := 512#32
  let v123 : BitVec 32 := Scalar.muli v104 c512_i32_60
  v123
def k0_off12 (i : grid0.Coords) (k0_t2 : Fin (k0_t2_loop i).trips) : Fin 3 → Nat :=
  let c0_62 : Index := 0#32
  let arg1 : BitVec 32 := BitVec.ofNat 32 (i 1).val
  let c1_i32_49 : BitVec 32 := 1#32
  let v102 : BitVec 32 := Scalar.addi arg1 c1_i32_49
  let c2_i32_50 : BitVec 32 := 2#32
  let c0_i32_32 : BitVec 32 := 0#32
  let c31_i32 : BitVec 32 := 31#32
  let v59 : BitVec 32 := Scalar.subi c31_i32 arg1
  let c0_i32_27 : BitVec 32 := 0#32
  let v61 : BitVec 1 := Scalar.cmpi .sgt v59 c0_i32_27
  let v62 : BitVec 32 := Scalar.extui v61
  let c0_i32_28 : BitVec 32 := 0#32
  let v63 : BitVec 1 := Scalar.cmpi .slt v59 c0_i32_28
  let v64 : BitVec 32 := Scalar.extui v63
  let v65 : BitVec 32 := Scalar.subi v62 v64
  let c2_i32 : BitVec 32 := 2#32
  let c0_i32_29 : BitVec 32 := 0#32
  let v66 : BitVec 1 := Scalar.cmpi .sgt c2_i32 c0_i32_29
  let v67 : BitVec 32 := Scalar.extui v66
  let c0_i32_30 : BitVec 32 := 0#32
  let v68 : BitVec 1 := Scalar.cmpi .slt c2_i32 c0_i32_30
  let v69 : BitVec 32 := Scalar.extui v68
  let v70 : BitVec 32 := Scalar.subi v67 v69
  let v71 : BitVec 1 := Scalar.cmpi .ne v65 v70
  let v72 : BitVec 32 := Scalar.remsi v59 c2_i32
  let c0_i32_31 : BitVec 32 := 0#32
  let v73 : BitVec 1 := Scalar.cmpi .ne v72 c0_i32_31
  let v74 : BitVec 1 := Scalar.andi v71 v73
  let v60 : BitVec 32 := Scalar.divsi v59 c2_i32
  let c1_i32 : BitVec 32 := 1#32
  let v75 : BitVec 32 := Scalar.subi v60 c1_i32
  let v76 : BitVec 32 := Scalar.select v74 v75 v60
  let v77 : BitVec 32 := Scalar.subi v76 c0_i32_32
  let c1_i32_33 : BitVec 32 := 1#32
  let v79 : BitVec 32 := Scalar.divsi v77 c1_i32_33
  let v80 : BitVec 32 := Scalar.muli v79 c1_i32_33
  let v81 : BitVec 32 := Scalar.addi c0_i32_32 v80
  let c1_i32_35 : BitVec 32 := 1#32
  let arg12 : BitVec 32 := Scf.iv v81 c1_i32_35 k0_t2
  let v103 : BitVec 32 := Scalar.muli c2_i32_50 arg12
  let v104 : BitVec 32 := Scalar.addi v102 v103
  let v128 : Index := Scalar.indexCast v104
  let c0_63 : Index := 0#32
  ![0, v128.toNat, 0]
def k0_off13 (i : grid0.Coords) (k0_t2 : Fin (k0_t2_loop i).trips) : Fin 4 → Nat :=
  let c0_67 : Index := 0#32
  let arg1 : BitVec 32 := BitVec.ofNat 32 (i 1).val
  let c1_i32_49 : BitVec 32 := 1#32
  let v102 : BitVec 32 := Scalar.addi arg1 c1_i32_49
  let c2_i32_50 : BitVec 32 := 2#32
  let c0_i32_32 : BitVec 32 := 0#32
  let c31_i32 : BitVec 32 := 31#32
  let v59 : BitVec 32 := Scalar.subi c31_i32 arg1
  let c0_i32_27 : BitVec 32 := 0#32
  let v61 : BitVec 1 := Scalar.cmpi .sgt v59 c0_i32_27
  let v62 : BitVec 32 := Scalar.extui v61
  let c0_i32_28 : BitVec 32 := 0#32
  let v63 : BitVec 1 := Scalar.cmpi .slt v59 c0_i32_28
  let v64 : BitVec 32 := Scalar.extui v63
  let v65 : BitVec 32 := Scalar.subi v62 v64
  let c2_i32 : BitVec 32 := 2#32
  let c0_i32_29 : BitVec 32 := 0#32
  let v66 : BitVec 1 := Scalar.cmpi .sgt c2_i32 c0_i32_29
  let v67 : BitVec 32 := Scalar.extui v66
  let c0_i32_30 : BitVec 32 := 0#32
  let v68 : BitVec 1 := Scalar.cmpi .slt c2_i32 c0_i32_30
  let v69 : BitVec 32 := Scalar.extui v68
  let v70 : BitVec 32 := Scalar.subi v67 v69
  let v71 : BitVec 1 := Scalar.cmpi .ne v65 v70
  let v72 : BitVec 32 := Scalar.remsi v59 c2_i32
  let c0_i32_31 : BitVec 32 := 0#32
  let v73 : BitVec 1 := Scalar.cmpi .ne v72 c0_i32_31
  let v74 : BitVec 1 := Scalar.andi v71 v73
  let v60 : BitVec 32 := Scalar.divsi v59 c2_i32
  let c1_i32 : BitVec 32 := 1#32
  let v75 : BitVec 32 := Scalar.subi v60 c1_i32
  let v76 : BitVec 32 := Scalar.select v74 v75 v60
  let v77 : BitVec 32 := Scalar.subi v76 c0_i32_32
  let c1_i32_33 : BitVec 32 := 1#32
  let v79 : BitVec 32 := Scalar.divsi v77 c1_i32_33
  let v80 : BitVec 32 := Scalar.muli v79 c1_i32_33
  let v81 : BitVec 32 := Scalar.addi c0_i32_32 v80
  let c1_i32_35 : BitVec 32 := 1#32
  let arg12 : BitVec 32 := Scf.iv v81 c1_i32_35 k0_t2
  let v103 : BitVec 32 := Scalar.muli c2_i32_50 arg12
  let v104 : BitVec 32 := Scalar.addi v102 v103
  let v142 : Index := Scalar.indexCast v104
  let c0_68 : Index := 0#32
  let c0_69 : Index := 0#32
  ![0, v142.toNat, 0, 0]
def k0_mult14 (i : grid0.Coords) (k0_t2 : Fin (k0_t2_loop i).trips) : BitVec 32 :=
  let arg1 : BitVec 32 := BitVec.ofNat 32 (i 1).val
  let c1_i32_49 : BitVec 32 := 1#32
  let v102 : BitVec 32 := Scalar.addi arg1 c1_i32_49
  let c2_i32_50 : BitVec 32 := 2#32
  let c0_i32_32 : BitVec 32 := 0#32
  let c31_i32 : BitVec 32 := 31#32
  let v59 : BitVec 32 := Scalar.subi c31_i32 arg1
  let c0_i32_27 : BitVec 32 := 0#32
  let v61 : BitVec 1 := Scalar.cmpi .sgt v59 c0_i32_27
  let v62 : BitVec 32 := Scalar.extui v61
  let c0_i32_28 : BitVec 32 := 0#32
  let v63 : BitVec 1 := Scalar.cmpi .slt v59 c0_i32_28
  let v64 : BitVec 32 := Scalar.extui v63
  let v65 : BitVec 32 := Scalar.subi v62 v64
  let c2_i32 : BitVec 32 := 2#32
  let c0_i32_29 : BitVec 32 := 0#32
  let v66 : BitVec 1 := Scalar.cmpi .sgt c2_i32 c0_i32_29
  let v67 : BitVec 32 := Scalar.extui v66
  let c0_i32_30 : BitVec 32 := 0#32
  let v68 : BitVec 1 := Scalar.cmpi .slt c2_i32 c0_i32_30
  let v69 : BitVec 32 := Scalar.extui v68
  let v70 : BitVec 32 := Scalar.subi v67 v69
  let v71 : BitVec 1 := Scalar.cmpi .ne v65 v70
  let v72 : BitVec 32 := Scalar.remsi v59 c2_i32
  let c0_i32_31 : BitVec 32 := 0#32
  let v73 : BitVec 1 := Scalar.cmpi .ne v72 c0_i32_31
  let v74 : BitVec 1 := Scalar.andi v71 v73
  let v60 : BitVec 32 := Scalar.divsi v59 c2_i32
  let c1_i32 : BitVec 32 := 1#32
  let v75 : BitVec 32 := Scalar.subi v60 c1_i32
  let v76 : BitVec 32 := Scalar.select v74 v75 v60
  let v77 : BitVec 32 := Scalar.subi v76 c0_i32_32
  let c1_i32_33 : BitVec 32 := 1#32
  let v79 : BitVec 32 := Scalar.divsi v77 c1_i32_33
  let v80 : BitVec 32 := Scalar.muli v79 c1_i32_33
  let v81 : BitVec 32 := Scalar.addi c0_i32_32 v80
  let c1_i32_35 : BitVec 32 := 1#32
  let arg12 : BitVec 32 := Scf.iv v81 c1_i32_35 k0_t2
  let v103 : BitVec 32 := Scalar.muli c2_i32_50 arg12
  let v104 : BitVec 32 := Scalar.addi v102 v103
  let c1_i32_76 : BitVec 32 := 1#32
  let v156 : BitVec 32 := Scalar.addi v104 c1_i32_76
  let c512_i32_77 : BitVec 32 := 512#32
  let v157 : BitVec 32 := Scalar.muli v156 c512_i32_77
  v157
def k0_mult15 (i : grid0.Coords) (k0_t2 : Fin (k0_t2_loop i).trips) : BitVec 32 :=
  let arg1 : BitVec 32 := BitVec.ofNat 32 (i 1).val
  let c1_i32_49 : BitVec 32 := 1#32
  let v102 : BitVec 32 := Scalar.addi arg1 c1_i32_49
  let c2_i32_50 : BitVec 32 := 2#32
  let c0_i32_32 : BitVec 32 := 0#32
  let c31_i32 : BitVec 32 := 31#32
  let v59 : BitVec 32 := Scalar.subi c31_i32 arg1
  let c0_i32_27 : BitVec 32 := 0#32
  let v61 : BitVec 1 := Scalar.cmpi .sgt v59 c0_i32_27
  let v62 : BitVec 32 := Scalar.extui v61
  let c0_i32_28 : BitVec 32 := 0#32
  let v63 : BitVec 1 := Scalar.cmpi .slt v59 c0_i32_28
  let v64 : BitVec 32 := Scalar.extui v63
  let v65 : BitVec 32 := Scalar.subi v62 v64
  let c2_i32 : BitVec 32 := 2#32
  let c0_i32_29 : BitVec 32 := 0#32
  let v66 : BitVec 1 := Scalar.cmpi .sgt c2_i32 c0_i32_29
  let v67 : BitVec 32 := Scalar.extui v66
  let c0_i32_30 : BitVec 32 := 0#32
  let v68 : BitVec 1 := Scalar.cmpi .slt c2_i32 c0_i32_30
  let v69 : BitVec 32 := Scalar.extui v68
  let v70 : BitVec 32 := Scalar.subi v67 v69
  let v71 : BitVec 1 := Scalar.cmpi .ne v65 v70
  let v72 : BitVec 32 := Scalar.remsi v59 c2_i32
  let c0_i32_31 : BitVec 32 := 0#32
  let v73 : BitVec 1 := Scalar.cmpi .ne v72 c0_i32_31
  let v74 : BitVec 1 := Scalar.andi v71 v73
  let v60 : BitVec 32 := Scalar.divsi v59 c2_i32
  let c1_i32 : BitVec 32 := 1#32
  let v75 : BitVec 32 := Scalar.subi v60 c1_i32
  let v76 : BitVec 32 := Scalar.select v74 v75 v60
  let v77 : BitVec 32 := Scalar.subi v76 c0_i32_32
  let c1_i32_33 : BitVec 32 := 1#32
  let v79 : BitVec 32 := Scalar.divsi v77 c1_i32_33
  let v80 : BitVec 32 := Scalar.muli v79 c1_i32_33
  let v81 : BitVec 32 := Scalar.addi c0_i32_32 v80
  let c1_i32_35 : BitVec 32 := 1#32
  let arg12 : BitVec 32 := Scf.iv v81 c1_i32_35 k0_t2
  let v103 : BitVec 32 := Scalar.muli c2_i32_50 arg12
  let v104 : BitVec 32 := Scalar.addi v102 v103
  let c1_i32_76 : BitVec 32 := 1#32
  let v156 : BitVec 32 := Scalar.addi v104 c1_i32_76
  let c512_i32_79 : BitVec 32 := 512#32
  let v162 : BitVec 32 := Scalar.muli v156 c512_i32_79
  v162
def k0_off14 (i : grid0.Coords) (k0_t2 : Fin (k0_t2_loop i).trips) : Fin 3 → Nat :=
  let c0_81 : Index := 0#32
  let arg1 : BitVec 32 := BitVec.ofNat 32 (i 1).val
  let c1_i32_49 : BitVec 32 := 1#32
  let v102 : BitVec 32 := Scalar.addi arg1 c1_i32_49
  let c2_i32_50 : BitVec 32 := 2#32
  let c0_i32_32 : BitVec 32 := 0#32
  let c31_i32 : BitVec 32 := 31#32
  let v59 : BitVec 32 := Scalar.subi c31_i32 arg1
  let c0_i32_27 : BitVec 32 := 0#32
  let v61 : BitVec 1 := Scalar.cmpi .sgt v59 c0_i32_27
  let v62 : BitVec 32 := Scalar.extui v61
  let c0_i32_28 : BitVec 32 := 0#32
  let v63 : BitVec 1 := Scalar.cmpi .slt v59 c0_i32_28
  let v64 : BitVec 32 := Scalar.extui v63
  let v65 : BitVec 32 := Scalar.subi v62 v64
  let c2_i32 : BitVec 32 := 2#32
  let c0_i32_29 : BitVec 32 := 0#32
  let v66 : BitVec 1 := Scalar.cmpi .sgt c2_i32 c0_i32_29
  let v67 : BitVec 32 := Scalar.extui v66
  let c0_i32_30 : BitVec 32 := 0#32
  let v68 : BitVec 1 := Scalar.cmpi .slt c2_i32 c0_i32_30
  let v69 : BitVec 32 := Scalar.extui v68
  let v70 : BitVec 32 := Scalar.subi v67 v69
  let v71 : BitVec 1 := Scalar.cmpi .ne v65 v70
  let v72 : BitVec 32 := Scalar.remsi v59 c2_i32
  let c0_i32_31 : BitVec 32 := 0#32
  let v73 : BitVec 1 := Scalar.cmpi .ne v72 c0_i32_31
  let v74 : BitVec 1 := Scalar.andi v71 v73
  let v60 : BitVec 32 := Scalar.divsi v59 c2_i32
  let c1_i32 : BitVec 32 := 1#32
  let v75 : BitVec 32 := Scalar.subi v60 c1_i32
  let v76 : BitVec 32 := Scalar.select v74 v75 v60
  let v77 : BitVec 32 := Scalar.subi v76 c0_i32_32
  let c1_i32_33 : BitVec 32 := 1#32
  let v79 : BitVec 32 := Scalar.divsi v77 c1_i32_33
  let v80 : BitVec 32 := Scalar.muli v79 c1_i32_33
  let v81 : BitVec 32 := Scalar.addi c0_i32_32 v80
  let c1_i32_35 : BitVec 32 := 1#32
  let arg12 : BitVec 32 := Scf.iv v81 c1_i32_35 k0_t2
  let v103 : BitVec 32 := Scalar.muli c2_i32_50 arg12
  let v104 : BitVec 32 := Scalar.addi v102 v103
  let c1_i32_76 : BitVec 32 := 1#32
  let v156 : BitVec 32 := Scalar.addi v104 c1_i32_76
  let v167 : Index := Scalar.indexCast v156
  let c0_82 : Index := 0#32
  ![0, v167.toNat, 0]
def k0_off15 (i : grid0.Coords) (k0_t2 : Fin (k0_t2_loop i).trips) : Fin 4 → Nat :=
  let c0_86 : Index := 0#32
  let arg1 : BitVec 32 := BitVec.ofNat 32 (i 1).val
  let c1_i32_49 : BitVec 32 := 1#32
  let v102 : BitVec 32 := Scalar.addi arg1 c1_i32_49
  let c2_i32_50 : BitVec 32 := 2#32
  let c0_i32_32 : BitVec 32 := 0#32
  let c31_i32 : BitVec 32 := 31#32
  let v59 : BitVec 32 := Scalar.subi c31_i32 arg1
  let c0_i32_27 : BitVec 32 := 0#32
  let v61 : BitVec 1 := Scalar.cmpi .sgt v59 c0_i32_27
  let v62 : BitVec 32 := Scalar.extui v61
  let c0_i32_28 : BitVec 32 := 0#32
  let v63 : BitVec 1 := Scalar.cmpi .slt v59 c0_i32_28
  let v64 : BitVec 32 := Scalar.extui v63
  let v65 : BitVec 32 := Scalar.subi v62 v64
  let c2_i32 : BitVec 32 := 2#32
  let c0_i32_29 : BitVec 32 := 0#32
  let v66 : BitVec 1 := Scalar.cmpi .sgt c2_i32 c0_i32_29
  let v67 : BitVec 32 := Scalar.extui v66
  let c0_i32_30 : BitVec 32 := 0#32
  let v68 : BitVec 1 := Scalar.cmpi .slt c2_i32 c0_i32_30
  let v69 : BitVec 32 := Scalar.extui v68
  let v70 : BitVec 32 := Scalar.subi v67 v69
  let v71 : BitVec 1 := Scalar.cmpi .ne v65 v70
  let v72 : BitVec 32 := Scalar.remsi v59 c2_i32
  let c0_i32_31 : BitVec 32 := 0#32
  let v73 : BitVec 1 := Scalar.cmpi .ne v72 c0_i32_31
  let v74 : BitVec 1 := Scalar.andi v71 v73
  let v60 : BitVec 32 := Scalar.divsi v59 c2_i32
  let c1_i32 : BitVec 32 := 1#32
  let v75 : BitVec 32 := Scalar.subi v60 c1_i32
  let v76 : BitVec 32 := Scalar.select v74 v75 v60
  let v77 : BitVec 32 := Scalar.subi v76 c0_i32_32
  let c1_i32_33 : BitVec 32 := 1#32
  let v79 : BitVec 32 := Scalar.divsi v77 c1_i32_33
  let v80 : BitVec 32 := Scalar.muli v79 c1_i32_33
  let v81 : BitVec 32 := Scalar.addi c0_i32_32 v80
  let c1_i32_35 : BitVec 32 := 1#32
  let arg12 : BitVec 32 := Scf.iv v81 c1_i32_35 k0_t2
  let v103 : BitVec 32 := Scalar.muli c2_i32_50 arg12
  let v104 : BitVec 32 := Scalar.addi v102 v103
  let c1_i32_76 : BitVec 32 := 1#32
  let v156 : BitVec 32 := Scalar.addi v104 c1_i32_76
  let v181 : Index := Scalar.indexCast v156
  let c0_87 : Index := 0#32
  let c0_88 : Index := 0#32
  ![0, v181.toNat, 0, 0]
def k0_cond2 (i : grid0.Coords) : BitVec 1 :=
  let c31_i32 : BitVec 32 := 31#32
  let arg1 : BitVec 32 := BitVec.ofNat 32 (i 1).val
  let v59 : BitVec 32 := Scalar.subi c31_i32 arg1
  let c2_i32_36 : BitVec 32 := 2#32
  let c0_i32_37 : BitVec 32 := 0#32
  let v84 : BitVec 1 := Scalar.cmpi .eq c2_i32_36 c0_i32_37
  let c1_i32_38 : BitVec 32 := 1#32
  let v85 : BitVec 32 := Scalar.select v84 c1_i32_38 c2_i32_36
  let v86 : BitVec 32 := Scalar.remsi v59 v85
  let c0_i32_40 : BitVec 32 := 0#32
  let v88 : BitVec 1 := Scalar.cmpi .slt v86 c0_i32_40
  let c0_i32_41 : BitVec 32 := 0#32
  let v89 : BitVec 1 := Scalar.cmpi .slt v85 c0_i32_41
  let v90 : BitVec 1 := Scalar.xori v88 v89
  let c0_i32_39 : BitVec 32 := 0#32
  let v87 : BitVec 1 := Scalar.cmpi .ne v86 c0_i32_39
  let v91 : BitVec 1 := Scalar.andi v90 v87
  let v92 : BitVec 32 := Scalar.addi v86 v85
  let v93 : BitVec 32 := Scalar.select v91 v92 v86
  let c1_i32_42 : BitVec 32 := 1#32
  let v94 : BitVec 1 := Scalar.cmpi .eq v93 c1_i32_42
  let v95 : BitVec 32 := Scalar.extui v94
  let c0_i32_43 : BitVec 32 := 0#32
  let v96 : BitVec 1 := Scalar.cmpi .ne v95 c0_i32_43
  v96

def k0_mult16 : BitVec 32 :=
  let c15872_i32 : BitVec 32 := 15872#32
  c15872_i32
def k0_mult17 : BitVec 32 :=
  let c15872_i32_51 : BitVec 32 := 15872#32
  c15872_i32_51
def k0_mult18 : BitVec 32 :=
  let c15872_i32_53 : BitVec 32 := 15872#32
  c15872_i32_53
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S16384x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16384x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x32x128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Kernel6Ideal.lean ====
variable {F : FTy → Type} [FloatOps F] [Named F]
def κ : String → Option EReal := fun
  | "ln2" => some ((Real.log 2 : ℝ) : EReal)
  | _ => none
-- ==== Reference6Ideal.lean ====
abbrev S16384x1024 : Shape := ⟨2, ![16384, 1024]⟩
abbrev S16384x8x128 : Shape := ⟨3, ![16384, 8, 128]⟩
abbrev S_ : Shape := ⟨0, ![]⟩
abbrev S8x16384x16384 : Shape := ⟨3, ![8, 16384, 16384]⟩
abbrev S8x16384 : Shape := ⟨2, ![8, 16384]⟩
abbrev S8x16384x1 : Shape := ⟨3, ![8, 16384, 1]⟩
abbrev S8x128x16384 : Shape := ⟨3, ![8, 128, 16384]⟩
abbrev S8x16384x128 : Shape := ⟨3, ![8, 16384, 128]⟩
abbrev S32x512x8x128 : Shape := ⟨4, ![32, 512, 8, 128]⟩
abbrev S8x32x128x512 : Shape := ⟨4, ![8, 32, 128, 512]⟩

abbrev nBuf : Space → Nat
  | .hbm => 89
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x8x128, .f32⟩
  | .hbm, ⟨5, _⟩ => ⟨S_, .f32⟩
  | .hbm, ⟨6, _⟩ => ⟨S16384x8x128, .f32⟩
  | .hbm, ⟨7, _⟩ => ⟨S16384x8x128, .f32⟩
  | .hbm, ⟨8, _⟩ => ⟨S16384x8x128, .f32⟩
  | .hbm, ⟨9, _⟩ => ⟨S16384x8x128, .f32⟩
  | .hbm, ⟨10, _⟩ => ⟨S8x16384x16384, .f32⟩
  | .hbm, ⟨11, _⟩ => ⟨S8x16384x16384, .i32⟩
  | .hbm, ⟨12, _⟩ => ⟨S8x16384x16384, .i32⟩
  | .hbm, ⟨13, _⟩ => ⟨S8x16384x16384, .i1⟩
  | .hbm, ⟨14, _⟩ => ⟨S_, .f32⟩
  | .hbm, ⟨15, _⟩ => ⟨S8x16384x16384, .f32⟩
  | .hbm, ⟨16, _⟩ => ⟨S8x16384x16384, .f32⟩
  | .hbm, ⟨17, _⟩ => ⟨S_, .f32⟩
  | .hbm, ⟨18, _⟩ => ⟨S8x16384x16384, .f32⟩
  | .hbm, ⟨19, _⟩ => ⟨S_, .f32⟩
  | .hbm, ⟨20, _⟩ => ⟨S8x16384, .f32⟩
  | .hbm, ⟨21, _⟩ => ⟨S8x16384x1, .f32⟩
  | .hbm, ⟨22, _⟩ => ⟨S8x16384x16384, .f32⟩
  | .hbm, ⟨23, _⟩ => ⟨S8x16384x16384, .i1⟩
  | .hbm, ⟨24, _⟩ => ⟨S8x16384x16384, .f32⟩
  | .hbm, ⟨25, _⟩ => ⟨S_, .f32⟩
  | .hbm, ⟨26, _⟩ => ⟨S8x16384, .f32⟩
  | .hbm, ⟨27, _⟩ => ⟨S_, .f32⟩
  | .hbm, ⟨28, _⟩ => ⟨S8x16384, .f32⟩
  | .hbm, ⟨29, _⟩ => ⟨S8x16384, .f32⟩
  | .hbm, ⟨30, _⟩ => ⟨S_, .f32⟩
  | .hbm, ⟨31, _⟩ => ⟨S8x16384, .f32⟩
  | .hbm, ⟨32, _⟩ => ⟨S8x16384, .i1⟩
  | .hbm, ⟨33, _⟩ => ⟨S_, .f32⟩
  | .hbm, ⟨34, _⟩ => ⟨S8x16384, .f32⟩
  | .hbm, ⟨35, _⟩ => ⟨S8x16384, .i1⟩
  | .hbm, ⟨36, _⟩ => ⟨S_, .f32⟩
  | .hbm, ⟨37, _⟩ => ⟨S8x16384, .f32⟩
  | .hbm, ⟨38, _⟩ => ⟨S_, .f32⟩
  | .hbm, ⟨39, _⟩ => ⟨S8x16384, .f32⟩
  | .hbm, ⟨40, _⟩ => ⟨S_, .f32⟩
  | .hbm, ⟨41, _⟩ => ⟨S8x16384, .f32⟩
  | .hbm, ⟨42, _⟩ => ⟨S8x16384, .f32⟩
  | .hbm, ⟨43, _⟩ => ⟨S8x16384, .f32⟩
  | .hbm, ⟨44, _⟩ => ⟨S8x16384x1, .f32⟩
  | .hbm, ⟨45, _⟩ => ⟨S8x16384x16384, .f32⟩
  | .hbm, ⟨46, _⟩ => ⟨S8x16384x16384, .f32⟩
  | .hbm, ⟨47, _⟩ => ⟨S8x16384x16384, .f32⟩
  | .hbm, ⟨48, _⟩ => ⟨S_, .f32⟩
  | .hbm, ⟨49, _⟩ => ⟨S8x16384, .f32⟩
  | .hbm, ⟨50, _⟩ => ⟨S8x16384x1, .f32⟩
  | .hbm, ⟨51, _⟩ => ⟨S8x16384x16384, .f32⟩
  | .hbm, ⟨52, _⟩ => ⟨S8x16384x16384, .f32⟩
  | .hbm, ⟨53, _⟩ => ⟨S8x16384x1, .f32⟩
  | .hbm, ⟨54, _⟩ => ⟨S_, .f32⟩
  | .hbm, ⟨55, _⟩ => ⟨S8x16384x1, .f32⟩
  | .hbm, ⟨56, _⟩ => ⟨S8x16384x1, .f32⟩
  | .hbm, ⟨57, _⟩ => ⟨S8x128x16384, .f32⟩
  | .hbm, ⟨58, _⟩ => ⟨S16384x8x128, .f32⟩
  | .hbm, ⟨59, _⟩ => ⟨S16384x8x128, .f32⟩
  | .hbm, ⟨60, _⟩ => ⟨S8x128x16384, .f32⟩
  | .hbm, ⟨61, _⟩ => ⟨S8x16384x16384, .f32⟩
  | .hbm, ⟨62, _⟩ => ⟨S8x128x16384, .f32⟩
  | .hbm, ⟨63, _⟩ => ⟨S16384x8x128, .f32⟩
  | .hbm, ⟨64, _⟩ => ⟨S8x16384x16384, .f32⟩
  | .hbm, ⟨65, _⟩ => ⟨S8x16384x16384, .f32⟩
  | .hbm, ⟨66, _⟩ => ⟨S8x16384x16384, .f32⟩
  | .hbm, ⟨67, _⟩ => ⟨S_, .f32⟩
  | .hbm, ⟨68, _⟩ => ⟨S8x16384, .f32⟩
  | .hbm, ⟨69, _⟩ => ⟨S8x16384x1, .f32⟩
  | .hbm, ⟨70, _⟩ => ⟨S8x16384x1, .f32⟩
  | .hbm, ⟨71, _⟩ => ⟨S8x16384x16384, .f32⟩
  | .hbm, ⟨72, _⟩ => ⟨S8x16384x16384, .f32⟩
  | .hbm, ⟨73, _⟩ => ⟨S_, .f32⟩
  | .hbm, ⟨74, _⟩ => ⟨S8x16384, .f32⟩
  | .hbm, ⟨75, _⟩ => ⟨S8x16384x16384, .f32⟩
  | .hbm, ⟨76, _⟩ => ⟨S8x16384x16384, .f32⟩
  | .hbm, ⟨77, _⟩ => ⟨S8x16384x16384, .f32⟩
  | .hbm, ⟨78, _⟩ => ⟨S_, .f32⟩
  | .hbm, ⟨79, _⟩ => ⟨S8x16384x16384, .f32⟩
  | .hbm, ⟨80, _⟩ => ⟨S8x16384x16384, .f32⟩
  | .hbm, ⟨81, _⟩ => ⟨S8x16384x128, .f32⟩
  | .hbm, ⟨82, _⟩ => ⟨S16384x8x128, .f32⟩
  | .hbm, ⟨83, _⟩ => ⟨S8x16384x128, .f32⟩
  | .hbm, ⟨84, _⟩ => ⟨S16384x8x128, .f32⟩
  | .hbm, ⟨85, _⟩ => ⟨S32x512x8x128, .f32⟩
  | .hbm, ⟨86, _⟩ => ⟨S8x32x128x512, .f32⟩
  | .hbm, ⟨87, _⟩ => ⟨S16384x1024, .f32⟩
  | .hbm, ⟨88, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_cst_9 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_10 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_11 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_12 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_13 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_14 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩

abbrev nD : Nat := 1
abbrev τ : Topo := Topo.v7x

variable {F : FTy → Type} [FloatOps F]
-- ==== Proof.Conv.Spec.lean ====
/- What the backward pass of the gated short convolution computes, row by row, over the extended reals: a token's row of
   projections `z` in three thirds (output gate, input gate, input), three taps `cw` along the tokens, the projections `win`
   and `wo`, the incoming gradient `dy`, the RMS norm with its scale `g`. No program is named here. -/
module

public import Idealize.ShloMosaic.Lib.Pointwise

@[expose] public section

noncomputable section

namespace Conv

open Idealize.ShloMosaic

/-- The tokens, the model's width and the width of the three thirds together. -/
abbrev Tok := Fin 16384
abbrev Dim := Fin 1024
abbrev Dim3 := Fin 3072

/-- Column `j` of the first, second and third thirds. -/
abbrev fst3 (j : Dim) : Dim3 := ⟨j.val, by omega⟩
abbrev snd3 (j : Dim) : Dim3 := ⟨1024 + j.val, by omega⟩
abbrev trd3 (j : Dim) : Dim3 := ⟨2048 + j.val, by omega⟩

/-- A sequence read `k` tokens earlier, zero before the first token. -/
def prev (k : ℕ) (f : Tok → Dim → EReal) (t : Tok) (j : Dim) : EReal :=
  if k ≤ t.val then f ⟨t.val - k, by omega⟩ j else 0

/-- A sequence read `k` tokens later, zero after the last token. -/
def next (k : ℕ) (f : Tok → Dim → EReal) (t : Tok) (j : Dim) : EReal :=
  if h : t.val + k < 16384 then f ⟨t.val + k, h⟩ j else 0

/-- The gated input of the convolution. -/
def gated (z : Tok → Dim3 → EReal) (t : Tok) (j : Dim) : EReal := z t (snd3 j) * z t (trd3 j)

/-- The convolution's output before the output gate: three taps, the last on the token itself. -/
def conv (z : Tok → Dim3 → EReal) (cw : Fin 3 → Dim → EReal) (t : Tok) (j : Dim) : EReal :=
  (cw 0 j * prev 2 (gated z) t j + cw 1 j * prev 1 (gated z) t j) + cw 2 j * gated z t j

/-- The gated output that enters the output projection. -/
def out (z : Tok → Dim3 → EReal) (cw : Fin 3 → Dim → EReal) (t : Tok) (j : Dim) : EReal := z t (fst3 j) * conv z cw t j

/-- The gradient of the output projection's input: the incoming gradient times the transposed projection. -/
def dout (dy : Tok → Dim → EReal) (wo : Dim → Dim → EReal) (t : Tok) (j : Dim) : EReal := ∑ k : Dim, dy t k * wo j k

/-- The gradient of the convolution's output. -/
def dconv (z : Tok → Dim3 → EReal) (dy : Tok → Dim → EReal) (wo : Dim → Dim → EReal) (t : Tok) (j : Dim) : EReal :=
  dout dy wo t j * z t (fst3 j)

/-- The gradient of the convolution's input: the taps read forward in time. -/
def dgated (z : Tok → Dim3 → EReal) (cw : Fin 3 → Dim → EReal) (dy : Tok → Dim → EReal) (wo : Dim → Dim → EReal)
    (t : Tok) (j : Dim) : EReal :=
  (cw 2 j * dconv z dy wo t j + cw 1 j * next 1 (dconv z dy wo) t j) + cw 0 j * next 2 (dconv z dy wo) t j

/-- The gradient of the three thirds. -/
def dz (z : Tok → Dim3 → EReal) (cw : Fin 3 → Dim → EReal) (dy : Tok → Dim → EReal) (wo : Dim → Dim → EReal)
    (t : Tok) (n : Dim3) : EReal :=
  if h : n.val < 1024 then dout dy wo t ⟨n.val, h⟩ * conv z cw t ⟨n.val, h⟩
  else if h' : n.val - 1024 < 1024 then
    dgated z cw dy wo t ⟨n.val - 1024, h'⟩ * z t (trd3 ⟨n.val - 1024, h'⟩)
  else dgated z cw dy wo t ⟨n.val - 1024 - 1024, by omega⟩ * z t (snd3 ⟨n.val - 1024 - 1024, by omega⟩)

/-- The gradient of the normalised row: the thirds' gradient times the transposed input projection. -/
def dhn (z : Tok → Dim3 → EReal) (cw : Fin 3 → Dim → EReal) (dy : Tok → Dim → EReal) (wo : Dim → Dim → EReal)
    (win : Dim → Dim3 → EReal) (t : Tok) (j : Dim) : EReal :=
  ∑ n : Dim3, dz z cw dy wo t n * win j n

/-- What each tap multiplies: the gated input two tokens earlier, one token earlier, and the token's own. -/
def lag (z : Tok → Dim3 → EReal) (q : Fin 3) (t : Tok) (j : Dim) : EReal :=
  if q.val = 0 then prev 2 (gated z) t j else if q.val = 1 then prev 1 (gated z) t j else gated z t j

/-- The taps' gradient. -/
def dcw (z : Tok → Dim3 → EReal) (dy : Tok → Dim → EReal) (wo : Dim → Dim → EReal) (q : Fin 3) (j : Dim) : EReal :=
  ∑ t : Tok, dconv z dy wo t j * lag z q t j

/-- The reciprocal root of a row's mean square. -/
def rstd (x : Tok → Dim → EReal) (t : Tok) : EReal :=
  Ideal.rsqrt ((∑ k : Dim, x t k * x t k) * Ideal.ofBits .f32 0x3A800000#32 + Ideal.ofBits .f32 0x358637BD#32)

/-- The normalised row before its scale. -/
def xhat (x : Tok → Dim → EReal) (t : Tok) (j : Dim) : EReal := x t j * rstd x t

/-- The gradient of the norm's scale, for a gradient `d` of the scaled normalised row. -/
def dg (x d : Tok → Dim → EReal) (j : Dim) : EReal := ∑ t : Tok, d t j * xhat x t j

/-- The gradient of the scaled row. -/
def dscaled (g : Dim → EReal) (d : Tok → Dim → EReal) (t : Tok) (j : Dim) : EReal := d t j * g j

/-- The gradient of the row itself, the residual's added: the norm's backward pass with one mean. -/
def dx (x dy : Tok → Dim → EReal) (g : Dim → EReal) (d : Tok → Dim → EReal) (t : Tok) (j : Dim) : EReal :=
  dy t j + rstd x t * (dscaled g d t j
    - xhat x t j * ((∑ k : Dim, dscaled g d t k * xhat x t k) * Ideal.ofBits .f32 0x3A800000#32))

end Conv
-- ==== Proof.Conv.Block.lean ====
/- What one grid point computes: each value of the body at row `r` of its 256 tokens, given blocks that hold the arrays' rows
   from token `256 t` on, sixteen rows of the projections before them and sixteen rows of projections and gradient after. The
   halo rows matter only where there are such tokens: at the first and the last point the body multiplies them by zero. -/
module

public import proofs.«01_k».proof.Proof.Gen.KernelIdeal.Skeleton
public import proofs.«01_k».proof.Proof.Conv.Spec

@[expose] public section

set_option maxRecDepth 16384

noncomputable section

namespace Conv

open Idealize Idealize.ShloMosaic Cert.KernelIdeal Cert.KernelIdeal.Gen

/-- Token `r` of point `t`. -/
abbrev row (t : Fin 64) (r : Fin 256) : Tok := ⟨256 * t.val + r.val, by omega⟩

/-- The body's tests for the first and the last point. -/
theorem at_first : ∀ t : Fin 64, Scalar.cmpi .eq (BitVec.ofNat 32 t.val) 0#32 = if t.val = 0 then 1#1 else 0#1 := by
  decide +kernel
theorem at_last : ∀ t : Fin 64, Scalar.cmpi .eq (BitVec.ofNat 32 t.val) 63#32 = if t.val = 63 then 1#1 else 0#1 := by
  decide +kernel

/-- The arrays a point reads, as functions of the token. -/
structure Args where
  x : Tok → Dim → EReal
  dy : Tok → Dim → EReal
  z : Tok → Dim3 → EReal
  g : Dim → EReal
  win : Dim → Dim3 → EReal
  cw : Fin 3 → Dim → EReal
  wo : Dim → Dim → EReal

/-- The blocks of point `t` hold the arrays' rows. -/
structure Holds (A : Args) (t : Fin 64) (i : grid0.Coords) (bx bdy : Vec Ideal S256x1024 .f32) (bdn : Vec Ideal S16x1024 .f32)
    (bz : Vec Ideal S256x3072 .bf16) (bzp bzn : Vec Ideal S16x3072 .bf16) (bg : Vec Ideal S1x1024 .f32)
    (bwin : Vec Ideal S3072x1024 .bf16) (bcw : Vec Ideal S3x1024 .f32) (bwo : Vec Ideal S1024x1024 .bf16) : Prop where
  pt : (i 0).val = t.val
  x : ∀ r j, bx (ix2 r j) = A.x (row t r) j
  dy : ∀ r j, bdy (ix2 r j) = A.dy (row t r) j
  dn : ∀ (h : t.val < 63) (r : Fin 16) j, bdn (ix2 r j) = A.dy ⟨256 * t.val + 256 + r.val, by omega⟩ j
  z : ∀ r n, bz (ix2 r n) = A.z (row t r) n
  zp : ∀ (_ : 0 < t.val) (r : Fin 16) n, bzp (ix2 r n) = A.z ⟨256 * t.val - 16 + r.val, by omega⟩ n
  zn : ∀ (h : t.val < 63) (r : Fin 16) n, bzn (ix2 r n) = A.z ⟨256 * t.val + 256 + r.val, by omega⟩ n
  g : ∀ j, bg (ix2 0 j) = A.g j
  win : ∀ n j, bwin (ix2 n j) = A.win j n
  cw : ∀ q j, bcw (ix2 q j) = A.cw q j
  wo : ∀ k j, bwo (ix2 k j) = A.wo j k

variable {A : Args} {t : Fin 64} {i : grid0.Coords} {bx bdy : Vec Ideal S256x1024 .f32} {bdn : Vec Ideal S16x1024 .f32}
  {bz : Vec Ideal S256x3072 .bf16} {bzp bzn : Vec Ideal S16x3072 .bf16} {bg : Vec Ideal S1x1024 .f32}
  {bwin : Vec Ideal S3072x1024 .bf16} {bcw : Vec Ideal S3x1024 .f32} {bwo : Vec Ideal S1024x1024 .bf16}
  (H : Holds A t i bx bdy bdn bz bzp bzn bg bwin bcw bwo)
include H

/-- The three thirds. -/
theorem b_fst (r : Fin 256) (j : Dim) : k0_pay5 bz (ix2 r j) = A.z (row t r) (fst3 j) := by
  pointwise [k0_pay5, k0_pay4]
  exact H.z r _
theorem b_snd (r : Fin 256) (j : Dim) : k0_pay6 bz (ix2 r j) = A.z (row t r) (snd3 j) := by
  pointwise [k0_pay6, k0_pay4]
  exact H.z r _
theorem b_trd (r : Fin 256) (j : Dim) : k0_pay7 bz (ix2 r j) = A.z (row t r) (trd3 j) := by
  pointwise [k0_pay7, k0_pay4]
  exact H.z r _

/-- The gated input. -/
theorem b_gated (r : Fin 256) (j : Dim) : k0_pay8 bz (ix2 r j) = gated A.z (row t r) j := by
  pointwise [k0_pay8, k0_pay6, k0_pay7, k0_pay4]
  rw [H.z, H.z]
  rfl

/-- The gated input after its sixteen halo rows. -/
theorem b_ext (q : Fin 272) (j : Dim) :
    k0_pay9 i bz bzp (ix2 q j)
      = if h : 16 ≤ 256 * t.val + q.val then gated A.z ⟨256 * t.val + q.val - 16, by omega⟩ j else 0 := by
  pointwise [k0_pay9]
  by_cases hq : q.val < 16
  · rw [dif_pos hq]
    by_cases ht : 0 < t.val
    · rw [dif_pos (by omega), H.zp ht, H.zp ht, H.pt]
      rw [at_first, if_neg ht.ne', Scalar.select, if_neg (by decide)]
      exact congrArg (fun s : Tok => A.z s (snd3 j) * A.z s (trd3 j)) (Fin.ext (by dsimp only; omega))
    · have h0 : t.val = 0 := by omega
      rw [dif_neg (by omega), H.pt, at_first, if_pos h0]
      exact if_pos rfl
  · rw [dif_neg hq, dif_pos (by omega), b_gated H]
    congr 1
    exact Fin.ext (by simp; omega)

/-- The gated input one and two tokens earlier. -/
theorem b_prev1 (r : Fin 256) (j : Dim) : k0_pay10 i bz bzp (ix2 r j) = prev 1 (gated A.z) (row t r) j := by
  pointwise [k0_pay10]
  rw [b_ext H]
  simp only [prev]
  split_ifs with h1 h2 h2
  · congr 1
    exact Fin.ext (by simp; omega)
  · exact absurd h1 (by simp at h2 ⊢; omega)
  · exact absurd h2 (by simp at h1 ⊢; omega)
  · rfl
theorem b_prev2 (r : Fin 256) (j : Dim) : k0_pay11 i bz bzp (ix2 r j) = prev 2 (gated A.z) (row t r) j := by
  pointwise [k0_pay11]
  rw [b_ext H]
  simp only [prev]
  split_ifs with h1 h2 h2
  · congr 1
    exact Fin.ext (by simp; omega)
  · exact absurd h1 (by simp at h2 ⊢; omega)
  · exact absurd h2 (by simp at h1 ⊢; omega)
  · rfl

/-- The gradient of the output projection's input, and of the convolution. -/
theorem b_dout (r : Fin 256) (j : Dim) : k0_pay14 bdy bwo (ix2 r j) = dout A.dy A.wo (row t r) j := by
  pointwise [k0_pay14]
  exact Finset.sum_congr rfl fun k _ => by rw [H.dy, H.wo]
theorem b_dconv (r : Fin 256) (j : Dim) :
    k0_pay15 (k0_pay5 bz) bdy bwo (ix2 r j) = dconv A.z A.dy A.wo (row t r) j := by
  pointwise [k0_pay15]
  rw [b_dout H, b_fst H]
  rfl

/-- The gradient of the convolution before its sixteen halo rows. -/
theorem b_dext (q : Fin 272) (j : Dim) :
    k0_pay16 (BitVec.ofNat 32 (i 0).val) (k0_pay5 bz) bdy bwo bdn bwo
        (View.ld bzn (Rect.unit ![0, 0] ![16, 1024] inb_S16x3072_S16x1024_0_0)) (ix2 q j)
      = if h : 256 * t.val + q.val < 16384 then dconv A.z A.dy A.wo ⟨256 * t.val + q.val, h⟩ j else 0 := by
  pointwise [k0_pay16]
  by_cases hq : q.val < 256
  · rw [dif_pos hq, dif_pos (by omega), b_dconv H]
  · rw [dif_neg hq, H.pt, at_last]
    by_cases ht : t.val < 63
    · rw [dif_pos (by omega), if_neg ht.ne, Scalar.select, if_neg (by decide)]
      rw [H.zn ht]
      simp only [dconv, dout]
      congr 1
      · refine Finset.sum_congr rfl fun k _ => ?_
        rw [H.dn ht, H.wo]
        congr 2
        exact Fin.ext (by simp; omega)
      · congr 1
        exact Fin.ext (by simp; omega)
    · have h1 : t.val = 63 := by omega
      rw [dif_neg (by omega), if_pos h1]
      exact if_pos rfl

/-- The convolution's block and the gradient of its input's, as the body writes them. -/
abbrev bconv (i : grid0.Coords) (bz : Vec Ideal S256x3072 .bf16) (bzp : Vec Ideal S16x3072 .bf16)
    (bcw : Vec Ideal S3x1024 .f32) : FVec Ideal S256x1024 .f32 :=
  k0_pay12 (k0_pay8 bz) (k0_pay10 i bz bzp) (k0_pay11 i bz bzp)
    (View.ld bcw (Rect.unit ![0, 0] ![1, 1024] inb_S3x1024_S1x1024_0_0))
    (View.ld bcw (Rect.unit ![1, 0] ![1, 1024] inb_S3x1024_S1x1024_1_0))
    (View.ld bcw (Rect.unit ![2, 0] ![1, 1024] inb_S3x1024_S1x1024_2_0))
abbrev bdgated (i : grid0.Coords) (bdy : Vec Ideal S256x1024 .f32) (bdn : Vec Ideal S16x1024 .f32)
    (bz : Vec Ideal S256x3072 .bf16) (bzn : Vec Ideal S16x3072 .bf16) (bcw : Vec Ideal S3x1024 .f32)
    (bwo : Vec Ideal S1024x1024 .bf16) : FVec Ideal S256x1024 .f32 :=
  k0_pay17 (k0_pay15 (k0_pay5 bz) bdy bwo)
    (k0_pay16 (BitVec.ofNat 32 (i 0).val) (k0_pay5 bz) bdy bwo bdn bwo
      (View.ld bzn (Rect.unit ![0, 0] ![16, 1024] inb_S16x3072_S16x1024_0_0)))
    (View.ld bcw (Rect.unit ![2, 0] ![1, 1024] inb_S3x1024_S1x1024_2_0))
    (View.ld bcw (Rect.unit ![1, 0] ![1, 1024] inb_S3x1024_S1x1024_1_0))
    (View.ld bcw (Rect.unit ![0, 0] ![1, 1024] inb_S3x1024_S1x1024_0_0))

theorem b_conv (r : Fin 256) (j : Dim) : bconv i bz bzp bcw (ix2 r j) = conv A.z A.cw (row t r) j := by
  pointwise [k0_pay12]
  rw [b_prev1 H, b_prev2 H, b_gated H, H.cw, H.cw, H.cw]
  rfl

theorem b_dgated (r : Fin 256) (j : Dim) :
    bdgated i bdy bdn bz bzn bcw bwo (ix2 r j) = dgated A.z A.cw A.dy A.wo (row t r) j := by
  pointwise [k0_pay17]
  rw [b_dext H, b_dext H, b_dconv H, H.cw, H.cw, H.cw]
  have e1 : (r.val + 272 - 271) % 272 = r.val + 1 := by omega
  have e2 : (r.val + 272 - 270) % 272 = r.val + 2 := by omega
  simp only [e1, e2, ← Nat.add_assoc]
  rfl

/-- What the point stores: the gated output, … -/
theorem b_out (r : Fin 256) (j : Dim) :
    k0_pay13 (k0_pay5 bz) (k0_pay8 bz) (k0_pay10 i bz bzp) (k0_pay11 i bz bzp)
      (View.ld bcw (Rect.unit ![0, 0] ![1, 1024] inb_S3x1024_S1x1024_0_0))
      (View.ld bcw (Rect.unit ![1, 0] ![1, 1024] inb_S3x1024_S1x1024_1_0))
      (View.ld bcw (Rect.unit ![2, 0] ![1, 1024] inb_S3x1024_S1x1024_2_0)) (ix2 r j) = out A.z A.cw (row t r) j := by
  pointwise [k0_pay13]
  exact congrArg₂ (· * ·) (b_fst H r j) (b_conv H r j)

/-- … the gradient of the thirds, … -/
theorem b_dz (r : Fin 256) (n : Dim3) :
    k0_pay24 (k0_pay6 bz) (k0_pay7 bz) (bconv i bz bzp bcw) (k0_pay14 bdy bwo) (bdgated i bdy bdn bz bzn bcw bwo) (ix2 r n)
      = dz A.z A.cw A.dy A.wo (row t r) n := by
  pointwise [k0_pay24]
  simp only [b_conv H, b_dgated H, b_dout H, b_snd H, b_trd H]
  rfl

/-- … its product with the input projection, … -/
theorem b_dhn (r : Fin 256) (j : Dim) :
    k0_pay25 (k0_pay6 bz) (k0_pay7 bz) (bconv i bz bzp bcw) (k0_pay14 bdy bwo) (bdgated i bdy bdn bz bzn bcw bwo) bwin
        (ix2 r j)
      = dhn A.z A.cw A.dy A.wo A.win (row t r) j := by
  pointwise [k0_pay25]
  exact Finset.sum_congr rfl fun n _ => by rw [b_dz H, H.win]

/-- … the reciprocal root, the normalised row and its scaling, … -/
theorem b_rstd (r : Fin 256) : k0_pay1 bx (ix2 r (0 : Fin 1)) = rstd A.x (row t r) := by
  pointwise [k0_pay1]
  simp only [H.x]
  rfl
theorem b_xhat (r : Fin 256) (j : Dim) : k0_pay2 bx (ix2 r j) = xhat A.x (row t r) j := by
  pointwise [k0_pay2]
  rw [b_rstd H, H.x]
  rfl
theorem b_hn (r : Fin 256) (j : Dim) : k0_pay3 bx bg (ix2 r j) = xhat A.x (row t r) j * A.g j := by
  pointwise [k0_pay3]
  rw [b_xhat H, H.g]

/-- … the gradient of the row, … -/
theorem b_dx (r : Fin 256) (j : Dim) :
    k0_pay28 (k0_pay1 bx) (k0_pay2 bx) (k0_pay6 bz) (k0_pay7 bz) (bconv i bz bzp bcw) (k0_pay14 bdy bwo)
        (bdgated i bdy bdn bz bzn bcw bwo) bwin bdy bg (ix2 r j)
      = dx A.x A.dy A.g (dhn A.z A.cw A.dy A.wo A.win) (row t r) j := by
  pointwise [k0_pay28]
  simp only [b_rstd H, b_xhat H, b_dhn H, H.dy, H.g]
  rfl

/-- … and the sums over its tokens: one for each tap, and the scale's. -/
theorem b_dcw0 (j : Dim) :
    k0_pay18 (k0_pay11 i bz bzp) (k0_pay15 (k0_pay5 bz) bdy bwo) (ix2 (0 : Fin 1) j)
      = ∑ r : Fin 256, dconv A.z A.dy A.wo (row t r) j * prev 2 (gated A.z) (row t r) j := by
  pointwise [k0_pay18]
  exact Finset.sum_congr rfl fun r _ => by rw [b_dconv H, b_prev2 H]
theorem b_dcw1 (j : Dim) :
    k0_pay20 (k0_pay10 i bz bzp) (k0_pay15 (k0_pay5 bz) bdy bwo) (ix2 (0 : Fin 1) j)
      = ∑ r : Fin 256, dconv A.z A.dy A.wo (row t r) j * prev 1 (gated A.z) (row t r) j := by
  pointwise [k0_pay20]
  exact Finset.sum_congr rfl fun r _ => by rw [b_dconv H, b_prev1 H]
theorem b_dcw2 (j : Dim) :
    k0_pay22 (k0_pay8 bz) (k0_pay15 (k0_pay5 bz) bdy bwo) (ix2 (0 : Fin 1) j)
      = ∑ r : Fin 256, dconv A.z A.dy A.wo (row t r) j * gated A.z (row t r) j := by
  pointwise [k0_pay22]
  exact Finset.sum_congr rfl fun r _ => by rw [b_dconv H, b_gated H]
theorem b_dg (j : Dim) :
    k0_pay26 (k0_pay2 bx) (k0_pay6 bz) (k0_pay7 bz) (bconv i bz bzp bcw) (k0_pay14 bdy bwo)
        (bdgated i bdy bdn bz bzn bcw bwo) bwin (ix2 (0 : Fin 1) j)
      = ∑ r : Fin 256, dhn A.z A.cw A.dy A.wo A.win (row t r) j * xhat A.x (row t r) j := by
  pointwise [k0_pay26]
  exact Finset.sum_congr rfl fun r _ => by rw [b_dhn H, b_xhat H]

omit H in
/-- A later point's sums: what the buffer held, and the point's own. -/
theorem b_add0 (a b : FVec Ideal S256x1024 .f32) (o : Vec Ideal S1x1024 .f32) (j : Dim) :
    k0_pay19 a b o (ix2 (0 : Fin 1) j) = o (ix2 (0 : Fin 1) j) + k0_pay18 a b (ix2 (0 : Fin 1) j) := by
  pointwise [k0_pay19]
omit H in
theorem b_add1 (a b : FVec Ideal S256x1024 .f32) (o : Vec Ideal S1x1024 .f32) (j : Dim) :
    k0_pay21 a b o (ix2 (0 : Fin 1) j) = o (ix2 (0 : Fin 1) j) + k0_pay20 a b (ix2 (0 : Fin 1) j) := by
  pointwise [k0_pay21]
omit H in
theorem b_add2 (a : FVec Ideal S1x1024 .f32) (o : Vec Ideal S1x1024 .f32) (j : Dim) :
    k0_pay23 a o (ix2 (0 : Fin 1) j) = o (ix2 (0 : Fin 1) j) + a (ix2 (0 : Fin 1) j) := by
  pointwise [k0_pay23]
omit H in
theorem b_add3 (a b d e f h : FVec Ideal S256x1024 .f32) (w : Vec Ideal S3072x1024 .bf16) (o : Vec Ideal S1x1024 .f32) (j : Dim) :
    k0_pay27 a b d e f h w o (ix2 (0 : Fin 1) j) = o (ix2 (0 : Fin 1) j) + k0_pay26 a b d e f h w (ix2 (0 : Fin 1) j) := by
  pointwise [k0_pay27]

end Conv
-- ==== Proof.Conv.Points.lean ====
/- The blocks each grid point reads are rows of the arrays, and what the point leaves in each output's buffer. -/
module

public import proofs.«01_k».proof.Proof.Gen.KernelIdeal.Frame
public import proofs.«01_k».proof.Proof.Conv.Block
public import Idealize.ShloMosaic.Lib.Pipeline.ValueKit

@[expose] public section

set_option maxRecDepth 16384

noncomputable section

namespace Conv

open Idealize Idealize.ShloMosaic Cert.KernelIdeal Cert.KernelIdeal.Gen

variable (m : (ℓ : Loc nD τ sig) → Buf (Elt Ideal) ℓ) (c : Dev nD)

/-- The arrays as the pipeline finds them, as functions of the token. -/
def args : Args where
  x t j := V m c main_arg0 (ix2 t j)
  dy t j := V m c main_arg1 (ix2 t j)
  z t n := V m c main_v14 (ix2 t n)
  g j := V m c main_v15 (ix2 (0 : Fin 1) j)
  win j n := V m c main_v17 (ix2 n j)
  cw q j := V m c main_arg4 (ix2 q j)
  wo j k := V m c main_v19 (ix2 k j)

/-- A grid point's number. -/
abbrev pt (t : Fin cfg0.N) : Fin 64 := ⟨t.val, Nat.lt_of_lt_of_eq t.isLt N_0⟩

theorem coords_val : ∀ t : Fin cfg0.N, ((grid0.coords t) 0).val = t.val :=
  (by decide +kernel : ∀ t : Fin grid0.N, ((grid0.coords t) 0).val = t.val)
theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![min (16 * t.val + 16) 1023, 0] :=
  (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![16 * t.val - 1, 0] := (by decide +kernel : ∀ t : Fin grid0.N, _)
theorem idx5 : ∀ t : Fin cfg0.N, win0_5.index t = ![min (16 * t.val + 16) 1023, 0] :=
  (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)

/-! Each block at coordinates. -/

theorem blk_x (t : Fin cfg0.N) (r : Fin 256) (j : Dim) :
    iblk m c 0 t (ix2 r j) = (args m c).x (row (pt t) r) j := by
  show _ = V m c main_arg0 (ix2 (row (pt t) r) j)
  blk_ext [iblk, idx0 t]

theorem blk_dy (t : Fin cfg0.N) (r : Fin 256) (j : Dim) :
    iblk m c 1 t (ix2 r j) = (args m c).dy (row (pt t) r) j := by
  show _ = V m c main_arg1 (ix2 (row (pt t) r) j)
  blk_ext [iblk, idx1 t]

theorem blk_dn (t : Fin cfg0.N) (h : t.val < 63) (r : Fin 16) (j : Dim) :
    iblk m c 2 t (ix2 r j) = (args m c).dy ⟨256 * t.val + 256 + r.val, by omega⟩ j := by
  show _ = V m c main_arg1 (ix2 _ j)
  blk_ext [iblk, idx2 t]

theorem blk_z (t : Fin cfg0.N) (r : Fin 256) (n : Dim3) :
    iblk m c 3 t (ix2 r n) = (args m c).z (row (pt t) r) n := by
  show _ = V m c main_v14 (ix2 (row (pt t) r) n)
  blk_ext [iblk, idx3 t]

theorem blk_zp (t : Fin cfg0.N) (h : 0 < t.val) (r : Fin 16) (n : Dim3) :
    iblk m c 4 t (ix2 r n) = (args m c).z ⟨256 * t.val - 16 + r.val, by have := (pt t).isLt; dsimp only at this; omega⟩ n := by
  show _ = V m c main_v14 (ix2 _ n)
  blk_ext [iblk, idx4 t]

theorem blk_zn (t : Fin cfg0.N) (h : t.val < 63) (r : Fin 16) (n : Dim3) :
    iblk m c 5 t (ix2 r n) = (args m c).z ⟨256 * t.val + 256 + r.val, by omega⟩ n := by
  show _ = V m c main_v14 (ix2 _ n)
  blk_ext [iblk, idx5 t]

theorem blk_g (t : Fin cfg0.N) (j : Dim) :
    iblk m c 6 t (ix2 (0 : Fin 1) j) = (args m c).g j := by
  show _ = V m c main_v15 (ix2 (0 : Fin 1) j)
  blk_ext [iblk, idx6 t]

theorem blk_win (t : Fin cfg0.N) (n : Dim3) (j : Dim) :
    iblk m c 7 t (ix2 n j) = (args m c).win j n := by
  show _ = V m c main_v17 (ix2 n j)
  blk_ext [iblk, idx7 t]

theorem blk_cw (t : Fin cfg0.N) (q : Fin 3) (j : Dim) :
    iblk m c 8 t (ix2 q j) = (args m c).cw q j := by
  show _ = V m c main_arg4 (ix2 q j)
  blk_ext [iblk, idx8 t]

theorem blk_wo (t : Fin cfg0.N) (k j : Dim) :
    iblk m c 9 t (ix2 k j) = (args m c).wo j k := by
  show _ = V m c main_v19 (ix2 k j)
  blk_ext [iblk, idx9 t]

/-- The blocks a point reads hold the arrays' rows. -/
theorem holds (t : Fin cfg0.N) :
    Holds (args m c) (pt t) (grid0.coords t) (iblk m c 0 t) (iblk m c 1 t) (iblk m c 2 t) (iblk m c 3 t) (iblk m c 4 t)
      (iblk m c 5 t) (iblk m c 6 t) (iblk m c 7 t) (iblk m c 8 t) (iblk m c 9 t) :=
  ⟨coords_val t, blk_x m c t, blk_dy m c t, blk_dn m c t, blk_z m c t, blk_zp m c t, blk_zn m c t, blk_g m c t,
    blk_win m c t, blk_cw m c t, blk_wo m c t⟩

/-! What a point leaves in the outputs it writes whole: the same at the first point and at the others. -/

/-- The gradient of the normalised row, over the arrays the pipeline finds. -/
abbrev dhnOf : Tok → Dim → EReal := dhn (args m c).z (args m c).cw (args m c).dy (args m c).wo (args m c).win

theorem at_dx (t : Fin cfg0.N) (r : Fin 256) (j : Dim) :
    (outsAt0 m c t.val t.isLt).1 (ix2 r j) = dx (args m c).x (args m c).dy (args m c).g (dhnOf m c) (row (pt t) r) j := by
  refine Eq.trans ?_ (b_dx (holds m c t) r j)
  by_cases h : t.val = 0
  · have h0 : t.val % 64 = 0 := by omega
    have h1 : ¬ 1 ≤ t.val := by omega
    rw [outsAt0_A m c t h0 h1 h0 h1 h0 h1 h0 h1]
    frame_out
  · have ht : t.val < 64 := (pt t).isLt
    have h0 : ¬ t.val % 64 = 0 := by omega
    have h1 : 1 ≤ t.val := by omega
    rw [outsAt0_B m c t h0 h1 h0 h1 h0 h1 h0 h1]
    frame_out

theorem at_hn (t : Fin cfg0.N) (r : Fin 256) (j : Dim) :
    (outsAt0 m c t.val t.isLt).2.1 (ix2 r j) = xhat (args m c).x (row (pt t) r) j * (args m c).g j := by
  refine Eq.trans ?_ (b_hn (holds m c t) r j)
  by_cases h : t.val = 0
  · have h0 : t.val % 64 = 0 := by omega
    have h1 : ¬ 1 ≤ t.val := by omega
    rw [outsAt0_A m c t h0 h1 h0 h1 h0 h1 h0 h1]
    frame_out
  · have ht : t.val < 64 := (pt t).isLt
    have h0 : ¬ t.val % 64 = 0 := by omega
    have h1 : 1 ≤ t.val := by omega
    rw [outsAt0_B m c t h0 h1 h0 h1 h0 h1 h0 h1]
    frame_out

theorem at_dz (t : Fin cfg0.N) (r : Fin 256) (n : Dim3) :
    (outsAt0 m c t.val t.isLt).2.2.1 (ix2 r n) = dz (args m c).z (args m c).cw (args m c).dy (args m c).wo (row (pt t) r) n := by
  refine Eq.trans ?_ (b_dz (holds m c t) r n)
  by_cases h : t.val = 0
  · have h0 : t.val % 64 = 0 := by omega
    have h1 : ¬ 1 ≤ t.val := by omega
    rw [outsAt0_A m c t h0 h1 h0 h1 h0 h1 h0 h1]
    frame_out
  · have ht : t.val < 64 := (pt t).isLt
    have h0 : ¬ t.val % 64 = 0 := by omega
    have h1 : 1 ≤ t.val := by omega
    rw [outsAt0_B m c t h0 h1 h0 h1 h0 h1 h0 h1]
    frame_out

theorem at_out (t : Fin cfg0.N) (r : Fin 256) (j : Dim) :
    (outsAt0 m c t.val t.isLt).2.2.2.1 (ix2 r j) = out (args m c).z (args m c).cw (row (pt t) r) j := by
  refine Eq.trans ?_ (b_out (holds m c t) r j)
  by_cases h : t.val = 0
  · have h0 : t.val % 64 = 0 := by omega
    have h1 : ¬ 1 ≤ t.val := by omega
    rw [outsAt0_A m c t h0 h1 h0 h1 h0 h1 h0 h1]
    frame_out
  · have ht : t.val < 64 := (pt t).isLt
    have h0 : ¬ t.val % 64 = 0 := by omega
    have h1 : 1 ≤ t.val := by omega
    rw [outsAt0_B m c t h0 h1 h0 h1 h0 h1 h0 h1]
    frame_out

/-! What a point adds to the two accumulated outputs. -/

/-- A point's part of the taps' gradient and of the scale's. -/
def partTaps (t : Fin cfg0.N) (i : S3x1024.Idx) : EReal :=
  ∑ r : Fin 256, dconv (args m c).z (args m c).dy (args m c).wo (row (pt t) r) (i 1) * lag (args m c).z (i 0) (row (pt t) r) (i 1)
def partScale (t : Fin cfg0.N) (i : S1x1024.Idx) : EReal :=
  ∑ r : Fin 256, dhnOf m c (row (pt t) r) (i 1) * xhat (args m c).x (row (pt t) r) (i 1)

/-- An index of the taps' block that a row's store covers. -/
theorem row_idx (y : S3x1024.Idx) (x : S1x1024.Idx) (q : Fin 3) (h0 : (y 0).val = q.val + (x 0).val)
    (h1 : (y 1).val = (x 1).val) : ∃ j : Dim, y = ix2 q j ∧ x = ix2 (0 : Fin 1) j := by
  have hx : (x 0).val < 1 := (x 0).isLt
  refine ⟨x 1, (eq_ix2 y).trans ?_, (eq_ix2 x).trans ?_⟩
  · rw [show y 0 = q from Fin.ext (by omega), show y 1 = x 1 from Fin.ext h1]
  · rw [show x 0 = (0 : Fin 1) from Subsingleton.elim (α := Fin 1) _ _]

theorem first_taps (t : Fin cfg0.N) (h : t.val % 64 = 0) (y : S3x1024.Idx) :
    (outsAt0 m c t.val t.isLt).2.2.2.2.1 y = 0 + partTaps m c t y := by
  have ht : t.val < 64 := (pt t).isLt
  have h1 : ¬ 1 ≤ t.val := by omega
  rw [outsAt0_A m c t h h1 h h1 h h1 h h1, zero_add]
  frame_out
  canon_tiles x hx
  · obtain ⟨j, rfl, rfl⟩ := row_idx y x 2 hx0 hx1
    exact b_dcw2 (holds m c t) j
  · obtain ⟨j, rfl, rfl⟩ := row_idx y x 1 hx0 hx1
    exact b_dcw1 (holds m c t) j
  · obtain ⟨j, rfl, rfl⟩ := row_idx y x 0 (hx0.trans (Nat.zero_add _).symm) hx1
    exact b_dcw0 (holds m c t) j

theorem step_taps (t : Fin cfg0.N) (h : ¬ t.val % 64 = 0) (y : S3x1024.Idx) :
    (outsAt0 m c t.val t.isLt).2.2.2.2.1 y
      = (outsAt0 m c (t.val - 1) (Nat.lt_of_le_of_lt (Nat.sub_le _ _) t.isLt)).2.2.2.2.1 y + partTaps m c t y := by
  have h1 : 1 ≤ t.val := by omega
  rw [outsAt0_B m c t h h1 h h1 h h1 h h1]
  frame_out
  canon_tiles x hx
  · obtain ⟨j, rfl, rfl⟩ := row_idx y x 2 hx0 hx1
    refine (b_add2 _ _ j).trans (congrArg₂ (· + ·) ?_ (b_dcw2 (holds m c t) j))
    pointwise
  · obtain ⟨j, rfl, rfl⟩ := row_idx y x 1 hx0 hx1
    refine (b_add1 _ _ _ j).trans (congrArg₂ (· + ·) ?_ (b_dcw1 (holds m c t) j))
    pointwise
  · obtain ⟨j, rfl, rfl⟩ := row_idx y x 0 (hx0.trans (Nat.zero_add _).symm) hx1
    refine (b_add0 _ _ _ j).trans (congrArg₂ (· + ·) ?_ (b_dcw0 (holds m c t) j))
    pointwise

theorem first_scale (t : Fin cfg0.N) (h : t.val % 64 = 0) (y : S1x1024.Idx) :
    (outsAt0 m c t.val t.isLt).2.2.2.2.2 y = 0 + partScale m c t y := by
  have ht : t.val < 64 := (pt t).isLt
  have h1 : ¬ 1 ≤ t.val := by omega
  rw [outsAt0_A m c t h h1 h h1 h h1 h h1, zero_add]
  frame_out
  obtain ⟨j, rfl⟩ : ∃ j : Dim, y = ix2 (0 : Fin 1) j :=
    ⟨y 1, (eq_ix2 y).trans (by rw [show y 0 = (0 : Fin 1) from Subsingleton.elim (α := Fin 1) _ _])⟩
  exact b_dg (holds m c t) j

theorem step_scale (t : Fin cfg0.N) (h : ¬ t.val % 64 = 0) (y : S1x1024.Idx) :
    (outsAt0 m c t.val t.isLt).2.2.2.2.2 y
      = (outsAt0 m c (t.val - 1) (Nat.lt_of_le_of_lt (Nat.sub_le _ _) t.isLt)).2.2.2.2.2 y + partScale m c t y := by
  have h1 : 1 ≤ t.val := by omega
  rw [outsAt0_B m c t h h1 h h1 h h1 h h1]
  frame_out
  obtain ⟨j, rfl⟩ : ∃ j : Dim, y = ix2 (0 : Fin 1) j :=
    ⟨y 1, (eq_ix2 y).trans (by rw [show y 0 = (0 : Fin 1) from Subsingleton.elim (α := Fin 1) _ _])⟩
  refine (b_add3 _ _ _ _ _ _ _ _ j).trans (congrArg₂ (· + ·) rfl (b_dg (holds m c t) j))

end Conv
-- ==== Proof.Conv.Arrays.lean ====
/- What the six result arrays hold after the whole grid. -/
module

public import proofs.«01_k».proof.Proof.Gen.KernelIdeal.Value
public import proofs.«01_k».proof.Proof.Conv.Points

@[expose] public section

set_option maxRecDepth 16384

noncomputable section

namespace Conv

open Idealize Idealize.ShloMosaic Cert.KernelIdeal Cert.KernelIdeal.Gen
open Idealize.ShloMosaic.Pipeline (Dat)

variable (m : (ℓ : Loc nD τ sig) → Buf (Elt Ideal) ℓ) (c : Dev nD)

theorem idx10 : ∀ t : Fin cfg0.N, win0_10.index t = ![t.val, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![t.val, 0] := (by decide +kernel : ∀ t : Fin grid0.N, _)
theorem idx13 : ∀ t : Fin cfg0.N, win0_13.index t = ![t.val, 0] := (by decide +kernel : ∀ t : Fin grid0.N, _)

theorem arr_dx : (dats m 0 c).arrAt 10 cfg0.N
    = fun i : S16384x1024.Idx => dx (args m c).x (args m c).dy (args m c).g (dhnOf m c) (i 0) (i 1) := by
  refine (dats m 0 c).arrAt_eq_of_covers 10 _ (by decide +kernel) fun t hf y => ?_
  blk_simp
  rw [after0_10]
  obtain ⟨r, j, rfl⟩ : ∃ (r : Fin 256) (j : Dim), y = ix2 r j := ⟨y 0, y 1, eq_ix2 y⟩
  rw [show (win0_10.blk t).view.emb (ix2 r j) = ix2 (row (pt t) r) j by blk_ext [idx10 t]]
  exact at_dx m c t r j

theorem arr_hn : (dats m 0 c).arrAt 11 cfg0.N
    = fun i : S16384x1024.Idx => xhat (args m c).x (i 0) (i 1) * (args m c).g (i 1) := by
  refine (dats m 0 c).arrAt_eq_of_covers 11 _ (by decide +kernel) fun t hf y => ?_
  blk_simp
  rw [after0_11]
  obtain ⟨r, j, rfl⟩ : ∃ (r : Fin 256) (j : Dim), y = ix2 r j := ⟨y 0, y 1, eq_ix2 y⟩
  rw [show (win0_11.blk t).view.emb (ix2 r j) = ix2 (row (pt t) r) j by blk_ext [idx11 t]]
  exact at_hn m c t r j

theorem arr_dz : (dats m 0 c).arrAt 12 cfg0.N
    = fun i : S16384x3072.Idx => dz (args m c).z (args m c).cw (args m c).dy (args m c).wo (i 0) (i 1) := by
  refine (dats m 0 c).arrAt_eq_of_covers 12 _ (by decide +kernel) fun t hf y => ?_
  blk_simp
  rw [after0_12]
  obtain ⟨r, j, rfl⟩ : ∃ (r : Fin 256) (j : Dim3), y = ix2 r j := ⟨y 0, y 1, eq_ix2 y⟩
  rw [show (win0_12.blk t).view.emb (ix2 r j) = ix2 (row (pt t) r) j by blk_ext [idx12 t]]
  exact at_dz m c t r j

theorem arr_out : (dats m 0 c).arrAt 13 cfg0.N
    = fun i : S16384x1024.Idx => out (args m c).z (args m c).cw (i 0) (i 1) := by
  refine (dats m 0 c).arrAt_eq_of_covers 13 _ (by decide +kernel) fun t hf y => ?_
  blk_simp
  rw [after0_13]
  obtain ⟨r, j, rfl⟩ : ∃ (r : Fin 256) (j : Dim), y = ix2 r j := ⟨y 0, y 1, eq_ix2 y⟩
  rw [show (win0_13.blk t).view.emb (ix2 r j) = ix2 (row (pt t) r) j by blk_ext [idx13 t]]
  exact at_out m c t r j

/-- The last point. -/
abbrev last : Fin cfg0.N := ⟨63, Nat.lt_of_lt_of_eq (by decide) N_0.symm⟩

/-- The tokens, point by point. -/
theorem sum_rows (f : Tok → EReal) : ∑ p : Fin cfg0.N, ∑ r : Fin 256, f (row (pt p) r) = ∑ t : Tok, f t := by
  refine (Fin.sum_mul_add_congr (L := 16384) (S := 64) (n := 256) (F := fun p r => f (row p r)) (f := f) ?_)
  intro p r h
  exact congrArg f (Fin.ext (by dsimp only; omega))

theorem arr_dcw : (dats m 0 c).arrAt 14 cfg0.N
    = fun i : S3x1024.Idx => dcw (args m c).z (args m c).dy (args m c).wo (i 0) (i 1) := by
  refine (dats m 0 c).arrAt_eq_of_after_last 14 last (by decide +kernel) _ fun y => ?_
  have e := Pipeline.eq_sum_fin_of_reset_step_apply_last (fun n h => (outsAt0 m c n h).2.2.2.2.1) 64 (fun _ => 0)
    (partTaps m c) (first_taps m c) (step_taps m c) (le_of_eq N_0) last rfl y
  rw [zero_add] at e
  rw [after0_14]
  refine e.trans ?_
  exact sum_rows fun t => dconv (args m c).z (args m c).dy (args m c).wo t (y 1) * lag (args m c).z (y 0) t (y 1)

theorem arr_dg : (dats m 0 c).arrAt 15 cfg0.N
    = fun i : S1x1024.Idx => dg (args m c).x (dhnOf m c) (i 1) := by
  refine (dats m 0 c).arrAt_eq_of_after_last 15 last (by decide +kernel) _ fun y => ?_
  have e := Pipeline.eq_sum_fin_of_reset_step_apply_last (fun n h => (outsAt0 m c n h).2.2.2.2.2) 64 (fun _ => 0)
    (partScale m c) (first_scale m c) (step_scale m c) (le_of_eq N_0) last rfl y
  rw [zero_add] at e
  rw [after0_15]
  refine e.trans ?_
  exact sum_rows fun t => dhnOf m c t (y 1) * xhat (args m c).x t (y 1)

end Conv
-- ==== Proof.Conv.Algebra.lean ====
/- The one equation of the norm's backward pass that is not an equality of terms: a kernel's `r · (a − x̂ · mean(a x̂))` against the
   derivative of `x · rsqrt(mean(x²) + ε)` taken rule by rule, over the extended reals and for every row: an infinite entry
   makes the reciprocal root zero, and a finite row makes it a positive real, which distributes over every sum. -/
module

public import Idealize.ShloMosaic.Lib.Pointwise

@[expose] public section

noncomputable section

namespace Conv

open Idealize.ShloMosaic

/-- The constants: a thousand and twenty-fourth, a thousand and twenty-four, minus a half, and the norm's addend. -/
theorem inv1024 : Ideal.ofBits .f32 0x3A800000#32 = ((1 / 1024 : ℝ) : EReal) := by
  simp [Ideal.ofBits, Ideal.ieee, -EReal.coe_mul]; norm_num
theorem c1024 : Ideal.ofBits .f32 0x44800000#32 = ((1024 : ℝ) : EReal) := by
  simp [Ideal.ofBits, Ideal.ieee, -EReal.coe_mul]; norm_num
theorem mhalf : Ideal.ofBits .f32 0xBF000000#32 = ((-(1 / 2) : ℝ) : EReal) := by
  simp [Ideal.ofBits, Ideal.ieee, -EReal.coe_mul]; norm_num
theorem eps_pos : ∃ e : ℝ, 0 < e ∧ Ideal.ofBits .f32 0x358637BD#32 = (e : EReal) := by
  refine ⟨8796093 / 2 ^ 43, by norm_num, ?_⟩
  simp [Ideal.ofBits, Ideal.ieee, -EReal.coe_mul]; norm_num

/-- A sum of squares with an infinite entry is infinite. -/
theorem sum_sq_top {n : ℕ} (x : Fin n → EReal) (i : Fin n) (h : x i = ⊤ ∨ x i = ⊥) : ∑ k, x k * x k = ⊤ := by
  have hi : x i * x i = ⊤ := by rcases h with h | h <;> rw [h] <;> rfl
  have hnn : ∀ k, 0 ≤ x k * x k := fun k => by
    induction x k with
    | bot => exact le_top
    | top => exact le_top
    | coe r => rw [← EReal.coe_mul]; exact_mod_cast mul_self_nonneg r
  refine top_le_iff.mp (hi ▸ ?_)
  exact Finset.single_le_sum (f := fun k => x k * x k) (fun k _ => hnn k) (Finset.mem_univ i)

/-- A positive real distributes over any sum of extended reals … -/
theorem pos_mul_add (ρ : ℝ) (h : 0 < ρ) (a b : EReal) : (ρ : EReal) * (a + b) = ρ * a + ρ * b :=
  EReal.left_distrib_of_nonneg_of_ne_top (by exact_mod_cast h.le) (EReal.coe_ne_top ρ) a b

theorem pos_mul_sub (ρ : ℝ) (h : 0 < ρ) (a b : EReal) : (ρ : EReal) * (a - b) = ρ * a - ρ * b := by
  rw [sub_eq_add_neg, pos_mul_add ρ h, mul_neg, ← sub_eq_add_neg]

/-- … over any finite one too. -/
theorem pos_mul_sum {ι : Type*} (ρ : ℝ) (h : 0 < ρ) (s : Finset ι) (f : ι → EReal) :
    (ρ : EReal) * ∑ k ∈ s, f k = ∑ k ∈ s, ρ * f k := by
  classical
  induction s using Finset.induction_on with
  | empty => simp
  | insert a s ha ih => rw [Finset.sum_insert ha, Finset.sum_insert ha, pos_mul_add ρ h, ih]

/-- A finite sum of reals is the extended reals' sum of them. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- Twice an extended real. -/
theorem add_self (a : EReal) : a + a = ((2 : ℝ) : EReal) * a := by
  induction a with
  | bot => rw [EReal.coe_mul_bot_of_pos (by norm_num)]; rfl
  | top => rw [EReal.coe_mul_top_of_pos (by norm_num)]; rfl
  | coe r => rw [← EReal.coe_add, ← EReal.coe_mul, two_mul]

/-- THE NORM'S BACKWARD PASS: the row `x`, the scaled gradient `a`, the residual's gradient `d`, entry `j`. -/
theorem norm_bwd {n : ℕ} (x a : Fin n → EReal) (d : EReal) (j : Fin n) (r S : EReal)
    (hS : S = (∑ k, x k * x k) * Ideal.ofBits .f32 0x3A800000#32 + Ideal.ofBits .f32 0x358637BD#32)
    (hr : r = Ideal.rsqrt S) (c : EReal)
    (hc : c = Ideal.div ((∑ k, x k * a k) * (Ideal.ofBits .f32 0xBF000000#32 * Ideal.div r S))
      (Ideal.ofBits .f32 0x44800000#32)) :
    d + r * (a j - x j * r * ((∑ k, a k * (x k * r)) * Ideal.ofBits .f32 0x3A800000#32))
      = d + a j * r + x j * c + c * x j := by
  obtain ⟨e, he, hε⟩ := eps_pos
  rw [inv1024, hε] at hS
  rw [mhalf, c1024, Ideal.div_coe (by norm_num : (1024 : ℝ) ≠ 0)] at hc
  rw [inv1024]
  by_cases hx : ∀ k, ∃ v : ℝ, x k = v
  · choose y hy using hx
    have hx' : x = fun k => (y k : EReal) := funext hy
    have hs : ∑ k, x k * x k = ((∑ k, y k * y k : ℝ) : EReal) := by
      rw [hx', coe_sum]
      exact Finset.sum_congr rfl fun k _ => (EReal.coe_mul _ _).symm
    set q : ℝ := (∑ k, y k * y k) * (1 / 1024) + e with hq
    have hqpos : 0 < q := by
      have : 0 ≤ ∑ k, y k * y k := Finset.sum_nonneg fun k _ => mul_self_nonneg _
      positivity
    have hSq : S = (q : EReal) := by rw [hS, hs, ← EReal.coe_mul, ← EReal.coe_add]
    have hrq : r = (((Real.sqrt q)⁻¹ : ℝ) : EReal) := by
      rw [hr, hSq, Ideal.rsqrt_coe, if_neg (not_lt.mpr hqpos.le), if_neg hqpos.ne']
    set ρ : ℝ := (Real.sqrt q)⁻¹ with hρ
    have hρpos : 0 < ρ := inv_pos.mpr (Real.sqrt_pos.mpr hqpos)
    have hρq : 1 / q = ρ * ρ := by
      rw [hρ, ← mul_inv, Real.mul_self_sqrt hqpos.le, one_div]
    have hdiv : Ideal.div r S = ((ρ * (ρ * ρ) : ℝ) : EReal) := by
      rw [hSq, Ideal.div_coe hqpos.ne', hrq, ← EReal.coe_mul, hρq]
    have hP : ∑ k, a k * (x k * r) = (ρ : EReal) * ∑ k, x k * a k := by
      rw [pos_mul_sum ρ hρpos, hrq]
      exact Finset.sum_congr rfl fun k _ => by rw [mul_comm (a k), mul_comm (x k), mul_assoc]
    rw [hP, hc, hdiv, hrq, hx', pos_mul_sub ρ hρpos]
    generalize (∑ k, (y k : EReal) * a k) = P
    have hL : (ρ : EReal) * ((y j : EReal) * ρ * (ρ * P * ((1 / 1024 : ℝ) : EReal)))
        = ((ρ * (y j * ρ) * (ρ * (1 / 1024)) : ℝ) : EReal) * P := by
      rw [mul_comm (ρ : EReal) P, mul_assoc P, mul_comm P, ← mul_assoc (y j * ρ : EReal), ← mul_assoc (ρ : EReal)]
      congr 1
      simp only [← EReal.coe_mul]
      exact congrArg _ (by ring)
    have hR : (y j : EReal) * (P * (((-(1 / 2) : ℝ) : EReal) * ((ρ * (ρ * ρ) : ℝ) : EReal)) * ((1 / 1024 : ℝ) : EReal))
        = ((-(1 / 2) * (ρ * (y j * ρ) * (ρ * (1 / 1024))) : ℝ) : EReal) * P := by
      rw [mul_assoc P, mul_comm P, ← mul_assoc (y j : EReal)]
      congr 1
      simp only [← EReal.coe_mul]
      exact congrArg _ (by ring)
    simp only [hx']
    rw [mul_comm (P * _ * _) (y j : EReal), hL, hR, add_assoc (d + a j * ρ), add_self]
    generalize ρ * (y j * ρ) * (ρ * (1 / 1024)) = κ
    have hκ : ((2 : ℝ) : EReal) * (((-(1 / 2) * κ : ℝ) : EReal) * P) = -((κ : EReal) * P) := by
      rw [← mul_assoc, ← EReal.coe_mul, ← neg_mul, ← EReal.coe_neg]
      exact congrArg (fun v : ℝ => (v : EReal) * P) (by ring)
    rw [hκ, sub_eq_add_neg, ← add_assoc, mul_comm (ρ : EReal) (a j)]
  · push Not at hx
    obtain ⟨i, hi⟩ := hx
    have hi' : x i = ⊤ ∨ x i = ⊥ := by
      induction hxi : x i with
      | bot => exact Or.inr rfl
      | top => exact Or.inl rfl
      | coe v => exact absurd hxi (hi v)
    have hSt : S = ⊤ := by
      rw [hS, sum_sq_top x i hi', EReal.top_mul_coe_of_pos (by norm_num), EReal.top_add_coe]
    have hr0 : r = 0 := by rw [hr, hSt]; rfl
    have hdiv : Ideal.div r S = 0 := by rw [hr0, hSt, Ideal.div, if_neg (by simp), zero_mul]
    rw [hc, hdiv, hr0]
    simp

end Conv
-- ==== Proof.Conv.Ref.lean ====
/- What the reference's stages compute, read at a token and a column. -/
module

public import proofs.«01_k».proof.Proof.Gen.ReferenceIdeal.Read
public import proofs.«01_k».proof.Proof.Conv.Spec
public import proofs.«01_k».proof.Proof.Conv.Algebra

@[expose] public section

set_option maxRecDepth 16384

noncomputable section

namespace Conv.Ref

open Idealize Idealize.ShloMosaic Cert.ReferenceIdeal Cert.ReferenceIdeal.Gen Cert.ReferenceIdeal.Read

variable (x0 x1 : Vec Ideal S16384x1024 .f32) (x2 : Vec Ideal S1024 .f32) (x3 : Vec Ideal S1024x3072 .f32)
  (x4 : Vec Ideal S3x1024 .f32) (x5 : Vec Ideal S1024x1024 .f32)

/-- The reference's arguments and its projections as functions of the token. -/
abbrev fx (t : Tok) (j : Dim) : EReal := x0 (ix2 t j)
abbrev fdy (t : Tok) (j : Dim) : EReal := x1 (ix2 t j)
abbrev fg (j : Dim) : EReal := x2 (ix1 j)
abbrev fwin (j : Dim) (n : Dim3) : EReal := x3 (ix2 j n)
abbrev fcw (q : Fin 3) (j : Dim) : EReal := x4 (ix2 q j)
abbrev fwo (j k : Dim) : EReal := x5 (ix2 j k)
abbrev fz (t : Tok) (n : Dim3) : EReal := val_main_v13 (F := Ideal) x0 x2 x3 (ix2 t n)

/-- A mean by division and by the reciprocal's product. -/
theorem mean_of (s : EReal) : Ideal.div s (Ideal.ofBits .f32 0x44800000#32) = s * Ideal.ofBits .f32 0x3A800000#32 := by
  rw [c1024, inv1024, Ideal.div_coe (by norm_num : (1024 : ℝ) ≠ 0)]

/-- The projections, computed a second time. -/
theorem z_again : val_main_v30 (F := Ideal) x0 x2 x3 = val_main_v13 (F := Ideal) x0 x2 x3 := rfl

theorem r_gated (t : Tok) (j : Dim) :
    val_main_v34 (F := Ideal) x0 x2 x3 (ix2 t j) = gated (fz x0 x2 x3) t j := by
  pointwise [val_main_v32, val_main_v33, val_main_v34]
  rw [z_again]
  rfl

/-- The gated input after two rows of zeros. -/
theorem r_ext (t : Fin 16386) (j : Dim) :
    val_main_v36 (F := Ideal) x0 x2 x3 (ix2 t j)
      = if h : 2 ≤ t.val then gated (fz x0 x2 x3) ⟨t.val - 2, by omega⟩ j else 0 := by
  pointwise [val_main_v35, val_main_v36, val_main_cst_6]
  by_cases h : t.val < 2
  · rw [dif_pos h, dif_neg (by omega)]
  · rw [dif_neg h, dif_pos (by omega), r_gated]

theorem r_lag0 (t : Tok) (j : Dim) (h : t.val < 16386) :
    val_main_v36 (F := Ideal) x0 x2 x3 (ix2 ⟨t.val, h⟩ j) = prev 2 (gated (fz x0 x2 x3)) t j := by
  rw [r_ext, prev]
  by_cases h2 : 2 ≤ t.val
  · rw [dif_pos h2, if_pos h2]
  · rw [dif_neg h2, if_neg h2]
theorem r_lag1 (t : Tok) (j : Dim) (h : 1 + t.val < 16386) :
    val_main_v36 (F := Ideal) x0 x2 x3 (ix2 ⟨1 + t.val, h⟩ j) = prev 1 (gated (fz x0 x2 x3)) t j := by
  rw [r_ext, prev]
  by_cases h2 : 1 ≤ t.val
  · rw [dif_pos (by dsimp only; omega), if_pos h2]
    exact congrArg (fun s : Tok => gated (fz x0 x2 x3) s j) (Fin.ext (by dsimp only; omega))
  · rw [dif_neg (by dsimp only; omega), if_neg h2]
theorem r_lag2 (t : Tok) (j : Dim) (h : 2 + t.val < 16386) :
    val_main_v36 (F := Ideal) x0 x2 x3 (ix2 ⟨2 + t.val, h⟩ j) = gated (fz x0 x2 x3) t j := by
  rw [r_ext, dif_pos (by dsimp only; omega)]
  exact congrArg (fun s : Tok => gated (fz x0 x2 x3) s j) (Fin.ext (by dsimp only; omega))

theorem r_conv (t : Tok) (j : Dim) :
    val_main_v57 (F := Ideal) x0 x2 x3 x4 (ix2 t j) = conv (fz x0 x2 x3) (fcw x4) t j := by
  pointwise [val_main_v38, val_main_v39, val_main_v40, val_main_v41, val_main_v42, val_main_v43, val_main_v44, val_main_v45,
    val_main_v46, val_main_v47, val_main_v48, val_main_v49, val_main_v50, val_main_v51, val_main_v52, val_main_v53,
    val_main_v54, val_main_v55, val_main_v56, val_main_v57]
  rw [r_lag0, r_lag1, r_lag2]
  rfl

theorem r_dout (t : Tok) (j : Dim) :
    val_main_v62 (F := Ideal) x1 x5 (ix2 t j) = dout (fdy x1) (fwo x5) t j := by
  pointwise [val_main_v61, val_main_v62]
  rfl

theorem r_dconv (t : Tok) (j : Dim) :
    val_main_v63 (F := Ideal) x0 x1 x2 x3 x5 (ix2 t j) = dconv (fz x0 x2 x3) (fdy x1) (fwo x5) t j := by
  pointwise [val_main_v31, val_main_v63]
  rw [z_again, r_dout, mul_comm]
  rfl

theorem r_dgated (t : Tok) (j : Dim) :
    val_main_v97 (F := Ideal) x0 x1 x2 x3 x4 x5 (ix2 t j)
      = dgated (fz x0 x2 x3) (fcw x4) (fdy x1) (fwo x5) t j := by
  pointwise [val_main_v38, val_main_v39, val_main_v41, val_main_v44, val_main_v45, val_main_v47, val_main_v51, val_main_v52,
    val_main_v54, val_main_v65, val_main_v66, val_main_v71, val_main_v74, val_main_v75, val_main_v80, val_main_v81,
    val_main_v85, val_main_v86, val_main_v91, val_main_v92, val_main_v97, val_main_cst_10, val_main_cst_14, val_main_cst_18]
  simp only [r_dconv]
  rw [dgated, next, next]
  refine congrArg₂ (fun a b : EReal => a + b) (congrArg (fun b : EReal => fcw x4 2 j * dconv (fz x0 x2 x3) (fdy x1) (fwo x5) t j + b) ?_) ?_
  · by_cases h : t.val + 1 < 16384
    · rw [dif_pos (by omega), dif_pos h]
      exact congrArg (fun s : Tok => fcw x4 1 j * dconv (fz x0 x2 x3) (fdy x1) (fwo x5) s j) (Fin.ext (by dsimp only; omega))
    · rw [dif_neg (by omega), dif_neg h, mul_zero]
  · by_cases h : t.val + 2 < 16384
    · rw [dif_pos (by omega), dif_pos h]
      exact congrArg (fun s : Tok => fcw x4 0 j * dconv (fz x0 x2 x3) (fdy x1) (fwo x5) s j) (Fin.ext (by dsimp only; omega))
    · rw [dif_neg (by omega), dif_neg h, mul_zero]

theorem r_dz (t : Tok) (n : Dim3) :
    val_main_v100 (F := Ideal) x0 x1 x2 x3 x4 x5 (ix2 t n) = dz (fz x0 x2 x3) (fcw x4) (fdy x1) (fwo x5) t n := by
  pointwise [val_main_v32, val_main_v33, val_main_v64, val_main_v98, val_main_v99, val_main_v100]
  simp only [z_again, r_dout, r_conv, r_dgated]
  rw [dz]
  by_cases h : n.val < 1024
  · rw [dif_pos h, dif_pos h]
  · rw [dif_neg h, dif_neg h]
    by_cases h' : n.val - 1024 < 1024
    · rw [dif_pos h', dif_pos h']
    · rw [dif_neg h', dif_neg h']
      exact mul_comm _ _

theorem r_dhn (t : Tok) (j : Dim) :
    val_main_v101 (F := Ideal) x0 x1 x2 x3 x4 x5 (ix2 t j)
      = dhn (fz x0 x2 x3) (fcw x4) (fdy x1) (fwo x5) (fwin x3) t j := by
  pointwise [val_main_v101]
  exact Finset.sum_congr rfl fun n _ => by rw [r_dz]

theorem r_dcw (q : Fin 3) (j : Dim) :
    val_main_v95 (F := Ideal) x0 x1 x2 x3 x5 (ix2 q j) = dcw (fz x0 x2 x3) (fdy x1) (fwo x5) q j := by
  pointwise [val_main_v40, val_main_v46, val_main_v53, val_main_v67, val_main_v68, val_main_v69, val_main_v70, val_main_v72,
    val_main_v73, val_main_v76, val_main_v77, val_main_v78, val_main_v79, val_main_v82, val_main_v83, val_main_v84,
    val_main_v87, val_main_v88, val_main_v89, val_main_v90, val_main_v93, val_main_v94, val_main_v95, val_main_cst_8,
    val_main_cst_9, val_main_cst_11, val_main_cst_12, val_main_cst_13, val_main_cst_15, val_main_cst_16, val_main_cst_17,
    val_main_cst_19]
  simp only [r_dconv, r_lag0, r_lag1, r_lag2, Finset.univ_unique, Finset.sum_singleton]
  simp only [dcw, lag]
  by_cases h0 : q.val = 0
  · simp [h0]
  · by_cases h1 : q.val = 1
    · simp [h1]
    · have h2 : q.val = 2 := by omega
      simp [h2]

theorem r_hn (t : Tok) (j : Dim) :
    val_main_v171 (F := Ideal) x0 x2 (ix2 t j) = xhat (fx x0) t j * fg x2 j := by
  pointwise [val_main_v0, val_main_v1, val_main_v2, val_main_v3, val_main_v4, val_main_v5, val_main_v6, val_main_v7, val_main_v8,
    val_main_v9, val_main_v10, val_main_v11, val_main_v12, val_main_v171, val_main_cst, val_main_cst_0, val_main_cst_1]
  rw [xhat, rstd, mean_of]

theorem r_xhat (t : Tok) (j : Dim) :
    val_main_v26 (F := Ideal) x0 (ix2 t j) = xhat (fx x0) t j := by
  pointwise [val_main_v14, val_main_v15, val_main_v16, val_main_v17, val_main_v18, val_main_v19, val_main_v20, val_main_v21,
    val_main_v25, val_main_v26, val_main_cst_2, val_main_cst_3, val_main_cst_4]
  rw [xhat, rstd, mean_of]

theorem r_meansq (t : Tok) (u : Fin 1) :
    val_main_v20 (F := Ideal) x0 (ix2 t u)
      = (∑ k : Dim, fx x0 t k * fx x0 t k) * Ideal.ofBits .f32 0x3A800000#32 + Ideal.ofBits .f32 0x358637BD#32 := by
  pointwise [val_main_v14, val_main_v15, val_main_v16, val_main_v17, val_main_v18, val_main_v19, val_main_v20, val_main_cst_2,
    val_main_cst_3, val_main_cst_4]
  rw [mean_of]

theorem r_rstd (t : Tok) (u : Fin 1) :
    val_main_v21 (F := Ideal) x0 (ix2 t u) = rstd (fx x0) t := by
  pointwise [val_main_v21]
  rw [r_meansq]
  rfl

theorem r_dx (t : Tok) (j : Dim) :
    val_main_v122 (F := Ideal) x0 x1 x2 x3 x4 x5 (ix2 t j)
      = dx (fx x0) (fdy x1) (fg x2) (dhn (fz x0 x2 x3) (fcw x4) (fdy x1) (fwo x5) (fwin x3)) t j := by
  pointwise [val_main_v22, val_main_v23, val_main_v24, val_main_v27, val_main_v105, val_main_v106, val_main_v108, val_main_v109,
    val_main_v110, val_main_v111, val_main_v112, val_main_v113, val_main_v114, val_main_v115, val_main_v116, val_main_v117,
    val_main_v118, val_main_v119, val_main_v120, val_main_v121, val_main_v122, val_main_cst_5, val_main_cst_22,
    val_main_cst_23, val_main_cst_24]
  simp only [r_dhn, r_rstd, Finset.univ_unique, Finset.sum_singleton]
  exact (norm_bwd (fun k => x0 (ix2 t k)) (fun k => dhn (fz x0 x2 x3) (fcw x4) (fdy x1) (fwo x5) (fwin x3) t k * fg x2 k)
    (x1 (ix2 t j)) j _ _ (r_meansq x0 t default) (by rw [r_meansq]; rfl) _ rfl).symm

theorem r_dg (j : Dim) :
    val_main_v201 (F := Ideal) x0 x1 x2 x3 x4 x5 (ix2 (0 : Fin 1) j)
      = dg (fx x0) (dhn (fz x0 x2 x3) (fcw x4) (fdy x1) (fwo x5) (fwin x3)) j := by
  pointwise [val_main_v102, val_main_v103, val_main_v104, val_main_v107, val_main_v201, val_main_cst_20, val_main_cst_21]
  simp only [r_dhn, r_xhat, Finset.univ_unique, Finset.sum_singleton]
  exact Finset.sum_congr rfl fun t _ => mul_comm _ _

theorem ext_again : val_main_v178 (F := Ideal) x0 x2 x3 = val_main_v36 x0 x2 x3 := rfl
theorem dout_again : val_main_v152 (F := Ideal) x1 x5 = val_main_v62 x1 x5 :=
  funext fun i => by
    obtain ⟨t, j, rfl⟩ : ∃ (t : Tok) (j : Dim), i = ix2 t j := ⟨i 0, i 1, eq_ix2 i⟩
    rw [r_dout]
    pointwise [val_main_v152]
    rfl
theorem dconv_again : val_main_v153 (F := Ideal) x0 x1 x2 x3 x5 = val_main_v63 x0 x1 x2 x3 x5 := by
  rw [val_main_v153, dout_again]
  rfl
theorem dz_again : val_main_v170 (F := Ideal) x0 x1 x2 x3 x4 x5 = val_main_v100 x0 x1 x2 x3 x4 x5 := by
  rw [val_main_v170, val_main_v154, val_main_v168, val_main_v169, val_main_v167, val_main_v165, val_main_v164, val_main_v163,
    val_main_v161, val_main_v160, val_main_v159, val_main_v157, val_main_v156, dconv_again, dout_again]
  rfl

/-- The two results the reference computes from the projections' own copies of the stages. -/
theorem r_dz' (t : Tok) (n : Dim3) :
    val_main_v172 (F := Ideal) x0 x1 x2 x3 x4 x5 (ix2 t n) = dz (fz x0 x2 x3) (fcw x4) (fdy x1) (fwo x5) t n := by
  pointwise [val_main_v172]
  rw [dz_again, r_dz]

theorem r_out (t : Tok) (j : Dim) :
    val_main_v200 (F := Ideal) x0 x2 x3 x4 (ix2 t j) = out (fz x0 x2 x3) (fcw x4) t j := by
  pointwise [val_main_v173, val_main_v179, val_main_v180, val_main_v181, val_main_v182, val_main_v183, val_main_v184, val_main_v185,
    val_main_v186, val_main_v187, val_main_v188, val_main_v189, val_main_v190, val_main_v191, val_main_v192, val_main_v193,
    val_main_v194, val_main_v195, val_main_v196, val_main_v197, val_main_v198, val_main_v199, val_main_v200]
  rw [ext_again, r_lag0, r_lag1, r_lag2]
  rfl

end Conv.Ref
-- ==== Proof.Conv.Join.lean ====
/- What the host prepares for the kernel, and that the kernel's arrays are the reference's results of the same arguments. -/
module

public import proofs.«01_k».proof.Proof.Conv.Arrays
public import proofs.«01_k».proof.Proof.Conv.Ref
public import proofs.«01_k».proof.Defs

@[expose] public section

set_option maxRecDepth 16384

noncomputable section

namespace Conv

open Idealize Idealize.ShloMosaic Cert.KernelIdeal Cert.KernelIdeal.Gen

variable (m : (ℓ : Loc nD τ sig) → Buf (Elt Ideal) ℓ) (c : Dev nD)

/-- The launch memory's arguments. -/
abbrev in0 : Vec Ideal Cert.ReferenceIdeal.S16384x1024 .f32 := m ((c.tc : Thread nD τ).loc main_arg0)
abbrev in1 : Vec Ideal Cert.ReferenceIdeal.S16384x1024 .f32 := m ((c.tc : Thread nD τ).loc main_arg1)
abbrev in2 : Vec Ideal Cert.ReferenceIdeal.S1024 .f32 := m ((c.tc : Thread nD τ).loc main_arg2)
abbrev in3 : Vec Ideal Cert.ReferenceIdeal.S1024x3072 .f32 := m ((c.tc : Thread nD τ).loc main_arg3)
abbrev in4 : Vec Ideal Cert.ReferenceIdeal.S3x1024 .f32 := m ((c.tc : Thread nD τ).loc main_arg4)
abbrev in5 : Vec Ideal Cert.ReferenceIdeal.S1024x1024 .f32 := m ((c.tc : Thread nD τ).loc main_arg5)

theorem e_x : (args m c).x = Ref.fx (in0 m c) :=
  funext fun t => funext fun j => congrFun (V_main_arg0 m c) (ix2 t j)
theorem e_dy : (args m c).dy = Ref.fdy (in1 m c) :=
  funext fun t => funext fun j => congrFun (V_main_arg1 m c) (ix2 t j)
theorem e_cw : (args m c).cw = Ref.fcw (in4 m c) :=
  funext fun t => funext fun j => congrFun (V_main_arg4 m c) (ix2 t j)
theorem e_g : (args m c).g = Ref.fg (in2 m c) := funext fun j => by
  show V m c main_v15 (ix2 (0 : Fin 1) j) = _
  entry_read
  pointwise
theorem e_win : (args m c).win = Ref.fwin (in3 m c) := funext fun j => funext fun n => by
  show V m c main_v17 (ix2 n j) = _
  entry_read
  pointwise
theorem e_wo : (args m c).wo = Ref.fwo (in5 m c) := funext fun j => funext fun k => by
  show V m c main_v19 (ix2 k j) = _
  entry_read
  pointwise
theorem e_z : (args m c).z = Ref.fz (in0 m c) (in2 m c) (in3 m c) := funext fun t => funext fun n => by
  show V m c main_v14 (ix2 t n) = _
  entry_read
  rfl

open Cert.ReferenceIdeal.Read

theorem j_dx : (dats m 0 c).arrAt 10 cfg0.N
    = val_main_v122 (F := Ideal) (in0 m c) (in1 m c) (in2 m c) (in3 m c) (in4 m c) (in5 m c) := by
  rw [arr_dx, dhnOf, e_x, e_dy, e_g, e_z, e_cw, e_wo, e_win]
  funext i
  obtain ⟨t, j, rfl⟩ : ∃ (t : Tok) (j : Dim), i = ix2 t j := ⟨i 0, i 1, eq_ix2 i⟩
  rw [Ref.r_dx]
  rfl
theorem j_hn : (dats m 0 c).arrAt 11 cfg0.N = val_main_v171 (F := Ideal) (in0 m c) (in2 m c) := by
  rw [arr_hn, e_x, e_g]
  funext i
  obtain ⟨t, j, rfl⟩ : ∃ (t : Tok) (j : Dim), i = ix2 t j := ⟨i 0, i 1, eq_ix2 i⟩
  rw [Ref.r_hn]
  rfl
theorem j_dz : (dats m 0 c).arrAt 12 cfg0.N
    = val_main_v172 (F := Ideal) (in0 m c) (in1 m c) (in2 m c) (in3 m c) (in4 m c) (in5 m c) := by
  rw [arr_dz, e_dy, e_z, e_cw, e_wo]
  funext i
  obtain ⟨t, j, rfl⟩ : ∃ (t : Tok) (j : Dim3), i = ix2 t j := ⟨i 0, i 1, eq_ix2 i⟩
  rw [Ref.r_dz']
  rfl
theorem j_out : (dats m 0 c).arrAt 13 cfg0.N
    = val_main_v200 (F := Ideal) (in0 m c) (in2 m c) (in3 m c) (in4 m c) := by
  rw [arr_out, e_z, e_cw]
  funext i
  obtain ⟨t, j, rfl⟩ : ∃ (t : Tok) (j : Dim), i = ix2 t j := ⟨i 0, i 1, eq_ix2 i⟩
  rw [Ref.r_out]
  rfl
theorem j_dcw : (dats m 0 c).arrAt 14 cfg0.N
    = val_main_v95 (F := Ideal) (in0 m c) (in1 m c) (in2 m c) (in3 m c) (in5 m c) := by
  rw [arr_dcw, e_dy, e_z, e_wo]
  funext i
  obtain ⟨t, j, rfl⟩ : ∃ (t : Fin 3) (j : Dim), i = ix2 t j := ⟨i 0, i 1, eq_ix2 i⟩
  rw [Ref.r_dcw]
  rfl
theorem j_dg : (dats m 0 c).arrAt 15 cfg0.N
    = val_main_v201 (F := Ideal) (in0 m c) (in1 m c) (in2 m c) (in3 m c) (in4 m c) (in5 m c) := by
  rw [arr_dg, dhnOf, e_x, e_dy, e_z, e_cw, e_wo, e_win]
  funext i
  obtain ⟨t, j, rfl⟩ : ∃ (t : Fin 1) (j : Dim), i = ix2 t j := ⟨i 0, i 1, eq_ix2 i⟩
  obtain rfl : t = 0 := Subsingleton.elim _ _
  rw [Ref.r_dg]
  rfl

/-- The kernel's six arrays are the reference's six results. -/
theorem value : Cert.algebraic_KernelIdeal_ReferenceIdeal (hKernelIdeal := Cert.KernelIdeal.Gen.facts)
    (hReferenceIdeal := Cert.ReferenceIdeal.Gen.facts) := by
  intro m g m' g' _ hagree
  refine ⟨_, _, _, _, _, _, Cert.KernelIdeal.Value.run_blocks m g, ?_⟩
  refine (θ_run Cert.ReferenceIdeal.defs _ _).mono (fun r h c => ?_) (Cert.ReferenceIdeal.Value.run m' g')
  obtain ⟨h0, h1, h2, h3, h4, h5, ha⟩ := h c
  obtain ⟨a0, a1, a2, a3, a4, a5⟩ := hagree c
  have k0 : StableHlo.launchContents m' c (Proc.devRef .tc Cert.ReferenceIdeal.main_arg0) = in0 m c :=
    (StableHlo.launchContents_devRef m' c Cert.ReferenceIdeal.main_arg0).trans a0
  have k1 : StableHlo.launchContents m' c (Proc.devRef .tc Cert.ReferenceIdeal.main_arg1) = in1 m c :=
    (StableHlo.launchContents_devRef m' c Cert.ReferenceIdeal.main_arg1).trans a1
  have k2 : StableHlo.launchContents m' c (Proc.devRef .tc Cert.ReferenceIdeal.main_arg2) = in2 m c :=
    (StableHlo.launchContents_devRef m' c Cert.ReferenceIdeal.main_arg2).trans a2
  have k3 : StableHlo.launchContents m' c (Proc.devRef .tc Cert.ReferenceIdeal.main_arg3) = in3 m c :=
    (StableHlo.launchContents_devRef m' c Cert.ReferenceIdeal.main_arg3).trans a3
  have k4 : StableHlo.launchContents m' c (Proc.devRef .tc Cert.ReferenceIdeal.main_arg4) = in4 m c :=
    (StableHlo.launchContents_devRef m' c Cert.ReferenceIdeal.main_arg4).trans a4
  have k5 : StableHlo.launchContents m' c (Proc.devRef .tc Cert.ReferenceIdeal.main_arg5) = in5 m c :=
    (StableHlo.launchContents_devRef m' c Cert.ReferenceIdeal.main_arg5).trans a5
  refine ⟨h0.trans ?_, h1.trans ?_, h2.trans ?_, h3.trans ?_, h4.trans ?_, h5.trans ?_, ha⟩
  · refine (val_main_v122_eq _).trans (Eq.trans ?_ (j_dx m c).symm)
    simp only [k0, k1, k2, k3, k4, k5]
  · refine (val_main_v171_eq _).trans (Eq.trans ?_ (j_hn m c).symm)
    simp only [k0, k1, k2, k3, k4, k5]
  · refine (val_main_v172_eq _).trans (Eq.trans ?_ (j_dz m c).symm)
    simp only [k0, k1, k2, k3, k4, k5]
  · refine (val_main_v200_eq _).trans (Eq.trans ?_ (j_out m c).symm)
    simp only [k0, k1, k2, k3, k4, k5]
  · refine (val_main_v95_eq _).trans (Eq.trans ?_ (j_dcw m c).symm)
    simp only [k0, k1, k2, k3, k4, k5]
  · refine (val_main_v201_eq _).trans (Eq.trans ?_ (j_dg m c).symm)
    simp only [k0, k1, k2, k3, k4, k5]

end Conv

end
-- ==== Proof.Prod.Arrays.lean ====
/- The product of a tall array's transpose with another: each point adds 2048 tokens' share to its half of the columns. -/
module

public import proofs.«01_k».proof.Proof.Gen.Kernel2Ideal.Value
public import Idealize.ShloMosaic.Lib.Pipeline.ValueKit

@[expose] public section

set_option maxRecDepth 16384

noncomputable section

namespace Prod

open Idealize Idealize.ShloMosaic Cert.Kernel2Ideal Cert.Kernel2Ideal.Gen
open Idealize.ShloMosaic.Pipeline (Dat)

variable (m : (ℓ : Loc nD τ sig) → Buf (Elt Ideal) ℓ) (c : Dev nD)

/-- The two factors as the pipeline finds them. -/
abbrev lhs : Fin 16384 → Fin 1024 → EReal := fun t i => V m c main_arg0 (ix2 t i)
abbrev rhs : Fin 16384 → Fin 2816 → EReal := fun t j => V m c main_arg1 (ix2 t j)

/-- A token of a point, and a column of it. -/
abbrev tok (t : Fin cfg0.N) (s : Fin 2048) : Fin 16384 := ⟨t.val % 8 * 2048 + s.val, by omega⟩
abbrev col (t : Fin cfg0.N) (j : Fin 1408) : Fin 2816 :=
  ⟨t.val / 8 * 1408 + j.val, by have := Nat.lt_of_lt_of_eq t.isLt N_0; omega⟩

theorem idx0 : ∀ t : Fin cfg0.N, win0_0.index t = ![t.val % 8, 0] := (by decide +kernel : ∀ t : Fin grid0.N, _)
theorem idx1 : ∀ t : Fin cfg0.N, win0_1.index t = ![t.val % 8, t.val / 8] := (by decide +kernel : ∀ t : Fin grid0.N, _)
theorem idx2 : ∀ t : Fin cfg0.N, win0_2.index t = ![0, t.val / 8] := (by decide +kernel : ∀ t : Fin grid0.N, _)

theorem blk_lhs (t : Fin cfg0.N) (s : Fin 2048) (i : Fin 1024) : iblk m c 0 t (ix2 s i) = lhs m c (tok t s) i := by
  show _ = V m c main_arg0 (ix2 (tok t s) i)
  blk_ext [iblk, idx0 t]
theorem blk_rhs (t : Fin cfg0.N) (s : Fin 2048) (j : Fin 1408) :
    iblk m c 1 t (ix2 s j) = rhs m c (tok t s) (col t j) := by
  show _ = V m c main_arg1 (ix2 (tok t s) (col t j))
  blk_ext [iblk, idx1 t]

/-- What a point adds. -/
abbrev part (t : Fin cfg0.N) (y : S1024x1408.Idx) : EReal :=
  ∑ s : Fin 2048, lhs m c (tok t s) (y 0) * rhs m c (tok t s) (col t (y 1))

theorem at_first (t : Fin cfg0.N) (h : t.val % 8 = 0) (y : S1024x1408.Idx) :
    outsAt0 m c t.val t.isLt y = 0 + part m c t y := by
  obtain ⟨i, j, rfl⟩ : ∃ (i : Fin 1024) (j : Fin 1408), y = ix2 i j := ⟨y 0, y 1, eq_ix2 y⟩
  rw [outsAt0_A m c t h (by omega), zero_add]
  frame_out
  pointwise [k0_pay1]
  exact Finset.sum_congr rfl fun s _ => congrArg₂ (· * ·) (blk_lhs m c t s i) (blk_rhs m c t s j)

theorem at_step (t : Fin cfg0.N) (h : ¬t.val % 8 = 0) (y : S1024x1408.Idx) :
    outsAt0 m c t.val t.isLt y
      = outsAt0 m c (t.val - 1) (Nat.lt_of_le_of_lt (Nat.sub_le _ _) t.isLt) y + part m c t y := by
  obtain ⟨i, j, rfl⟩ : ∃ (i : Fin 1024) (j : Fin 1408), y = ix2 i j := ⟨y 0, y 1, eq_ix2 y⟩
  rw [outsAt0_B m c t h (by omega)]
  frame_out
  pointwise [k0_pay2, k0_pay1]
  exact congrArg (fun e : EReal => _ + e)
    (Finset.sum_congr rfl fun s _ => congrArg₂ (· * ·) (blk_lhs m c t s i) (blk_rhs m c t s j))

/-- After the whole grid. -/
theorem arr : (dats m 0 c).arrAt 2 cfg0.N
    = fun i : S1024x2816.Idx => ∑ t : Fin 16384, lhs m c t (i 0) * rhs m c t (i 1) := by
  refine (dats m 0 c).arrAt_eq_of_covers 2 _ (by decide +kernel) fun t hf y => ?_
  have hr : t.val % 8 = 7 := (flush0_2 t).mp hf
  have e := Pipeline.eq_sum_fin_of_reset_step_apply_of_flush (fun n h => outsAt0 m c n h) 8 (fun _ => 0)
    (part m c) (at_first m c) (at_step m c) t hr
  blk_simp
  rw [after0_2]
  obtain ⟨i, j, rfl⟩ : ∃ (i : Fin 1024) (j : Fin 1408), y = ix2 i j := ⟨y 0, y 1, eq_ix2 y⟩
  rw [show (win0_2.blk t).view.emb (ix2 i j) = ix2 i (col t j) by blk_ext [idx2 t]]
  refine (e (ix2 i j)).trans ((zero_add _).trans ?_)
  refine Fin.sum_mul_add_congr (L := 16384) (S := 8) (n := 2048) fun p s hl => ?_
  have hp : (8 * (t.val / 8) + p.val) % 8 = p.val := by omega
  have hq : (8 * (t.val / 8) + p.val) / 8 = t.val / 8 := by omega
  refine congrArg₂ (· * ·) (congrArg (fun u => lhs m c u i) (Fin.ext ?_))
    (congrArg₂ (rhs m c) (Fin.ext ?_) (Fin.ext ?_)) <;> simp only [hp, hq]
  rfl

end Prod

end
-- ==== Proof.Prod.Join.lean ====
/- The product is the reference's gradient of a projection's weight. -/
module

public import proofs.«01_k».proof.Proof.Prod.Arrays
public import proofs.«01_k».proof.Proof.Gen.Reference2Ideal.Run
public import proofs.«01_k».proof.Proof.Gen.Reference2Ideal.Read
public import proofs.«01_k».proof.Defs

@[expose] public section

set_option maxRecDepth 16384

noncomputable section

namespace Prod

open Idealize Idealize.ShloMosaic Cert.Kernel2Ideal Cert.Kernel2Ideal.Gen Cert.Reference2Ideal.Read

/-- The reference at an index: the two factors in the other order. -/
theorem ref_apply (a : Vec Ideal Cert.Reference2Ideal.S16384x1024 .bf16) (b : Vec Ideal Cert.Reference2Ideal.S16384x2816 .bf16)
    (i : Fin 1024) (j : Fin 2816) :
    val_main_v5 (F := Ideal) a b (ix2 i j) = ∑ t : Fin 16384, a (ix2 t i) * b (ix2 t j) := by
  pointwise [val_main_v5, val_main_v4, val_main_v3, val_main_v1]
  exact Finset.sum_congr rfl fun t _ => mul_comm (G := EReal) _ _

theorem value : Cert.algebraic_Kernel2Ideal_Reference2Ideal (hKernel2Ideal := Cert.Kernel2Ideal.Gen.facts)
    (hReference2Ideal := Cert.Reference2Ideal.Gen.facts) := by
  intro m g m' g' _ hagree
  refine ⟨_, Cert.Kernel2Ideal.Value.run_blocks m g, ?_⟩
  refine (θ_run Cert.Reference2Ideal.defs _ _).mono (fun r h c => ?_) (Cert.Reference2Ideal.Value.run m' g')
  obtain ⟨h0, ha⟩ := h c
  obtain ⟨a0, a1⟩ := hagree c
  refine ⟨h0.trans ?_, ha⟩
  refine (val_main_v5_eq _ _).trans ?_
  rw [a0, a1, arr]
  funext i
  obtain ⟨p, q, rfl⟩ : ∃ (p : Fin 1024) (q : Fin 2816), i = ix2 p q := ⟨i 0, i 1, eq_ix2 i⟩
  refine (ref_apply _ _ p q).trans (Finset.sum_congr rfl fun t _ => ?_)
  exact congrArg₂ (· * ·) (congrFun (V_main_arg0 m c) (ix2 t p)).symm (congrFun (V_main_arg1 m c) (ix2 t q)).symm

end Prod

end
-- ==== Proof.Half.Spec.lean ====
/- What a half step of the gated feed-forward layer computes, row by row, over the extended reals: the RMS norm with its scale
   `g`, the gate and up projections `wg` and `wu`, the product of the gate's SiLU and the up projection, the down projection `wd`. -/
module

public import proofs.«01_k».proof.Proof.Conv.Spec

@[expose] public section

noncomputable section

namespace Half

open Idealize.ShloMosaic Conv

/-- The hidden width. -/
abbrev Hid := Fin 2816

/-- The scaled normalised row. -/
def scaled (x : Tok → Dim → EReal) (g : Dim → EReal) (t : Tok) (j : Dim) : EReal := xhat x t j * g j

/-- The scaled row's product with a projection. -/
def proj (x : Tok → Dim → EReal) (g : Dim → EReal) (w : Dim → Hid → EReal) (t : Tok) (f : Hid) : EReal :=
  ∑ j : Dim, scaled x g t j * w j f

/-- The gate's SiLU times the up projection. -/
def act (a b : EReal) : EReal := a * Ideal.logistic a * b

/-- The half step. -/
def step (x : Tok → Dim → EReal) (g : Dim → EReal) (wg wu : Dim → Hid → EReal) (wd : Hid → Dim → EReal) (t : Tok)
    (j : Dim) : EReal :=
  x t j + Ideal.ofBits .f32 0x3F000000#32 * ∑ f : Hid, act (proj x g wg t f) (proj x g wu t f) * wd f j

end Half

end
-- ==== Proof.Back.Spec.lean ====
/- What the backward pass of a half step of the gated feed-forward layer computes, row by row, over the extended reals, from the
   saved projections `a` (gate) and `b` (up): the half step's incoming gradient `dy` through the down projection `wd`, the
   gate's SiLU, the projections `wg` and `wu` and the RMS norm. -/
module

public import proofs.«01_k».proof.Proof.Half.Spec

@[expose] public section

noncomputable section

namespace Back

open Idealize.ShloMosaic Conv Half

/-- Half the incoming gradient. -/
def dhalf (dy : Tok → Dim → EReal) (t : Tok) (j : Dim) : EReal := Ideal.ofBits .f32 0x3F000000#32 * dy t j

/-- The hidden rows' gradient. -/
def dhid (dy : Tok → Dim → EReal) (wd : Hid → Dim → EReal) (t : Tok) (f : Hid) : EReal := ∑ j : Dim, dhalf dy t j * wd f j

/-- The up projection's gradient, from the hidden row's gradient `d`. -/
def dup (a d : EReal) : EReal := d * (a * Ideal.logistic a)

/-- The gate's gradient: SiLU's derivative as one product. -/
def dgate (a b d : EReal) : EReal :=
  d * b * (Ideal.logistic a * (1 + a * (1 - Ideal.logistic a)))

/-- The gradient of the scaled normalised row. -/
def dn (a b : Tok → Hid → EReal) (dy : Tok → Dim → EReal) (wd : Hid → Dim → EReal) (wg wu : Dim → Hid → EReal)
    (t : Tok) (j : Dim) : EReal :=
  (∑ f : Hid, dgate (a t f) (b t f) (dhid dy wd t f) * wg j f) + ∑ f : Hid, dup (a t f) (dhid dy wd t f) * wu j f

end Back

end
-- ==== Proof.Back.Points.lean ====
/- What each of the 64 points leaves in its seven blocks: 256 tokens' rows, the hidden rows and their two gradients 256 columns
   at a time, and the point's part of the scale's gradient. -/
module

public import proofs.«01_k».proof.Proof.Gen.Kernel3Ideal.Value
public import proofs.«01_k».proof.Proof.Back.Spec
public import Idealize.ShloMosaic.Lib.Pipeline.ValueKit

@[expose] public section

set_option maxRecDepth 16384

noncomputable section

namespace Back

open Idealize Idealize.ShloMosaic Cert.Kernel3Ideal Cert.Kernel3Ideal.Gen Conv Half
open Idealize.ShloMosaic.Pipeline (Dat)

variable (m : (ℓ : Loc nD τ sig) → Buf (Elt Ideal) ℓ) (c : Dev nD)

/-- The arrays as the pipeline finds them. -/
abbrev bx : Tok → Dim → EReal := fun t j => V m c main_arg0 (ix2 t j)
abbrev bdy : Tok → Dim → EReal := fun t j => V m c main_arg1 (ix2 t j)
abbrev bg : Dim → EReal := fun j => V m c main_v13 (ix2 (0 : Fin 1) j)
abbrev bgate : Tok → Hid → EReal := fun t f => V m c main_v15 (ix2 t f)
abbrev bup : Tok → Hid → EReal := fun t f => V m c main_v17 (ix2 t f)
abbrev bwd : Hid → Dim → EReal := fun f j => V m c main_v19 (ix2 j f)
abbrev bwg : Dim → Hid → EReal := fun j f => V m c main_v21 (ix2 f j)
abbrev bwu : Dim → Hid → EReal := fun j f => V m c main_v23 (ix2 f j)
abbrev bdn : Tok → Dim → EReal := dn (bgate m c) (bup m c) (bdy m c) (bwd m c) (bwg m c) (bwu m c)

/-- Token `r` of a point. -/
abbrev row (t : Fin cfg0.N) (r : Fin 256) : Tok :=
  ⟨256 * t.val + r.val, by have := Nat.lt_of_lt_of_eq t.isLt N_0; omega⟩

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![t.val, 0] := (by decide +kernel : ∀ t : Fin grid0.N, _)
theorem idx13 : ∀ t : Fin cfg0.N, win0_13.index t = ![t.val, 0] := (by decide +kernel : ∀ t : Fin grid0.N, _)

theorem blk_x (t : Fin cfg0.N) (r : Fin 256) (j : Dim) : iblk m c 0 t (ix2 r j) = bx m c (row t r) j := by
  show _ = V m c main_arg0 (ix2 (row t r) j)
  blk_ext [iblk, idx0 t]
theorem blk_dy (t : Fin cfg0.N) (r : Fin 256) (j : Dim) : iblk m c 1 t (ix2 r j) = bdy m c (row t r) j := by
  show _ = V m c main_arg1 (ix2 (row t r) j)
  blk_ext [iblk, idx1 t]
theorem blk_g (t : Fin cfg0.N) (j : Dim) : iblk m c 2 t (ix2 (0 : Fin 1) j) = bg m c j := by
  show _ = V m c main_v13 (ix2 (0 : Fin 1) j)
  blk_ext [iblk, idx2 t]
theorem blk_gate (t : Fin cfg0.N) (r : Fin 256) (f : Hid) : iblk m c 3 t (ix2 r f) = bgate m c (row t r) f := by
  show _ = V m c main_v15 (ix2 (row t r) f)
  blk_ext [iblk, idx3 t]
theorem blk_up (t : Fin cfg0.N) (r : Fin 256) (f : Hid) : iblk m c 4 t (ix2 r f) = bup m c (row t r) f := by
  show _ = V m c main_v17 (ix2 (row t r) f)
  blk_ext [iblk, idx4 t]
theorem blk_wd (t : Fin cfg0.N) (j : Dim) (f : Hid) : iblk m c 5 t (ix2 j f) = bwd m c f j := by
  show _ = V m c main_v19 (ix2 j f)
  blk_ext [iblk, idx5 t]
theorem blk_wg (t : Fin cfg0.N) (f : Hid) (j : Dim) : iblk m c 6 t (ix2 f j) = bwg m c j f := by
  show _ = V m c main_v21 (ix2 f j)
  blk_ext [iblk, idx6 t]
theorem blk_wu (t : Fin cfg0.N) (f : Hid) (j : Dim) : iblk m c 7 t (ix2 f j) = bwu m c j f := by
  show _ = V m c main_v23 (ix2 f j)
  blk_ext [iblk, idx7 t]

/-- Indices of a block and of a stored piece that covers it. -/
theorem piece_idx {k : ℕ} (o : ℕ) (y : (⟨2, ![256, 2816]⟩ : Shape).Idx) (x : (⟨2, ![256, k]⟩ : Shape).Idx)
    (h0 : (y 0).val = (x 0).val) (h1 : (y 1).val = o + (x 1).val) :
    ∃ (r : Fin 256) (b : Fin k) (hb : o + b.val < 2816), y = ix2 r ⟨o + b.val, hb⟩ ∧ x = ix2 r b := by
  have hy : (y 1).val < 2816 := (y 1).isLt
  have h : o + (x 1).val < 2816 := by omega
  refine ⟨x 0, x 1, h, (eq_ix2 y).trans ?_, eq_ix2 x⟩
  rw [show y 0 = x 0 from Fin.ext h0, show y 1 = (⟨o + (x 1).val, h⟩ : Fin 2816) from Fin.ext h1]

/-- The normalised rows, scaled, … -/
theorem at_scaled (t : Fin cfg0.N) (r : Fin 256) (j : Dim) :
    (outsAt0 m c t.val t.isLt).2.1 (ix2 r j) = scaled (bx m c) (bg m c) (row t r) j := by
  have ht : t.val < 64 := Nat.lt_of_lt_of_eq t.isLt N_0
  by_cases h : t.val = 0
  on_goal 1 => rw [outsAt0_A m c t (by omega) (by omega)]
  on_goal 2 => rw [outsAt0_B m c t (by omega) (by omega)]
  all_goals frame_out
  all_goals pointwise [k0_pay2, k0_pay3, k0_pay4]
  all_goals simp only [blk_x, blk_g]
  all_goals rfl

/-- … half the incoming gradient, … -/
theorem at_half (t : Fin cfg0.N) (r : Fin 256) (j : Dim) :
    (outsAt0 m c t.val t.isLt).2.2.1 (ix2 r j) = dhalf (bdy m c) (row t r) j := by
  have ht : t.val < 64 := Nat.lt_of_lt_of_eq t.isLt N_0
  by_cases h : t.val = 0
  on_goal 1 => rw [outsAt0_A m c t (by omega) (by omega)]
  on_goal 2 => rw [outsAt0_B m c t (by omega) (by omega)]
  all_goals frame_out
  all_goals pointwise [k0_pay5]
  all_goals simp only [blk_dy]
  all_goals rfl

/-- … the hidden rows, … -/
theorem at_act_A (t : Fin cfg0.N) (h : t.val = 0) (y : S256x2816.Idx) :
    (outsAt0 m c t.val t.isLt).2.2.2.1 y = act (bgate m c (row t (y 0)) (y 1)) (bup m c (row t (y 0)) (y 1)) := by
  have ht : t.val < 64 := Nat.lt_of_lt_of_eq t.isLt N_0
  rw [outsAt0_A m c t (by omega) (by omega)]
  frame_out
  canon_tiles x hx
  all_goals
    first
    | obtain ⟨r, b, hb, rfl, rfl⟩ := piece_idx _ y x hx0 hx1
    | obtain ⟨r, b, hb, rfl, rfl⟩ := piece_idx 0 y x hx0 (hx1.trans (Nat.zero_add _).symm)
    pointwise [k0_pay2, k0_pay3, k0_pay4, k0_pay5, k0_pay6, k0_pay7, k0_pay8, k0_pay9, k0_pay10, k0_pay11, k0_pay12,
      k0_pay13, k0_pay14, k0_pay15, k0_pay16, k0_pay17, k0_pay18, k0_pay19, k0_pay20, k0_pay21, k0_pay22, k0_pay23, k0_pay24,
      k0_pay25, k0_pay26, k0_pay27, k0_pay28, k0_pay29, k0_pay30, k0_pay31, k0_pay32, k0_pay33, k0_pay34, k0_pay35, k0_pay36,
      k0_pay37, k0_pay38, k0_pay39, k0_pay40, k0_pay41, k0_pay42, k0_pay43, k0_pay44, k0_pay45, k0_pay46, k0_pay47, k0_pay48,
      k0_pay49, k0_pay50, k0_pay51, k0_pay52, k0_pay53, k0_pay54, k0_pay55, k0_pay56, k0_pay57, k0_pay58, k0_pay59, k0_pay60,
      k0_pay61, k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83, k0_pay84,
      k0_pay85, k0_pay86, k0_pay87, k0_pay88, k0_pay89, k0_pay90, k0_pay91, k0_pay92, k0_pay93, k0_pay94, k0_pay95, k0_pay96,
      k0_pay97]
    simp only [blk_gate, blk_up]
    rfl

theorem at_act_B (t : Fin cfg0.N) (h : 1 ≤ t.val) (y : S256x2816.Idx) :
    (outsAt0 m c t.val t.isLt).2.2.2.1 y = act (bgate m c (row t (y 0)) (y 1)) (bup m c (row t (y 0)) (y 1)) := by
  have ht : t.val < 64 := Nat.lt_of_lt_of_eq t.isLt N_0
  rw [outsAt0_B m c t (by omega) (by omega)]
  frame_out
  canon_tiles x hx
  all_goals
    first
    | obtain ⟨r, b, hb, rfl, rfl⟩ := piece_idx _ y x hx0 hx1
    | obtain ⟨r, b, hb, rfl, rfl⟩ := piece_idx 0 y x hx0 (hx1.trans (Nat.zero_add _).symm)
    pointwise [k0_pay2, k0_pay3, k0_pay4, k0_pay5, k0_pay6, k0_pay7, k0_pay8, k0_pay9, k0_pay10, k0_pay11, k0_pay12,
      k0_pay13, k0_pay14, k0_pay15, k0_pay16, k0_pay17, k0_pay18, k0_pay19, k0_pay20, k0_pay21, k0_pay22, k0_pay23, k0_pay24,
      k0_pay25, k0_pay26, k0_pay27, k0_pay28, k0_pay29, k0_pay30, k0_pay31, k0_pay32, k0_pay33, k0_pay34, k0_pay35, k0_pay36,
      k0_pay37, k0_pay38, k0_pay39, k0_pay40, k0_pay41, k0_pay42, k0_pay43, k0_pay44, k0_pay45, k0_pay46, k0_pay47, k0_pay48,
      k0_pay49, k0_pay50, k0_pay51, k0_pay52, k0_pay53, k0_pay54, k0_pay55, k0_pay56, k0_pay57, k0_pay58, k0_pay59, k0_pay60,
      k0_pay61, k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83, k0_pay84,
      k0_pay85, k0_pay86, k0_pay87, k0_pay88, k0_pay89, k0_pay90, k0_pay91, k0_pay92, k0_pay93, k0_pay94, k0_pay95, k0_pay96,
      k0_pay97]
    simp only [blk_gate, blk_up]
    rfl

/-- … the gate's gradient … -/
theorem at_dgate_A (t : Fin cfg0.N) (h : t.val = 0) (y : S256x2816.Idx) :
    (outsAt0 m c t.val t.isLt).2.2.2.2.1 y = dgate (bgate m c (row t (y 0)) (y 1)) (bup m c (row t (y 0)) (y 1))
      (dhid (bdy m c) (bwd m c) (row t (y 0)) (y 1)) := by
  have ht : t.val < 64 := Nat.lt_of_lt_of_eq t.isLt N_0
  rw [outsAt0_A m c t (by omega) (by omega)]
  frame_out
  canon_tiles x hx
  all_goals
    first
    | obtain ⟨r, b, hb, rfl, rfl⟩ := piece_idx _ y x hx0 hx1
    | obtain ⟨r, b, hb, rfl, rfl⟩ := piece_idx 0 y x hx0 (hx1.trans (Nat.zero_add _).symm)
    pointwise [k0_pay2, k0_pay3, k0_pay4, k0_pay5, k0_pay6, k0_pay7, k0_pay8, k0_pay9, k0_pay10, k0_pay11, k0_pay12,
      k0_pay13, k0_pay14, k0_pay15, k0_pay16, k0_pay17, k0_pay18, k0_pay19, k0_pay20, k0_pay21, k0_pay22, k0_pay23, k0_pay24,
      k0_pay25, k0_pay26, k0_pay27, k0_pay28, k0_pay29, k0_pay30, k0_pay31, k0_pay32, k0_pay33, k0_pay34, k0_pay35, k0_pay36,
      k0_pay37, k0_pay38, k0_pay39, k0_pay40, k0_pay41, k0_pay42, k0_pay43, k0_pay44, k0_pay45, k0_pay46, k0_pay47, k0_pay48,
      k0_pay49, k0_pay50, k0_pay51, k0_pay52, k0_pay53, k0_pay54, k0_pay55, k0_pay56, k0_pay57, k0_pay58, k0_pay59, k0_pay60,
      k0_pay61, k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83, k0_pay84,
      k0_pay85, k0_pay86, k0_pay87, k0_pay88, k0_pay89, k0_pay90, k0_pay91, k0_pay92, k0_pay93, k0_pay94, k0_pay95, k0_pay96,
      k0_pay97]
    simp only [blk_dy, blk_gate, blk_up, blk_wd]
    rfl

theorem at_dgate_B (t : Fin cfg0.N) (h : 1 ≤ t.val) (y : S256x2816.Idx) :
    (outsAt0 m c t.val t.isLt).2.2.2.2.1 y = dgate (bgate m c (row t (y 0)) (y 1)) (bup m c (row t (y 0)) (y 1))
      (dhid (bdy m c) (bwd m c) (row t (y 0)) (y 1)) := by
  have ht : t.val < 64 := Nat.lt_of_lt_of_eq t.isLt N_0
  rw [outsAt0_B m c t (by omega) (by omega)]
  frame_out
  canon_tiles x hx
  all_goals
    first
    | obtain ⟨r, b, hb, rfl, rfl⟩ := piece_idx _ y x hx0 hx1
    | obtain ⟨r, b, hb, rfl, rfl⟩ := piece_idx 0 y x hx0 (hx1.trans (Nat.zero_add _).symm)
    pointwise [k0_pay2, k0_pay3, k0_pay4, k0_pay5, k0_pay6, k0_pay7, k0_pay8, k0_pay9, k0_pay10, k0_pay11, k0_pay12,
      k0_pay13, k0_pay14, k0_pay15, k0_pay16, k0_pay17, k0_pay18, k0_pay19, k0_pay20, k0_pay21, k0_pay22, k0_pay23, k0_pay24,
      k0_pay25, k0_pay26, k0_pay27, k0_pay28, k0_pay29, k0_pay30, k0_pay31, k0_pay32, k0_pay33, k0_pay34, k0_pay35, k0_pay36,
      k0_pay37, k0_pay38, k0_pay39, k0_pay40, k0_pay41, k0_pay42, k0_pay43, k0_pay44, k0_pay45, k0_pay46, k0_pay47, k0_pay48,
      k0_pay49, k0_pay50, k0_pay51, k0_pay52, k0_pay53, k0_pay54, k0_pay55, k0_pay56, k0_pay57, k0_pay58, k0_pay59, k0_pay60,
      k0_pay61, k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83, k0_pay84,
      k0_pay85, k0_pay86, k0_pay87, k0_pay88, k0_pay89, k0_pay90, k0_pay91, k0_pay92, k0_pay93, k0_pay94, k0_pay95, k0_pay96,
      k0_pay97]
    simp only [blk_dy, blk_gate, blk_up, blk_wd]
    rfl

/-- … and the up projection's. -/
theorem at_dup_A (t : Fin cfg0.N) (h : t.val = 0) (y : S256x2816.Idx) :
    (outsAt0 m c t.val t.isLt).2.2.2.2.2.1 y = dup (bgate m c (row t (y 0)) (y 1))
      (dhid (bdy m c) (bwd m c) (row t (y 0)) (y 1)) := by
  have ht : t.val < 64 := Nat.lt_of_lt_of_eq t.isLt N_0
  rw [outsAt0_A m c t (by omega) (by omega)]
  frame_out
  canon_tiles x hx
  all_goals
    first
    | obtain ⟨r, b, hb, rfl, rfl⟩ := piece_idx _ y x hx0 hx1
    | obtain ⟨r, b, hb, rfl, rfl⟩ := piece_idx 0 y x hx0 (hx1.trans (Nat.zero_add _).symm)
    pointwise [k0_pay2, k0_pay3, k0_pay4, k0_pay5, k0_pay6, k0_pay7, k0_pay8, k0_pay9, k0_pay10, k0_pay11, k0_pay12,
      k0_pay13, k0_pay14, k0_pay15, k0_pay16, k0_pay17, k0_pay18, k0_pay19, k0_pay20, k0_pay21, k0_pay22, k0_pay23, k0_pay24,
      k0_pay25, k0_pay26, k0_pay27, k0_pay28, k0_pay29, k0_pay30, k0_pay31, k0_pay32, k0_pay33, k0_pay34, k0_pay35, k0_pay36,
      k0_pay37, k0_pay38, k0_pay39, k0_pay40, k0_pay41, k0_pay42, k0_pay43, k0_pay44, k0_pay45, k0_pay46, k0_pay47, k0_pay48,
      k0_pay49, k0_pay50, k0_pay51, k0_pay52, k0_pay53, k0_pay54, k0_pay55, k0_pay56, k0_pay57, k0_pay58, k0_pay59, k0_pay60,
      k0_pay61, k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83, k0_pay84,
      k0_pay85, k0_pay86, k0_pay87, k0_pay88, k0_pay89, k0_pay90, k0_pay91, k0_pay92, k0_pay93, k0_pay94, k0_pay95, k0_pay96,
      k0_pay97]
    simp only [blk_dy, blk_gate, blk_wd]
    rfl

theorem at_dup_B (t : Fin cfg0.N) (h : 1 ≤ t.val) (y : S256x2816.Idx) :
    (outsAt0 m c t.val t.isLt).2.2.2.2.2.1 y = dup (bgate m c (row t (y 0)) (y 1))
      (dhid (bdy m c) (bwd m c) (row t (y 0)) (y 1)) := by
  have ht : t.val < 64 := Nat.lt_of_lt_of_eq t.isLt N_0
  rw [outsAt0_B m c t (by omega) (by omega)]
  frame_out
  canon_tiles x hx
  all_goals
    first
    | obtain ⟨r, b, hb, rfl, rfl⟩ := piece_idx _ y x hx0 hx1
    | obtain ⟨r, b, hb, rfl, rfl⟩ := piece_idx 0 y x hx0 (hx1.trans (Nat.zero_add _).symm)
    pointwise [k0_pay2, k0_pay3, k0_pay4, k0_pay5, k0_pay6, k0_pay7, k0_pay8, k0_pay9, k0_pay10, k0_pay11, k0_pay12,
      k0_pay13, k0_pay14, k0_pay15, k0_pay16, k0_pay17, k0_pay18, k0_pay19, k0_pay20, k0_pay21, k0_pay22, k0_pay23, k0_pay24,
      k0_pay25, k0_pay26, k0_pay27, k0_pay28, k0_pay29, k0_pay30, k0_pay31, k0_pay32, k0_pay33, k0_pay34, k0_pay35, k0_pay36,
      k0_pay37, k0_pay38, k0_pay39, k0_pay40, k0_pay41, k0_pay42, k0_pay43, k0_pay44, k0_pay45, k0_pay46, k0_pay47, k0_pay48,
      k0_pay49, k0_pay50, k0_pay51, k0_pay52, k0_pay53, k0_pay54, k0_pay55, k0_pay56, k0_pay57, k0_pay58, k0_pay59, k0_pay60,
      k0_pay61, k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83, k0_pay84,
      k0_pay85, k0_pay86, k0_pay87, k0_pay88, k0_pay89, k0_pay90, k0_pay91, k0_pay92, k0_pay93, k0_pay94, k0_pay95, k0_pay96,
      k0_pay97]
    simp only [blk_dy, blk_gate, blk_wd]
    rfl

/-- The norm's backward pass, from the two gradients read back. -/
theorem dn_row (t : Fin cfg0.N) (p q : Vec Ideal S256x2816 .bf16)
    (hp : ∀ r f, p (ix2 r f) = dgate (bgate m c (row t r) f) (bup m c (row t r) f) (dhid (bdy m c) (bwd m c) (row t r) f))
    (hq : ∀ r f, q (ix2 r f) = dup (bgate m c (row t r) f) (dhid (bdy m c) (bwd m c) (row t r) f)) (r : Fin 256) (j : Dim) :
    k0_pay98 (k0_pay97 p) (iblk m c 6 t) q (iblk m c 7 t) (ix2 r j) = bdn m c (row t r) j := by
  pointwise [k0_pay97, k0_pay98]
  simp only [hp, hq, blk_wg, blk_wu]
  rfl

theorem dx_row (t : Fin cfg0.N) (p q : Vec Ideal S256x2816 .bf16)
    (hp : ∀ r f, p (ix2 r f) = dgate (bgate m c (row t r) f) (bup m c (row t r) f) (dhid (bdy m c) (bwd m c) (row t r) f))
    (hq : ∀ r f, q (ix2 r f) = dup (bgate m c (row t r) f) (dhid (bdy m c) (bwd m c) (row t r) f)) (r : Fin 256) (j : Dim) :
    k0_pay99 (k0_pay2 (iblk m c 0 t)) (k0_pay3 (iblk m c 0 t)) (iblk m c 1 t) (k0_pay97 p) (iblk m c 6 t) q (iblk m c 7 t)
      (iblk m c 2 t) (ix2 r j) = dx (bx m c) (bdy m c) (bg m c) (bdn m c) (row t r) j := by
  pointwise [k0_pay2, k0_pay3, k0_pay99]
  simp only [dn_row m c t p q hp hq, blk_x, blk_dy, blk_g]
  rfl

/-- A point's part of the scale's gradient. -/
def partScale (t : Fin cfg0.N) (i : S1x1024.Idx) : EReal :=
  ∑ r : Fin 256, bdn m c (row t r) (i 1) * xhat (bx m c) (row t r) (i 1)

theorem scale_row (t : Fin cfg0.N) (p q : Vec Ideal S256x2816 .bf16)
    (hp : ∀ r f, p (ix2 r f) = dgate (bgate m c (row t r) f) (bup m c (row t r) f) (dhid (bdy m c) (bwd m c) (row t r) f))
    (hq : ∀ r f, q (ix2 r f) = dup (bgate m c (row t r) f) (dhid (bdy m c) (bwd m c) (row t r) f)) (j : Dim) :
    k0_pay100 (k0_pay3 (iblk m c 0 t)) (k0_pay97 p) (iblk m c 6 t) q (iblk m c 7 t) (ix2 (0 : Fin 1) j)
      = partScale m c t (ix2 (0 : Fin 1) j) := by
  pointwise [k0_pay2, k0_pay3, k0_pay100]
  simp only [dn_row m c t p q hp hq, blk_x]
  rfl

/-- The rows' gradient, at the first point and at the others. -/
theorem at_dx_A (t : Fin cfg0.N) (h : t.val = 0) (r : Fin 256) (j : Dim) :
    (outsAt0 m c t.val t.isLt).1 (ix2 r j) = dx (bx m c) (bdy m c) (bg m c) (bdn m c) (row t r) j := by
  have ht : t.val < 64 := Nat.lt_of_lt_of_eq t.isLt N_0
  have e1 := at_dgate_A m c t h
  have e2 := at_dup_A m c t h
  rw [outsAt0_A m c t (by omega) (by omega)] at e1 e2 ⊢
  frame_out
  frame_out at e1
  frame_out at e2
  refine dx_row m c t _ _ (fun r f => ?_) (fun r f => ?_) r j
  · refine ((congrFun (View.readCov_eq_canon' _ _ _) _).trans ?_).trans (e1 (ix2 r f))
    refine congrArg (View.canon _) (?_ : _ = ix2 r f)
    blk_ext
    all_goals simp [LoadRect.idx, Rect.unit]
  · refine ((congrFun (View.readCov_eq_canon' _ _ _) _).trans ?_).trans (e2 (ix2 r f))
    refine congrArg (View.canon _) (?_ : _ = ix2 r f)
    blk_ext
    all_goals simp [LoadRect.idx, Rect.unit]

theorem at_dx_B (t : Fin cfg0.N) (h : 1 ≤ t.val) (r : Fin 256) (j : Dim) :
    (outsAt0 m c t.val t.isLt).1 (ix2 r j) = dx (bx m c) (bdy m c) (bg m c) (bdn m c) (row t r) j := by
  have ht : t.val < 64 := Nat.lt_of_lt_of_eq t.isLt N_0
  have e1 := at_dgate_B m c t h
  have e2 := at_dup_B m c t h
  rw [outsAt0_B m c t (by omega) (by omega)] at e1 e2 ⊢
  frame_out
  frame_out at e1
  frame_out at e2
  refine dx_row m c t _ _ (fun r f => ?_) (fun r f => ?_) r j
  · refine ((congrFun (View.readCov_eq_canon' _ _ _) _).trans ?_).trans (e1 (ix2 r f))
    refine congrArg (View.canon _) (?_ : _ = ix2 r f)
    blk_ext
    all_goals simp [LoadRect.idx, Rect.unit]
  · refine ((congrFun (View.readCov_eq_canon' _ _ _) _).trans ?_).trans (e2 (ix2 r f))
    refine congrArg (View.canon _) (?_ : _ = ix2 r f)
    blk_ext
    all_goals simp [LoadRect.idx, Rect.unit]

/-- The accumulated scale's gradient: the first point stores its part, the others add theirs. -/
theorem first_scale (t : Fin cfg0.N) (h : t.val % 64 = 0) (y : S1x1024.Idx) :
    (outsAt0 m c t.val t.isLt).2.2.2.2.2.2 y = 0 + partScale m c t y := by
  have ht : t.val < 64 := Nat.lt_of_lt_of_eq t.isLt N_0
  have e1 := at_dgate_A m c t (by omega)
  have e2 := at_dup_A m c t (by omega)
  rw [outsAt0_A m c t (by omega) (by omega)] at e1 e2 ⊢
  rw [zero_add]
  frame_out
  frame_out at e1
  frame_out at e2
  obtain ⟨j, rfl⟩ : ∃ j : Dim, y = ix2 (0 : Fin 1) j :=
    ⟨y 1, (eq_ix2 y).trans (by rw [show y 0 = (0 : Fin 1) from Subsingleton.elim (α := Fin 1) _ _])⟩
  refine scale_row m c t _ _ (fun r f => ?_) (fun r f => ?_) j
  · refine ((congrFun (View.readCov_eq_canon' _ _ _) _).trans ?_).trans (e1 (ix2 r f))
    refine congrArg (View.canon _) (?_ : _ = ix2 r f)
    blk_ext
    all_goals simp [LoadRect.idx, Rect.unit]
  · refine ((congrFun (View.readCov_eq_canon' _ _ _) _).trans ?_).trans (e2 (ix2 r f))
    refine congrArg (View.canon _) (?_ : _ = ix2 r f)
    blk_ext
    all_goals simp [LoadRect.idx, Rect.unit]

theorem step_scale (t : Fin cfg0.N) (h : ¬ t.val % 64 = 0) (y : S1x1024.Idx) :
    (outsAt0 m c t.val t.isLt).2.2.2.2.2.2 y
      = (outsAt0 m c (t.val - 1) (Nat.lt_of_le_of_lt (Nat.sub_le _ _) t.isLt)).2.2.2.2.2.2 y + partScale m c t y := by
  have e1 := at_dgate_B m c t (by omega)
  have e2 := at_dup_B m c t (by omega)
  rw [outsAt0_B m c t (by omega) (by omega)] at e1 e2 ⊢
  frame_out
  frame_out at e1
  frame_out at e2
  obtain ⟨j, rfl⟩ : ∃ j : Dim, y = ix2 (0 : Fin 1) j :=
    ⟨y 1, (eq_ix2 y).trans (by rw [show y 0 = (0 : Fin 1) from Subsingleton.elim (α := Fin 1) _ _])⟩
  pointwise [k0_pay1]
  refine congrArg₂ (fun a b : EReal => a + b) rfl ?_
  refine scale_row m c t _ _ (fun r f => ?_) (fun r f => ?_) j
  · refine ((congrFun (View.readCov_eq_canon' _ _ _) _).trans ?_).trans (e1 (ix2 r f))
    refine congrArg (View.canon _) (?_ : _ = ix2 r f)
    blk_ext
    all_goals simp [LoadRect.idx, Rect.unit]
  · refine ((congrFun (View.readCov_eq_canon' _ _ _) _).trans ?_).trans (e2 (ix2 r f))
    refine congrArg (View.canon _) (?_ : _ = ix2 r f)
    blk_ext
    all_goals simp [LoadRect.idx, Rect.unit]

end Back

end
-- ==== Proof.Back.Algebra.lean ====
/- The one equation of the gated layer's backward pass that is not an equality of terms: SiLU's derivative, one product in a kernel,
   two rules' sum in the reference. It holds over the extended reals for every gate, given that what it multiplies is a real;
   and that is a real for every row of inputs, given that the gradient, the scale and the two projections have real entries. -/
module

public import proofs.«01_k».proof.Proof.Back.Spec
public import proofs.«01_k».proof.Proof.Conv.Algebra

@[expose] public section

noncomputable section

namespace Back

open Idealize.ShloMosaic Conv Half

/-- An extended real that is a real. -/
def Real' (a : EReal) : Prop := ∃ r : ℝ, a = r

theorem Real'.mul {a b : EReal} : Real' a → Real' b → Real' (a * b) := by
  rintro ⟨r, rfl⟩ ⟨s, rfl⟩
  exact ⟨r * s, (EReal.coe_mul r s).symm⟩

theorem Real'.sum {n : ℕ} {f : Fin n → EReal} (h : ∀ k, Real' (f k)) : Real' (∑ k, f k) := by
  choose r hr using h
  exact ⟨∑ k, r k, by rw [coe_sum]; exact Finset.sum_congr rfl fun k _ => hr k⟩

/-- An extended real whose magnitude is less than infinity. -/
theorem Real'.of_abs_lt {a : EReal} (h : max a (-a) < ⊤) : Real' a := by
  induction a with
  | bot => simp at h
  | top => simp at h
  | coe r => exact ⟨r, rfl⟩

theorem half_real : Real' (Ideal.ofBits .f32 0x3F000000#32) := by
  refine ⟨1 / 2, ?_⟩
  simp [Ideal.ofBits, Ideal.ieee, -EReal.coe_mul]; norm_num

/-- A normalised entry is a real for every row: an infinite entry makes the row's reciprocal root zero. -/
theorem xhat_real (x : Tok → Dim → EReal) (t : Tok) (j : Dim) : Real' (xhat x t j) := by
  obtain ⟨e, he, hε⟩ := eps_pos
  by_cases hx : ∀ k, Real' (x t k)
  · refine (hx j).mul ?_
    choose y hy using hx
    have hs : ∑ k, x t k * x t k = ((∑ k, y k * y k : ℝ) : EReal) := by
      rw [coe_sum]
      exact Finset.sum_congr rfl fun k _ => by rw [hy k, EReal.coe_mul]
    have hpos : 0 < (∑ k, y k * y k) * (1 / 1024) + e := by
      have : 0 ≤ ∑ k, y k * y k := Finset.sum_nonneg fun k _ => mul_self_nonneg _
      positivity
    rw [rstd, hs, inv1024, hε, ← EReal.coe_mul, ← EReal.coe_add, Ideal.rsqrt_coe, if_neg (not_lt.mpr hpos.le), if_neg hpos.ne']
    exact ⟨_, rfl⟩
  · push Not at hx
    obtain ⟨i, hi⟩ := hx
    have hi' : x t i = ⊤ ∨ x t i = ⊥ := by
      induction hxi : x t i with
      | bot => exact Or.inr rfl
      | top => exact Or.inl rfl
      | coe v => exact absurd ⟨v, hxi⟩ hi
    refine ⟨0, ?_⟩
    rw [xhat, rstd, sum_sq_top (x t) i hi', inv1024, hε, EReal.top_mul_coe_of_pos (by norm_num), EReal.top_add_coe,
      Ideal.rsqrt_top, mul_zero, EReal.coe_zero]

/-- A projected normalised row's entry, … -/
theorem proj_real (x : Tok → Dim → EReal) (g : Dim → EReal) (w : Dim → Hid → EReal) (hg : ∀ j, Real' (g j))
    (hw : ∀ j f, Real' (w j f)) (t : Tok) (f : Hid) : Real' (proj x g w t f) :=
  Real'.sum fun j => ((xhat_real x t j).mul (hg j)).mul (hw j f)

/-- … a hidden row's gradient. -/
theorem dhid_real (dy : Tok → Dim → EReal) (wd : Hid → Dim → EReal) (hd : ∀ t j, Real' (dy t j)) (hw : ∀ f j, Real' (wd f j))
    (t : Tok) (f : Hid) : Real' (dhid dy wd t f) :=
  Real'.sum fun j => (half_real.mul (hd t j)).mul (hw f j)

/-- SILU'S DERIVATIVE: of `a · σ(a)`, times the real `u`. -/
theorem silu_bwd (a u : EReal) (hu : Real' u) :
    u * (Ideal.logistic a * (1 + a * (1 - Ideal.logistic a)))
      = u * Ideal.logistic a + a * u * (Ideal.logistic a * (1 - Ideal.logistic a)) := by
  obtain ⟨r, rfl⟩ := hu
  induction a with
  | bot => simp
  | top =>
    have h : (1 : EReal) - 1 = 0 := by rw [← EReal.coe_one, ← EReal.coe_sub, sub_self, EReal.coe_zero]
    simp [h]
  | coe s =>
    rw [Ideal.logistic_coe]
    generalize (1 + Real.exp (-s))⁻¹ = q
    rw [← EReal.coe_one]
    simp only [← EReal.coe_sub, ← EReal.coe_mul, ← EReal.coe_add]
    exact congrArg _ (by ring)

end Back

end
-- ==== Proof.Back.Ref.lean ====
/- What the reference of the gated layer's backward pass computes, read at a token and a column. -/
module

public import proofs.«01_k».proof.Proof.Gen.Reference3Ideal.Read
public import proofs.«01_k».proof.Proof.Back.Algebra
public import proofs.«01_k».proof.Proof.Conv.Ref

@[expose] public section

set_option maxRecDepth 16384

noncomputable section

namespace Back.Ref

open Idealize Idealize.ShloMosaic Cert.Reference3Ideal Cert.Reference3Ideal.Gen Cert.Reference3Ideal.Read Conv Half
open Conv.Ref (mean_of)

variable (x0 x1 : Vec Ideal S16384x1024 .f32) (x2 : Vec Ideal S1024 .f32) (x3 x4 : Vec Ideal S1024x2816 .f32)
  (x5 : Vec Ideal S2816x1024 .f32)

/-- The arguments as functions of their coordinates, and the two projections. -/
abbrev fx (t : Tok) (j : Dim) : EReal := x0 (ix2 t j)
abbrev fg (j : Dim) : EReal := x2 (ix1 j)
abbrev fw (w : Vec Ideal S1024x2816 .f32) (j : Dim) (f : Hid) : EReal := w (ix2 j f)
abbrev fwd (f : Hid) (j : Dim) : EReal := x5 (ix2 f j)
abbrev fgate (t : Tok) (f : Hid) : EReal := val_main_v13 (F := Ideal) x0 x2 x3 (ix2 t f)
abbrev fup (t : Tok) (f : Hid) : EReal := val_main_v14 (F := Ideal) x0 x2 x4 (ix2 t f)
abbrev fdn : Tok → Dim → EReal :=
  dn (fgate x0 x2 x3) (fup x0 x2 x4) (fx x1) (fwd x5) (fw x3) (fw x4)

/-- The arguments whose entries must be reals. -/
structure Finite : Prop where
  dy : ∀ t j, Real' (fx x1 t j)
  g : ∀ j, Real' (fg x2 j)
  wu : ∀ j f, Real' (fw x4 j f)
  wd : ∀ f j, Real' (fwd x5 f j)

theorem r_scaled (t : Tok) (j : Dim) : val_main_v12 (F := Ideal) x0 x2 (ix2 t j) = scaled (fx x0) (fg x2) t j := by
  pointwise [val_main_v0, val_main_v1, val_main_v2, val_main_v3, val_main_v4, val_main_v5, val_main_v6, val_main_v7,
    val_main_v8, val_main_v9, val_main_v10, val_main_v11, val_main_v12, val_main_cst, val_main_cst_0, val_main_cst_1]
  rw [scaled, xhat, rstd, mean_of]

theorem r_scaled' (t : Tok) (j : Dim) : val_main_v81 (F := Ideal) x0 x2 (ix2 t j) = scaled (fx x0) (fg x2) t j := by
  pointwise [val_main_v81]
  rw [r_scaled]

theorem r_up (t : Tok) (f : Hid) : fup x0 x2 x4 t f = proj (fx x0) (fg x2) (fw x4) t f := by
  show val_main_v14 (F := Ideal) x0 x2 x4 (ix2 t f) = _
  pointwise [val_main_v14]
  exact Finset.sum_congr rfl fun j _ => by rw [r_scaled]

/-- The projections, computed a second time. -/
theorem gate_again : val_main_v31 (F := Ideal) x0 x2 x3 = val_main_v13 x0 x2 x3 := rfl
theorem up_again : val_main_v32 (F := Ideal) x0 x2 x4 = val_main_v14 x0 x2 x4 := rfl

theorem r_half (t : Tok) (j : Dim) : val_main_v84 (F := Ideal) x1 (ix2 t j) = dhalf (fx x1) t j := by
  pointwise [val_main_v82, val_main_v83, val_main_v84, val_main_cst_15]
  rfl

theorem r_dhid (t : Tok) (f : Hid) : val_main_v42 (F := Ideal) x1 x5 (ix2 t f) = dhid (fx x1) (fwd x5) t f := by
  pointwise [val_main_v39, val_main_v40, val_main_v41, val_main_v42, val_main_cst_7]
  rfl
theorem r_dhid' (t : Tok) (f : Hid) : val_main_v77 (F := Ideal) x1 x5 (ix2 t f) = dhid (fx x1) (fwd x5) t f := by
  pointwise [val_main_v75, val_main_v76, val_main_v77, val_main_cst_14]
  rfl

theorem r_sig (t : Tok) (f : Hid) :
    val_main_v33_2 (F := Ideal) x0 x2 x3 (ix2 t f) = Ideal.logistic (fgate x0 x2 x3 t f) := by
  pointwise [val_main_call0_v0, val_main_call0_v1, val_main_call0_v2, val_main_call0_v3, val_main_call0_v4, val_main_call0_cst,
    val_main_call0_cst_0, val_main_v33_2]
  rw [gate_again, Ideal.logistic]
theorem r_sig' (t : Tok) (f : Hid) :
    val_main_v70_2 (F := Ideal) x0 x2 x3 (ix2 t f) = Ideal.logistic (fgate x0 x2 x3 t f) := by
  pointwise [val_main_call2_v0, val_main_call2_v1, val_main_call2_v2, val_main_call2_v3, val_main_call2_v4, val_main_call2_cst,
    val_main_call2_cst_0, val_main_v70_2]
  rw [Ideal.logistic]

theorem r_dup (t : Tok) (f : Hid) : val_main_v43 (F := Ideal) x0 x1 x2 x3 x5 (ix2 t f)
    = dup (fgate x0 x2 x3 t f) (dhid (fx x1) (fwd x5) t f) := by
  pointwise [val_main_v43, val_main_v33_0]
  rw [r_sig, r_dhid, gate_again, dup, mul_comm]
theorem r_dup' (t : Tok) (f : Hid) : val_main_v89 (F := Ideal) x0 x1 x2 x3 x5 (ix2 t f)
    = dup (fgate x0 x2 x3 t f) (dhid (fx x1) (fwd x5) t f) := by
  pointwise [val_main_v78, val_main_v89, val_main_v70_0]
  rw [r_sig', r_dhid', dup, mul_comm]

theorem real_dhid_up (h : Finite x1 x2 x4 x5) (t : Tok) (f : Hid) :
    Real' (dhid (fx x1) (fwd x5) t f * fup x0 x2 x4 t f) := by
  rw [r_up]
  exact (dhid_real _ _ h.dy h.wd t f).mul (proj_real _ _ _ h.g h.wu t f)

theorem r_dgate (h : Finite x1 x2 x4 x5) (t : Tok) (f : Hid) : val_main_v45 (F := Ideal) x0 x1 x2 x3 x4 x5 (ix2 t f)
    = dgate (fgate x0 x2 x3 t f) (fup x0 x2 x4 t f) (dhid (fx x1) (fwd x5) t f) := by
  rw [dgate, silu_bwd _ _ (real_dhid_up x0 x1 x2 x4 x5 h t f)]
  pointwise [val_main_v44, val_main_v45, val_main_call1_v0, val_main_call1_v1, val_main_call1_v2, val_main_v33_1,
    val_main_call0_v6, val_main_call0_v7, val_main_call0_cst_1]
  rw [r_sig, r_dhid, gate_again, up_again]
theorem r_dgate' (h : Finite x1 x2 x4 x5) (t : Tok) (f : Hid) : val_main_v88 (F := Ideal) x0 x1 x2 x3 x4 x5 (ix2 t f)
    = dgate (fgate x0 x2 x3 t f) (fup x0 x2 x4 t f) (dhid (fx x1) (fwd x5) t f) := by
  rw [dgate, silu_bwd _ _ (real_dhid_up x0 x1 x2 x4 x5 h t f)]
  pointwise [val_main_v79, val_main_v80, val_main_v88, val_main_call3_v0, val_main_call3_v1, val_main_call3_v2, val_main_v70_1,
    val_main_call2_v6, val_main_call2_v7, val_main_call2_cst_1]
  rw [r_sig', r_dhid']

theorem r_act (t : Tok) (f : Hid) : val_main_v87 (F := Ideal) x0 x2 x3 x4 (ix2 t f)
    = act (fgate x0 x2 x3 t f) (fup x0 x2 x4 t f) := by
  pointwise [val_main_call4_v0, val_main_call4_v1, val_main_call4_v2, val_main_call4_v3, val_main_call4_v4,
    val_main_call4_v5, val_main_call4_cst, val_main_call4_cst_0, val_main_v85, val_main_v86, val_main_v87]
  rw [act, Ideal.logistic]

theorem r_dn (h : Finite x1 x2 x4 x5) (t : Tok) (j : Dim) : val_main_v48 (F := Ideal) x0 x1 x2 x3 x4 x5 (ix2 t j)
    = fdn x0 x1 x2 x3 x4 x5 t j := by
  pointwise [val_main_v46, val_main_v47, val_main_v48]
  simp only [r_dup, r_dgate x0 x1 x2 x3 x4 x5 h]
  exact add_comm _ _

theorem r_xhat (t : Tok) (j : Dim) : val_main_v27 (F := Ideal) x0 (ix2 t j) = xhat (fx x0) t j := by
  pointwise [val_main_v15, val_main_v16, val_main_v17, val_main_v18, val_main_v19, val_main_v20, val_main_v21, val_main_v22,
    val_main_v26, val_main_v27, val_main_cst_2, val_main_cst_3, val_main_cst_4]
  rw [xhat, rstd, mean_of]

theorem r_meansq (t : Tok) (u : Fin 1) : val_main_v21 (F := Ideal) x0 (ix2 t u)
    = (∑ k : Dim, fx x0 t k * fx x0 t k) * Ideal.ofBits .f32 0x3A800000#32 + Ideal.ofBits .f32 0x358637BD#32 := by
  pointwise [val_main_v15, val_main_v16, val_main_v17, val_main_v18, val_main_v19, val_main_v20, val_main_v21, val_main_cst_2,
    val_main_cst_3, val_main_cst_4]
  rw [mean_of]

theorem r_rstd (t : Tok) (u : Fin 1) : val_main_v22 (F := Ideal) x0 (ix2 t u) = rstd (fx x0) t := by
  pointwise [val_main_v22]
  rw [r_meansq]
  rfl

theorem r_dx (h : Finite x1 x2 x4 x5) (t : Tok) (j : Dim) : val_main_v69 (F := Ideal) x0 x1 x2 x3 x4 x5 (ix2 t j)
    = dx (fx x0) (fx x1) (fg x2) (fdn x0 x1 x2 x3 x4 x5) t j := by
  pointwise [val_main_v23, val_main_v24, val_main_v25, val_main_v28, val_main_v52, val_main_v53, val_main_v55,
    val_main_v56, val_main_v57, val_main_v58, val_main_v59, val_main_v60, val_main_v61, val_main_v62, val_main_v63,
    val_main_v64, val_main_v65, val_main_v66, val_main_v67, val_main_v68, val_main_v69, val_main_cst_5, val_main_cst_10,
    val_main_cst_11, val_main_cst_12]
  simp only [r_dn x0 x1 x2 x3 x4 x5 h, r_rstd, Finset.univ_unique, Finset.sum_singleton]
  exact (norm_bwd (fun k => x0 (ix2 t k)) (fun k => fdn x0 x1 x2 x3 x4 x5 t k * fg x2 k) (x1 (ix2 t j)) j _ _
    (r_meansq x0 t default) (by rw [r_meansq]; rfl) _ rfl).symm

theorem r_dg (h : Finite x1 x2 x4 x5) (j : Dim) : val_main_v90 (F := Ideal) x0 x1 x2 x3 x4 x5 (ix2 (0 : Fin 1) j)
    = dg (fx x0) (fdn x0 x1 x2 x3 x4 x5) j := by
  pointwise [val_main_v49, val_main_v50, val_main_v51, val_main_v54, val_main_v90, val_main_cst_8, val_main_cst_9]
  simp only [r_dn x0 x1 x2 x3 x4 x5 h, r_xhat, Finset.univ_unique, Finset.sum_singleton]
  exact Finset.sum_congr rfl fun t _ => mul_comm _ _

end Back.Ref

end
-- ==== Proof.Back.Pre.lean ====
/- The precondition read back: where it is one, the gradient, the scale, the up and the down projection have real entries. -/
module

public import proofs.«01_k».proof.Pre_finite
public import proofs.«01_k».proof.Proof.Back.Algebra
public import Idealize.ShloMosaic.Lib.ReduceAll

@[expose] public section

set_option maxRecDepth 16384

noncomputable section

namespace Back

open Idealize Idealize.ShloMosaic Cert.Pre_finite

theorem pre_facts : Cert.Pre_finite.Facts where
  bcast_S_S16384x1024 := by decide
  reducesTo_S16384x1024_S_d0_1 := by decide
  h_S_ := by decide
  bcast_S_S1024 := by decide
  reducesTo_S1024_S_d0 := by decide
  bcast_S_S1024x2816 := by decide
  reducesTo_S1024x2816_S_d0_1 := by decide
  bcast_S_S2816x1024 := by decide
  reducesTo_S2816x1024_S_d0_1 := by decide

/-- Infinity's word. -/
theorem inf_top : Ideal.ofBits .f32 0x7F800000#32 = ⊤ := by simp [Ideal.ofBits, Ideal.ieee]

instance : Subsingleton S_.Idx := ⟨fun i j => funext fun k => k.elim0⟩

/-- One array's conjunct. -/
theorem real_of_all {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi (cmpf .olt (Host.absf x) (broadcastInDim s ![] hb (constant S_ .f32 0x7F800000#32)))
      (constantI S_ 1 1#1) hr hu j = 1#1) (i : s.Idx) : Real' (x i) := by
  have h := Host.reduce_andi_all _ _ hr hu j e i
  have h' : Ideal.cmp .olt (max (x i) (-(x i))) (Ideal.ofBits .f32 0x7F800000#32) = 1#1 := h
  rw [inf_top] at h'
  refine Real'.of_abs_lt ?_
  by_contra hn
  simp [Ideal.cmp, hn] at h'

theorem real_of_pre [Cert.Pre_finite.Facts] (x0 x1 : FVec Ideal S16384x1024 .f32) (x2 : FVec Ideal S1024 .f32)
    (x3 x4 : FVec Ideal S1024x2816 .f32) (x5 : FVec Ideal S2816x1024 .f32)
    (h : Cert.Pre_finite.fn x0 x1 x2 x3 x4 x5 = fun _ => 1#1) :
    (∀ i, Real' (x1 i)) ∧ (∀ i, Real' (x2 i)) ∧ (∀ i, Real' (x4 i)) ∧ ∀ i, Real' (x5 i) := by
  have e := congrFun h (fun k => k.elim0)
  obtain ⟨e, e5⟩ := IntOp.andi_eq_one.1 (e : IntOp.andi _ _ = 1#1)
  obtain ⟨e, e4⟩ := IntOp.andi_eq_one.1 (e : IntOp.andi _ _ = 1#1)
  obtain ⟨e1, e2⟩ := IntOp.andi_eq_one.1 (e : IntOp.andi _ _ = 1#1)
  exact ⟨real_of_all x1 _ _ _ _ e1, real_of_all x2 _ _ _ _ e2, real_of_all x4 _ _ _ _ e4, real_of_all x5 _ _ _ _ e5⟩

end Back

end
-- ==== Proof.Back.Join.lean ====
/- The seven arrays after the whole grid are the reference's seven results. -/
module

public import proofs.«01_k».proof.Proof.Back.Points
public import proofs.«01_k».proof.Proof.Back.Ref
public import proofs.«01_k».proof.Proof.Back.Pre
public import proofs.«01_k».proof.Proof.Gen.Reference3Ideal.Run
public import proofs.«01_k».proof.Defs

@[expose] public section

set_option maxRecDepth 16384

noncomputable section

namespace Back

open Idealize Idealize.ShloMosaic Cert.Kernel3Ideal Cert.Kernel3Ideal.Gen Conv Half
open Idealize.ShloMosaic.Pipeline (Dat)

variable (m : (ℓ : Loc nD τ sig) → Buf (Elt Ideal) ℓ) (c : Dev nD)

theorem arr_dx : (dats m 0 c).arrAt 8 cfg0.N
    = fun i : S16384x1024.Idx => dx (bx m c) (bdy m c) (bg m c) (bdn m c) (i 0) (i 1) := by
  refine (dats m 0 c).arrAt_eq_of_covers 8 _ (by decide +kernel) fun t hf y => ?_
  blk_simp
  rw [after0_8]
  obtain ⟨r, j, rfl⟩ : ∃ (r : Fin 256) (j : Dim), y = ix2 r j := ⟨y 0, y 1, eq_ix2 y⟩
  rw [show (win0_8.blk t).view.emb (ix2 r j) = ix2 (row t r) j by blk_ext [idx8 t]]
  by_cases h : t.val = 0
  · exact at_dx_A m c t h r j
  · exact at_dx_B m c t (by omega) r j
theorem arr_scaled : (dats m 0 c).arrAt 9 cfg0.N
    = fun i : S16384x1024.Idx => scaled (bx m c) (bg m c) (i 0) (i 1) := by
  refine (dats m 0 c).arrAt_eq_of_covers 9 _ (by decide +kernel) fun t hf y => ?_
  blk_simp
  rw [after0_9]
  obtain ⟨r, j, rfl⟩ : ∃ (r : Fin 256) (j : Dim), y = ix2 r j := ⟨y 0, y 1, eq_ix2 y⟩
  rw [show (win0_9.blk t).view.emb (ix2 r j) = ix2 (row t r) j by blk_ext [idx9 t]]
  exact at_scaled m c t r j
theorem arr_half : (dats m 0 c).arrAt 10 cfg0.N
    = fun i : S16384x1024.Idx => dhalf (bdy m c) (i 0) (i 1) := by
  refine (dats m 0 c).arrAt_eq_of_covers 10 _ (by decide +kernel) fun t hf y => ?_
  blk_simp
  rw [after0_10]
  obtain ⟨r, j, rfl⟩ : ∃ (r : Fin 256) (j : Dim), y = ix2 r j := ⟨y 0, y 1, eq_ix2 y⟩
  rw [show (win0_10.blk t).view.emb (ix2 r j) = ix2 (row t r) j by blk_ext [idx10 t]]
  exact at_half m c t r j
theorem arr_act : (dats m 0 c).arrAt 11 cfg0.N
    = fun i : S16384x2816.Idx => act (bgate m c (i 0) (i 1)) (bup m c (i 0) (i 1)) := by
  refine (dats m 0 c).arrAt_eq_of_covers 11 _ (by decide +kernel) fun t hf y => ?_
  blk_simp
  rw [after0_11]
  obtain ⟨r, f, rfl⟩ : ∃ (r : Fin 256) (f : Hid), y = ix2 r f := ⟨y 0, y 1, eq_ix2 y⟩
  rw [show (win0_11.blk t).view.emb (ix2 r f) = ix2 (row t r) f by blk_ext [idx11 t]]
  by_cases h : t.val = 0
  · exact at_act_A m c t h _
  · exact at_act_B m c t (by omega) _
theorem arr_dgate : (dats m 0 c).arrAt 12 cfg0.N
    = fun i : S16384x2816.Idx => dgate (bgate m c (i 0) (i 1)) (bup m c (i 0) (i 1)) (dhid (bdy m c) (bwd m c) (i 0) (i 1)) := by
  refine (dats m 0 c).arrAt_eq_of_covers 12 _ (by decide +kernel) fun t hf y => ?_
  blk_simp
  rw [after0_12]
  obtain ⟨r, f, rfl⟩ : ∃ (r : Fin 256) (f : Hid), y = ix2 r f := ⟨y 0, y 1, eq_ix2 y⟩
  rw [show (win0_12.blk t).view.emb (ix2 r f) = ix2 (row t r) f by blk_ext [idx12 t]]
  by_cases h : t.val = 0
  · exact at_dgate_A m c t h _
  · exact at_dgate_B m c t (by omega) _
theorem arr_dup : (dats m 0 c).arrAt 13 cfg0.N
    = fun i : S16384x2816.Idx => dup (bgate m c (i 0) (i 1)) (dhid (bdy m c) (bwd m c) (i 0) (i 1)) := by
  refine (dats m 0 c).arrAt_eq_of_covers 13 _ (by decide +kernel) fun t hf y => ?_
  blk_simp
  rw [after0_13]
  obtain ⟨r, f, rfl⟩ : ∃ (r : Fin 256) (f : Hid), y = ix2 r f := ⟨y 0, y 1, eq_ix2 y⟩
  rw [show (win0_13.blk t).view.emb (ix2 r f) = ix2 (row t r) f by blk_ext [idx13 t]]
  by_cases h : t.val = 0
  · exact at_dup_A m c t h _
  · exact at_dup_B m c t (by omega) _

/-- The last point. -/
abbrev last : Fin cfg0.N := ⟨63, Nat.lt_of_lt_of_eq (by decide) N_0.symm⟩

/-- The tokens, point by point. -/
theorem sum_rows (f : Tok → EReal) : ∑ p : Fin cfg0.N, ∑ r : Fin 256, f (row p r) = ∑ t : Tok, f t := by
  refine (Fin.sum_mul_add_congr (L := 16384) (S := 64) (n := 256) (F := fun p r => f (row p r)) (f := f) ?_)
  intro p r h
  exact congrArg f (Fin.ext (by dsimp only; omega))

theorem arr_dg : (dats m 0 c).arrAt 14 cfg0.N = fun i : S1x1024.Idx => dg (bx m c) (bdn m c) (i 1) := by
  refine (dats m 0 c).arrAt_eq_of_after_last 14 last (by decide +kernel) _ fun y => ?_
  have e := Pipeline.eq_sum_fin_of_reset_step_apply_last (fun n h => (outsAt0 m c n h).2.2.2.2.2.2) 64 (fun _ => 0)
    (partScale m c) (first_scale m c) (step_scale m c) (le_of_eq N_0) last rfl y
  rw [zero_add] at e
  rw [after0_14]
  refine e.trans ?_
  exact sum_rows fun t => bdn m c t (y 1) * xhat (bx m c) t (y 1)

/-- The launch memory's arguments. -/
abbrev in0 : Vec Ideal Cert.Reference3Ideal.S16384x1024 .f32 := m ((c.tc : Thread nD τ).loc main_arg0)
abbrev in1 : Vec Ideal Cert.Reference3Ideal.S16384x1024 .f32 := m ((c.tc : Thread nD τ).loc main_arg1)
abbrev in2 : Vec Ideal Cert.Reference3Ideal.S1024 .f32 := m ((c.tc : Thread nD τ).loc main_arg2)
abbrev in3 : Vec Ideal Cert.Reference3Ideal.S1024x2816 .f32 := m ((c.tc : Thread nD τ).loc main_arg3)
abbrev in4 : Vec Ideal Cert.Reference3Ideal.S1024x2816 .f32 := m ((c.tc : Thread nD τ).loc main_arg4)
abbrev in5 : Vec Ideal Cert.Reference3Ideal.S2816x1024 .f32 := m ((c.tc : Thread nD τ).loc main_arg5)

theorem e_x : bx m c = Ref.fx (in0 m c) := funext fun t => funext fun j => congrFun (V_main_arg0 m c) (ix2 t j)
theorem e_dy : bdy m c = Ref.fx (in1 m c) := funext fun t => funext fun j => congrFun (V_main_arg1 m c) (ix2 t j)
theorem e_g : bg m c = Ref.fg (in2 m c) := funext fun j => by
  show V m c main_v13 (ix2 (0 : Fin 1) j) = _
  entry_read
  pointwise
theorem e_gate : bgate m c = Ref.fgate (in0 m c) (in2 m c) (in3 m c) := funext fun t => funext fun f => by
  show V m c main_v15 (ix2 t f) = _
  entry_read
  rfl
theorem e_up : bup m c = Ref.fup (in0 m c) (in2 m c) (in4 m c) := funext fun t => funext fun f => by
  show V m c main_v17 (ix2 t f) = _
  entry_read
  rfl
theorem e_wd : bwd m c = Ref.fwd (in5 m c) := funext fun f => funext fun j => by
  show V m c main_v19 (ix2 j f) = _
  entry_read
  pointwise
theorem e_wg : bwg m c = Ref.fw (in3 m c) := funext fun j => funext fun f => by
  show V m c main_v21 (ix2 f j) = _
  entry_read
  pointwise
theorem e_wu : bwu m c = Ref.fw (in4 m c) := funext fun j => funext fun f => by
  show V m c main_v23 (ix2 f j) = _
  entry_read
  pointwise

theorem e_dn : bdn m c = Ref.fdn (in0 m c) (in1 m c) (in2 m c) (in3 m c) (in4 m c) (in5 m c) := by
  rw [bdn, e_gate, e_up, e_dy, e_wd, e_wg, e_wu]

open Cert.Reference3Ideal.Read

/-- The reals the precondition gives, on a device. -/
abbrev Fin' : Prop := Ref.Finite (in1 m c) (in2 m c) (in4 m c) (in5 m c)

theorem j_dx (h : Fin' m c) : (dats m 0 c).arrAt 8 cfg0.N
    = val_main_v69 (F := Ideal) (in0 m c) (in1 m c) (in2 m c) (in3 m c) (in4 m c) (in5 m c) := by
  rw [arr_dx, e_x, e_dy, e_g, e_dn]
  funext i
  obtain ⟨t, j, rfl⟩ : ∃ (t : Tok) (j : Dim), i = ix2 t j := ⟨i 0, i 1, eq_ix2 i⟩
  rw [Ref.r_dx _ _ _ _ _ _ h]
  rfl
theorem j_scaled : (dats m 0 c).arrAt 9 cfg0.N
    = val_main_v81 (F := Ideal) (in0 m c) (in2 m c) := by
  rw [arr_scaled, e_x, e_g]
  funext i
  obtain ⟨t, j, rfl⟩ : ∃ (t : Tok) (j : Dim), i = ix2 t j := ⟨i 0, i 1, eq_ix2 i⟩
  rw [Ref.r_scaled']
  rfl
theorem j_half : (dats m 0 c).arrAt 10 cfg0.N
    = val_main_v84 (F := Ideal) (in1 m c) := by
  rw [arr_half, e_dy]
  funext i
  obtain ⟨t, j, rfl⟩ : ∃ (t : Tok) (j : Dim), i = ix2 t j := ⟨i 0, i 1, eq_ix2 i⟩
  rw [Ref.r_half]
  rfl
theorem j_act : (dats m 0 c).arrAt 11 cfg0.N
    = val_main_v87 (F := Ideal) (in0 m c) (in2 m c) (in3 m c) (in4 m c) := by
  rw [arr_act, e_gate, e_up]
  funext i
  obtain ⟨t, f, rfl⟩ : ∃ (t : Tok) (f : Hid), i = ix2 t f := ⟨i 0, i 1, eq_ix2 i⟩
  rw [Ref.r_act]
  rfl
theorem j_dgate (h : Fin' m c) : (dats m 0 c).arrAt 12 cfg0.N
    = val_main_v88 (F := Ideal) (in0 m c) (in1 m c) (in2 m c) (in3 m c) (in4 m c) (in5 m c) := by
  rw [arr_dgate, e_gate, e_up, e_dy, e_wd]
  funext i
  obtain ⟨t, f, rfl⟩ : ∃ (t : Tok) (f : Hid), i = ix2 t f := ⟨i 0, i 1, eq_ix2 i⟩
  rw [Ref.r_dgate' _ _ _ _ _ _ h]
  rfl
theorem j_dup : (dats m 0 c).arrAt 13 cfg0.N
    = val_main_v89 (F := Ideal) (in0 m c) (in1 m c) (in2 m c) (in3 m c) (in5 m c) := by
  rw [arr_dup, e_gate, e_dy, e_wd]
  funext i
  obtain ⟨t, f, rfl⟩ : ∃ (t : Tok) (f : Hid), i = ix2 t f := ⟨i 0, i 1, eq_ix2 i⟩
  rw [Ref.r_dup']
  rfl
theorem j_dg (h : Fin' m c) : (dats m 0 c).arrAt 14 cfg0.N
    = val_main_v90 (F := Ideal) (in0 m c) (in1 m c) (in2 m c) (in3 m c) (in4 m c) (in5 m c) := by
  rw [arr_dg, e_x, e_dn]
  funext i
  obtain ⟨t, j, rfl⟩ : ∃ (t : Fin 1) (j : Dim), i = ix2 t j := ⟨i 0, i 1, eq_ix2 i⟩
  obtain rfl : t = 0 := Subsingleton.elim _ _
  rw [Ref.r_dg _ _ _ _ _ _ h]
  rfl

/-- The kernel's seven arrays are the reference's seven results. -/
theorem value : Cert.algebraic_Kernel3Ideal_Reference3Ideal_pre_finite (hKernel3Ideal := Cert.Kernel3Ideal.Gen.facts)
    (hReference3Ideal := Cert.Reference3Ideal.Gen.facts) (hPre_finite := pre_facts) := by
  intro m g m' g' hpre hagree
  refine ⟨_, _, _, _, _, _, _, Cert.Kernel3Ideal.Value.run_blocks m g, ?_⟩
  refine (θ_run Cert.Reference3Ideal.defs _ _).mono (fun r h c => ?_) (Cert.Reference3Ideal.Value.run m' g')
  obtain ⟨h0, h1, h2, h3, h4, h5, h6, ha⟩ := h c
  obtain ⟨a0, a1, a2, a3, a4, a5⟩ := hagree c
  have hf : Fin' m c := by
    obtain ⟨f1, f2, f4, f5⟩ := @real_of_pre pre_facts _ _ _ _ _ _ (hpre c)
    exact ⟨fun t j => f1 (ix2 t j), fun j => f2 (ix1 j), fun j f => f4 (ix2 j f), fun f j => f5 (ix2 f j)⟩
  refine ⟨h0.trans ?_, h1.trans ?_, h2.trans ?_, h3.trans ?_, h4.trans ?_, h5.trans ?_, h6.trans ?_, ha⟩
  · refine (val_main_v69_eq m' c).trans (Eq.trans ?_ (j_dx m c hf).symm)
    rw [a0, a1, a2, a3, a4, a5]
  · refine (val_main_v81_eq _ _).trans (Eq.trans ?_ (j_scaled m c).symm)
    rw [a0, a2]
  · refine (val_main_v84_eq _).trans (Eq.trans ?_ (j_half m c).symm)
    rw [a1]
  · refine (val_main_v87_eq _ _ _ _).trans (Eq.trans ?_ (j_act m c).symm)
    rw [a0, a2, a3, a4]
  · refine (val_main_v88_eq m' c).trans (Eq.trans ?_ (j_dgate m c hf).symm)
    rw [a0, a1, a2, a3, a4, a5]
  · refine (val_main_v89_eq _ _ _ _ _).trans (Eq.trans ?_ (j_dup m c).symm)
    rw [a0, a1, a2, a3, a5]
  · refine (val_main_v90_eq m' c).trans (Eq.trans ?_ (j_dg m c hf).symm)
    rw [a0, a1, a2, a3, a4, a5]

end Back

end
-- ==== Proof.Half.Points.lean ====
/- What each of the 32 points leaves in its three blocks: 512 tokens' half steps and their two projections, the projections
   and the hidden rows 256 columns at a time. -/
module

public import proofs.«01_k».proof.Proof.Gen.Kernel4Ideal.Value
public import proofs.«01_k».proof.Proof.Half.Spec
public import Idealize.ShloMosaic.Lib.Pipeline.ValueKit

@[expose] public section

set_option maxRecDepth 16384

noncomputable section

namespace Half

open Idealize Idealize.ShloMosaic Cert.Kernel4Ideal Cert.Kernel4Ideal.Gen Conv
open Idealize.ShloMosaic.Pipeline (Dat)

variable (m : (ℓ : Loc nD τ sig) → Buf (Elt Ideal) ℓ) (c : Dev nD)

/-- The arrays as the pipeline finds them. -/
abbrev ax : Tok → Dim → EReal := fun t j => V m c main_arg0 (ix2 t j)
abbrev ag : Dim → EReal := fun j => V m c main_v0 (ix2 (0 : Fin 1) j)
abbrev awg : Dim → Hid → EReal := fun j f => V m c main_v1 (ix2 j f)
abbrev awu : Dim → Hid → EReal := fun j f => V m c main_v2 (ix2 j f)
abbrev awd : Hid → Dim → EReal := fun f j => V m c main_v3 (ix2 f j)

/-- Token `r` of a point. -/
abbrev tok (t : Fin cfg0.N) (r : Fin 512) : Tok :=
  ⟨512 * t.val + r.val, by have := Nat.lt_of_lt_of_eq t.isLt N_0; omega⟩

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)

theorem blk_x (t : Fin cfg0.N) (r : Fin 512) (j : Dim) : iblk m c 0 t (ix2 r j) = ax m c (tok t r) j := by
  show _ = V m c main_arg0 (ix2 (tok t r) j)
  blk_ext [iblk, idx0 t]
theorem blk_g (t : Fin cfg0.N) (j : Dim) : iblk m c 1 t (ix2 (0 : Fin 1) j) = ag m c j := by
  show _ = V m c main_v0 (ix2 (0 : Fin 1) j)
  blk_ext [iblk, idx1 t]
theorem blk_wg (t : Fin cfg0.N) (j : Dim) (f : Hid) : iblk m c 2 t (ix2 j f) = awg m c j f := by
  show _ = V m c main_v1 (ix2 j f)
  blk_ext [iblk, idx2 t]
theorem blk_wu (t : Fin cfg0.N) (j : Dim) (f : Hid) : iblk m c 3 t (ix2 j f) = awu m c j f := by
  show _ = V m c main_v2 (ix2 j f)
  blk_ext [iblk, idx3 t]
theorem blk_wd (t : Fin cfg0.N) (f : Hid) (j : Dim) : iblk m c 4 t (ix2 f j) = awd m c f j := by
  show _ = V m c main_v3 (ix2 f j)
  blk_ext [iblk, idx4 t]

/-- The point's rows, normalised and scaled. -/
theorem at_scaled (t : Fin cfg0.N) (r : Fin 512) (j : Dim) :
    k0_pay4 (iblk m c 0 t) (iblk m c 1 t) (ix2 r j) = scaled (ax m c) (ag m c) (tok t r) j := by
  pointwise [k0_pay4]
  simp only [blk_x, blk_g]
  rfl

/-- Indices of a block and of a stored piece that covers it. -/
theorem piece_idx {k : ℕ} (o : ℕ) (y : (⟨2, ![512, 2816]⟩ : Shape).Idx) (x : (⟨2, ![512, k]⟩ : Shape).Idx)
    (h0 : (y 0).val = (x 0).val) (h1 : (y 1).val = o + (x 1).val) :
    ∃ (r : Fin 512) (b : Fin k) (hb : o + b.val < 2816), y = ix2 r ⟨o + b.val, hb⟩ ∧ x = ix2 r b := by
  have hy : (y 1).val < 2816 := (y 1).isLt
  have h : o + (x 1).val < 2816 := by omega
  refine ⟨x 0, x 1, h, (eq_ix2 y).trans ?_, eq_ix2 x⟩
  rw [show y 0 = x 0 from Fin.ext h0, show y 1 = (⟨o + (x 1).val, h⟩ : Fin 2816) from Fin.ext h1]

/-- The gate's projection, … -/
theorem at_gate (t : Fin cfg0.N) (y : S512x2816.Idx) :
    (outsAt0 m c t).2.1 y = proj (ax m c) (ag m c) (awg m c) (tok t (y 0)) (y 1) := by
  unfold outsAt0
  frame_out
  canon_tiles x hx
  all_goals
    first
    | obtain ⟨r, b, hb, rfl, rfl⟩ := piece_idx _ y x hx0 hx1
    | obtain ⟨r, b, hb, rfl, rfl⟩ := piece_idx 0 y x hx0 (hx1.trans (Nat.zero_add _).symm)
    pointwise [k0_pay1, k0_pay2, k0_pay5, k0_pay6, k0_pay7, k0_pay8, k0_pay9, k0_pay10, k0_pay11, k0_pay12, k0_pay13, k0_pay14,
      k0_pay15, k0_pay16, k0_pay17, k0_pay18, k0_pay19, k0_pay20, k0_pay21, k0_pay22, k0_pay23, k0_pay24, k0_pay25,
      k0_pay26, k0_pay27, k0_pay28, k0_pay29, k0_pay30, k0_pay31, k0_pay32, k0_pay33, k0_pay34, k0_pay35, k0_pay36,
      k0_pay37, k0_pay38, k0_pay39, k0_pay40, k0_pay41, k0_pay42, k0_pay43, k0_pay44, k0_pay45, k0_pay46, k0_pay47,
      k0_pay48, k0_pay49, k0_pay50, k0_pay51, k0_pay52, k0_pay53, k0_pay54, k0_pay55, k0_pay56, k0_pay57, k0_pay58]
    exact Finset.sum_congr rfl fun j _ => congrArg₂ (· * ·) (at_scaled m c t r j) (blk_wg m c t j _)

/-- … the up projection … -/
theorem at_up (t : Fin cfg0.N) (y : S512x2816.Idx) :
    (outsAt0 m c t).2.2 y = proj (ax m c) (ag m c) (awu m c) (tok t (y 0)) (y 1) := by
  unfold outsAt0
  frame_out
  canon_tiles x hx
  all_goals
    first
    | obtain ⟨r, b, hb, rfl, rfl⟩ := piece_idx _ y x hx0 hx1
    | obtain ⟨r, b, hb, rfl, rfl⟩ := piece_idx 0 y x hx0 (hx1.trans (Nat.zero_add _).symm)
    pointwise [k0_pay1, k0_pay2, k0_pay5, k0_pay6, k0_pay7, k0_pay8, k0_pay9, k0_pay10, k0_pay11, k0_pay12, k0_pay13, k0_pay14,
      k0_pay15, k0_pay16, k0_pay17, k0_pay18, k0_pay19, k0_pay20, k0_pay21, k0_pay22, k0_pay23, k0_pay24, k0_pay25,
      k0_pay26, k0_pay27, k0_pay28, k0_pay29, k0_pay30, k0_pay31, k0_pay32, k0_pay33, k0_pay34, k0_pay35, k0_pay36,
      k0_pay37, k0_pay38, k0_pay39, k0_pay40, k0_pay41, k0_pay42, k0_pay43, k0_pay44, k0_pay45, k0_pay46, k0_pay47,
      k0_pay48, k0_pay49, k0_pay50, k0_pay51, k0_pay52, k0_pay53, k0_pay54, k0_pay55, k0_pay56, k0_pay57, k0_pay58]
    exact Finset.sum_congr rfl fun j _ => congrArg₂ (· * ·) (at_scaled m c t r j) (blk_wu m c t j _)

/-- … and the half step: the scratch buffer its last product reads holds the hidden rows. -/
theorem at_step (t : Fin cfg0.N) (r : Fin 512) (j : Dim) :
    (outsAt0 m c t).1 (ix2 r j)
      = step (ax m c) (ag m c) (awg m c) (awu m c) (awd m c) (tok t r) j := by
  unfold outsAt0
  frame_out
  pointwise [k0_pay3]
  refine congrArg₂ (fun a b : EReal => a + _ * b) (blk_x m c t r j) ?_
  refine Finset.sum_congr rfl fun f _ => congrArg₂ (· * ·) ?_ (blk_wd m c t f j)
  refine (congrFun (View.readCov_eq_canon' _ _ _) _).trans ?_
  refine (congrArg (View.canon _) (?_ : _ = ix2 r f)).trans ?_
  · blk_ext
    all_goals simp [LoadRect.idx, Rect.unit]
  show _ = act (proj (ax m c) (ag m c) (awg m c) (tok t ((ix2 r f : S512x2816.Idx) 0)) ((ix2 r f : S512x2816.Idx) 1))
    (proj (ax m c) (ag m c) (awu m c) (tok t ((ix2 r f : S512x2816.Idx) 0)) ((ix2 r f : S512x2816.Idx) 1))
  generalize (ix2 r f : S512x2816.Idx) = y
  canon_tiles x hx
  all_goals
    first
    | obtain ⟨q, b, hb, rfl, rfl⟩ := piece_idx _ y x hx0 hx1
    | obtain ⟨q, b, hb, rfl, rfl⟩ := piece_idx 0 y x hx0 (hx1.trans (Nat.zero_add _).symm)
    pointwise [k0_pay1, k0_pay2, k0_pay5, k0_pay6, k0_pay7, k0_pay8, k0_pay9, k0_pay10, k0_pay11, k0_pay12, k0_pay13, k0_pay14,
      k0_pay15, k0_pay16, k0_pay17, k0_pay18, k0_pay19, k0_pay20, k0_pay21, k0_pay22, k0_pay23, k0_pay24, k0_pay25,
      k0_pay26, k0_pay27, k0_pay28, k0_pay29, k0_pay30, k0_pay31, k0_pay32, k0_pay33, k0_pay34, k0_pay35, k0_pay36,
      k0_pay37, k0_pay38, k0_pay39, k0_pay40, k0_pay41, k0_pay42, k0_pay43, k0_pay44, k0_pay45, k0_pay46, k0_pay47,
      k0_pay48, k0_pay49, k0_pay50, k0_pay51, k0_pay52, k0_pay53, k0_pay54, k0_pay55, k0_pay56, k0_pay57, k0_pay58]
    simp only [at_scaled, blk_wg, blk_wu]
    rfl

end Half

end
-- ==== Proof.Half.Ref.lean ====
/- What the reference of the half step computes, read at a token and a column. -/
module

public import proofs.«01_k».proof.Proof.Gen.Reference4Ideal.Read
public import proofs.«01_k».proof.Proof.Half.Spec
public import proofs.«01_k».proof.Proof.Conv.Ref

@[expose] public section

set_option maxRecDepth 16384

noncomputable section

namespace Half.Ref

open Idealize Idealize.ShloMosaic Cert.Reference4Ideal Cert.Reference4Ideal.Gen Cert.Reference4Ideal.Read Conv

variable (x0 : Vec Ideal S16384x1024 .f32) (x1 : Vec Ideal S1024 .f32) (x2 x3 : Vec Ideal S1024x2816 .f32)
  (x4 : Vec Ideal S2816x1024 .f32)

/-- The arguments as functions of their coordinates. -/
abbrev fx (t : Tok) (j : Dim) : EReal := x0 (ix2 t j)
abbrev fg (j : Dim) : EReal := x1 (ix1 j)
abbrev fw (w : Vec Ideal S1024x2816 .f32) (j : Dim) (f : Hid) : EReal := w (ix2 j f)
abbrev fwd (f : Hid) (j : Dim) : EReal := x4 (ix2 f j)

theorem r_scaled (t : Tok) (j : Dim) : val_main_v12 (F := Ideal) x0 x1 (ix2 t j) = scaled (fx x0) (fg x1) t j := by
  pointwise [val_main_v0, val_main_v1, val_main_v2, val_main_v3, val_main_v4, val_main_v5, val_main_v6, val_main_v7,
    val_main_v8, val_main_v9, val_main_v10, val_main_v11, val_main_v12, val_main_cst, val_main_cst_0, val_main_cst_1]
  rw [scaled, xhat, rstd, Conv.Ref.mean_of]

/-- The scaled rows, computed a second time. -/
theorem scaled_again : val_main_v25 (F := Ideal) x0 x1 = val_main_v12 x0 x1 := rfl

theorem r_gate' (t : Tok) (f : Hid) : val_main_v26 (F := Ideal) x0 x1 x2 (ix2 t f) = proj (fx x0) (fg x1) (fw x2) t f := by
  pointwise [val_main_v26]
  exact Finset.sum_congr rfl fun j _ => by rw [scaled_again, r_scaled]
theorem r_up' (t : Tok) (f : Hid) : val_main_v27 (F := Ideal) x0 x1 x3 (ix2 t f) = proj (fx x0) (fg x1) (fw x3) t f := by
  pointwise [val_main_v27]
  exact Finset.sum_congr rfl fun j _ => by rw [scaled_again, r_scaled]

theorem r_gate (t : Tok) (f : Hid) : val_main_v35 (F := Ideal) x0 x1 x2 (ix2 t f) = proj (fx x0) (fg x1) (fw x2) t f := by
  pointwise [val_main_v34, val_main_v35]
  exact Finset.sum_congr rfl fun j _ => by rw [r_scaled]
theorem r_up (t : Tok) (f : Hid) : val_main_v37 (F := Ideal) x0 x1 x3 (ix2 t f) = proj (fx x0) (fg x1) (fw x3) t f := by
  pointwise [val_main_v36, val_main_v37]
  exact Finset.sum_congr rfl fun j _ => by rw [r_scaled]

theorem r_act (t : Tok) (f : Hid) : val_main_v29 (F := Ideal) x0 x1 x2 x3 (ix2 t f)
    = act (proj (fx x0) (fg x1) (fw x2) t f) (proj (fx x0) (fg x1) (fw x3) t f) := by
  pointwise [val_main_call0_v0, val_main_call0_v1, val_main_call0_v2, val_main_call0_v3, val_main_call0_v4,
    val_main_call0_v5, val_main_call0_cst, val_main_call0_cst_0, val_main_v28, val_main_v29]
  rw [r_gate', r_up', act, Ideal.logistic]

theorem r_step (t : Tok) (j : Dim) : val_main_v33 (F := Ideal) x0 x1 x2 x3 x4 (ix2 t j)
    = step (fx x0) (fg x1) (fw x2) (fw x3) (fwd x4) t j := by
  pointwise [val_main_v30, val_main_v31, val_main_v32, val_main_v33, val_main_cst_5]
  simp only [r_act]
  rfl

end Half.Ref

end
-- ==== Proof.Half.Join.lean ====
/- The three arrays after the whole grid are the reference's three results. -/
module

public import proofs.«01_k».proof.Proof.Half.Points
public import proofs.«01_k».proof.Proof.Half.Ref
public import proofs.«01_k».proof.Proof.Gen.Reference4Ideal.Run
public import proofs.«01_k».proof.Defs

@[expose] public section

set_option maxRecDepth 16384

noncomputable section

namespace Half

open Idealize Idealize.ShloMosaic Cert.Kernel4Ideal Cert.Kernel4Ideal.Gen Conv
open Idealize.ShloMosaic.Pipeline (Dat)

variable (m : (ℓ : Loc nD τ sig) → Buf (Elt Ideal) ℓ) (c : Dev nD)

theorem arr_step : (dats m 0 c).arrAt 5 cfg0.N
    = fun i : S16384x1024.Idx => step (ax m c) (ag m c) (awg m c) (awu m c) (awd m c) (i 0) (i 1) := by
  refine (dats m 0 c).arrAt_eq_of_covers 5 _ (by decide +kernel) fun t hf y => ?_
  blk_simp
  rw [after0_5]
  obtain ⟨r, j, rfl⟩ : ∃ (r : Fin 512) (j : Dim), y = ix2 r j := ⟨y 0, y 1, eq_ix2 y⟩
  rw [show (win0_5.blk t).view.emb (ix2 r j) = ix2 (tok t r) j by blk_ext [idx5 t]]
  exact at_step m c t r j
theorem arr_gate : (dats m 0 c).arrAt 6 cfg0.N
    = fun i : S16384x2816.Idx => proj (ax m c) (ag m c) (awg m c) (i 0) (i 1) := by
  refine (dats m 0 c).arrAt_eq_of_covers 6 _ (by decide +kernel) fun t hf y => ?_
  blk_simp
  rw [after0_6]
  obtain ⟨r, f, rfl⟩ : ∃ (r : Fin 512) (f : Hid), y = ix2 r f := ⟨y 0, y 1, eq_ix2 y⟩
  rw [show (win0_6.blk t).view.emb (ix2 r f) = ix2 (tok t r) f by blk_ext [idx6 t]]
  exact at_gate m c t _
theorem arr_up : (dats m 0 c).arrAt 7 cfg0.N
    = fun i : S16384x2816.Idx => proj (ax m c) (ag m c) (awu m c) (i 0) (i 1) := by
  refine (dats m 0 c).arrAt_eq_of_covers 7 _ (by decide +kernel) fun t hf y => ?_
  blk_simp
  rw [after0_7]
  obtain ⟨r, f, rfl⟩ : ∃ (r : Fin 512) (f : Hid), y = ix2 r f := ⟨y 0, y 1, eq_ix2 y⟩
  rw [show (win0_7.blk t).view.emb (ix2 r f) = ix2 (tok t r) f by blk_ext [idx7 t]]
  exact at_up m c t _

/-- The launch memory's arguments. -/
abbrev in0 : Vec Ideal Cert.Reference4Ideal.S16384x1024 .f32 := m ((c.tc : Thread nD τ).loc main_arg0)
abbrev in1 : Vec Ideal Cert.Reference4Ideal.S1024 .f32 := m ((c.tc : Thread nD τ).loc main_arg1)
abbrev in2 : Vec Ideal Cert.Reference4Ideal.S1024x2816 .f32 := m ((c.tc : Thread nD τ).loc main_arg2)
abbrev in3 : Vec Ideal Cert.Reference4Ideal.S1024x2816 .f32 := m ((c.tc : Thread nD τ).loc main_arg3)
abbrev in4 : Vec Ideal Cert.Reference4Ideal.S2816x1024 .f32 := m ((c.tc : Thread nD τ).loc main_arg4)

theorem e_x : ax m c = Ref.fx (in0 m c) := funext fun t => funext fun j => congrFun (V_main_arg0 m c) (ix2 t j)
theorem e_g : ag m c = Ref.fg (in1 m c) := funext fun j => by
  show V m c main_v0 (ix2 (0 : Fin 1) j) = _
  entry_read
  pointwise
theorem e_wg : awg m c = Ref.fw (in2 m c) := funext fun j => funext fun f => by
  show V m c main_v1 (ix2 j f) = _
  entry_read
  pointwise
theorem e_wu : awu m c = Ref.fw (in3 m c) := funext fun j => funext fun f => by
  show V m c main_v2 (ix2 j f) = _
  entry_read
  pointwise
theorem e_wd : awd m c = Ref.fwd (in4 m c) := funext fun f => funext fun j => by
  show V m c main_v3 (ix2 f j) = _
  entry_read
  pointwise

open Cert.Reference4Ideal.Read

theorem j_step : (dats m 0 c).arrAt 5 cfg0.N
    = val_main_v33 (F := Ideal) (in0 m c) (in1 m c) (in2 m c) (in3 m c) (in4 m c) := by
  rw [arr_step, e_x, e_g, e_wg, e_wu, e_wd]
  funext i
  obtain ⟨t, j, rfl⟩ : ∃ (t : Tok) (j : Dim), i = ix2 t j := ⟨i 0, i 1, eq_ix2 i⟩
  rw [Ref.r_step]
  rfl
theorem j_gate : (dats m 0 c).arrAt 6 cfg0.N = val_main_v35 (F := Ideal) (in0 m c) (in1 m c) (in2 m c) := by
  rw [arr_gate, e_x, e_g, e_wg]
  funext i
  obtain ⟨t, f, rfl⟩ : ∃ (t : Tok) (f : Hid), i = ix2 t f := ⟨i 0, i 1, eq_ix2 i⟩
  rw [Ref.r_gate]
  rfl
theorem j_up : (dats m 0 c).arrAt 7 cfg0.N = val_main_v37 (F := Ideal) (in0 m c) (in1 m c) (in3 m c) := by
  rw [arr_up, e_x, e_g, e_wu]
  funext i
  obtain ⟨t, f, rfl⟩ : ∃ (t : Tok) (f : Hid), i = ix2 t f := ⟨i 0, i 1, eq_ix2 i⟩
  rw [Ref.r_up]
  rfl

/-- The kernel's three arrays are the reference's three results. -/
theorem value : Cert.algebraic_Kernel4Ideal_Reference4Ideal (hKernel4Ideal := Cert.Kernel4Ideal.Gen.facts)
    (hReference4Ideal := Cert.Reference4Ideal.Gen.facts) := by
  intro m g m' g' _ hagree
  refine ⟨_, _, _, Cert.Kernel4Ideal.Value.run_blocks m g, ?_⟩
  refine (θ_run Cert.Reference4Ideal.defs _ _).mono (fun r h c => ?_) (Cert.Reference4Ideal.Value.run m' g')
  obtain ⟨h0, h1, h2, ha⟩ := h c
  obtain ⟨a0, a1, a2, a3, a4⟩ := hagree c
  refine ⟨h0.trans ?_, h1.trans ?_, h2.trans ?_, ha⟩
  · refine (val_main_v33_eq _ _ _ _ _).trans (Eq.trans ?_ (j_step m c).symm)
    rw [a0, a1, a2, a3, a4]
  · refine (val_main_v35_eq _ _ _).trans (Eq.trans ?_ (j_gate m c).symm)
    rw [a0, a1, a2]
  · refine (val_main_v37_eq _ _ _).trans (Eq.trans ?_ (j_up m c).symm)
    rw [a0, a1, a3]

end Half

end
-- ==== Proof.Attn.Run.lean ====
module

public import proofs.«01_k».proof.Proof.Gen.Kernel5Ideal.Launch
public import proofs.«01_k».proof.Proof.Gen.Kernel5Ideal.Skeleton
public import proofs.«01_k».proof.Proof.Gen.Kernel5Ideal.Loops
public import Idealize.ShloMosaic.Lib.Pipeline.FrameBody
public import Idealize.ShloMosaic.Lib.Ring
public import Idealize.ShloMosaic.Lib.Tactic
public import Idealize.ShloMosaic.Lib.WordCmp

/-! The attention kernel's body, run once with the last block in a pair (an odd block row) and once alone. -/

@[expose] public section

set_option maxRecDepth 16384

noncomputable section

namespace Cert.Kernel5Ideal.Attn

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- An odd block row: on whole staging memrefs the body runs, the inputs' kept, and writes the
    pieces the run finds into the two outputs'. -/
noncomputable def runA (c : Dev nD) (i : grid0.Coords) (hc : k0_cond1 i = 1#1) (arg2 : Memref sig .tc .vmem S512x128 .bf16) (harg2 : arg2.IsWhole) (arg3 : Memref sig .tc .vmem S16384x128 .bf16) (harg3 : arg3.IsWhole) (arg4 : Memref sig .tc .vmem S1x32x128x512 .bf16) (harg4 : arg4.IsWhole) (arg5 : Memref sig .tc .vmem S1x1x128x512 .bf16) (harg5 : arg5.IsWhole) (arg6 : Memref sig .tc .vmem S1x1x1x512 .f32) (harg6 : arg6.IsWhole)
    (x0 : Vec F S512x128 .bf16) (x1 : Vec F S16384x128 .bf16) (x2 : Vec F S1x32x128x512 .bf16) :
    Σ' (L3 : List (View.Piece (Elt F) S1x1x128x512 .bf16)), { L4 : List (View.Piece (Elt F) S1x1x1x512 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc0_attn_fwd i arg2 harg2 arg3 harg3 arg4 harg4 arg5 harg5 arg6 harg6) K } := by
  refine ⟨?_, ?_, fun E K => ?run⟩
  case run =>
    simp only [cc0_attn_fwd_eq_skeleton]; unfold cc0_attn_fwd_skel
    simp only [dif_pos hc, k0_part3_eq_skeleton, k0_part4_eq_skeleton]
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

/-- An even block row: on whole staging memrefs the body runs, the inputs' kept, and writes the
    pieces the run finds into the two outputs'. -/
noncomputable def runB (c : Dev nD) (i : grid0.Coords) (hc : ¬ k0_cond1 i = 1#1) (arg2 : Memref sig .tc .vmem S512x128 .bf16) (harg2 : arg2.IsWhole) (arg3 : Memref sig .tc .vmem S16384x128 .bf16) (harg3 : arg3.IsWhole) (arg4 : Memref sig .tc .vmem S1x32x128x512 .bf16) (harg4 : arg4.IsWhole) (arg5 : Memref sig .tc .vmem S1x1x128x512 .bf16) (harg5 : arg5.IsWhole) (arg6 : Memref sig .tc .vmem S1x1x1x512 .f32) (harg6 : arg6.IsWhole)
    (x0 : Vec F S512x128 .bf16) (x1 : Vec F S16384x128 .bf16) (x2 : Vec F S1x32x128x512 .bf16) :
    Σ' (L3 : List (View.Piece (Elt F) S1x1x128x512 .bf16)), { L4 : List (View.Piece (Elt F) S1x1x1x512 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc0_attn_fwd i arg2 harg2 arg3 harg3 arg4 harg4 arg5 harg5 arg6 harg6) K } := by
  refine ⟨?_, ?_, fun E K => ?run⟩
  case run =>
    simp only [cc0_attn_fwd_eq_skeleton]; unfold cc0_attn_fwd_skel
    simp only [dif_neg hc, k0_part3_eq_skeleton, k0_part4_eq_skeleton]
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

end Cert.Kernel5Ideal.Attn

end
-- ==== Proof.Attn.Frame.lean ====
module

public import proofs.«01_k».proof.Proof.Attn.Run
public import Idealize.ShloMosaic.Lib.Claim
public import proofs.«01_k».proof.Proof.Gen.Kernel5Ideal.Launch
public import proofs.«01_k».proof.Proof.Gen.Kernel5Ideal.Skeleton
public import proofs.«01_k».proof.Proof.Gen.Kernel5Ideal.Loops
public import Idealize.ShloMosaic.Lib.Pipeline.FrameBody
public import Idealize.ShloMosaic.Lib.Ring
public import Idealize.ShloMosaic.Lib.Tactic
public import Idealize.ShloMosaic.Lib.WordCmp

/-! The attention call: every run ends, the arguments unchanged, and the arrays as the blocks leave them. -/

@[expose] public section

set_option maxRecDepth 16384

noncomputable section

namespace Cert.Kernel5Ideal.Attn

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The host operations before the call -/

/-- A core's buffers when the call starts. -/
abbrev V (m : (ℓ : Loc nD τ sig) → Buf (Elt F) ℓ) (c : Dev nD) (b : Ref sig .tc) : Buf (Elt F) ((c : Thread nD τ).loc b) := StableHlo.after hostOps0 (fun b => m (c, b)) b

variable (m : (ℓ : Loc nD τ sig) → Buf (Elt F) ℓ) (ρ : Dev nD → PrngReg)

theorem host_fresh : (hostOps0 : List (HloOp τ sig (Elt F))).Forall fun op => op.fresh = ∅ := by
  simp only [List.Forall]; repeat' constructor

theorem main_host (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub host_fresh main_chain

theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- A window's block at a grid point, of the array as the call finds it. -/
def blkIn (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem held0_of {c : Dev nD} (dat : Dat τ (Elt F) Unit ℕ (UR sig nD τ) ℕ cfg0 c) (hA : dat.A 0 = V m c (Pipeline.arrRef spec0 0))
    (hafter : ∀ t, dat.after 0 t = blkIn m c 0 t) (t : Fin cfg0.N) (d) : dat.before 0 t d = blkIn m c 0 t :=
  (dat.before_in_eq_fetched 0 rfl (fun _ => rfl) (fun _ _ _ => rfl) (fun t => by rw [hafter]; unfold Dat.blockOf blkIn; rw [hA]; try rfl) t d).trans
    (by unfold Dat.fetched Dat.blockOf blkIn; rw [hA]; try rfl)

theorem held1_of {c : Dev nD} (dat : Dat τ (Elt F) Unit ℕ (UR sig nD τ) ℕ cfg0 c) (hA : dat.A 1 = V m c (Pipeline.arrRef spec0 1))
    (hafter : ∀ t, dat.after 1 t = blkIn m c 1 t) (t : Fin cfg0.N) (d) : dat.before 1 t d = blkIn m c 1 t :=
  (dat.before_in_eq_fetched 1 rfl (fun _ => rfl) (fun _ _ _ => rfl) (fun t => by rw [hafter]; unfold Dat.blockOf blkIn; rw [hA]; try rfl) t d).trans
    (by unfold Dat.fetched Dat.blockOf blkIn; rw [hA]; try rfl)

theorem held2_of {c : Dev nD} (dat : Dat τ (Elt F) Unit ℕ (UR sig nD τ) ℕ cfg0 c) (hA : dat.A 2 = V m c (Pipeline.arrRef spec0 2))
    (hafter : ∀ t, dat.after 2 t = blkIn m c 2 t) (t : Fin cfg0.N) (d) : dat.before 2 t d = blkIn m c 2 t :=
  (dat.before_in_eq_fetched 2 rfl (fun _ => rfl) (fun _ _ _ => rfl) (fun t => by rw [hafter]; unfold Dat.blockOf blkIn; rw [hA]; try rfl) t d).trans
    (by unfold Dat.fetched Dat.blockOf blkIn; rw [hA]; try rfl)

abbrev VO3 : View sig .tc .vmem S1x1x128x512 .bf16 := (Memref.whole cc0_stg3_0 : Memref sig .tc .vmem S1x1x128x512 .bf16).view
abbrev VO4 : View sig .tc .vmem S1x1x1x512 .f32 := (Memref.whole cc0_stg4_0 : Memref sig .tc .vmem S1x1x1x512 .f32).view
abbrev ms0 (t : Fin cfg0.N) : Memref sig .tc .vmem S512x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S16384x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x32x128x512 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x128x512 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x1x512 .f32 := win0_4.stage (cfg0.slots t 4)
abbrev hs4 (t : Fin cfg0.N) : (ms4 t).IsWhole := hstage0_4 ((cfg0.slots t 4).cast nbuf0_4)

/-! ## What the body leaves -/

theorem coverA3 (c : Dev nD) (i : grid0.Coords) (hc : k0_cond1 i = 1#1) (arg2 : Memref sig .tc .vmem S512x128 .bf16) (harg2 : arg2.IsWhole) (arg3 : Memref sig .tc .vmem S16384x128 .bf16) (harg3 : arg3.IsWhole) (arg4 : Memref sig .tc .vmem S1x32x128x512 .bf16) (harg4 : arg4.IsWhole) (arg5 : Memref sig .tc .vmem S1x1x128x512 .bf16) (harg5 : arg5.IsWhole) (arg6 : Memref sig .tc .vmem S1x1x1x512 .f32) (harg6 : arg6.IsWhole)
    (x0 : Vec F S512x128 .bf16) (x1 : Vec F S16384x128 .bf16) (x2 : Vec F S1x32x128x512 .bf16) (y : S1x1x128x512.Idx) :
    ∃ pc ∈ (runA c i hc arg2 harg2 arg3 harg3 arg4 harg4 arg5 harg5 arg6 harg6 x0 x1 x2).1, y ∈ pc.1.set :=
  View.cover_of_tiledL (runA c i hc arg2 harg2 arg3 harg3 arg4 harg4 arg5 harg5 arg6 harg6 x0 x1 x2).1 S1x1x128x512.size (by sl_kernel_rfl) y

def outA3 (c : Dev nD) (i : grid0.Coords) (hc : k0_cond1 i = 1#1) (arg2 : Memref sig .tc .vmem S512x128 .bf16) (harg2 : arg2.IsWhole) (arg3 : Memref sig .tc .vmem S16384x128 .bf16) (harg3 : arg3.IsWhole) (arg4 : Memref sig .tc .vmem S1x32x128x512 .bf16) (harg4 : arg4.IsWhole) (arg5 : Memref sig .tc .vmem S1x1x128x512 .bf16) (harg5 : arg5.IsWhole) (arg6 : Memref sig .tc .vmem S1x1x1x512 .f32) (harg6 : arg6.IsWhole)
    (x0 : Vec F S512x128 .bf16) (x1 : Vec F S16384x128 .bf16) (x2 : Vec F S1x32x128x512 .bf16) : Vec F S1x1x128x512 .bf16 :=
  VO3.read (Elt F) (VO3.writes (Elt F) VO3.junk (runA c i hc arg2 harg2 arg3 harg3 arg4 harg4 arg5 harg5 arg6 harg6 x0 x1 x2).1)

theorem coverA4 (c : Dev nD) (i : grid0.Coords) (hc : k0_cond1 i = 1#1) (arg2 : Memref sig .tc .vmem S512x128 .bf16) (harg2 : arg2.IsWhole) (arg3 : Memref sig .tc .vmem S16384x128 .bf16) (harg3 : arg3.IsWhole) (arg4 : Memref sig .tc .vmem S1x32x128x512 .bf16) (harg4 : arg4.IsWhole) (arg5 : Memref sig .tc .vmem S1x1x128x512 .bf16) (harg5 : arg5.IsWhole) (arg6 : Memref sig .tc .vmem S1x1x1x512 .f32) (harg6 : arg6.IsWhole)
    (x0 : Vec F S512x128 .bf16) (x1 : Vec F S16384x128 .bf16) (x2 : Vec F S1x32x128x512 .bf16) (y : S1x1x1x512.Idx) :
    ∃ pc ∈ (runA c i hc arg2 harg2 arg3 harg3 arg4 harg4 arg5 harg5 arg6 harg6 x0 x1 x2).2.1, y ∈ pc.1.set :=
  View.cover_of_tiledL (runA c i hc arg2 harg2 arg3 harg3 arg4 harg4 arg5 harg5 arg6 harg6 x0 x1 x2).2.1 S1x1x1x512.size (by sl_kernel_rfl) y

def outA4 (c : Dev nD) (i : grid0.Coords) (hc : k0_cond1 i = 1#1) (arg2 : Memref sig .tc .vmem S512x128 .bf16) (harg2 : arg2.IsWhole) (arg3 : Memref sig .tc .vmem S16384x128 .bf16) (harg3 : arg3.IsWhole) (arg4 : Memref sig .tc .vmem S1x32x128x512 .bf16) (harg4 : arg4.IsWhole) (arg5 : Memref sig .tc .vmem S1x1x128x512 .bf16) (harg5 : arg5.IsWhole) (arg6 : Memref sig .tc .vmem S1x1x1x512 .f32) (harg6 : arg6.IsWhole)
    (x0 : Vec F S512x128 .bf16) (x1 : Vec F S16384x128 .bf16) (x2 : Vec F S1x32x128x512 .bf16) : Vec F S1x1x1x512 .f32 :=
  VO4.read (Elt F) (VO4.writes (Elt F) VO4.junk (runA c i hc arg2 harg2 arg3 harg3 arg4 harg4 arg5 harg5 arg6 harg6 x0 x1 x2).2.1)

theorem coverB3 (c : Dev nD) (i : grid0.Coords) (hc : ¬ k0_cond1 i = 1#1) (arg2 : Memref sig .tc .vmem S512x128 .bf16) (harg2 : arg2.IsWhole) (arg3 : Memref sig .tc .vmem S16384x128 .bf16) (harg3 : arg3.IsWhole) (arg4 : Memref sig .tc .vmem S1x32x128x512 .bf16) (harg4 : arg4.IsWhole) (arg5 : Memref sig .tc .vmem S1x1x128x512 .bf16) (harg5 : arg5.IsWhole) (arg6 : Memref sig .tc .vmem S1x1x1x512 .f32) (harg6 : arg6.IsWhole)
    (x0 : Vec F S512x128 .bf16) (x1 : Vec F S16384x128 .bf16) (x2 : Vec F S1x32x128x512 .bf16) (y : S1x1x128x512.Idx) :
    ∃ pc ∈ (runB c i hc arg2 harg2 arg3 harg3 arg4 harg4 arg5 harg5 arg6 harg6 x0 x1 x2).1, y ∈ pc.1.set :=
  View.cover_of_tiledL (runB c i hc arg2 harg2 arg3 harg3 arg4 harg4 arg5 harg5 arg6 harg6 x0 x1 x2).1 S1x1x128x512.size (by sl_kernel_rfl) y

def outB3 (c : Dev nD) (i : grid0.Coords) (hc : ¬ k0_cond1 i = 1#1) (arg2 : Memref sig .tc .vmem S512x128 .bf16) (harg2 : arg2.IsWhole) (arg3 : Memref sig .tc .vmem S16384x128 .bf16) (harg3 : arg3.IsWhole) (arg4 : Memref sig .tc .vmem S1x32x128x512 .bf16) (harg4 : arg4.IsWhole) (arg5 : Memref sig .tc .vmem S1x1x128x512 .bf16) (harg5 : arg5.IsWhole) (arg6 : Memref sig .tc .vmem S1x1x1x512 .f32) (harg6 : arg6.IsWhole)
    (x0 : Vec F S512x128 .bf16) (x1 : Vec F S16384x128 .bf16) (x2 : Vec F S1x32x128x512 .bf16) : Vec F S1x1x128x512 .bf16 :=
  VO3.read (Elt F) (VO3.writes (Elt F) VO3.junk (runB c i hc arg2 harg2 arg3 harg3 arg4 harg4 arg5 harg5 arg6 harg6 x0 x1 x2).1)

theorem coverB4 (c : Dev nD) (i : grid0.Coords) (hc : ¬ k0_cond1 i = 1#1) (arg2 : Memref sig .tc .vmem S512x128 .bf16) (harg2 : arg2.IsWhole) (arg3 : Memref sig .tc .vmem S16384x128 .bf16) (harg3 : arg3.IsWhole) (arg4 : Memref sig .tc .vmem S1x32x128x512 .bf16) (harg4 : arg4.IsWhole) (arg5 : Memref sig .tc .vmem S1x1x128x512 .bf16) (harg5 : arg5.IsWhole) (arg6 : Memref sig .tc .vmem S1x1x1x512 .f32) (harg6 : arg6.IsWhole)
    (x0 : Vec F S512x128 .bf16) (x1 : Vec F S16384x128 .bf16) (x2 : Vec F S1x32x128x512 .bf16) (y : S1x1x1x512.Idx) :
    ∃ pc ∈ (runB c i hc arg2 harg2 arg3 harg3 arg4 harg4 arg5 harg5 arg6 harg6 x0 x1 x2).2.1, y ∈ pc.1.set :=
  View.cover_of_tiledL (runB c i hc arg2 harg2 arg3 harg3 arg4 harg4 arg5 harg5 arg6 harg6 x0 x1 x2).2.1 S1x1x1x512.size (by sl_kernel_rfl) y

def outB4 (c : Dev nD) (i : grid0.Coords) (hc : ¬ k0_cond1 i = 1#1) (arg2 : Memref sig .tc .vmem S512x128 .bf16) (harg2 : arg2.IsWhole) (arg3 : Memref sig .tc .vmem S16384x128 .bf16) (harg3 : arg3.IsWhole) (arg4 : Memref sig .tc .vmem S1x32x128x512 .bf16) (harg4 : arg4.IsWhole) (arg5 : Memref sig .tc .vmem S1x1x128x512 .bf16) (harg5 : arg5.IsWhole) (arg6 : Memref sig .tc .vmem S1x1x1x512 .f32) (harg6 : arg6.IsWhole)
    (x0 : Vec F S512x128 .bf16) (x1 : Vec F S16384x128 .bf16) (x2 : Vec F S1x32x128x512 .bf16) : Vec F S1x1x1x512 .f32 :=
  VO4.read (Elt F) (VO4.writes (Elt F) VO4.junk (runB c i hc arg2 harg2 arg3 harg3 arg4 harg4 arg5 harg5 arg6 harg6 x0 x1 x2).2.1)

/-- Output 3's block after the body at point `t`. -/
def left3 (c : Dev nD) (t : Fin cfg0.N) : Vec F S1x1x128x512 .bf16 :=
  if hc : k0_cond1 (grid0.coords t) = 1#1 then outA3 c (grid0.coords t) hc (ms0 t) (hs0 t) (ms1 t) (hs1 t) (ms2 t) (hs2 t) (ms3 t) (hs3 t) (ms4 t) (hs4 t) (blkIn m c 0 t) (blkIn m c 1 t) (blkIn m c 2 t)
  else outB3 c (grid0.coords t) hc (ms0 t) (hs0 t) (ms1 t) (hs1 t) (ms2 t) (hs2 t) (ms3 t) (hs3 t) (ms4 t) (hs4 t) (blkIn m c 0 t) (blkIn m c 1 t) (blkIn m c 2 t)

/-- Output 4's block after the body at point `t`. -/
def left4 (c : Dev nD) (t : Fin cfg0.N) : Vec F S1x1x1x512 .f32 :=
  if hc : k0_cond1 (grid0.coords t) = 1#1 then outA4 c (grid0.coords t) hc (ms0 t) (hs0 t) (ms1 t) (hs1 t) (ms2 t) (hs2 t) (ms3 t) (hs3 t) (ms4 t) (hs4 t) (blkIn m c 0 t) (blkIn m c 1 t) (blkIn m c 2 t)
  else outB4 c (grid0.coords t) hc (ms0 t) (hs0 t) (ms1 t) (hs1 t) (ms2 t) (hs2 t) (ms3 t) (hs3 t) (ms4 t) (hs4 t) (blkIn m c 0 t) (blkIn m c 1 t) (blkIn m c 2 t)

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => blkIn m c 0 t
    | ⟨1, _⟩ => blkIn m c 1 t
    | ⟨2, _⟩ => blkIn m c 2 t
    | ⟨3, _⟩ => left3 m c t
    | ⟨4, _⟩ => left4 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = blkIn m c 0 t := by dsimp only [dats]
theorem after1 (c : Dev nD) (t : Fin cfg0.N) : (dats m 0 c).after 1 t = blkIn m c 1 t := by dsimp only [dats]
theorem after2 (c : Dev nD) (t : Fin cfg0.N) : (dats m 0 c).after 2 t = blkIn m c 2 t := by dsimp only [dats]
theorem after3 (c : Dev nD) (t : Fin cfg0.N) : (dats m 0 c).after 3 t = left3 m c t := by dsimp only [dats]
theorem after4 (c : Dev nD) (t : Fin cfg0.N) : (dats m 0 c).after 4 t = left4 m c t := by dsimp only [dats]

theorem held0 (c : Dev nD) (t : Fin cfg0.N) (d) : (dats m 0 c).before 0 t d = blkIn m c 0 t :=
  held0_of m (dats m 0 c) (A_eq m c 0) (after0 m c) t d
theorem held1 (c : Dev nD) (t : Fin cfg0.N) (d) : (dats m 0 c).before 1 t d = blkIn m c 1 t :=
  held1_of m (dats m 0 c) (A_eq m c 1) (after1 m c) t d
theorem held2 (c : Dev nD) (t : Fin cfg0.N) (d) : (dats m 0 c).before 2 t d = blkIn m c 2 t :=
  held2_of m (dats m 0 c) (A_eq m c 2) (after2 m c) t d

/-! ## The body at every grid point -/

abbrev bodyAt (t : Fin cfg0.N) : Prog (TpuEff nD τ sig (Elt F) Λ₀ .tc) PUnit :=
  cc0_attn_fwd (grid0.coords t) (ms0 t) (hs0 t) (ms1 t) (hs1 t) (ms2 t) (hs2 t) (ms3 t) (hs3 t) (ms4 t) (hs4 t)

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

theorem sound_body (c : Dev nD) (t : Fin cfg0.N) :
    bodyPre m c t ⊢ wp frame (wpE (defs₀ (F := F)) Variants.none c none) Set.univ (bodyAt t) (fun _ => bodyPost m c t) := by
  unfold bodyPre bodyPost bodyAt
  simp only [held0, held1, held2]
  rw [show (dats m 0 c).Φ t.succ = (dats m 0 c).Φ t.castSucc from rfl,
    show (dats m 0 c).owesAt () t.succ = (dats m 0 c).owesAt () t.castSucc from rfl,
    after0, after1, after2, after3, after4]
  unfold left3 left4
  by_cases hc : k0_cond1 (grid0.coords t) = 1#1
  · simp only [dif_pos hc]
    unfold outA3 outA4
    iintro ⟨Hi, Ho, ⟨%d0, H0⟩, ⟨%d1, H1⟩, ⟨%d2, H2⟩, ⟨%d3, H3⟩, ⟨%d4, H4⟩⟩
    iapply ((runA c (grid0.coords t) hc _ _ _ _ _ _ _ _ _ _ (blkIn m c 0 t) (blkIn m c 1 t) (blkIn m c 2 t)).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [Hi]; · iexact Hi
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (coverA3 c _ hc _ _ _ _ _ _ _ _ _ _ _ _ _)
    unfold owns; iexists _; isplitr
    swap; · iexact H4
    ipureintro; exact View.read_writes_of_cover _ _ _ _ _ (coverA4 c _ hc _ _ _ _ _ _ _ _ _ _ _ _ _)
  · simp only [dif_neg hc]
    unfold outB3 outB4
    iintro ⟨Hi, Ho, ⟨%d0, H0⟩, ⟨%d1, H1⟩, ⟨%d2, H2⟩, ⟨%d3, H3⟩, ⟨%d4, H4⟩⟩
    iapply ((runB c (grid0.coords t) hc _ _ _ _ _ _ _ _ _ _ (blkIn m c 0 t) (blkIn m c 1 t) (blkIn m c 2 t)).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [Hi]; · iexact Hi
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (coverB3 c _ hc _ _ _ _ _ _ _ _ _ _ _ _ _)
    unfold owns; iexists _; isplitr
    swap; · iexact H4
    ipureintro; exact View.read_writes_of_cover _ _ _ _ _ (coverB4 c _ hc _ _ _ _ _ _ _ _ _ _ _ _ _)

theorem body_row (t : Fin cfg0.N) :
    defs₀ (F := F) .tc cfg0.body (cfg0.bodyArgs t (cfg0.slots t)) = bodyAt t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The run -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := main_host m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨
      ((h c).2 main_arg0 (Pipeline.mem_restRefs_of main_arg0 (by decide) (by decide))).trans (V_arg0 m c),
      ((h c).2 main_arg1 (Pipeline.mem_restRefs_of main_arg1 (by decide) (by decide))).trans (V_arg1 m c),
      ((h c).2 main_arg2 (Pipeline.mem_restRefs_of main_arg2 (by decide) (by decide))).trans (V_arg2 m c)⟩) (run_main m ρ)

theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel5Ideal.Attn

end
-- ==== Proof.Attn.Tile.lean ====
module

public import proofs.«01_k».proof.Proof.Attn.Frame
public import Idealize.ShloMosaic.Lib.Pipeline.ValueKit

/-! What the attention kernel's body computes, as the online softmax's update of a running maximum, normaliser and
accumulator by one block of keys and values at a time. -/

@[expose] public section

noncomputable section

namespace Cert.Kernel5Ideal.Attn

open Cert.Kernel5Ideal Cert.Kernel5Ideal.Gen
open Idealize.ShloMosaic Idealize.ShloMosaic.TcCoe Idealize.ShloMosaic.Tactic
open Idealize.SL Idealize.SL.RA Idealize.SL.BI Idealize.SL.Sem

variable {F : FTy → Type} [FloatOps F] [Named F]

/-- The running maximum, normaliser and accumulator. -/
abbrev Acc (F : FTy → Type) := FVec F S1x512 .f32 × FVec F S1x512 .f32 × FVec F S128x512 .f32

/-- The running maximum after a block of scores. -/
def newMax (s : FVec F S512x512 .f32) (m : FVec F S1x512 .f32) : FVec F S1x512 .f32 :=
  maximumf m (shapeCast S1x512 (multiReduction .maximumf [0] S512 s 0xFF800000#32 reduces_S512x512_S512 (.inl rfl) rfl) shapeCasts_S512_S1x512)

/-- One block's update. -/
def upd (s : FVec F S512x512 .f32) (v : Vec F S1x1x128x512 .bf16) (a : Acc F) : Acc F :=
  (newMax s a.1, k0_pay3 s a.1 a.2.1 (newMax s a.1), k0_pay4 s a.1 a.2.2 (newMax s a.1) v)

/-- What the running values start at. -/
def acc0 : Acc F := (k0_pay42, k0_pay43, k0_pay44)

/-- One trip of the loop over pairs of blocks. -/
def pairUpd (i : grid0.Coords) (q : Vec F S512x128 .bf16) (x1 : Vec F S16384x128 .bf16) (x2 : Vec F S1x32x128x512 .bf16)
    (k : Fin (k0_t1_loop i).trips) (a : Acc F) : Acc F :=
  upd (k0_pay13 (k0_pay41 q) (View.ld x1 (Rect.unit (s := S16384x128) (k0_off2 i k) S512x128.size (k0_off2_inb i k))))
    (View.ld x2 (Rect.unit (s := S1x32x128x512) (k0_off4 i k) S1x1x128x512.size (k0_off4_inb i k)))
    (upd (k0_pay13 (k0_pay41 q) (View.ld x1 (Rect.unit (s := S16384x128) (k0_off1 i k) S512x128.size (k0_off1_inb i k))))
      (View.ld x2 (Rect.unit (s := S1x32x128x512) (k0_off3 i k) S1x1x128x512.size (k0_off3_inb i k))) a)

theorem trip_eq (c : Dev nD) (i : grid0.Coords) (arg2 : Memref sig .tc .vmem S512x128 .bf16) (harg2 : arg2.IsWhole) (arg3 : Memref sig .tc .vmem S16384x128 .bf16) (harg3 : arg3.IsWhole) (arg4 : Memref sig .tc .vmem S1x32x128x512 .bf16) (harg4 : arg4.IsWhole) (arg5 : Memref sig .tc .vmem S1x1x128x512 .bf16) (harg5 : arg5.IsWhole) (arg6 : Memref sig .tc .vmem S1x1x1x512 .f32) (harg6 : arg6.IsWhole)
    (v0 : Vec F S512x128 .bf16) (x1 : Vec F S16384x128 .bf16) (x2 : Vec F S1x32x128x512 .bf16) (k : Fin (k0_t1_loop i).trips) (a : Acc F) :
    tripR_k0_t1 Variants.none c none i arg2 harg2 arg3 harg3 arg4 harg4 arg5 harg5 arg6 harg6 v0 (harg3.unread x1) (harg4.unread x2) k a = pairUpd i v0 x1 x2 k a := by
  unfold tripR_k0_t1 trip_k0_t1
  dsimp only
  sl_unfold_words
  simp only [View.readAt_eq_ld, Memref.IsWhole.read_unread]
  rfl

/-- The running values after the loop's first `n` trips. -/
def stateAt (i : grid0.Coords) (q : Vec F S512x128 .bf16) (x1 : Vec F S16384x128 .bf16) (x2 : Vec F S1x32x128x512 .bf16) : ℕ → Acc F
  | 0 => acc0
  | n + 1 => if h : n < (k0_t1_loop i).trips then pairUpd i q x1 x2 ⟨n, h⟩ (stateAt i q x1 x2 n) else stateAt i q x1 x2 n

theorem state_eq (c : Dev nD) (i : grid0.Coords) (arg2 : Memref sig .tc .vmem S512x128 .bf16) (harg2 : arg2.IsWhole) (arg3 : Memref sig .tc .vmem S16384x128 .bf16) (harg3 : arg3.IsWhole) (arg4 : Memref sig .tc .vmem S1x32x128x512 .bf16) (harg4 : arg4.IsWhole) (arg5 : Memref sig .tc .vmem S1x1x128x512 .bf16) (harg5 : arg5.IsWhole) (arg6 : Memref sig .tc .vmem S1x1x1x512 .f32) (harg6 : arg6.IsWhole) (x0 : Vec F S512x128 .bf16) (x1 : Vec F S16384x128 .bf16) (x2 : Vec F S1x32x128x512 .bf16)
    (n : ℕ) (hn : n ≤ (k0_t1_loop i).trips) :
    st_k0_t1 Variants.none c none i arg2 harg2 arg3 harg3 arg4 harg4 arg5 harg5 arg6 harg6 x0 (harg3.unread x1) (harg4.unread x2) (k0_pay42, k0_pay43, k0_pay44) n = stateAt i x0 x1 x2 n := by
  induction n with
  | zero => exact st_k0_t1_zero _ _ _ _ _ _ _ _ _ _ _ _ _ _ _ _ _ _
  | succ n ih =>
    rw [st_k0_t1_succ Variants.none c none i arg2 harg2 arg3 harg3 arg4 harg4 arg5 harg5 arg6 harg6 x0 (harg3.unread x1) (harg4.unread x2) _ ⟨n, hn⟩, ih (Nat.le_of_lt hn), trip_eq, stateAt]
    have h : n < (k0_t1_loop i).trips := hn
    rw [dif_pos h]

/-- An odd block row's last two updates. -/
def lastA (i : grid0.Coords) (hc : k0_cond1 i = 1#1) (q : Vec F S512x128 .bf16) (x1 : Vec F S16384x128 .bf16) (x2 : Vec F S1x32x128x512 .bf16)
    (a : Acc F) : Acc F :=
  upd (k0_pay5 (k0_pay41 q) (View.ld x1 (Rect.unit (s := S16384x128) (k0_off10 i) S512x128.size (k0_off10_inb i hc))))
    (View.ld x2 (Rect.unit (s := S1x32x128x512) (k0_off12 i) S1x1x128x512.size (k0_off12_inb i hc)))
    (upd (k0_pay13 (k0_pay41 q) (View.ld x1 (Rect.unit (s := S16384x128) (k0_off9 i) S512x128.size (k0_off9_inb i hc))))
      (View.ld x2 (Rect.unit (s := S1x32x128x512) (k0_off11 i) S1x1x128x512.size (k0_off11_inb i hc))) a)

/-- An even block row's last update. -/
def lastB (i : grid0.Coords) (hc : ¬ k0_cond1 i = 1#1) (q : Vec F S512x128 .bf16) (x1 : Vec F S16384x128 .bf16) (x2 : Vec F S1x32x128x512 .bf16)
    (a : Acc F) : Acc F :=
  upd (k0_pay5 (k0_pay41 q) (View.ld x1 (Rect.unit (s := S16384x128) (k0_off13 i) S512x128.size (k0_off13_inb i hc))))
    (View.ld x2 (Rect.unit (s := S1x32x128x512) (k0_off14 i) S1x1x128x512.size (k0_off14_inb i hc))) a

theorem pay34_eq (q k : Vec F S512x128 .bf16) : k0_pay34 q k = k0_pay5 q k := rfl
theorem pay35_eq (q k : Vec F S512x128 .bf16) (m : FVec F S1x512 .f32) : k0_pay35 q m k = newMax (k0_pay13 q k) m := rfl
theorem pay38_eq (q k : Vec F S512x128 .bf16) (m l : FVec F S1x512 .f32) :
    k0_pay38 q m l k = k0_pay3 (k0_pay13 q k) m l (newMax (k0_pay13 q k) m) := rfl
theorem pay39_eq (q k : Vec F S512x128 .bf16) (m : FVec F S1x512 .f32) (a : FVec F S128x512 .f32) (v : Vec F S1x1x128x512 .bf16) :
    k0_pay39 q m a k v = k0_pay4 (k0_pay13 q k) m a (newMax (k0_pay13 q k) m) v := rfl
theorem pay40_eq (q k k' : Vec F S512x128 .bf16) (m : FVec F S1x512 .f32) :
    k0_pay40 q m k k' = newMax (k0_pay5 q k') (newMax (k0_pay13 q k) m) := rfl

/-- The loop over single blocks that follows has no trips. -/
theorem no_trips : ∀ i : grid0.Coords, (k0_t2_loop i).trips = 0 := by decide +kernel

theorem outA3_eq (c : Dev nD) (i : grid0.Coords) (hc : k0_cond1 i = 1#1) (arg2 : Memref sig .tc .vmem S512x128 .bf16) (harg2 : arg2.IsWhole) (arg3 : Memref sig .tc .vmem S16384x128 .bf16) (harg3 : arg3.IsWhole) (arg4 : Memref sig .tc .vmem S1x32x128x512 .bf16) (harg4 : arg4.IsWhole) (arg5 : Memref sig .tc .vmem S1x1x128x512 .bf16) (harg5 : arg5.IsWhole) (arg6 : Memref sig .tc .vmem S1x1x1x512 .f32) (harg6 : arg6.IsWhole)
    (x0 : Vec F S512x128 .bf16) (x1 : Vec F S16384x128 .bf16) (x2 : Vec F S1x32x128x512 .bf16) :
    outA3 c i hc arg2 harg2 arg3 harg3 arg4 harg4 arg5 harg5 arg6 harg6 x0 x1 x2 = k0_pay11 (lastA i hc x0 x1 x2 (stateAt i x0 x1 x2 (k0_t1_loop i).trips)).2.1 (lastA i hc x0 x1 x2 (stateAt i x0 x1 x2 (k0_t1_loop i).trips)).2.2 := by
  unfold outA3 runA
  frame_out
  refine Eq.trans (b := k0_pay11 (lastA i hc x0 x1 x2 (st_k0_t2 Variants.none c none i arg2 harg2 arg3 harg3 arg4 harg4 arg5 harg5 arg6 harg6 x0 _ (harg3.unread x1) (harg4.unread x2) (st_k0_t1 Variants.none c none i arg2 harg2 arg3 harg3 arg4 harg4 arg5 harg5 arg6 harg6 x0 (harg3.unread x1) (harg4.unread x2) (k0_pay42, k0_pay43, k0_pay44) (k0_t1_loop i).trips) (k0_t2_loop i).trips)).2.1 (lastA i hc x0 x1 x2 (st_k0_t2 Variants.none c none i arg2 harg2 arg3 harg3 arg4 harg4 arg5 harg5 arg6 harg6 x0 _ (harg3.unread x1) (harg4.unread x2) (st_k0_t1 Variants.none c none i arg2 harg2 arg3 harg3 arg4 harg4 arg5 harg5 arg6 harg6 x0 (harg3.unread x1) (harg4.unread x2) (k0_pay42, k0_pay43, k0_pay44) (k0_t1_loop i).trips) (k0_t2_loop i).trips)).2.2) (by simp only [pay34_eq, pay35_eq, pay38_eq, pay39_eq, pay40_eq]; rfl) ?_
  rw [no_trips, st_k0_t2_zero, state_eq _ _ _ _ _ _ _ _ _ _ _ _ _ _ _ _ le_rfl]

theorem outA4_eq (c : Dev nD) (i : grid0.Coords) (hc : k0_cond1 i = 1#1) (arg2 : Memref sig .tc .vmem S512x128 .bf16) (harg2 : arg2.IsWhole) (arg3 : Memref sig .tc .vmem S16384x128 .bf16) (harg3 : arg3.IsWhole) (arg4 : Memref sig .tc .vmem S1x32x128x512 .bf16) (harg4 : arg4.IsWhole) (arg5 : Memref sig .tc .vmem S1x1x128x512 .bf16) (harg5 : arg5.IsWhole) (arg6 : Memref sig .tc .vmem S1x1x1x512 .f32) (harg6 : arg6.IsWhole)
    (x0 : Vec F S512x128 .bf16) (x1 : Vec F S16384x128 .bf16) (x2 : Vec F S1x32x128x512 .bf16) :
    outA4 c i hc arg2 harg2 arg3 harg3 arg4 harg4 arg5 harg5 arg6 harg6 x0 x1 x2 = k0_pay12 (lastA i hc x0 x1 x2 (stateAt i x0 x1 x2 (k0_t1_loop i).trips)).1 (lastA i hc x0 x1 x2 (stateAt i x0 x1 x2 (k0_t1_loop i).trips)).2.1 := by
  unfold outA4 runA
  frame_out
  refine Eq.trans (b := k0_pay12 (lastA i hc x0 x1 x2 (st_k0_t2 Variants.none c none i arg2 harg2 arg3 harg3 arg4 harg4 arg5 harg5 arg6 harg6 x0 _ (harg3.unread x1) (harg4.unread x2) (st_k0_t1 Variants.none c none i arg2 harg2 arg3 harg3 arg4 harg4 arg5 harg5 arg6 harg6 x0 (harg3.unread x1) (harg4.unread x2) (k0_pay42, k0_pay43, k0_pay44) (k0_t1_loop i).trips) (k0_t2_loop i).trips)).1 (lastA i hc x0 x1 x2 (st_k0_t2 Variants.none c none i arg2 harg2 arg3 harg3 arg4 harg4 arg5 harg5 arg6 harg6 x0 _ (harg3.unread x1) (harg4.unread x2) (st_k0_t1 Variants.none c none i arg2 harg2 arg3 harg3 arg4 harg4 arg5 harg5 arg6 harg6 x0 (harg3.unread x1) (harg4.unread x2) (k0_pay42, k0_pay43, k0_pay44) (k0_t1_loop i).trips) (k0_t2_loop i).trips)).2.1) (by simp only [pay34_eq, pay35_eq, pay38_eq, pay39_eq, pay40_eq]; rfl) ?_
  rw [no_trips, st_k0_t2_zero, state_eq _ _ _ _ _ _ _ _ _ _ _ _ _ _ _ _ le_rfl]

theorem outB3_eq (c : Dev nD) (i : grid0.Coords) (hc : ¬ k0_cond1 i = 1#1) (arg2 : Memref sig .tc .vmem S512x128 .bf16) (harg2 : arg2.IsWhole) (arg3 : Memref sig .tc .vmem S16384x128 .bf16) (harg3 : arg3.IsWhole) (arg4 : Memref sig .tc .vmem S1x32x128x512 .bf16) (harg4 : arg4.IsWhole) (arg5 : Memref sig .tc .vmem S1x1x128x512 .bf16) (harg5 : arg5.IsWhole) (arg6 : Memref sig .tc .vmem S1x1x1x512 .f32) (harg6 : arg6.IsWhole)
    (x0 : Vec F S512x128 .bf16) (x1 : Vec F S16384x128 .bf16) (x2 : Vec F S1x32x128x512 .bf16) :
    outB3 c i hc arg2 harg2 arg3 harg3 arg4 harg4 arg5 harg5 arg6 harg6 x0 x1 x2 = k0_pay11 (lastB i hc x0 x1 x2 (stateAt i x0 x1 x2 (k0_t1_loop i).trips)).2.1 (lastB i hc x0 x1 x2 (stateAt i x0 x1 x2 (k0_t1_loop i).trips)).2.2 := by
  unfold outB3 runB
  frame_out
  refine Eq.trans (b := k0_pay11 (lastB i hc x0 x1 x2 (st_k0_t2 Variants.none c none i arg2 harg2 arg3 harg3 arg4 harg4 arg5 harg5 arg6 harg6 x0 _ (harg3.unread x1) (harg4.unread x2) (st_k0_t1 Variants.none c none i arg2 harg2 arg3 harg3 arg4 harg4 arg5 harg5 arg6 harg6 x0 (harg3.unread x1) (harg4.unread x2) (k0_pay42, k0_pay43, k0_pay44) (k0_t1_loop i).trips) (k0_t2_loop i).trips)).2.1 (lastB i hc x0 x1 x2 (st_k0_t2 Variants.none c none i arg2 harg2 arg3 harg3 arg4 harg4 arg5 harg5 arg6 harg6 x0 _ (harg3.unread x1) (harg4.unread x2) (st_k0_t1 Variants.none c none i arg2 harg2 arg3 harg3 arg4 harg4 arg5 harg5 arg6 harg6 x0 (harg3.unread x1) (harg4.unread x2) (k0_pay42, k0_pay43, k0_pay44) (k0_t1_loop i).trips) (k0_t2_loop i).trips)).2.2) (by rfl) ?_
  rw [no_trips, st_k0_t2_zero, state_eq _ _ _ _ _ _ _ _ _ _ _ _ _ _ _ _ le_rfl]

theorem outB4_eq (c : Dev nD) (i : grid0.Coords) (hc : ¬ k0_cond1 i = 1#1) (arg2 : Memref sig .tc .vmem S512x128 .bf16) (harg2 : arg2.IsWhole) (arg3 : Memref sig .tc .vmem S16384x128 .bf16) (harg3 : arg3.IsWhole) (arg4 : Memref sig .tc .vmem S1x32x128x512 .bf16) (harg4 : arg4.IsWhole) (arg5 : Memref sig .tc .vmem S1x1x128x512 .bf16) (harg5 : arg5.IsWhole) (arg6 : Memref sig .tc .vmem S1x1x1x512 .f32) (harg6 : arg6.IsWhole)
    (x0 : Vec F S512x128 .bf16) (x1 : Vec F S16384x128 .bf16) (x2 : Vec F S1x32x128x512 .bf16) :
    outB4 c i hc arg2 harg2 arg3 harg3 arg4 harg4 arg5 harg5 arg6 harg6 x0 x1 x2 = k0_pay12 (lastB i hc x0 x1 x2 (stateAt i x0 x1 x2 (k0_t1_loop i).trips)).1 (lastB i hc x0 x1 x2 (stateAt i x0 x1 x2 (k0_t1_loop i).trips)).2.1 := by
  unfold outB4 runB
  frame_out
  refine Eq.trans (b := k0_pay12 (lastB i hc x0 x1 x2 (st_k0_t2 Variants.none c none i arg2 harg2 arg3 harg3 arg4 harg4 arg5 harg5 arg6 harg6 x0 _ (harg3.unread x1) (harg4.unread x2) (st_k0_t1 Variants.none c none i arg2 harg2 arg3 harg3 arg4 harg4 arg5 harg5 arg6 harg6 x0 (harg3.unread x1) (harg4.unread x2) (k0_pay42, k0_pay43, k0_pay44) (k0_t1_loop i).trips) (k0_t2_loop i).trips)).1 (lastB i hc x0 x1 x2 (st_k0_t2 Variants.none c none i arg2 harg2 arg3 harg3 arg4 harg4 arg5 harg5 arg6 harg6 x0 _ (harg3.unread x1) (harg4.unread x2) (st_k0_t1 Variants.none c none i arg2 harg2 arg3 harg3 arg4 harg4 arg5 harg5 arg6 harg6 x0 (harg3.unread x1) (harg4.unread x2) (k0_pay42, k0_pay43, k0_pay44) (k0_t1_loop i).trips) (k0_t2_loop i).trips)).2.1) (by rfl) ?_
  rw [no_trips, st_k0_t2_zero, state_eq _ _ _ _ _ _ _ _ _ _ _ _ _ _ _ _ le_rfl]

end Cert.Kernel5Ideal.Attn

end
-- ==== Proof.Attn.Algebra.lean ====
/- The online softmax over the extended reals: a column's scores are reals, or −∞ where the mask hides a key, so the running
   maximum is a real and every rescaling a positive real, which distributes over sums of any values. -/
module

public import proofs.«01_k».proof.Proof.Conv.Algebra
public import Idealize.ShloMosaic.Lib.WordCmp

@[expose] public section

noncomputable section

namespace Attn

open Idealize.ShloMosaic Conv

theorem neg_inf : Ideal.ofBits .f32 0xFF800000#32 = ⊥ := by simp [Ideal.ofBits, Ideal.ieee]
theorem start_real : ∃ r : ℝ, Ideal.ofBits .f32 0xF149F2CA#32 = r := by
  refine ⟨-(13234890 * 2 ^ 76), ?_⟩
  simp [Ideal.ofBits, Ideal.ieee, -EReal.coe_mul]

/-- The causal mask's choice. -/
theorem mask_select {α : Type} (a b : ℕ) (ha : a < 2 ^ 31) (hb : b < 2 ^ 31) (x y : α) :
    Scalar.select (IntOp.cmpi .sle (BitVec.ofNat 32 a) (BitVec.ofNat 32 b)) x y = if a ≤ b then x else y := by
  by_cases h : a ≤ b
  · rw [if_pos h]; exact if_pos ((WordCmp.cmpi_sle_ofNat_eq_one_iff ha hb).2 h)
  · rw [if_neg h]; exact if_neg fun e => h ((WordCmp.cmpi_sle_ofNat_eq_one_iff ha hb).1 e)

/-- A score in base two, and its exponential: a real and its weight, or −∞ and zero. -/
def Score2 (s : EReal) (w : ℝ) : Prop := (∃ r : ℝ, s = r ∧ w = (2 : ℝ) ^ r) ∨ s = ⊥ ∧ w = 0

/-- The same in base `e`. -/
def ScoreE (s : EReal) (w : ℝ) : Prop := (∃ r : ℝ, s = r ∧ w = Real.exp r) ∨ s = ⊥ ∧ w = 0

theorem exp2_sub (a b : ℝ) : Ideal.exp2 ((a : EReal) - b) = (((2 : ℝ) ^ (-b) * (2 : ℝ) ^ a : ℝ) : EReal) := by
  rw [← EReal.coe_sub, Ideal.exp2_coe, sub_eq_neg_add]
  exact congrArg _ (Real.rpow_add two_pos _ _)

theorem Score2.exp2 {s : EReal} {w : ℝ} (h : Score2 s w) (μ : ℝ) : Ideal.exp2 (s - μ) = (((2 : ℝ) ^ (-μ) * w : ℝ) : EReal) := by
  obtain ⟨r, rfl, rfl⟩ | ⟨rfl, rfl⟩ := h
  · exact exp2_sub r μ
  · rw [EReal.bot_sub, Ideal.exp2_bot, mul_zero, EReal.coe_zero]

theorem ScoreE.exp {s : EReal} {w : ℝ} (h : ScoreE s w) (μ : ℝ) : Ideal.exp (s - μ) = ((Real.exp (-μ) * w : ℝ) : EReal) := by
  obtain ⟨r, rfl, rfl⟩ | ⟨rfl, rfl⟩ := h
  · rw [← EReal.coe_sub, Ideal.exp_coe, sub_eq_neg_add, Real.exp_add]
  · rw [EReal.bot_sub, Ideal.exp_bot, mul_zero, EReal.coe_zero]

theorem Score2.ne_top {s : EReal} {w : ℝ} (h : Score2 s w) : s ≠ ⊤ := by
  obtain ⟨r, rfl, -⟩ | ⟨rfl, -⟩ := h
  · exact EReal.coe_ne_top r
  · exact bot_ne_top

theorem ScoreE.ne_top {s : EReal} {w : ℝ} (h : ScoreE s w) : s ≠ ⊤ := by
  obtain ⟨r, rfl, -⟩ | ⟨rfl, -⟩ := h
  · exact EReal.coe_ne_top r
  · exact bot_ne_top

/-- A nonnegative real distributes over a sum of extended reals. -/
theorem mul_sum' {ι : Type*} (s : Finset ι) (f : ι → EReal) (c : ℝ) (hc : 0 ≤ c) : (c : EReal) * ∑ k ∈ s, f k = ∑ k ∈ s, (c : EReal) * f k := by
  classical
  induction s using Finset.induction_on with
  | empty => simp
  | insert a s ha ih =>
    rw [Finset.sum_insert ha, Finset.sum_insert ha,
      EReal.left_distrib_of_nonneg_of_ne_top (EReal.coe_nonneg.2 hc) (EReal.coe_ne_top c), ih]

/-- A real's maximum with values below ⊤ is a real. -/
theorem max_real {n : ℕ} (f : Fin n → EReal) (h : ∀ k, f k ≠ ⊤) (μ : ℝ) :
    ∃ r : ℝ, max (μ : EReal) ((Finset.univ : Finset (Fin n)).fold max ⊥ f) = r := by
  have ht : (Finset.univ : Finset (Fin n)).fold max ⊥ f < ⊤ :=
    (Finset.fold_max_lt ⊤).2 ⟨bot_lt_top, fun k _ => lt_top_iff_ne_top.2 (h k)⟩
  have h1 : max (μ : EReal) ((Finset.univ : Finset (Fin n)).fold max ⊥ f) < ⊤ := max_lt (EReal.coe_lt_top μ) ht
  have h2 : ⊥ < max (μ : EReal) ((Finset.univ : Finset (Fin n)).fold max ⊥ f) := lt_of_lt_of_le (EReal.bot_lt_coe μ) (le_max_left _ _)
  exact ⟨_, (EReal.coe_toReal h1.ne h2.ne').symm⟩

/-- The maximum of values below ⊤, one of them a real, is a real. -/
theorem fold_real {n : ℕ} (f : Fin n → EReal) (h : ∀ k, f k ≠ ⊤) (i : Fin n) (r : ℝ) (hi : f i = r) :
    ∃ r : ℝ, (Finset.univ : Finset (Fin n)).fold max ⊥ f = r := by
  have h1 : (Finset.univ : Finset (Fin n)).fold max ⊥ f < ⊤ :=
    (Finset.fold_max_lt ⊤).2 ⟨bot_lt_top, fun k _ => lt_top_iff_ne_top.2 (h k)⟩
  have h2 : ⊥ < (Finset.univ : Finset (Fin n)).fold max ⊥ f :=
    (Finset.lt_fold_max ⊥).2 (Or.inr ⟨i, Finset.mem_univ i, hi ▸ EReal.bot_lt_coe r⟩)
  exact ⟨_, (EReal.coe_toReal h1.ne h2.ne').symm⟩

/-- One block's step of the normaliser, … -/
theorem step_norm {n : ℕ} (s : Fin n → EReal) (w : Fin n → ℝ) (hs : ∀ k, Score2 (s k) (w k)) (μ μ' L : ℝ) :
    Ideal.exp2 ((μ : EReal) - μ') * (((2 : ℝ) ^ (-μ) * L : ℝ) : EReal) + ∑ k, Ideal.exp2 (s k - μ')
      = (((2 : ℝ) ^ (-μ') * (L + ∑ k, w k) : ℝ) : EReal) := by
  have h : (2 : ℝ) ^ μ * (2 : ℝ) ^ (-μ) = 1 := by rw [← Real.rpow_add two_pos, add_neg_cancel, Real.rpow_zero]
  rw [exp2_sub, Finset.sum_congr rfl fun k _ => (hs k).exp2 μ', ← coe_sum, ← Finset.mul_sum, ← EReal.coe_mul, ← EReal.coe_add, mul_add]
  refine congrArg _ (congrArg (· + _) ?_)
  linear_combination (2 : ℝ) ^ (-μ') * L * h

/-- … and of the accumulator. -/
theorem step_acc {n : ℕ} (s v : Fin n → EReal) (w : Fin n → ℝ) (hs : ∀ k, Score2 (s k) (w k)) (μ μ' : ℝ) (A : EReal) :
    Ideal.exp2 ((μ : EReal) - μ') * (((2 : ℝ) ^ (-μ) : ℝ) * A) + ∑ k, v k * Ideal.exp2 (s k - μ')
      = ((2 : ℝ) ^ (-μ') : ℝ) * (A + ∑ k, v k * w k) := by
  have h : (2 : ℝ) ^ μ * (2 : ℝ) ^ (-μ) = 1 := by rw [← Real.rpow_add two_pos, add_neg_cancel, Real.rpow_zero]
  have hp : 0 ≤ (2 : ℝ) ^ (-μ') := (Real.rpow_pos_of_pos two_pos _).le
  rw [EReal.left_distrib_of_nonneg_of_ne_top (EReal.coe_nonneg.2 hp) (EReal.coe_ne_top _), mul_sum' _ _ _ hp, exp2_sub, ← mul_assoc,
    ← EReal.coe_mul, mul_assoc, h, mul_one]
  refine congrArg _ (Finset.sum_congr rfl fun k _ => ?_)
  rw [(hs k).exp2 μ', EReal.coe_mul, mul_left_comm]

/-- What a column's running values are divided into at the end, … -/
theorem end_out (μ L : ℝ) (hL : 0 < L) (A : EReal) :
    Ideal.div (((2 : ℝ) ^ (-μ) : ℝ) * A) (((2 : ℝ) ^ (-μ) * L : ℝ) : EReal) = A * ((1 / L : ℝ) : EReal) := by
  have hp : 0 < (2 : ℝ) ^ (-μ) := Real.rpow_pos_of_pos two_pos _
  rw [Ideal.div_coe (mul_pos hp hL).ne', mul_comm ((((2 : ℝ) ^ (-μ) : ℝ)) : EReal) A, mul_assoc, ← EReal.coe_mul]
  exact congrArg (fun r : ℝ => A * (r : EReal)) (by field_simp)

/-- … and the logarithm of a column's sum. -/
theorem end_lse (μ L : ℝ) (hL : 0 < L) :
    (μ : EReal) + Ideal.log (((2 : ℝ) ^ (-μ) * L : ℝ) : EReal) * (((Real.log 2)⁻¹ : ℝ) : EReal) = ((Real.log L * (Real.log 2)⁻¹ : ℝ) : EReal) := by
  have hp : 0 < (2 : ℝ) ^ (-μ) := Real.rpow_pos_of_pos two_pos _
  have h2 : Real.log 2 ≠ 0 := (Real.log_pos one_lt_two).ne'
  rw [Ideal.log_coe, if_neg (not_le.2 (mul_pos hp hL)), ← EReal.coe_mul, ← EReal.coe_add, Real.log_mul hp.ne' hL.ne', Real.log_rpow two_pos]
  exact congrArg _ (by field_simp; ring)

end Attn

end
-- ==== Proof.Attn.Step.lean ====
/- One block's update of a column's running values, at its index. -/
module

public import proofs.«01_k».proof.Proof.Attn.Tile
public import proofs.«01_k».proof.Proof.Attn.Algebra
public import Idealize.ShloMosaic.Lib.Pointwise

@[expose] public section

set_option maxRecDepth 16384

noncomputable section

namespace Attn

open Idealize Idealize.ShloMosaic Cert.Kernel5Ideal Cert.Kernel5Ideal.Gen Cert.Kernel5Ideal.Attn Conv

theorem newMax_apply (s : FVec Ideal S512x512 .f32) (m : FVec Ideal S1x512 .f32) (r : Fin 512) :
    newMax s m (ix2 (0 : Fin 1) r) = max (m (ix2 (0 : Fin 1) r)) ((Finset.univ : Finset (Fin 512)).fold max ⊥ fun k => s (ix2 k r)) := by
  pointwise [newMax]
  rw [neg_inf]

theorem pay3_apply (s : FVec Ideal S512x512 .f32) (m l m' : FVec Ideal S1x512 .f32) (r : Fin 512) :
    k0_pay3 s m l m' (ix2 (0 : Fin 1) r) = Ideal.exp2 (m (ix2 (0 : Fin 1) r) - m' (ix2 (0 : Fin 1) r)) * l (ix2 (0 : Fin 1) r)
      + ∑ k : Fin 512, Ideal.exp2 (s (ix2 k r) - m' (ix2 (0 : Fin 1) r)) := by
  pointwise [k0_pay3, k0_pay2, k0_pay1]
  rfl

theorem pay4_apply (s : FVec Ideal S512x512 .f32) (m m' : FVec Ideal S1x512 .f32) (a : FVec Ideal S128x512 .f32)
    (v : Vec Ideal S1x1x128x512 .bf16) (d : Fin 128) (r : Fin 512) :
    k0_pay4 s m a m' v (ix2 d r) = Ideal.exp2 (m (ix2 (0 : Fin 1) r) - m' (ix2 (0 : Fin 1) r)) * a (ix2 d r)
      + ∑ k : Fin 512, v (ix4 (0 : Fin 1) (0 : Fin 1) d k) * Ideal.exp2 (s (ix2 k r) - m' (ix2 (0 : Fin 1) r)) := by
  pointwise [k0_pay4, k0_pay2, k0_pay1]
  rfl

theorem pay11_apply (l : FVec Ideal S1x512 .f32) (a : FVec Ideal S128x512 .f32) (d : Fin 128) (r : Fin 512) :
    k0_pay11 l a (ix4 (0 : Fin 1) (0 : Fin 1) d r) = Ideal.div (a (ix2 d r)) (l (ix2 (0 : Fin 1) r)) := by
  pointwise [k0_pay11]

theorem pay12_apply (m l : FVec Ideal S1x512 .f32) (r : Fin 512) :
    k0_pay12 m l (ix4 (0 : Fin 1) (0 : Fin 1) (0 : Fin 1) r)
      = m (ix2 (0 : Fin 1) r) + Ideal.log (l (ix2 (0 : Fin 1) r)) * (((Real.log 2)⁻¹ : ℝ) : EReal) := by
  pointwise [k0_pay12]
  rw [show (Named.named (F := Ideal) κ "log2e" (φ := .f32) 0x3FB8AA3B#32) = (((Real.log 2)⁻¹ : ℝ) : EReal) from
    IdealRules.named_const.ideal_named_scalar _ _ _ _ rfl]

theorem pay13_apply (q k : Vec Ideal S512x128 .bf16) (j r : Fin 512) :
    k0_pay13 (k0_pay41 q) k (ix2 j r) = ∑ d : Fin 128, k (ix2 j d) * q (ix2 r d) := by
  pointwise [k0_pay13, k0_pay41]

theorem pay5_apply (q k : Vec Ideal S512x128 .bf16) (j r : Fin 512) :
    k0_pay5 (k0_pay41 q) k (ix2 j r) = if j ≤ r then ∑ d : Fin 128, k (ix2 j d) * q (ix2 r d) else ⊥ := by
  pointwise [k0_pay5, k0_pay41]
  rw [mask_select _ _ (by omega) (by omega), neg_inf]
  rfl

/-- A column's running values, of the keys seen: a maximum that is a real, and what is left of the sums over the keys after its
    scaling. -/
def Inv (a : Acc Ideal) (L : Fin 512 → ℝ) (A : Fin 128 → Fin 512 → EReal) : Prop :=
  ∀ r : Fin 512, ∃ μ : ℝ, a.1 (ix2 (0 : Fin 1) r) = μ ∧ a.2.1 (ix2 (0 : Fin 1) r) = (((2 : ℝ) ^ (-μ) * L r : ℝ) : EReal)
    ∧ ∀ d : Fin 128, a.2.2 (ix2 d r) = ((2 : ℝ) ^ (-μ) : ℝ) * A d r

theorem Inv.start : Inv acc0 (fun _ => 0) (fun _ _ => 0) := by
  intro r
  obtain ⟨μ, hμ⟩ := start_real
  refine ⟨μ, hμ, ?_, fun d => ?_⟩
  · rw [mul_zero, EReal.coe_zero]; exact Ideal.ofBits_zero .f32
  · rw [mul_zero]; exact Ideal.ofBits_zero .f32

theorem Inv.step {a : Acc Ideal} {L : Fin 512 → ℝ} {A : Fin 128 → Fin 512 → EReal} (h : Inv a L A)
    (s : FVec Ideal S512x512 .f32) (v : Vec Ideal S1x1x128x512 .bf16) (w : Fin 512 → Fin 512 → ℝ)
    (hs : ∀ k r, Score2 (s (ix2 k r)) (w k r)) :
    Inv (upd s v a) (fun r => L r + ∑ k, w k r) (fun d r => A d r + ∑ k, v (ix4 (0 : Fin 1) (0 : Fin 1) d k) * w k r) := by
  intro r
  obtain ⟨μ, hm, hl, ha⟩ := h r
  obtain ⟨μ', hμ'⟩ := max_real (fun k => s (ix2 k r)) (fun k => (hs k r).ne_top) μ
  have hn : newMax s a.1 (ix2 (0 : Fin 1) r) = μ' := by rw [newMax_apply, hm, hμ']
  refine ⟨μ', hn, ?_, fun d => ?_⟩
  · show k0_pay3 s a.1 a.2.1 (newMax s a.1) (ix2 (0 : Fin 1) r) = _
    rw [pay3_apply, hn, hm, hl]
    exact step_norm _ _ (fun k => hs k r) μ μ' (L r)
  · show k0_pay4 s a.1 a.2.2 (newMax s a.1) v (ix2 d r) = _
    rw [pay4_apply, hn, hm, ha d]
    exact step_acc _ (fun k => v (ix4 (0 : Fin 1) (0 : Fin 1) d k)) _ (fun k => hs k r) μ μ' (A d r)

theorem Inv.out {a : Acc Ideal} {L : Fin 512 → ℝ} {A : Fin 128 → Fin 512 → EReal} (h : Inv a L A) (d : Fin 128) (r : Fin 512) (hL : 0 < L r) :
    k0_pay11 a.2.1 a.2.2 (ix4 (0 : Fin 1) (0 : Fin 1) d r) = A d r * ((1 / L r : ℝ) : EReal) := by
  obtain ⟨μ, -, hl, ha⟩ := h r
  rw [pay11_apply, hl, ha d, end_out μ _ hL]

theorem Inv.lse {a : Acc Ideal} {L : Fin 512 → ℝ} {A : Fin 128 → Fin 512 → EReal} (h : Inv a L A) (r : Fin 512) (hL : 0 < L r) :
    k0_pay12 a.1 a.2.1 (ix4 (0 : Fin 1) (0 : Fin 1) (0 : Fin 1) r) = ((Real.log (L r) * (Real.log 2)⁻¹ : ℝ) : EReal) := by
  obtain ⟨μ, hm, hl, -⟩ := h r
  rw [pay12_apply, hm, hl, end_lse μ _ hL]

end Attn

end
-- ==== Proof.Attn.Offs.lean ====
/- Where the attention kernel's loads of keys and values start, at each grid point and trip. -/
module

public import proofs.«01_k».proof.Proof.Gen.Kernel5Ideal.Launch
public import proofs.«01_k».proof.Proof.Gen.Kernel5Ideal.Skeleton

@[expose] public section

set_option maxRecDepth 16384

namespace Attn

open Idealize.ShloMosaic Cert.Kernel5Ideal Cert.Kernel5Ideal.Gen

theorem trips_eq : ∀ i : grid0.Coords, (k0_t1_loop i).trips = (i 1).val / 2 := by decide +kernel
theorem odd_iff : ∀ i : grid0.Coords, k0_cond1 i = 1#1 ↔ (i 1).val % 2 = 1 := by decide +kernel
theorem off1_eq : ∀ (i : grid0.Coords) (k : Fin (k0_t1_loop i).trips), k0_off1 i k = ![512 * (2 * k.val), 0] := by decide +kernel
theorem off2_eq : ∀ (i : grid0.Coords) (k : Fin (k0_t1_loop i).trips), k0_off2 i k = ![512 * (2 * k.val + 1), 0] := by decide +kernel
theorem off3_eq : ∀ (i : grid0.Coords) (k : Fin (k0_t1_loop i).trips), k0_off3 i k = ![0, 2 * k.val, 0, 0] := by decide +kernel
theorem off4_eq : ∀ (i : grid0.Coords) (k : Fin (k0_t1_loop i).trips), k0_off4 i k = ![0, 2 * k.val + 1, 0, 0] := by decide +kernel
theorem off9_eq : ∀ i : grid0.Coords, k0_cond1 i = 1#1 → k0_off9 i = ![512 * ((i 1).val - 1), 0] := by decide +kernel
theorem off10_eq : ∀ i : grid0.Coords, k0_cond1 i = 1#1 → k0_off10 i = ![512 * (i 1).val, 0] := by decide +kernel
theorem off11_eq : ∀ i : grid0.Coords, k0_cond1 i = 1#1 → k0_off11 i = ![0, (i 1).val - 1, 0, 0] := by decide +kernel
theorem off12_eq : ∀ i : grid0.Coords, k0_cond1 i = 1#1 → k0_off12 i = ![0, (i 1).val, 0, 0] := by decide +kernel
theorem off13_eq : ∀ i : grid0.Coords, ¬ k0_cond1 i = 1#1 → k0_off13 i = ![512 * (i 1).val, 0] := by decide +kernel
theorem off14_eq : ∀ i : grid0.Coords, ¬ k0_cond1 i = 1#1 → k0_off14 i = ![0, (i 1).val, 0, 0] := by decide +kernel

end Attn

end
-- ==== Proof.Attn.Spec.lean ====
/- Causal attention, head by head: the weights of the keys a query sees, their sum, and the weighted values. -/
module

public import proofs.«01_k».proof.Proof.Attn.Algebra

@[expose] public section

noncomputable section

namespace Attn

open Idealize Idealize.ShloMosaic Conv

abbrev Tok := Fin 16384
abbrev Col := Fin 1024
abbrev Head := Fin 8

/-- A row of a block, and a column of a head. -/
abbrev row (b : Fin 32) (r : Fin 512) : Tok := ⟨512 * b.val + r.val, by omega⟩
abbrev lane (h : Head) (d : Fin 128) : Col := ⟨128 * h.val + d.val, by omega⟩

theorem scale_real : ∃ c : ℝ, Ideal.ofBits .f32 0x3DD105EC#32 = c := by
  simp only [Ideal.ofBits, Ideal.ieee]
  norm_num
  exact ⟨_, rfl⟩
theorem two : Ideal.ofBits .f32 0x40000000#32 = ((2 : ℝ) : EReal) := by
  simp [Ideal.ofBits, Ideal.ieee, -EReal.coe_mul]
  norm_num

/-- The scores' factor. -/
def scale : ℝ := scale_real.choose
theorem scale_eq : Ideal.ofBits .f32 0x3DD105EC#32 = (scale : EReal) := scale_real.choose_spec

variable (q k : Tok → Col → ℝ) (v : Tok → Col → EReal)

/-- A query's score of a key. -/
def score (h : Head) (t j : Tok) : ℝ := (∑ d : Fin 128, q t (lane h d) * k j (lane h d)) * scale

/-- A key's weight: nothing of a key after the query. -/
def weight (h : Head) (t j : Tok) : ℝ := if j ≤ t then Real.exp (score q k h t j) else 0

/-- The weights' sum. -/
def norm (h : Head) (t : Tok) : ℝ := ∑ j, weight q k h t j

theorem weight_nonneg (h : Head) (t j : Tok) : 0 ≤ weight q k h t j := by
  unfold weight; split_ifs
  · exact (Real.exp_pos _).le
  · exact le_rfl

theorem norm_pos (h : Head) (t : Tok) : 0 < norm q k h t :=
  Finset.sum_pos' (fun j _ => weight_nonneg q k h t j)
    ⟨t, Finset.mem_univ t, by rw [weight, if_pos le_rfl]; exact Real.exp_pos _⟩

/-- The attended values. -/
def attend (h : Head) (t : Tok) (d : Fin 128) : EReal :=
  (∑ j : Tok, v j (lane h d) * (weight q k h t j : EReal)) * ((1 / norm q k h t : ℝ) : EReal)

/-- The normaliser's logarithm in base two. -/
def lse (h : Head) (t : Tok) : EReal := ((Real.log (norm q k h t) * (Real.log 2)⁻¹ : ℝ) : EReal)

end Attn

end
-- ==== Proof.Attn.Points.lean ====
/- What each of the 256 points leaves in its two blocks: a head's 512 queries' weighted values, and the logarithms of their
   normalisers. -/
module

public import proofs.«01_k».proof.Proof.Attn.Step
public import proofs.«01_k».proof.Proof.Attn.Offs
public import proofs.«01_k».proof.Proof.Attn.Spec
public import Idealize.ShloMosaic.Lib.Pipeline.ValueKit

@[expose] public section

set_option maxRecDepth 16384

noncomputable section

namespace Attn

open Idealize Idealize.ShloMosaic Cert.Kernel5Ideal Cert.Kernel5Ideal.Gen Cert.Kernel5Ideal.Attn Conv
open Idealize.ShloMosaic.Pipeline (Dat)

/-- A key's weight, if the query sees it. -/
def seen (E : ℕ → ℝ) (q j : ℕ) : ℝ := if j ≤ q then E j else 0

/-- The sums over the first `n` blocks of keys. -/
def normN (E : ℕ → Fin 512 → ℝ) (b n : ℕ) (r : Fin 512) : ℝ :=
  ∑ j ∈ Finset.range (512 * n), seen (fun j => E j r) (512 * b + r.val) j
def accN (E : ℕ → Fin 512 → ℝ) (vv : ℕ → Fin 128 → EReal) (b n : ℕ) (d : Fin 128) (r : Fin 512) : EReal :=
  ∑ j ∈ Finset.range (512 * n), vv j d * (seen (fun j => E j r) (512 * b + r.val) j : EReal)

theorem range_succ {M : Type*} [AddCommMonoid M] (f : ℕ → M) (n : ℕ) :
    ∑ j ∈ Finset.range (512 * (n + 1)), f j = ∑ j ∈ Finset.range (512 * n), f j + ∑ k : Fin 512, f (512 * n + k.val) := by
  rw [show 512 * (n + 1) = 512 * n + 512 by ring, Finset.sum_range_add, Finset.sum_range fun k => f (512 * n + k)]

section Body

variable (b : Fin 32) (x0 : Vec Ideal S512x128 .bf16) (x1 : Vec Ideal S16384x128 .bf16) (x2 : Vec Ideal S1x32x128x512 .bf16)
  (E : ℕ → Fin 512 → ℝ) (vv : ℕ → Fin 128 → EReal)
  (hs : ∀ (j : Tok) (r : Fin 512), Score2 (∑ d : Fin 128, x1 (ix2 j d) * x0 (ix2 r d)) (E j.val r))
  (hv : ∀ (a : Fin 32) (d : Fin 128) (k : Fin 512), x2 (ix4 (0 : Fin 1) a d k) = vv (512 * a.val + k.val) d)

/-- A load of 512 keys, and of their values. -/
theorem ld_keys (off : Fin 2 → ℕ) (inb) (n : ℕ) (ho : off = ![512 * n, 0]) (hn : n < 32) (k : Fin 512) (d : Fin 128) :
    View.ld x1 (Rect.unit (s := S16384x128) off S512x128.size inb) (ix2 k d) = x1 (ix2 (row ⟨n, hn⟩ k) d) := by
  subst ho
  refine View.ld_unit_apply_of _ _ _ _ _ _ fun a => ?_
  match a with
  | ⟨0, _⟩ => rfl
  | ⟨1, _⟩ => exact (Nat.zero_add _).symm

theorem ld_vals (off : Fin 4 → ℕ) (inb) (n : ℕ) (ho : off = ![0, n, 0, 0]) (hn : n < 32) (d : Fin 128) (k : Fin 512) :
    View.ld x2 (Rect.unit (s := S1x32x128x512) off S1x1x128x512.size inb) (ix4 (0 : Fin 1) (0 : Fin 1) d k)
      = x2 (ix4 (0 : Fin 1) ⟨n, hn⟩ d k) := by
  subst ho
  refine View.ld_unit_apply_of _ _ _ _ _ _ fun a => ?_
  match a with
  | ⟨0, _⟩ => rfl
  | ⟨1, _⟩ => rfl
  | ⟨2, _⟩ => exact (Nat.zero_add _).symm
  | ⟨3, _⟩ => exact (Nat.zero_add _).symm

include hs hv in
/-- A block below the queries' own, … -/
theorem step_full (offk : Fin 2 → ℕ) (inbk) (offv : Fin 4 → ℕ) (inbv) (n : ℕ) (hk : offk = ![512 * n, 0]) (hw : offv = ![0, n, 0, 0])
    (hn : n < b.val) (a : Acc Ideal) (h : Inv a (normN E b n) (accN E vv b n)) :
    Inv (upd (k0_pay13 (k0_pay41 x0) (View.ld x1 (Rect.unit (s := S16384x128) offk S512x128.size inbk)))
      (View.ld x2 (Rect.unit (s := S1x32x128x512) offv S1x1x128x512.size inbv)) a) (normN E b (n + 1)) (accN E vv b (n + 1)) := by
  have hb : n < 32 := by omega
  have e : ∀ (k r : Fin 512), seen (fun j => E j r) (512 * b.val + r.val) (512 * n + k.val) = E (512 * n + k.val) r := fun k r =>
    if_pos (by omega)
  have h' := h.step (k0_pay13 (k0_pay41 x0) (View.ld x1 (Rect.unit (s := S16384x128) offk S512x128.size inbk)))
    (View.ld x2 (Rect.unit (s := S1x32x128x512) offv S1x1x128x512.size inbv)) (fun k r => E (512 * n + k.val) r) fun k r => by
      rw [pay13_apply]
      simp only [ld_keys x1 offk inbk n hk hb]
      exact hs (row ⟨n, hb⟩ k) r
  convert h' using 1
  · funext r
    rw [normN, range_succ, normN]
    simp only [e]
  · funext d r
    rw [accN, range_succ, accN]
    simp only [e, ld_vals x2 offv inbv n hw hb, hv]

include hs hv in
/-- … and their own. -/
theorem step_diag (offk : Fin 2 → ℕ) (inbk) (offv : Fin 4 → ℕ) (inbv) (n : ℕ) (hk : offk = ![512 * n, 0]) (hw : offv = ![0, n, 0, 0])
    (hn : n = b.val) (a : Acc Ideal) (h : Inv a (normN E b n) (accN E vv b n)) :
    Inv (upd (k0_pay5 (k0_pay41 x0) (View.ld x1 (Rect.unit (s := S16384x128) offk S512x128.size inbk)))
      (View.ld x2 (Rect.unit (s := S1x32x128x512) offv S1x1x128x512.size inbv)) a) (normN E b (n + 1)) (accN E vv b (n + 1)) := by
  have hb : n < 32 := by omega
  have h' := h.step (k0_pay5 (k0_pay41 x0) (View.ld x1 (Rect.unit (s := S16384x128) offk S512x128.size inbk)))
    (View.ld x2 (Rect.unit (s := S1x32x128x512) offv S1x1x128x512.size inbv))
    (fun k r => seen (fun j => E j r) (512 * b.val + r.val) (512 * n + k.val)) fun k r => by
      rw [pay5_apply]
      simp only [ld_keys x1 offk inbk n hk hb]
      by_cases hkr : k ≤ r
      · rw [if_pos hkr, seen, if_pos (by have : k.val ≤ r.val := hkr; omega)]
        exact hs (row ⟨n, hb⟩ k) r
      · rw [if_neg hkr, seen, if_neg (by have : ¬ k.val ≤ r.val := hkr; omega)]
        exact Or.inr ⟨rfl, rfl⟩
  convert h' using 1
  · funext r
    rw [normN, range_succ, normN]
  · funext d r
    rw [accN, range_succ, accN]
    simp only [ld_vals x2 offv inbv n hw hb, hv]

include hs hv in
/-- After the loop's first `n` trips, the first `2 n` blocks are in. -/
theorem state_inv (i : grid0.Coords) (hi : (i 1).val = b.val) (n : ℕ) (hn : n ≤ (k0_t1_loop i).trips) :
    Inv (stateAt i x0 x1 x2 n) (normN E b (2 * n)) (accN E vv b (2 * n)) := by
  induction n with
  | zero =>
    rw [show normN E b (2 * 0) = fun _ => 0 from funext fun r => by simp [normN],
      show accN E vv b (2 * 0) = fun _ _ => 0 from funext fun d => funext fun r => by simp [accN]]
    exact Inv.start
  | succ n ih =>
    have hlt : n < (k0_t1_loop i).trips := hn
    have ht := trips_eq i
    rw [stateAt, dif_pos hlt]
    exact step_full b x0 x1 x2 E vv hs hv _ _ _ _ (2 * n + 1) (off2_eq i ⟨n, hlt⟩) (off4_eq i ⟨n, hlt⟩) (by omega) _
      (step_full b x0 x1 x2 E vv hs hv _ _ _ _ (2 * n) (off1_eq i ⟨n, hlt⟩) (off3_eq i ⟨n, hlt⟩) (by omega) _ (ih hlt.le))

include hs hv in
/-- After an odd row's last pair, … -/
theorem lastA_inv (i : grid0.Coords) (hi : (i 1).val = b.val) (hc : k0_cond1 i = 1#1) :
    Inv (lastA i hc x0 x1 x2 (stateAt i x0 x1 x2 (k0_t1_loop i).trips)) (normN E b (b.val + 1)) (accN E vv b (b.val + 1)) := by
  have ht := trips_eq i
  have ho := (odd_iff i).1 hc
  have h := state_inv b x0 x1 x2 E vv hs hv i hi _ le_rfl
  have e1 : 2 * (k0_t1_loop i).trips = (i 1).val - 1 := by omega
  rw [e1] at h
  have h2 := step_full b x0 x1 x2 E vv hs hv _ (k0_off9_inb i hc) _ (k0_off11_inb i hc) _ (off9_eq i hc) (off11_eq i hc) (by omega) _ h
  rw [show (i 1).val - 1 + 1 = (i 1).val by omega] at h2
  have h3 := step_diag b x0 x1 x2 E vv hs hv _ (k0_off10_inb i hc) _ (k0_off12_inb i hc) _ (off10_eq i hc) (off12_eq i hc) hi _ h2
  rw [hi] at h3
  exact h3

include hs hv in
/-- … and after an even row's last block. -/
theorem lastB_inv (i : grid0.Coords) (hi : (i 1).val = b.val) (hc : ¬ k0_cond1 i = 1#1) :
    Inv (lastB i hc x0 x1 x2 (stateAt i x0 x1 x2 (k0_t1_loop i).trips)) (normN E b (b.val + 1)) (accN E vv b (b.val + 1)) := by
  have ht := trips_eq i
  have ho : ¬ (i 1).val % 2 = 1 := fun e => hc ((odd_iff i).2 e)
  have h := state_inv b x0 x1 x2 E vv hs hv i hi _ le_rfl
  have e1 : 2 * (k0_t1_loop i).trips = (i 1).val := by omega
  rw [e1] at h
  have h3 := step_diag b x0 x1 x2 E vv hs hv _ (k0_off13_inb i hc) _ (k0_off14_inb i hc) _ (off13_eq i hc) (off14_eq i hc) hi _ h
  rw [hi] at h3
  exact h3

end Body

end Attn

end
-- ==== Proof.Attn.Arrays.lean ====
/- What the two result arrays hold after the whole grid. -/
module

public import proofs.«01_k».proof.Proof.Attn.Points

@[expose] public section

set_option maxRecDepth 16384

noncomputable section

namespace Attn

open Idealize Idealize.ShloMosaic Cert.Kernel5Ideal Cert.Kernel5Ideal.Gen Cert.Kernel5Ideal.Attn Conv
open Idealize.ShloMosaic.Pipeline (Dat)

variable (m : (ℓ : Loc nD τ sig) → Buf (Elt Ideal) ℓ) (c : Dev nD)

theorem idx0 : ∀ t : Fin cfg0.N, win0_0.index t = ![t.val % 32, t.val / 32] := (by decide +kernel : ∀ t : Fin grid0.N, _)
theorem idx1 : ∀ t : Fin cfg0.N, win0_1.index t = ![0, t.val / 32] := (by decide +kernel : ∀ t : Fin grid0.N, _)
theorem idx2 : ∀ t : Fin cfg0.N, win0_2.index t = ![t.val / 32, 0, 0, 0] := (by decide +kernel : ∀ t : Fin grid0.N, _)
theorem idx3 : ∀ t : Fin cfg0.N, win0_3.index t = ![t.val / 32, t.val % 32, 0, 0] := (by decide +kernel : ∀ t : Fin grid0.N, _)
theorem idx4 : ∀ t : Fin cfg0.N, win0_4.index t = ![t.val / 32, t.val % 32, 0, 0] := (by decide +kernel : ∀ t : Fin grid0.N, _)
theorem coord1 : ∀ t : Fin cfg0.N, ((grid0.coords t) 1).val = t.val % 32 := (by decide +kernel : ∀ t : Fin grid0.N, _)
theorem N_0' : cfg0.N = 256 := by decide +kernel

/-- A point's head and block of queries. -/
abbrev hd (t : Fin cfg0.N) : Head := ⟨t.val / 32, by have := Nat.lt_of_lt_of_eq t.isLt N_0'; omega⟩
abbrev bk (t : Fin cfg0.N) : Fin 32 := ⟨t.val % 32, by omega⟩

/-- A point's queries and keys. -/
abbrev queries (t : Fin cfg0.N) : Vec Ideal S512x128 .bf16 := blkIn m c 0 t
abbrev keys (t : Fin cfg0.N) : Vec Ideal S16384x128 .bf16 := blkIn m c 1 t

theorem blk_q (t : Fin cfg0.N) (r : Fin 512) (d : Fin 128) : queries m c t (ix2 r d) = V m c main_v8 (ix2 (row (bk t) r) (lane (hd t) d)) := by
  blk_ext [queries, blkIn, idx0 t]
theorem blk_k (t : Fin cfg0.N) (j : Tok) (d : Fin 128) : keys m c t (ix2 j d) = V m c main_v9 (ix2 j (lane (hd t) d)) := by
  blk_ext [keys, blkIn, idx1 t]
theorem blk_v (t : Fin cfg0.N) (a : Fin 32) (d : Fin 128) (k : Fin 512) :
    blkIn m c 2 t (ix4 (0 : Fin 1) a d k) = V m c main_v2 (ix4 (hd t) a d k) := by
  blk_ext [blkIn, idx2 t]

/-- The launch memory's arguments. -/
abbrev in0 : Vec Ideal S16384x1024 .f32 := m ((c.tc : Thread nD τ).loc main_arg0)
abbrev in1 : Vec Ideal S16384x1024 .f32 := m ((c.tc : Thread nD τ).loc main_arg1)
abbrev in2 : Vec Ideal S16384x1024 .f32 := m ((c.tc : Thread nD τ).loc main_arg2)

theorem e_q (t : Tok) (j : Col) : V m c main_v8 (ix2 t j)
    = Ideal.div (in0 m c (ix2 t j) * Ideal.ofBits .f32 0x3DD105EC#32) (Ideal.log (Ideal.ofBits .f32 0x40000000#32)) := by
  entry_read
  rfl
theorem e_k (t : Tok) (j : Col) : V m c main_v9 (ix2 t j) = in1 m c (ix2 t j) := by
  entry_read
  rfl
theorem e_v (h : Head) (a : Fin 32) (d : Fin 128) (k : Fin 512) : V m c main_v2 (ix4 h a d k) = in2 m c (ix2 (row a k) (lane h d)) := by
  entry_read
  pointwise
  exact congrArg (in2 m c) (congrArg₂ ix2 (Fin.ext (by dsimp only; omega)) (Fin.ext (by dsimp only; omega)))

variable (q k : Tok → Col → ℝ) (hq : ∀ t j, in0 m c (ix2 t j) = q t j) (hk : ∀ t j, in1 m c (ix2 t j) = k t j)

/-- The unmasked weights and the values at a point, read at any number. -/
def wts (h : Head) (b : Fin 32) (j : ℕ) (r : Fin 512) : ℝ := if hj : j < 16384 then Real.exp (score q k h (row b r) ⟨j, hj⟩) else 0
def vals (h : Head) (j : ℕ) (d : Fin 128) : EReal := if hj : j < 16384 then in2 m c (ix2 ⟨j, hj⟩ (lane h d)) else 0

include hq hk in
theorem scores_at (t : Fin cfg0.N) (j : Tok) (r : Fin 512) :
    Score2 (∑ d : Fin 128, keys m c t (ix2 j d) * queries m c t (ix2 r d)) (wts q k (hd t) (bk t) j.val r) := by
  have h2 : Real.log 2 ≠ 0 := (Real.log_pos one_lt_two).ne'
  refine Or.inl ⟨score q k (hd t) (row (bk t) r) j * (1 / Real.log 2), ?_, ?_⟩
  · rw [score, Finset.sum_mul, Finset.sum_mul, coe_sum]
    refine Finset.sum_congr rfl fun d _ => ?_
    rw [blk_k, blk_q, e_k, e_q, hq, hk, scale_eq, two, Ideal.log_coe, if_neg (by norm_num), Ideal.div_coe h2]
    simp only [← EReal.coe_mul]
    exact congrArg _ (by ring)
  · rw [wts, dif_pos j.isLt, Real.rpow_def_of_pos two_pos]
    exact congrArg _ (by field_simp)

theorem vals_at (t : Fin cfg0.N) (a : Fin 32) (d : Fin 128) (r : Fin 512) :
    blkIn m c 2 t (ix4 (0 : Fin 1) a d r) = vals m c (hd t) (512 * a.val + r.val) d := by
  rw [blk_v, e_v, vals, dif_pos (by omega)]

/-- The sums up to the queries' own block are the sums over every key. -/
theorem sum_seen {M : Type*} [AddCommMonoid M] (f : ℕ → M) (b : Fin 32) (r : Fin 512) (h0 : ∀ j, 512 * b.val + r.val < j → f j = 0) :
    ∑ j ∈ Finset.range (512 * (b.val + 1)), f j = ∑ j : Tok, f j.val := by
  rw [← Finset.sum_range f]
  refine Finset.sum_subset (Finset.range_subset_range.2 (by omega)) fun j _ hj => h0 j ?_
  rw [Finset.mem_range] at hj
  omega

theorem seen_wts (h : Head) (b : Fin 32) (r : Fin 512) (j : Tok) :
    seen (fun j => wts q k h b j r) (512 * b.val + r.val) j.val = weight q k h (row b r) j := by
  rw [seen, weight]
  refine if_congr Iff.rfl ?_ rfl
  rw [wts, dif_pos j.isLt]

theorem norm_eq (h : Head) (b : Fin 32) (r : Fin 512) : normN (wts q k h b) b (b.val + 1) r = norm q k h (row b r) := by
  rw [normN, sum_seen (fun j => seen (fun j => wts q k h b j r) (512 * b.val + r.val) j) b r fun j hj => if_neg (by omega), norm]
  exact Finset.sum_congr rfl fun j _ => seen_wts q k h b r j

theorem acc_eq (h : Head) (b : Fin 32) (d : Fin 128) (r : Fin 512) :
    accN (wts q k h b) (vals m c h) b (b.val + 1) d r
      = ∑ j : Tok, in2 m c (ix2 j (lane h d)) * (weight q k h (row b r) j : EReal) := by
  rw [accN, sum_seen _ b r fun j hj => by rw [seen, if_neg (by omega), EReal.coe_zero, mul_zero]]
  refine Finset.sum_congr rfl fun j _ => ?_
  rw [seen_wts, vals, dif_pos j.isLt]

include hq hk in
theorem at_out (t : Fin cfg0.N) (d : Fin 128) (r : Fin 512) :
    left3 m c t (ix4 (0 : Fin 1) (0 : Fin 1) d r) = attend q k (fun t j => in2 m c (ix2 t j)) (hd t) (row (bk t) r) d := by
  have hp := norm_pos q k (hd t) (row (bk t) r)
  rw [← norm_eq] at hp
  unfold left3
  split_ifs with hc
  · rw [outA3_eq, (lastA_inv (bk t) _ _ _ _ _ (scores_at m c q k hq hk t) (vals_at m c t) _ (coord1 t) hc).out d r hp, norm_eq, acc_eq, attend]
  · rw [outB3_eq, (lastB_inv (bk t) _ _ _ _ _ (scores_at m c q k hq hk t) (vals_at m c t) _ (coord1 t) hc).out d r hp, norm_eq, acc_eq, attend]

include hq hk in
theorem at_lse (t : Fin cfg0.N) (r : Fin 512) :
    left4 m c t (ix4 (0 : Fin 1) (0 : Fin 1) (0 : Fin 1) r) = lse q k (hd t) (row (bk t) r) := by
  have hp := norm_pos q k (hd t) (row (bk t) r)
  rw [← norm_eq] at hp
  unfold left4
  split_ifs with hc
  · rw [outA4_eq, (lastA_inv (bk t) _ _ _ _ _ (scores_at m c q k hq hk t) (vals_at m c t) _ (coord1 t) hc).lse r hp, norm_eq, lse]
  · rw [outB4_eq, (lastB_inv (bk t) _ _ _ _ _ (scores_at m c q k hq hk t) (vals_at m c t) _ (coord1 t) hc).lse r hp, norm_eq, lse]

include hq hk in
theorem arr_out : (dats m 0 c).arrAt 3 cfg0.N
    = fun i : S8x32x128x512.Idx => attend q k (fun t j => in2 m c (ix2 t j)) (i 0) (row (i 1) (i 3)) (i 2) := by
  refine (dats m 0 c).arrAt_eq_of_covers 3 _ (by decide +kernel) fun t hf y => ?_
  blk_simp
  rw [after3]
  obtain ⟨d, r, rfl⟩ : ∃ (d : Fin 128) (r : Fin 512), y = ix4 (0 : Fin 1) (0 : Fin 1) d r :=
    ⟨y 2, y 3, (eq_ix4 y).trans (congrArg₂ (fun a b => ix4 a b (y 2) (y 3)) (Subsingleton.elim _ _) (Subsingleton.elim _ _))⟩
  rw [show (win0_3.blk t).view.emb (ix4 (0 : Fin 1) (0 : Fin 1) d r) = ix4 (hd t) (bk t) d r by blk_ext [idx3 t]]
  exact at_out m c q k hq hk t d r

include hq hk in
theorem arr_lse : (dats m 0 c).arrAt 4 cfg0.N = fun i : S8x32x1x512.Idx => lse q k (i 0) (row (i 1) (i 3)) := by
  refine (dats m 0 c).arrAt_eq_of_covers 4 _ (by decide +kernel) fun t hf y => ?_
  blk_simp
  rw [after4]
  obtain ⟨r, rfl⟩ : ∃ r : Fin 512, y = ix4 (0 : Fin 1) (0 : Fin 1) (0 : Fin 1) r :=
    ⟨y 3, (eq_ix4 y).trans (congr (congrArg₂ ix4 (Subsingleton.elim (α := Fin 1) _ _) (Subsingleton.elim (α := Fin 1) _ _))
      (Subsingleton.elim (α := Fin 1) _ _) |> fun e => congrFun e (y 3))⟩
  rw [show (win0_4.blk t).view.emb (ix4 (0 : Fin 1) (0 : Fin 1) (0 : Fin 1) r) = ix4 (hd t) (bk t) (0 : Fin 1) r by blk_ext [idx4 t]]
  exact at_lse m c q k hq hk t r

end Attn

end
-- ==== Proof.Attn.Ref.lean ====
/- What the reference attention computes, read at a head and a query. -/
module

public import proofs.«01_k».proof.Proof.Gen.Reference5Ideal.Read
public import proofs.«01_k».proof.Proof.Attn.Spec
public import Idealize.ShloMosaic.Lib.KernelVsHost

@[expose] public section

set_option maxRecDepth 16384

noncomputable section

namespace Attn.Ref

open Idealize Idealize.ShloMosaic Cert.Reference5Ideal Cert.Reference5Ideal.Gen Cert.Reference5Ideal.Read Conv Attn

/-! The reference's steps of any scores `s` and any row maxima `w`. -/

theorem fold_of (s : FVec Ideal S8x16384x16384 .f32) (h : Head) (t : Tok) :
    Host.reduce FloatOps.maximumf s (constant S_ .f32 0xFF800000#32) reducesTo_S8x16384x16384_S8x16384_d2 h_S_ (ix2 h t)
      = (Finset.univ : Finset Tok).fold max ⊥ fun j => s (ix3 h t j) := by
  rw [hostReduce_maximumf_eq_multiReduction s 0xFF800000#32 reducesTo_S8x16384x16384_S8x16384_d2 h_S_ (by decide) (.inl rfl) rfl]
  pointwise
  rw [neg_inf]

theorem exp_of (s : FVec Ideal S8x16384x16384 .f32) (w : FVec Ideal S8x16384 .f32) (h : Head) (t j : Tok) :
    Host.exp (subf s (broadcastInDim S8x16384x16384 ![0, 1, 2] bcast_S8x16384x1_S8x16384x16384_0_1_2
      (broadcastInDim S8x16384x1 ![0, 1] bcast_S8x16384_S8x16384x1_0_1 w))) (ix3 h t j)
      = Ideal.exp (s (ix3 h t j) - w (ix2 h t)) := by
  pointwise

theorem max_of (w : FVec Ideal S8x16384 .f32) :
    maximumf (broadcastInDim S8x16384 ![] bcast_S_S8x16384 (constant S_ .f32 0xFF800000#32)) w = w := by
  funext i
  show max (Ideal.ofBits .f32 0xFF800000#32) (w i) = w i
  rw [neg_inf]
  exact max_bot_left _

theorem lse_of (w l : FVec Ideal S8x16384 .f32) (h : Head) (b : Fin 32) (r : Fin 512) :
    shapeCast S8x32x1x512 (Host.divf (addf (broadcastInDim S8x16384x1 ![0, 1] bcast_S8x16384_S8x16384x1_0_1 w)
      (Host.log (broadcastInDim S8x16384x1 ![0, 1] bcast_S8x16384_S8x16384x1_0_1 l)))
      (broadcastInDim S8x16384x1 ![] bcast_S_S8x16384x1 (Host.log (constant S_ .f32 0x40000000#32)))) shapeCasts_S8x16384x1_S8x32x1x512
      (ix4 h b (0 : Fin 1) r)
      = Ideal.div (w (ix2 h (row b r)) + Ideal.log (l (ix2 h (row b r)))) (Ideal.log (Ideal.ofBits .f32 0x40000000#32)) := by
  pointwise
  rw [show (⟨b.val * 512 + r.val, by omega⟩ : Tok) = row b r from Fin.ext (by dsimp only; omega)]

variable (x0 x1 x2 : Vec Ideal S16384x1024 .f32) (q k : Tok → Col → ℝ) (hq : ∀ t j, x0 (ix2 t j) = q t j)
  (hk : ∀ t j, x1 (ix2 t j) = k t j)

include hq hk in
theorem r_dot (h : Head) (t j : Tok) : val_main_v4 (F := Ideal) x0 x1 (ix3 h t j) = (score q k h t j : EReal) := by
  pointwise [val_main_v0, val_main_v1, val_main_v2, val_main_cst, val_main_v3, val_main_v4]
  rw [score, scale_eq, EReal.coe_mul, coe_sum]
  refine congrArg (· * (scale : EReal)) (Finset.sum_congr rfl fun d _ => ?_)
  rw [hq, hk, ← EReal.coe_mul]
  exact congrArg (fun c => ((q t c * k j c : ℝ) : EReal)) (Fin.ext (by dsimp only; omega))

include hq hk in
theorem r_score (h : Head) (t j : Tok) :
    val_main_v9 (F := Ideal) x0 x1 (ix3 h t j) = if j ≤ t then (score q k h t j : EReal) else ⊥ := by
  pointwise [val_main_v5, val_main_v6, val_main_v7, val_main_cst_0, val_main_v8, val_main_v9]
  rw [r_dot x0 x1 q k hq hk, neg_inf, mask_select j.val t.val (by omega) (by omega)]
  rfl

include hq hk in
theorem r_scoreE (h : Head) (t j : Tok) : ScoreE (val_main_v9 (F := Ideal) x0 x1 (ix3 h t j)) (weight q k h t j) := by
  rw [r_score x0 x1 q k hq hk, weight]
  split_ifs
  · exact Or.inl ⟨_, rfl, rfl⟩
  · exact Or.inr ⟨rfl, rfl⟩

/-- The maximum along a query's keys. -/
theorem r_fold (h : Head) (t : Tok) : val_main_v10 (F := Ideal) x0 x1 (ix2 h t)
    = (Finset.univ : Finset Tok).fold max ⊥ fun j => val_main_v9 (F := Ideal) x0 x1 (ix3 h t j) :=
  fold_of _ h t

include hq hk in
theorem r_max (h : Head) (t : Tok) : ∃ M : ℝ, val_main_v10 (F := Ideal) x0 x1 (ix2 h t) = M := by
  rw [r_fold]
  refine fold_real _ (fun j => (r_scoreE x0 x1 q k hq hk h t j).ne_top) t (score q k h t t) ?_
  rw [r_score x0 x1 q k hq hk, if_pos le_rfl]

/-- The row maxima, computed twice, and the scores' exponentials. -/
theorem max_again : val_main_v24 (F := Ideal) x0 x1 = val_main_v10 x0 x1 := by unfold val_main_v24 val_main_v10 val_main_cst_4 val_main_cst_1; rfl
theorem max_here : val_main_v12 (F := Ideal) x0 x1 = val_main_v10 x0 x1 := max_of _
theorem exp_again : val_main_v28 (F := Ideal) x0 x1 = val_main_v16 x0 x1 := by
  unfold val_main_v28 val_main_v27 val_main_v26 val_main_v25 val_main_v16 val_main_v15 val_main_v14 val_main_v13
  rw [max_again, max_here]
theorem sum_again : val_main_v29 (F := Ideal) x0 x1 = val_main_v17 x0 x1 := by
  unfold val_main_v29 val_main_v17 val_main_cst_5 val_main_cst_3
  rw [exp_again]

include hq hk in
theorem r_exp (h : Head) (t j : Tok) (M : ℝ) (hM : val_main_v10 (F := Ideal) x0 x1 (ix2 h t) = M) :
    val_main_v16 (F := Ideal) x0 x1 (ix3 h t j) = ((Real.exp (-M) * weight q k h t j : ℝ) : EReal) := by
  unfold val_main_v16 val_main_v15 val_main_v14 val_main_v13
  rw [exp_of, max_here, hM, (r_scoreE x0 x1 q k hq hk h t j).exp]

include hq hk in
theorem r_sum (h : Head) (t : Tok) (M : ℝ) (hM : val_main_v10 (F := Ideal) x0 x1 (ix2 h t) = M) :
    val_main_v17 (F := Ideal) x0 x1 (ix2 h t) = ((Real.exp (-M) * norm q k h t : ℝ) : EReal) := by
  pointwise [val_main_cst_3, val_main_v17]
  simp only [r_exp x0 x1 q k hq hk h t _ M hM]
  rw [← coe_sum, norm, Finset.mul_sum]

include hq hk in
theorem r_weight (h : Head) (t j : Tok) :
    val_main_v20 (F := Ideal) x0 x1 (ix3 h t j) = (weight q k h t j : EReal) * ((1 / norm q k h t : ℝ) : EReal) := by
  obtain ⟨M, hM⟩ := r_max x0 x1 q k hq hk h t
  have hn := norm_pos q k h t
  pointwise [val_main_v18, val_main_v19, val_main_v20]
  rw [r_exp x0 x1 q k hq hk h t j M hM, r_sum x0 x1 q k hq hk h t M hM,
    Ideal.div_coe (mul_pos (Real.exp_pos _) hn).ne', ← EReal.coe_mul, ← EReal.coe_mul]
  refine congrArg _ ?_
  have := (Real.exp_pos (-M)).ne'
  field_simp

include hq hk in
theorem r_attend (h : Head) (b : Fin 32) (d : Fin 128) (r : Fin 512) :
    val_main_v37 (F := Ideal) x0 x1 x2 (ix4 h b d r) = attend q k (fun t j => x2 (ix2 t j)) h (row b r) d := by
  have e1 : ∀ p, (⟨b.val * 512 + r.val, p⟩ : Tok) = row b r := fun _ => Fin.ext (by dsimp only; omega)
  have e2 : ∀ p, (⟨h.val * 128 + d.val, p⟩ : Col) = lane h d := fun _ => Fin.ext (by dsimp only; omega)
  pointwise [val_main_v21, val_main_v22, val_main_v23, val_main_v36, val_main_v37]
  simp only [e1, e2, r_weight x0 x1 q k hq hk]
  rw [attend, mul_comm, mul_sum' _ _ _ (one_div_nonneg.2 (norm_pos q k h (row b r)).le)]
  exact Finset.sum_congr rfl fun j _ => by rw [← mul_assoc, mul_comm]

include hq hk in
theorem r_lse (h : Head) (b : Fin 32) (r : Fin 512) :
    val_main_v38 (F := Ideal) x0 x1 (ix4 h b (0 : Fin 1) r) = lse q k h (row b r) := by
  obtain ⟨M, hM⟩ := r_max x0 x1 q k hq hk h (row b r)
  have hn := norm_pos q k h (row b r)
  have h2 : Real.log 2 ≠ 0 := (Real.log_pos one_lt_two).ne'
  unfold val_main_v38 val_main_v35 val_main_v34 val_main_v33 val_main_cst_6 val_main_v32 val_main_v31 val_main_v30 val_main_v25
  rw [lse_of, max_again, sum_again, hM, r_sum x0 x1 q k hq hk h (row b r) M hM, two, Ideal.log_coe, Ideal.log_coe,
    if_neg (not_le.2 two_pos), if_neg (not_le.2 (mul_pos (Real.exp_pos _) hn)), Ideal.div_coe h2, ← EReal.coe_add, ← EReal.coe_mul,
    Real.log_mul (Real.exp_pos _).ne' hn.ne', Real.log_exp, lse]
  exact congrArg _ (by ring)

end Attn.Ref

end
-- ==== Proof.Attn.Join.lean ====
/- The two arrays after the whole grid are the reference's two results, where the queries and the keys are finite. -/
module

public import proofs.«01_k».proof.Proof.Attn.Arrays
public import proofs.«01_k».proof.Proof.Attn.Ref
public import proofs.«01_k».proof.Proof.Back.Pre
public import proofs.«01_k».proof.Proof.Gen.Reference5Ideal.Run
public import proofs.«01_k».proof.Defs

@[expose] public section

set_option maxRecDepth 16384

noncomputable section

namespace Attn

open Idealize Idealize.ShloMosaic Idealize.SL.Sem Cert.Kernel5Ideal Cert.Kernel5Ideal.Gen Cert.Kernel5Ideal.Attn Conv
open Cert.Reference5Ideal.Read (val_main_v37 val_main_v38 val_main_v37_eq val_main_v38_eq)

theorem pre_facts : Cert.Pre_finite5.Facts where
  bcast_S_S16384x1024 := by decide
  reducesTo_S16384x1024_S_d0_1 := by decide
  h_S_ := by decide

/-- Where the precondition is one, the queries and the keys have real entries. -/
theorem real_of_pre [Cert.Pre_finite5.Facts] (x0 x1 x2 : FVec Ideal Cert.Pre_finite5.S16384x1024 .f32)
    (h : Cert.Pre_finite5.fn x0 x1 x2 = fun _ => 1#1) : (∀ i, Back.Real' (x0 i)) ∧ ∀ i, Back.Real' (x1 i) := by
  have e := congrFun h (fun k => k.elim0)
  obtain ⟨e0, e1⟩ := IntOp.andi_eq_one.1 (e : IntOp.andi _ _ = 1#1)
  exact ⟨Back.real_of_all x0 _ _ _ _ e0, Back.real_of_all x1 _ _ _ _ e1⟩

section Arrays

variable (m : (ℓ : Loc nD τ sig) → Buf (Elt Ideal) ℓ) (c : Dev nD) (q k : Tok → Col → ℝ)
  (hq : ∀ t j, in0 m c (ix2 t j) = q t j) (hk : ∀ t j, in1 m c (ix2 t j) = k t j)

include hq hk in
theorem j_out : (dats m 0 c).arrAt 3 cfg0.N = val_main_v37 (F := Ideal) (in0 m c) (in1 m c) (in2 m c) := by
  rw [arr_out m c q k hq hk]
  funext i
  obtain ⟨h, b, d, r, rfl⟩ : ∃ (h : Head) (b : Fin 32) (d : Fin 128) (r : Fin 512), i = ix4 h b d r :=
    ⟨i 0, i 1, i 2, i 3, eq_ix4 i⟩
  exact (Ref.r_attend (in0 m c) (in1 m c) (in2 m c) q k hq hk h b d r).symm

include hq hk in
theorem j_lse : (dats m 0 c).arrAt 4 cfg0.N = val_main_v38 (F := Ideal) (in0 m c) (in1 m c) := by
  rw [arr_lse m c q k hq hk]
  funext i
  obtain ⟨h, b, u, r, rfl⟩ : ∃ (h : Head) (b : Fin 32) (u : Fin 1) (r : Fin 512), i = ix4 h b u r :=
    ⟨i 0, i 1, i 2, i 3, eq_ix4 i⟩
  obtain rfl : u = 0 := Subsingleton.elim _ _
  exact (Ref.r_lse (in0 m c) (in1 m c) q k hq hk h b r).symm

end Arrays

/-- The run with its two arrays named. -/
theorem run_arrays (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v10_0) = (dats m 0 c).arrAt 3 cfg0.N
      ∧ r.2.mem ((c.tc : Thread nD τ).loc main_v10_1) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h.1 c).1 3, (h.1 c).1 4, h.2 c⟩) (θ_run_and (run_main m ρ) (unchanged m ρ))

/-- The kernel's two arrays are the reference's two results. -/
theorem value : Cert.algebraic_Kernel5Ideal_Reference5Ideal_pre_finite5 (hKernel5Ideal := Cert.Kernel5Ideal.Gen.facts)
    (hReference5Ideal := Cert.Reference5Ideal.Gen.facts) (hPre_finite5 := pre_facts) := by
  intro m g m' g' hpre hagree
  refine ⟨_, _, run_arrays m g, ?_⟩
  refine (θ_run Cert.Reference5Ideal.defs _ _).mono (fun r h c => ?_) (Cert.Reference5Ideal.Value.run m' g')
  obtain ⟨h0, h1, ha⟩ := h c
  obtain ⟨a0, a1, a2⟩ := hagree c
  obtain ⟨f0, f1⟩ := @real_of_pre pre_facts _ _ _ (hpre c)
  choose q hq using fun (t : Tok) (j : Col) => f0 (ix2 t j)
  choose k hk using fun (t : Tok) (j : Col) => f1 (ix2 t j)
  refine ⟨h0.trans ?_, h1.trans ?_, ha⟩
  · refine (val_main_v37_eq _ _ _).trans (Eq.trans ?_ (j_out m c q k hq hk).symm)
    rw [a0, a1, a2]
  · refine (val_main_v38_eq _ _).trans (Eq.trans ?_ (j_lse m c q k hq hk).symm)
    rw [a0, a1]

end Attn

end
-- ==== Proof.Grad.Offs.lean ====
module

public import proofs.«01_k».proof.Proof.Gen.Kernel6Ideal.Launch
public import proofs.«01_k».proof.Proof.Gen.Kernel6Ideal.Skeleton
public import proofs.«01_k».proof.Proof.Gen.Kernel6Ideal.Loops
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.LoopRemainder

/-! Where the gradient kernel of the attention reads and writes, at each grid point and trip. -/

@[expose] public section

set_option maxRecDepth 16384

noncomputable section

namespace Cert.Kernel6Ideal.Grad

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## Where the loads start -/

theorem off4_eq : ∀ (i : grid0.Coords) (k : Fin (k0_t1_loop i).trips), k0_off4 i k = ![512 * ((i 1).val + 1 + 2 * k.val), 0] := by decide +kernel
instance (i : grid0.Coords) (k : Fin (k0_t1_loop i).trips) : ClosedOff (k0_off4 i k) := ⟨_, off4_eq i k⟩
theorem off5_eq : ∀ (i : grid0.Coords) (k : Fin (k0_t1_loop i).trips), k0_off5 i k = ![512 * ((i 1).val + 2 + 2 * k.val), 0] := by decide +kernel
instance (i : grid0.Coords) (k : Fin (k0_t1_loop i).trips) : ClosedOff (k0_off5 i k) := ⟨_, off5_eq i k⟩
theorem off6_eq : ∀ (i : grid0.Coords) (k : Fin (k0_t1_loop i).trips), k0_off6 i k = ![0, (i 1).val + 1 + 2 * k.val, 0] := by decide +kernel
instance (i : grid0.Coords) (k : Fin (k0_t1_loop i).trips) : ClosedOff (k0_off6 i k) := ⟨_, off6_eq i k⟩
theorem off7_eq : ∀ (i : grid0.Coords) (k : Fin (k0_t1_loop i).trips), k0_off7 i k = ![0, (i 1).val + 1 + 2 * k.val, 0, 0] := by decide +kernel
instance (i : grid0.Coords) (k : Fin (k0_t1_loop i).trips) : ClosedOff (k0_off7 i k) := ⟨_, off7_eq i k⟩
theorem off8_eq : ∀ (i : grid0.Coords) (k : Fin (k0_t1_loop i).trips), k0_off8 i k = ![0, (i 1).val + 2 + 2 * k.val, 0] := by decide +kernel
instance (i : grid0.Coords) (k : Fin (k0_t1_loop i).trips) : ClosedOff (k0_off8 i k) := ⟨_, off8_eq i k⟩
theorem off9_eq : ∀ (i : grid0.Coords) (k : Fin (k0_t1_loop i).trips), k0_off9 i k = ![0, (i 1).val + 2 + 2 * k.val, 0, 0] := by decide +kernel
instance (i : grid0.Coords) (k : Fin (k0_t1_loop i).trips) : ClosedOff (k0_off9 i k) := ⟨_, off9_eq i k⟩

/-- The condition of the zero store: the head's first block of keys. -/
abbrev First (i : grid0.Coords) : Prop := Scalar.cmpi .ne (Scalar.extui (Scalar.cmpi .eq (BitVec.ofNat 32 (i 1).val) 0#32) : BitVec 32) 0#32 = 1#1

theorem trips_eq : ∀ i : grid0.Coords, (k0_t1_loop i).trips = (31 - (i 1).val) / 2 := by decide +kernel
theorem first_iff : ∀ i : grid0.Coords, Iff (First i) ((i 1).val = 0) := by decide +kernel
theorem odd_iff : ∀ i : grid0.Coords, Iff (k0_cond2 i = 1#1) ((31 - (i 1).val) % 2 = 1) := by decide +kernel

end Cert.Kernel6Ideal.Grad

end
-- ==== Proof.Grad.Run.lean ====
module

public import proofs.«01_k».proof.Proof.Grad.Offs
public import proofs.«01_k».proof.Proof.Gen.Kernel6Ideal.Launch
public import proofs.«01_k».proof.Proof.Gen.Kernel6Ideal.Skeleton
public import proofs.«01_k».proof.Proof.Gen.Kernel6Ideal.Loops
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.LoopRemainder

/-! The gradient kernel of the attention, by values: what each trip and each grid point leaves. -/

@[expose] public section

set_option maxRecDepth 16384

noncomputable section

namespace Cert.Kernel6Ideal.Grad

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The two running gradients of a block of keys and values. -/
abbrev Acc (F : FTy → Type) := FVec F S512x128 .f32 × FVec F S512x128 .f32

/-- The running gradients, and the head's gradient of the queries, block by block. -/
abbrev St (F : FTy → Type) := Acc F × Vec F S1x32x128x512 .f32

/-- One trip of the loop over pairs of blocks of queries. -/
def trip (i : grid0.Coords) (v1 : FVec F S512x128 .bf16) (v3 : FVec F S512x128 .bf16) (v5 : FVec F S128x512 .bf16) (x0 : Vec F S16384x128 .bf16) (x4 : Vec F S16384x128 .bf16) (x5 : Vec F S1x32x512 .f32) (x6 : Vec F S1x32x512 .f32) (k : Fin (k0_t1_loop i).trips) (s : St F) : St F :=
  ((k0_pay2 (k0_pay15 s.1.1 (k0_pay10 (View.ld x0 (Rect.unit (s := S16384x128) (k0_off4 i k) S512x128.size (k0_off4_inb i k)))) (k0_pay13 v1 v3 (View.ld x0 (Rect.unit (s := S16384x128) (k0_off4 i k) S512x128.size (k0_off4_inb i k))) (View.ld x4 (Rect.unit (s := S16384x128) (k0_off4 i k) S512x128.size (k0_off4_inb i k))) (View.ld x5 (Rect.unit (s := S1x32x512) (k0_off6 i k) S1x1x512.size (k0_off6_inb i k))) (View.ld x6 (Rect.unit (s := S1x32x512) (k0_off6 i k) S1x1x512.size (k0_off6_inb i k))))) (k0_pay17 (View.ld x0 (Rect.unit (s := S16384x128) (k0_off5 i k) S512x128.size (k0_off5_inb i k)))) (k0_pay20 v3 (k0_pay9 v1 (View.ld x0 (Rect.unit (s := S16384x128) (k0_off5 i k) S512x128.size (k0_off5_inb i k)))) (View.ld x4 (Rect.unit (s := S16384x128) (k0_off5 i k) S512x128.size (k0_off5_inb i k))) (View.ld x5 (Rect.unit (s := S1x32x512) (k0_off8 i k) S1x1x512.size (k0_off8_inb i k))) (View.ld x6 (Rect.unit (s := S1x32x512) (k0_off8 i k) S1x1x512.size (k0_off8_inb i k)))),
    k0_pay3 (k0_pay16 s.1.2 (k0_pay11 (View.ld x4 (Rect.unit (s := S16384x128) (k0_off4 i k) S512x128.size (k0_off4_inb i k)))) (k0_pay12 v1 (View.ld x0 (Rect.unit (s := S16384x128) (k0_off4 i k) S512x128.size (k0_off4_inb i k))) (View.ld x5 (Rect.unit (s := S1x32x512) (k0_off6 i k) S1x1x512.size (k0_off6_inb i k))))) (k0_pay18 (View.ld x4 (Rect.unit (s := S16384x128) (k0_off5 i k) S512x128.size (k0_off5_inb i k)))) (k0_pay19 (k0_pay9 v1 (View.ld x0 (Rect.unit (s := S16384x128) (k0_off5 i k) S512x128.size (k0_off5_inb i k)))) (View.ld x5 (Rect.unit (s := S1x32x512) (k0_off8 i k) S1x1x512.size (k0_off8_inb i k))))),
   VecWindow.put (VecWindow.put s.2 (k0_off7 i k) S1x1x128x512.size (k0_pay14 v5 (k0_pay13 v1 v3 (View.ld x0 (Rect.unit (s := S16384x128) (k0_off4 i k) S512x128.size (k0_off4_inb i k))) (View.ld x4 (Rect.unit (s := S16384x128) (k0_off4 i k) S512x128.size (k0_off4_inb i k))) (View.ld x5 (Rect.unit (s := S1x32x512) (k0_off6 i k) S1x1x512.size (k0_off6_inb i k))) (View.ld x6 (Rect.unit (s := S1x32x512) (k0_off6 i k) S1x1x512.size (k0_off6_inb i k)))) (View.ld s.2 (Rect.unit (s := S1x32x128x512) (k0_off7 i k) S1x1x128x512.size (k0_off7_inb i k)))))
    (k0_off9 i k) S1x1x128x512.size (k0_pay1 v5 (k0_pay20 v3 (k0_pay9 v1 (View.ld x0 (Rect.unit (s := S16384x128) (k0_off5 i k) S512x128.size (k0_off5_inb i k)))) (View.ld x4 (Rect.unit (s := S16384x128) (k0_off5 i k) S512x128.size (k0_off5_inb i k))) (View.ld x5 (Rect.unit (s := S1x32x512) (k0_off8 i k) S1x1x512.size (k0_off8_inb i k))) (View.ld x6 (Rect.unit (s := S1x32x512) (k0_off8 i k) S1x1x512.size (k0_off8_inb i k)))) (View.ld s.2 (Rect.unit (s := S1x32x128x512) (k0_off9 i k) S1x1x128x512.size (k0_off9_inb i k)))))

/-- The state after the loop's first `n` trips. -/
def stateAt (i : grid0.Coords) (v1 : FVec F S512x128 .bf16) (v3 : FVec F S512x128 .bf16) (v5 : FVec F S128x512 .bf16) (x0 : Vec F S16384x128 .bf16) (x4 : Vec F S16384x128 .bf16) (x5 : Vec F S1x32x512 .f32) (x6 : Vec F S1x32x512 .f32) (s : St F) : ℕ → St F
  | 0 => s
  | n + 1 => if h : n < (k0_t1_loop i).trips then trip i v1 v3 v5 x0 x4 x5 x6 ⟨n, h⟩ (stateAt i v1 v3 v5 x0 x4 x5 x6 s n) else stateAt i v1 v3 v5 x0 x4 x5 x6 s n

/-- The queries' gradient a point starts from. -/
def start (i : grid0.Coords) (w : Vec F S1x32x128x512 .f32) : Vec F S1x32x128x512 .f32 := if First i then k0_pay42 else w

/-- The state after the block on the diagonal. -/
def diag (i : grid0.Coords) (x0 : Vec F S16384x128 .bf16) (x1 : Vec F S512x128 .bf16) (x2 : Vec F S128x512 .bf16) (x3 : Vec F S512x128 .bf16) (x4 : Vec F S16384x128 .bf16) (x5 : Vec F S1x32x512 .f32) (x6 : Vec F S1x32x512 .f32) (w : Vec F S1x32x128x512 .f32) : St F :=
  ((k0_pay49 (k0_pay40 x3) k0_pay43 (k0_pay44 (View.ld x0 (Rect.unit (s := S16384x128) (k0_off1 i) S512x128.size (k0_off1_inb i)))) (k0_pay45 (View.ld x4 (Rect.unit (s := S16384x128) (k0_off1 i) S512x128.size (k0_off1_inb i)))) (k0_pay46 x1 (View.ld x0 (Rect.unit (s := S16384x128) (k0_off1 i) S512x128.size (k0_off1_inb i))) (View.ld x5 (Rect.unit (s := S1x32x512) (k0_off2 i) S1x1x512.size (k0_off2_inb i)))) (constant S512x512 .f32 0x00000000#32) (View.ld x6 (Rect.unit (s := S1x32x512) (k0_off2 i) S1x1x512.size (k0_off2_inb i))),
    k0_pay50 k0_pay43 (k0_pay45 (View.ld x4 (Rect.unit (s := S16384x128) (k0_off1 i) S512x128.size (k0_off1_inb i)))) (k0_pay46 x1 (View.ld x0 (Rect.unit (s := S16384x128) (k0_off1 i) S512x128.size (k0_off1_inb i))) (View.ld x5 (Rect.unit (s := S1x32x512) (k0_off2 i) S1x1x512.size (k0_off2_inb i))))),
   VecWindow.put w (k0_off3 i) S1x1x128x512.size (k0_pay48 (k0_pay40 x3) (k0_pay41 x2) (k0_pay45 (View.ld x4 (Rect.unit (s := S16384x128) (k0_off1 i) S512x128.size (k0_off1_inb i)))) (k0_pay46 x1 (View.ld x0 (Rect.unit (s := S16384x128) (k0_off1 i) S512x128.size (k0_off1_inb i))) (View.ld x5 (Rect.unit (s := S1x32x512) (k0_off2 i) S1x1x512.size (k0_off2_inb i)))) (constant S512x512 .f32 0x00000000#32) (View.ld x6 (Rect.unit (s := S1x32x512) (k0_off2 i) S1x1x512.size (k0_off2_inb i))) (View.ld w (Rect.unit (s := S1x32x128x512) (k0_off3 i) S1x1x128x512.size (k0_off3_inb i)))))

/-- The state after the last block of queries, where the loop leaves one over. -/
def last (v1 : FVec F S512x128 .bf16) (v3 : FVec F S512x128 .bf16) (v5 : FVec F S128x512 .bf16) (x0 : Vec F S16384x128 .bf16) (x4 : Vec F S16384x128 .bf16) (x5 : Vec F S1x32x512 .f32) (x6 : Vec F S1x32x512 .f32) (s : St F) : St F :=
  ((k0_pay37 v1 v3 s.1.1 (View.ld x0 (Rect.unit (s := S16384x128) (![15872, 0]) S512x128.size (inb_S16384x128_S512x128_15872_0))) (View.ld x0 (Rect.unit (s := S16384x128) (![15872, 0]) S512x128.size (inb_S16384x128_S512x128_15872_0))) (View.ld x4 (Rect.unit (s := S16384x128) (![15872, 0]) S512x128.size (inb_S16384x128_S512x128_15872_0))) (View.ld x5 (Rect.unit (s := S1x32x512) (![0, 31, 0]) S1x1x512.size (inb_S1x32x512_S1x1x512_0_31_0))) (View.ld x6 (Rect.unit (s := S1x32x512) (![0, 31, 0]) S1x1x512.size (inb_S1x32x512_S1x1x512_0_31_0))),
    k0_pay7 s.1.2 (k0_pay33 (View.ld x4 (Rect.unit (s := S16384x128) (![15872, 0]) S512x128.size (inb_S16384x128_S512x128_15872_0)))) (k0_pay38 v1 (View.ld x0 (Rect.unit (s := S16384x128) (![15872, 0]) S512x128.size (inb_S16384x128_S512x128_15872_0))) (View.ld x5 (Rect.unit (s := S1x32x512) (![0, 31, 0]) S1x1x512.size (inb_S1x32x512_S1x1x512_0_31_0))))),
   VecWindow.put s.2 ![0, 31, 0, 0] S1x1x128x512.size (k0_pay36 v1 v3 v5 (View.ld x0 (Rect.unit (s := S16384x128) (![15872, 0]) S512x128.size (inb_S16384x128_S512x128_15872_0))) (View.ld x4 (Rect.unit (s := S16384x128) (![15872, 0]) S512x128.size (inb_S16384x128_S512x128_15872_0))) (View.ld x5 (Rect.unit (s := S1x32x512) (![0, 31, 0]) S1x1x512.size (inb_S1x32x512_S1x1x512_0_31_0))) (View.ld x6 (Rect.unit (s := S1x32x512) (![0, 31, 0]) S1x1x512.size (inb_S1x32x512_S1x1x512_0_31_0))) (View.ld s.2 (Rect.unit (s := S1x32x128x512) (![0, 31, 0, 0]) S1x1x128x512.size (inb_S1x32x128x512_S1x1x128x512_0_31_0_0)))))

/-- The state after the loop. -/
def mid (i : grid0.Coords) (x0 : Vec F S16384x128 .bf16) (x1 : Vec F S512x128 .bf16) (x2 : Vec F S128x512 .bf16) (x3 : Vec F S512x128 .bf16) (x4 : Vec F S16384x128 .bf16) (x5 : Vec F S1x32x512 .f32) (x6 : Vec F S1x32x512 .f32) (w : Vec F S1x32x128x512 .f32) : St F :=
  stateAt i (k0_pay39 x1) (k0_pay40 x3) (k0_pay41 x2) x0 x4 x5 x6 (diag i x0 x1 x2 x3 x4 x5 x6 (start i w)) (k0_t1_loop i).trips

/-- The state a grid point leaves. -/
def point (i : grid0.Coords) (x0 : Vec F S16384x128 .bf16) (x1 : Vec F S512x128 .bf16) (x2 : Vec F S128x512 .bf16) (x3 : Vec F S512x128 .bf16) (x4 : Vec F S16384x128 .bf16) (x5 : Vec F S1x32x512 .f32) (x6 : Vec F S1x32x512 .f32) (w : Vec F S1x32x128x512 .f32) : St F :=
  if k0_cond2 i = 1#1 then last (k0_pay39 x1) (k0_pay40 x3) (k0_pay41 x2) x0 x4 x5 x6 (mid i x0 x1 x2 x3 x4 x5 x6 w) else mid i x0 x1 x2 x3 x4 x5 x6 w

/-- What one trip of the loop needs and leaves. -/
abbrev Held (c : Dev nD) (arg2 : Memref sig .tc .vmem S16384x128 .bf16) (harg2 : arg2.IsWhole) (arg3 : Memref sig .tc .vmem S512x128 .bf16) (harg3 : arg3.IsWhole) (arg4 : Memref sig .tc .vmem S128x512 .bf16) (harg4 : arg4.IsWhole) (arg5 : Memref sig .tc .vmem S512x128 .bf16) (harg5 : arg5.IsWhole) (arg6 : Memref sig .tc .vmem S16384x128 .bf16) (harg6 : arg6.IsWhole) (arg7 : Memref sig .tc .vmem S1x32x512 .f32) (harg7 : arg7.IsWhole) (arg8 : Memref sig .tc .vmem S1x32x512 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x32x128x512 .f32) (harg11 : arg11.IsWhole) (x0 : Vec F S16384x128 .bf16) (x4 : Vec F S16384x128 .bf16) (x5 : Vec F S1x32x512 .f32) (x6 : Vec F S1x32x512 .f32) (w : Vec F S1x32x128x512 .f32) : sProp (MT nD τ sig Unit (Elt F) ℕ (UR sig nD τ) ℕ) :=
  iprop(owns (c : Thread nD τ) arg2 fullShare x0 ∗ owns (c : Thread nD τ) arg6 fullShare x4 ∗ owns (c : Thread nD τ) arg7 fullShare x5 ∗ owns (c : Thread nD τ) arg8 fullShare x6 ∗ owns (c : Thread nD τ) arg11 fullShare w)

theorem trip_run (c : Dev nD) (i : grid0.Coords) (arg2 : Memref sig .tc .vmem S16384x128 .bf16) (harg2 : arg2.IsWhole) (arg3 : Memref sig .tc .vmem S512x128 .bf16) (harg3 : arg3.IsWhole) (arg4 : Memref sig .tc .vmem S128x512 .bf16) (harg4 : arg4.IsWhole) (arg5 : Memref sig .tc .vmem S512x128 .bf16) (harg5 : arg5.IsWhole) (arg6 : Memref sig .tc .vmem S16384x128 .bf16) (harg6 : arg6.IsWhole) (arg7 : Memref sig .tc .vmem S1x32x512 .f32) (harg7 : arg7.IsWhole) (arg8 : Memref sig .tc .vmem S1x32x512 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x32x128x512 .f32) (harg11 : arg11.IsWhole) (arg1 : BitVec 32) (v1 : FVec F S512x128 .bf16) (v3 : FVec F S512x128 .bf16) (v5 : FVec F S128x512 .bf16) (x0 : Vec F S16384x128 .bf16) (x4 : Vec F S16384x128 .bf16) (x5 : Vec F S1x32x512 .f32) (x6 : Vec F S1x32x512 .f32) (k : Fin (k0_t1_loop i).trips) (s : St F) :
    Held c arg2 harg2 arg3 harg3 arg4 harg4 arg5 harg5 arg6 harg6 arg7 harg7 arg8 harg8 arg9 harg9 arg10 harg10 arg11 harg11 x0 x4 x5 x6 s.2
      ⊢ wp frame (wpE (defs₀ (F := F)) Variants.none c none) Set.univ (k0_t1_body (F := F) i arg2 harg2 arg3 harg3 arg4 harg4 arg5 harg5 arg6 harg6 arg7 harg7 arg8 harg8 arg9 harg9 arg10 harg10 arg11 harg11 arg1 v1 v3 v5 k s.1)
        (fun r => iprop(⌜r = (trip i v1 v3 v5 x0 x4 x5 x6 k s).1⌝ ∗ Held c arg2 harg2 arg3 harg3 arg4 harg4 arg5 harg5 arg6 harg6 arg7 harg7 arg8 harg8 arg9 harg9 arg10 harg10 arg11 harg11 x0 x4 x5 x6 (trip i v1 v3 v5 x0 x4 x5 x6 k s).2)) := by
  obtain ⟨⟨a1, a2⟩, w⟩ := s
  unfold Held k0_t1_body owns
  dsimp only
  simp only [k0_part1_eq_skeleton, k0_part2_eq_skeleton]
  iintro ⟨⟨%f0, %hf0, H0⟩, ⟨%f4, %hf4, H4⟩, ⟨%f5, %hf5, H5⟩, ⟨%f6, %hf6, H6⟩, ⟨%f11, %hf11, H11⟩⟩
  obtain rfl := harg2.eq_unread hf0; obtain rfl := harg6.eq_unread hf4; obtain rfl := harg7.eq_unread hf5; obtain rfl := harg8.eq_unread hf6; obtain rfl := harg11.eq_unread hf11
  sl_exec
  sl_step
  isplitr
  · ipureintro
    sl_unfold_words
    simp only [View.readAt_eq_ld, Memref.IsWhole.read_unread]
    rfl
  isplitl [H0]
  · iexists _; isplitr; · ipureintro; exact harg2.read_unread _
    iexact H0
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  iexists _; isplitr
  swap; · iexact H11
  ipureintro
  refine (View.read_writes_cons_put _ _ _ _ _ rfl).trans ?_
  rw [View.read_writes_cons_put _ _ _ _ _ rfl, View.writes_nil]
  sl_unfold_words
  simp only [View.readAt_eq_ld, Memref.IsWhole.read_unread]
  rfl

theorem ld_rows (x : Vec F S512x128 .bf16) (inb) : View.ld x (Rect.unit (s := S512x128) ![0, 0] S512x128.size inb) = x := by
  funext y
  exact congrArg x (funext fun a => Fin.ext (by
    fin_cases a
    · show 0 + 1 * (y 0).val = (y 0).val; omega
    · show 0 + 1 * (y 1).val = (y 1).val; omega))

theorem ld_cols (x : Vec F S128x512 .bf16) (inb) : View.ld x (Rect.unit (s := S128x512) ![0, 0] S128x512.size inb) = x := by
  funext y
  exact congrArg x (funext fun a => Fin.ext (by
    fin_cases a
    · show 0 + 1 * (y 0).val = (y 0).val; omega
    · show 0 + 1 * (y 1).val = (y 1).val; omega))

set_option maxHeartbeats 400000 in
theorem runAA (c : Dev nD) (i : grid0.Coords) (h1 : First i) (h2 : k0_cond2 i = 1#1) (arg2 : Memref sig .tc .vmem S16384x128 .bf16) (harg2 : arg2.IsWhole) (arg3 : Memref sig .tc .vmem S512x128 .bf16) (harg3 : arg3.IsWhole) (arg4 : Memref sig .tc .vmem S128x512 .bf16) (harg4 : arg4.IsWhole) (arg5 : Memref sig .tc .vmem S512x128 .bf16) (harg5 : arg5.IsWhole) (arg6 : Memref sig .tc .vmem S16384x128 .bf16) (harg6 : arg6.IsWhole) (arg7 : Memref sig .tc .vmem S1x32x512 .f32) (harg7 : arg7.IsWhole) (arg8 : Memref sig .tc .vmem S1x32x512 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x32x128x512 .f32) (harg11 : arg11.IsWhole) (x0 : Vec F S16384x128 .bf16) (x1 : Vec F S512x128 .bf16) (x2 : Vec F S128x512 .bf16) (x3 : Vec F S512x128 .bf16) (x4 : Vec F S16384x128 .bf16) (x5 : Vec F S1x32x512 .f32) (x6 : Vec F S1x32x512 .f32) (w : Vec F S1x32x128x512 .f32) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ (∃ d, owns (c : Thread nD τ) arg10 fullShare d) ∗ owns (c : Thread nD τ) arg11 fullShare w
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (k0_pay8 (point i x0 x1 x2 x3 x4 x5 x6 w).1.1) ∗ owns (c : Thread nD τ) arg10 fullShare (point i x0 x1 x2 x3 x4 x5 x6 w).1.2 ∗ owns (c : Thread nD τ) arg11 fullShare (point i x0 x1 x2 x3 x4 x5 x6 w).2) -∗ K ⟨⟩))
      ⊢ wp frame (wpE (defs₀ (F := F)) Variants.none c none) Set.univ (cc0_attn_bwd i arg2 harg2 arg3 harg3 arg4 harg4 arg5 harg5 arg6 harg6 arg7 harg7 arg8 harg8 arg9 harg9 arg10 harg10 arg11 harg11) K := by
  simp only [cc0_attn_bwd_eq_skeleton]; unfold cc0_attn_bwd_skel
  simp only [k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, H9⟩, ⟨%d10, %f10, -, H10⟩, ⟨%f11, %hf11, H11⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg11.eq_unread hf11
  clear hf0 hf1 hf2 hf3 hf4 hf5 hf6 hf11
  sl_exec
  sl_unfold_words
  simp only [View.readAt_eq_ld, Memref.IsWhole.read_unread, ld_rows, ld_cols]
  sl_for (fun n acc => iprop(⌜acc = (stateAt i (k0_pay39 x1) (k0_pay40 x3) (k0_pay41 x2) x0 x4 x5 x6 (diag i x0 x1 x2 x3 x4 x5 x6 (start i w)) n).1⌝ ∗ Held c arg2 harg2 arg3 harg3 arg4 harg4 arg5 harg5 arg6 harg6 arg7 harg7 arg8 harg8 arg9 harg9 arg10 harg10 arg11 harg11 x0 x4 x5 x6 (stateAt i (k0_pay39 x1) (k0_pay40 x3) (k0_pay41 x2) x0 x4 x5 x6 (diag i x0 x1 x2 x3 x4 x5 x6 (start i w)) n).2)) $$ [H0 H4 H5 H6 H11]
  case region =>
    intro k acc
    iintro ⟨%ha, HH⟩
    subst ha
    rw [show (stateAt i (k0_pay39 x1) (k0_pay40 x3) (k0_pay41 x2) x0 x4 x5 x6 (diag i x0 x1 x2 x3 x4 x5 x6 (start i w)) (k.val + 1)) = trip i (k0_pay39 x1) (k0_pay40 x3) (k0_pay41 x2) x0 x4 x5 x6 k (stateAt i (k0_pay39 x1) (k0_pay40 x3) (k0_pay41 x2) x0 x4 x5 x6 (diag i x0 x1 x2 x3 x4 x5 x6 (start i w)) k.val) from dif_pos k.isLt]
    generalize (stateAt i (k0_pay39 x1) (k0_pay40 x3) (k0_pay41 x2) x0 x4 x5 x6 (diag i x0 x1 x2 x3 x4 x5 x6 (start i w)) k.val) = s
    sl_unfold_words
    rw [show View.ld x1 (Rect.unit (s := S512x128) ![0, 0] ![512, 128] inb_S512x128_S512x128_0_0) = x1 from ld_rows _ _, show View.ld x3 (Rect.unit (s := S512x128) ![0, 0] ![512, 128] inb_S512x128_S512x128_0_0) = x3 from ld_rows _ _, show View.ld x2 (Rect.unit (s := S128x512) ![0, 0] ![128, 512] inb_S128x512_S128x512_0_0) = x2 from ld_cols _ _]
    iapply (wp_wand_r Idealize.ShloMosaic.frame (wpE (defs₀ (F := F)) Variants.none (c : Thread nD τ) none) Set.univ)
    isplitl [HH]
    · iapply (trip_run c i arg2 harg2 arg3 harg3 arg4 harg4 arg5 harg5 arg6 harg6 arg7 harg7 arg8 harg8 arg9 harg9 arg10 harg10 arg11 harg11 _ (k0_pay39 x1) (k0_pay40 x3) (k0_pay41 x2) x0 x4 x5 x6 k s)
      iexact HH
    iintro %r HH
    iexact HH
  · unfold Held owns
    isplitr
    · ipureintro
      rw [show (stateAt i (k0_pay39 x1) (k0_pay40 x3) (k0_pay41 x2) x0 x4 x5 x6 (diag i x0 x1 x2 x3 x4 x5 x6 (start i w)) 0) = diag i x0 x1 x2 x3 x4 x5 x6 (start i w) from rfl]
      simp only [show View.ld x1 (Rect.unit (s := S512x128) ![0, 0] ![512, 128] inb_S512x128_S512x128_0_0) = x1 from ld_rows _ _, show View.ld x3 (Rect.unit (s := S512x128) ![0, 0] ![512, 128] inb_S512x128_S512x128_0_0) = x3 from ld_rows _ _, show View.ld x2 (Rect.unit (s := S128x512) ![0, 0] ![128, 512] inb_S128x512_S128x512_0_0) = x2 from ld_cols _ _]
      rfl
    isplitl [H0]
    · iexists _; isplitr; · ipureintro; exact harg2.read_unread _
      iexact H0
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; isplitr
    swap; · iexact H11
    ipureintro
    rw [show start i w = k0_pay42 from if_pos h1]
    refine (View.read_writes_cons_put _ _ _ _ _ rfl).trans ?_
    sl_unfold_words
    simp only [View.readAt_eq_ld, Memref.IsWhole.read_unread]
    simp only [show View.read (Elt F) arg11.view (arg11.view.writes (Elt F) arg11.view.junk [⟨Rect.unit (s := S1x32x128x512) ![0, 0, 0, 0] ![1, 32, 128, 512] inb_S1x32x128x512_S1x32x128x512_0_0_0_0, k0_pay42⟩]) = k0_pay42 from View.read_writes_full _ _ _ _ _, show View.ld x1 (Rect.unit (s := S512x128) ![0, 0] ![512, 128] inb_S512x128_S512x128_0_0) = x1 from ld_rows _ _, show View.ld x3 (Rect.unit (s := S512x128) ![0, 0] ![512, 128] inb_S512x128_S512x128_0_0) = x3 from ld_rows _ _, show View.ld x2 (Rect.unit (s := S128x512) ![0, 0] ![128, 512] inb_S128x512_S128x512_0_0) = x2 from ld_cols _ _]
    rfl
  rw [show (stateAt i (k0_pay39 x1) (k0_pay40 x3) (k0_pay41 x2) x0 x4 x5 x6 (diag i x0 x1 x2 x3 x4 x5 x6 (start i w)) (Scf.trips (k0_t1_loop i).lb (k0_t1_loop i).ub (k0_t1_loop i).st)) = mid i x0 x1 x2 x3 x4 x5 x6 w from rfl]
  rw [show point i x0 x1 x2 x3 x4 x5 x6 w = last (k0_pay39 x1) (k0_pay40 x3) (k0_pay41 x2) x0 x4 x5 x6 (mid i x0 x1 x2 x3 x4 x5 x6 w) from if_pos h2]
  generalize mid i x0 x1 x2 x3 x4 x5 x6 w = s
  obtain ⟨⟨a1, a2⟩, w'⟩ := s
  dsimp only
  iintro %acc ⟨%ha, HH⟩
  subst ha
  unfold Held owns
  icases HH with ⟨⟨%f0, %hg0, H0⟩, ⟨%f4, %hg4, H4⟩, ⟨%f5, %hg5, H5⟩, ⟨%f6, %hg6, H6⟩, ⟨%f11, %hg11, H11⟩⟩
  obtain rfl := harg2.eq_unread hg0; obtain rfl := harg6.eq_unread hg4; obtain rfl := harg7.eq_unread hg5; obtain rfl := harg8.eq_unread hg6; obtain rfl := harg11.eq_unread hg11
  clear hg0 hg4 hg5 hg6 hg11
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H9]
  · iexists _; isplitr
    swap; · iexact H9
    ipureintro
    refine (View.read_writes_full _ _ _ _ _).trans ?_
    sl_unfold_words
    simp only [View.readAt_eq_ld, Memref.IsWhole.read_unread]
    simp only [show View.ld x1 (Rect.unit (s := S512x128) ![0, 0] ![512, 128] inb_S512x128_S512x128_0_0) = x1 from ld_rows _ _, show View.ld x3 (Rect.unit (s := S512x128) ![0, 0] ![512, 128] inb_S512x128_S512x128_0_0) = x3 from ld_rows _ _]
    rfl
  isplitl [H10]
  · iexists _; isplitr
    swap; · iexact H10
    ipureintro
    refine (View.read_writes_full _ _ _ _ _).trans ?_
    sl_unfold_words
    simp only [View.readAt_eq_ld, Memref.IsWhole.read_unread]
    simp only [show View.ld x1 (Rect.unit (s := S512x128) ![0, 0] ![512, 128] inb_S512x128_S512x128_0_0) = x1 from ld_rows _ _]
    rfl
  iexists _; isplitr
  swap; · iexact H11
  ipureintro
  refine (View.read_writes_cons_put _ _ _ _ _ rfl).trans ?_
  sl_unfold_words
  simp only [View.writes_nil, View.readAt_eq_ld, Memref.IsWhole.read_unread]
  simp only [show View.ld x1 (Rect.unit (s := S512x128) ![0, 0] ![512, 128] inb_S512x128_S512x128_0_0) = x1 from ld_rows _ _, show View.ld x3 (Rect.unit (s := S512x128) ![0, 0] ![512, 128] inb_S512x128_S512x128_0_0) = x3 from ld_rows _ _, show View.ld x2 (Rect.unit (s := S128x512) ![0, 0] ![128, 512] inb_S128x512_S128x512_0_0) = x2 from ld_cols _ _]
  rfl

set_option maxHeartbeats 400000 in
theorem runAB (c : Dev nD) (i : grid0.Coords) (h1 : First i) (h2 : ¬ k0_cond2 i = 1#1) (arg2 : Memref sig .tc .vmem S16384x128 .bf16) (harg2 : arg2.IsWhole) (arg3 : Memref sig .tc .vmem S512x128 .bf16) (harg3 : arg3.IsWhole) (arg4 : Memref sig .tc .vmem S128x512 .bf16) (harg4 : arg4.IsWhole) (arg5 : Memref sig .tc .vmem S512x128 .bf16) (harg5 : arg5.IsWhole) (arg6 : Memref sig .tc .vmem S16384x128 .bf16) (harg6 : arg6.IsWhole) (arg7 : Memref sig .tc .vmem S1x32x512 .f32) (harg7 : arg7.IsWhole) (arg8 : Memref sig .tc .vmem S1x32x512 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x32x128x512 .f32) (harg11 : arg11.IsWhole) (x0 : Vec F S16384x128 .bf16) (x1 : Vec F S512x128 .bf16) (x2 : Vec F S128x512 .bf16) (x3 : Vec F S512x128 .bf16) (x4 : Vec F S16384x128 .bf16) (x5 : Vec F S1x32x512 .f32) (x6 : Vec F S1x32x512 .f32) (w : Vec F S1x32x128x512 .f32) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ (∃ d, owns (c : Thread nD τ) arg10 fullShare d) ∗ owns (c : Thread nD τ) arg11 fullShare w
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (k0_pay8 (point i x0 x1 x2 x3 x4 x5 x6 w).1.1) ∗ owns (c : Thread nD τ) arg10 fullShare (point i x0 x1 x2 x3 x4 x5 x6 w).1.2 ∗ owns (c : Thread nD τ) arg11 fullShare (point i x0 x1 x2 x3 x4 x5 x6 w).2) -∗ K ⟨⟩))
      ⊢ wp frame (wpE (defs₀ (F := F)) Variants.none c none) Set.univ (cc0_attn_bwd i arg2 harg2 arg3 harg3 arg4 harg4 arg5 harg5 arg6 harg6 arg7 harg7 arg8 harg8 arg9 harg9 arg10 harg10 arg11 harg11) K := by
  simp only [cc0_attn_bwd_eq_skeleton]; unfold cc0_attn_bwd_skel
  simp only [k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, H9⟩, ⟨%d10, %f10, -, H10⟩, ⟨%f11, %hf11, H11⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg11.eq_unread hf11
  clear hf0 hf1 hf2 hf3 hf4 hf5 hf6 hf11
  sl_exec
  sl_unfold_words
  simp only [View.readAt_eq_ld, Memref.IsWhole.read_unread, ld_rows, ld_cols]
  sl_for (fun n acc => iprop(⌜acc = (stateAt i (k0_pay39 x1) (k0_pay40 x3) (k0_pay41 x2) x0 x4 x5 x6 (diag i x0 x1 x2 x3 x4 x5 x6 (start i w)) n).1⌝ ∗ Held c arg2 harg2 arg3 harg3 arg4 harg4 arg5 harg5 arg6 harg6 arg7 harg7 arg8 harg8 arg9 harg9 arg10 harg10 arg11 harg11 x0 x4 x5 x6 (stateAt i (k0_pay39 x1) (k0_pay40 x3) (k0_pay41 x2) x0 x4 x5 x6 (diag i x0 x1 x2 x3 x4 x5 x6 (start i w)) n).2)) $$ [H0 H4 H5 H6 H11]
  case region =>
    intro k acc
    iintro ⟨%ha, HH⟩
    subst ha
    rw [show (stateAt i (k0_pay39 x1) (k0_pay40 x3) (k0_pay41 x2) x0 x4 x5 x6 (diag i x0 x1 x2 x3 x4 x5 x6 (start i w)) (k.val + 1)) = trip i (k0_pay39 x1) (k0_pay40 x3) (k0_pay41 x2) x0 x4 x5 x6 k (stateAt i (k0_pay39 x1) (k0_pay40 x3) (k0_pay41 x2) x0 x4 x5 x6 (diag i x0 x1 x2 x3 x4 x5 x6 (start i w)) k.val) from dif_pos k.isLt]
    generalize (stateAt i (k0_pay39 x1) (k0_pay40 x3) (k0_pay41 x2) x0 x4 x5 x6 (diag i x0 x1 x2 x3 x4 x5 x6 (start i w)) k.val) = s
    sl_unfold_words
    rw [show View.ld x1 (Rect.unit (s := S512x128) ![0, 0] ![512, 128] inb_S512x128_S512x128_0_0) = x1 from ld_rows _ _, show View.ld x3 (Rect.unit (s := S512x128) ![0, 0] ![512, 128] inb_S512x128_S512x128_0_0) = x3 from ld_rows _ _, show View.ld x2 (Rect.unit (s := S128x512) ![0, 0] ![128, 512] inb_S128x512_S128x512_0_0) = x2 from ld_cols _ _]
    iapply (wp_wand_r Idealize.ShloMosaic.frame (wpE (defs₀ (F := F)) Variants.none (c : Thread nD τ) none) Set.univ)
    isplitl [HH]
    · iapply (trip_run c i arg2 harg2 arg3 harg3 arg4 harg4 arg5 harg5 arg6 harg6 arg7 harg7 arg8 harg8 arg9 harg9 arg10 harg10 arg11 harg11 _ (k0_pay39 x1) (k0_pay40 x3) (k0_pay41 x2) x0 x4 x5 x6 k s)
      iexact HH
    iintro %r HH
    iexact HH
  · unfold Held owns
    isplitr
    · ipureintro
      rw [show (stateAt i (k0_pay39 x1) (k0_pay40 x3) (k0_pay41 x2) x0 x4 x5 x6 (diag i x0 x1 x2 x3 x4 x5 x6 (start i w)) 0) = diag i x0 x1 x2 x3 x4 x5 x6 (start i w) from rfl]
      simp only [show View.ld x1 (Rect.unit (s := S512x128) ![0, 0] ![512, 128] inb_S512x128_S512x128_0_0) = x1 from ld_rows _ _, show View.ld x3 (Rect.unit (s := S512x128) ![0, 0] ![512, 128] inb_S512x128_S512x128_0_0) = x3 from ld_rows _ _, show View.ld x2 (Rect.unit (s := S128x512) ![0, 0] ![128, 512] inb_S128x512_S128x512_0_0) = x2 from ld_cols _ _]
      rfl
    isplitl [H0]
    · iexists _; isplitr; · ipureintro; exact harg2.read_unread _
      iexact H0
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; isplitr
    swap; · iexact H11
    ipureintro
    rw [show start i w = k0_pay42 from if_pos h1]
    refine (View.read_writes_cons_put _ _ _ _ _ rfl).trans ?_
    sl_unfold_words
    simp only [View.readAt_eq_ld, Memref.IsWhole.read_unread]
    simp only [show View.read (Elt F) arg11.view (arg11.view.writes (Elt F) arg11.view.junk [⟨Rect.unit (s := S1x32x128x512) ![0, 0, 0, 0] ![1, 32, 128, 512] inb_S1x32x128x512_S1x32x128x512_0_0_0_0, k0_pay42⟩]) = k0_pay42 from View.read_writes_full _ _ _ _ _, show View.ld x1 (Rect.unit (s := S512x128) ![0, 0] ![512, 128] inb_S512x128_S512x128_0_0) = x1 from ld_rows _ _, show View.ld x3 (Rect.unit (s := S512x128) ![0, 0] ![512, 128] inb_S512x128_S512x128_0_0) = x3 from ld_rows _ _, show View.ld x2 (Rect.unit (s := S128x512) ![0, 0] ![128, 512] inb_S128x512_S128x512_0_0) = x2 from ld_cols _ _]
    rfl
  rw [show (stateAt i (k0_pay39 x1) (k0_pay40 x3) (k0_pay41 x2) x0 x4 x5 x6 (diag i x0 x1 x2 x3 x4 x5 x6 (start i w)) (Scf.trips (k0_t1_loop i).lb (k0_t1_loop i).ub (k0_t1_loop i).st)) = mid i x0 x1 x2 x3 x4 x5 x6 w from rfl]
  rw [show point i x0 x1 x2 x3 x4 x5 x6 w = mid i x0 x1 x2 x3 x4 x5 x6 w from if_neg h2]
  generalize mid i x0 x1 x2 x3 x4 x5 x6 w = s
  obtain ⟨⟨a1, a2⟩, w'⟩ := s
  dsimp only
  iintro %acc ⟨%ha, HH⟩
  subst ha
  unfold Held owns
  icases HH with ⟨⟨%f0, %hg0, H0⟩, ⟨%f4, %hg4, H4⟩, ⟨%f5, %hg5, H5⟩, ⟨%f6, %hg6, H6⟩, ⟨%f11, %hg11, H11⟩⟩
  obtain rfl := harg2.eq_unread hg0; obtain rfl := harg6.eq_unread hg4; obtain rfl := harg7.eq_unread hg5; obtain rfl := harg8.eq_unread hg6; obtain rfl := harg11.eq_unread hg11
  clear hg0 hg4 hg5 hg6 hg11
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H9]
  · iexists _; isplitr
    swap; · iexact H9
    ipureintro
    exact View.read_writes_full _ _ _ _ _
  isplitl [H10]
  · iexists _; isplitr
    swap; · iexact H10
    ipureintro
    exact View.read_writes_full _ _ _ _ _
  iexists _; isplitr; · ipureintro; exact harg11.read_unread _
  iexact H11

set_option maxHeartbeats 400000 in
theorem runBA (c : Dev nD) (i : grid0.Coords) (h1 : ¬ First i) (h2 : k0_cond2 i = 1#1) (arg2 : Memref sig .tc .vmem S16384x128 .bf16) (harg2 : arg2.IsWhole) (arg3 : Memref sig .tc .vmem S512x128 .bf16) (harg3 : arg3.IsWhole) (arg4 : Memref sig .tc .vmem S128x512 .bf16) (harg4 : arg4.IsWhole) (arg5 : Memref sig .tc .vmem S512x128 .bf16) (harg5 : arg5.IsWhole) (arg6 : Memref sig .tc .vmem S16384x128 .bf16) (harg6 : arg6.IsWhole) (arg7 : Memref sig .tc .vmem S1x32x512 .f32) (harg7 : arg7.IsWhole) (arg8 : Memref sig .tc .vmem S1x32x512 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x32x128x512 .f32) (harg11 : arg11.IsWhole) (x0 : Vec F S16384x128 .bf16) (x1 : Vec F S512x128 .bf16) (x2 : Vec F S128x512 .bf16) (x3 : Vec F S512x128 .bf16) (x4 : Vec F S16384x128 .bf16) (x5 : Vec F S1x32x512 .f32) (x6 : Vec F S1x32x512 .f32) (w : Vec F S1x32x128x512 .f32) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ (∃ d, owns (c : Thread nD τ) arg10 fullShare d) ∗ owns (c : Thread nD τ) arg11 fullShare w
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (k0_pay8 (point i x0 x1 x2 x3 x4 x5 x6 w).1.1) ∗ owns (c : Thread nD τ) arg10 fullShare (point i x0 x1 x2 x3 x4 x5 x6 w).1.2 ∗ owns (c : Thread nD τ) arg11 fullShare (point i x0 x1 x2 x3 x4 x5 x6 w).2) -∗ K ⟨⟩))
      ⊢ wp frame (wpE (defs₀ (F := F)) Variants.none c none) Set.univ (cc0_attn_bwd i arg2 harg2 arg3 harg3 arg4 harg4 arg5 harg5 arg6 harg6 arg7 harg7 arg8 harg8 arg9 harg9 arg10 harg10 arg11 harg11) K := by
  simp only [cc0_attn_bwd_eq_skeleton]; unfold cc0_attn_bwd_skel
  simp only [k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, H9⟩, ⟨%d10, %f10, -, H10⟩, ⟨%f11, %hf11, H11⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg11.eq_unread hf11
  clear hf0 hf1 hf2 hf3 hf4 hf5 hf6 hf11
  sl_exec
  sl_unfold_words
  simp only [View.readAt_eq_ld, Memref.IsWhole.read_unread, ld_rows, ld_cols]
  sl_for (fun n acc => iprop(⌜acc = (stateAt i (k0_pay39 x1) (k0_pay40 x3) (k0_pay41 x2) x0 x4 x5 x6 (diag i x0 x1 x2 x3 x4 x5 x6 (start i w)) n).1⌝ ∗ Held c arg2 harg2 arg3 harg3 arg4 harg4 arg5 harg5 arg6 harg6 arg7 harg7 arg8 harg8 arg9 harg9 arg10 harg10 arg11 harg11 x0 x4 x5 x6 (stateAt i (k0_pay39 x1) (k0_pay40 x3) (k0_pay41 x2) x0 x4 x5 x6 (diag i x0 x1 x2 x3 x4 x5 x6 (start i w)) n).2)) $$ [H0 H4 H5 H6 H11]
  case region =>
    intro k acc
    iintro ⟨%ha, HH⟩
    subst ha
    rw [show (stateAt i (k0_pay39 x1) (k0_pay40 x3) (k0_pay41 x2) x0 x4 x5 x6 (diag i x0 x1 x2 x3 x4 x5 x6 (start i w)) (k.val + 1)) = trip i (k0_pay39 x1) (k0_pay40 x3) (k0_pay41 x2) x0 x4 x5 x6 k (stateAt i (k0_pay39 x1) (k0_pay40 x3) (k0_pay41 x2) x0 x4 x5 x6 (diag i x0 x1 x2 x3 x4 x5 x6 (start i w)) k.val) from dif_pos k.isLt]
    generalize (stateAt i (k0_pay39 x1) (k0_pay40 x3) (k0_pay41 x2) x0 x4 x5 x6 (diag i x0 x1 x2 x3 x4 x5 x6 (start i w)) k.val) = s
    sl_unfold_words
    rw [show View.ld x1 (Rect.unit (s := S512x128) ![0, 0] ![512, 128] inb_S512x128_S512x128_0_0) = x1 from ld_rows _ _, show View.ld x3 (Rect.unit (s := S512x128) ![0, 0] ![512, 128] inb_S512x128_S512x128_0_0) = x3 from ld_rows _ _, show View.ld x2 (Rect.unit (s := S128x512) ![0, 0] ![128, 512] inb_S128x512_S128x512_0_0) = x2 from ld_cols _ _]
    iapply (wp_wand_r Idealize.ShloMosaic.frame (wpE (defs₀ (F := F)) Variants.none (c : Thread nD τ) none) Set.univ)
    isplitl [HH]
    · iapply (trip_run c i arg2 harg2 arg3 harg3 arg4 harg4 arg5 harg5 arg6 harg6 arg7 harg7 arg8 harg8 arg9 harg9 arg10 harg10 arg11 harg11 _ (k0_pay39 x1) (k0_pay40 x3) (k0_pay41 x2) x0 x4 x5 x6 k s)
      iexact HH
    iintro %r HH
    iexact HH
  · unfold Held owns
    isplitr
    · ipureintro
      rw [show (stateAt i (k0_pay39 x1) (k0_pay40 x3) (k0_pay41 x2) x0 x4 x5 x6 (diag i x0 x1 x2 x3 x4 x5 x6 (start i w)) 0) = diag i x0 x1 x2 x3 x4 x5 x6 (start i w) from rfl]
      simp only [show View.ld x1 (Rect.unit (s := S512x128) ![0, 0] ![512, 128] inb_S512x128_S512x128_0_0) = x1 from ld_rows _ _, show View.ld x3 (Rect.unit (s := S512x128) ![0, 0] ![512, 128] inb_S512x128_S512x128_0_0) = x3 from ld_rows _ _, show View.ld x2 (Rect.unit (s := S128x512) ![0, 0] ![128, 512] inb_S128x512_S128x512_0_0) = x2 from ld_cols _ _]
      rfl
    isplitl [H0]
    · iexists _; isplitr; · ipureintro; exact harg2.read_unread _
      iexact H0
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; isplitr
    swap; · iexact H11
    ipureintro
    rw [show start i w = w from if_neg h1]
    refine (View.read_writes_cons_put _ _ _ _ _ rfl).trans ?_
    sl_unfold_words
    simp only [View.writes_nil, View.readAt_eq_ld, Memref.IsWhole.read_unread]
    simp only [show View.ld x1 (Rect.unit (s := S512x128) ![0, 0] ![512, 128] inb_S512x128_S512x128_0_0) = x1 from ld_rows _ _, show View.ld x3 (Rect.unit (s := S512x128) ![0, 0] ![512, 128] inb_S512x128_S512x128_0_0) = x3 from ld_rows _ _, show View.ld x2 (Rect.unit (s := S128x512) ![0, 0] ![128, 512] inb_S128x512_S128x512_0_0) = x2 from ld_cols _ _]
    rfl
  rw [show (stateAt i (k0_pay39 x1) (k0_pay40 x3) (k0_pay41 x2) x0 x4 x5 x6 (diag i x0 x1 x2 x3 x4 x5 x6 (start i w)) (Scf.trips (k0_t1_loop i).lb (k0_t1_loop i).ub (k0_t1_loop i).st)) = mid i x0 x1 x2 x3 x4 x5 x6 w from rfl]
  rw [show point i x0 x1 x2 x3 x4 x5 x6 w = last (k0_pay39 x1) (k0_pay40 x3) (k0_pay41 x2) x0 x4 x5 x6 (mid i x0 x1 x2 x3 x4 x5 x6 w) from if_pos h2]
  generalize mid i x0 x1 x2 x3 x4 x5 x6 w = s
  obtain ⟨⟨a1, a2⟩, w'⟩ := s
  dsimp only
  iintro %acc ⟨%ha, HH⟩
  subst ha
  unfold Held owns
  icases HH with ⟨⟨%f0, %hg0, H0⟩, ⟨%f4, %hg4, H4⟩, ⟨%f5, %hg5, H5⟩, ⟨%f6, %hg6, H6⟩, ⟨%f11, %hg11, H11⟩⟩
  obtain rfl := harg2.eq_unread hg0; obtain rfl := harg6.eq_unread hg4; obtain rfl := harg7.eq_unread hg5; obtain rfl := harg8.eq_unread hg6; obtain rfl := harg11.eq_unread hg11
  clear hg0 hg4 hg5 hg6 hg11
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H9]
  · iexists _; isplitr
    swap; · iexact H9
    ipureintro
    refine (View.read_writes_full _ _ _ _ _).trans ?_
    sl_unfold_words
    simp only [View.readAt_eq_ld, Memref.IsWhole.read_unread]
    simp only [show View.ld x1 (Rect.unit (s := S512x128) ![0, 0] ![512, 128] inb_S512x128_S512x128_0_0) = x1 from ld_rows _ _, show View.ld x3 (Rect.unit (s := S512x128) ![0, 0] ![512, 128] inb_S512x128_S512x128_0_0) = x3 from ld_rows _ _]
    rfl
  isplitl [H10]
  · iexists _; isplitr
    swap; · iexact H10
    ipureintro
    refine (View.read_writes_full _ _ _ _ _).trans ?_
    sl_unfold_words
    simp only [View.readAt_eq_ld, Memref.IsWhole.read_unread]
    simp only [show View.ld x1 (Rect.unit (s := S512x128) ![0, 0] ![512, 128] inb_S512x128_S512x128_0_0) = x1 from ld_rows _ _]
    rfl
  iexists _; isplitr
  swap; · iexact H11
  ipureintro
  refine (View.read_writes_cons_put _ _ _ _ _ rfl).trans ?_
  sl_unfold_words
  simp only [View.writes_nil, View.readAt_eq_ld, Memref.IsWhole.read_unread]
  simp only [show View.ld x1 (Rect.unit (s := S512x128) ![0, 0] ![512, 128] inb_S512x128_S512x128_0_0) = x1 from ld_rows _ _, show View.ld x3 (Rect.unit (s := S512x128) ![0, 0] ![512, 128] inb_S512x128_S512x128_0_0) = x3 from ld_rows _ _, show View.ld x2 (Rect.unit (s := S128x512) ![0, 0] ![128, 512] inb_S128x512_S128x512_0_0) = x2 from ld_cols _ _]
  rfl

set_option maxHeartbeats 400000 in
theorem runBB (c : Dev nD) (i : grid0.Coords) (h1 : ¬ First i) (h2 : ¬ k0_cond2 i = 1#1) (arg2 : Memref sig .tc .vmem S16384x128 .bf16) (harg2 : arg2.IsWhole) (arg3 : Memref sig .tc .vmem S512x128 .bf16) (harg3 : arg3.IsWhole) (arg4 : Memref sig .tc .vmem S128x512 .bf16) (harg4 : arg4.IsWhole) (arg5 : Memref sig .tc .vmem S512x128 .bf16) (harg5 : arg5.IsWhole) (arg6 : Memref sig .tc .vmem S16384x128 .bf16) (harg6 : arg6.IsWhole) (arg7 : Memref sig .tc .vmem S1x32x512 .f32) (harg7 : arg7.IsWhole) (arg8 : Memref sig .tc .vmem S1x32x512 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x32x128x512 .f32) (harg11 : arg11.IsWhole) (x0 : Vec F S16384x128 .bf16) (x1 : Vec F S512x128 .bf16) (x2 : Vec F S128x512 .bf16) (x3 : Vec F S512x128 .bf16) (x4 : Vec F S16384x128 .bf16) (x5 : Vec F S1x32x512 .f32) (x6 : Vec F S1x32x512 .f32) (w : Vec F S1x32x128x512 .f32) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ (∃ d, owns (c : Thread nD τ) arg10 fullShare d) ∗ owns (c : Thread nD τ) arg11 fullShare w
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (k0_pay8 (point i x0 x1 x2 x3 x4 x5 x6 w).1.1) ∗ owns (c : Thread nD τ) arg10 fullShare (point i x0 x1 x2 x3 x4 x5 x6 w).1.2 ∗ owns (c : Thread nD τ) arg11 fullShare (point i x0 x1 x2 x3 x4 x5 x6 w).2) -∗ K ⟨⟩))
      ⊢ wp frame (wpE (defs₀ (F := F)) Variants.none c none) Set.univ (cc0_attn_bwd i arg2 harg2 arg3 harg3 arg4 harg4 arg5 harg5 arg6 harg6 arg7 harg7 arg8 harg8 arg9 harg9 arg10 harg10 arg11 harg11) K := by
  simp only [cc0_attn_bwd_eq_skeleton]; unfold cc0_attn_bwd_skel
  simp only [k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, H9⟩, ⟨%d10, %f10, -, H10⟩, ⟨%f11, %hf11, H11⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg11.eq_unread hf11
  clear hf0 hf1 hf2 hf3 hf4 hf5 hf6 hf11
  sl_exec
  sl_unfold_words
  simp only [View.readAt_eq_ld, Memref.IsWhole.read_unread, ld_rows, ld_cols]
  sl_for (fun n acc => iprop(⌜acc = (stateAt i (k0_pay39 x1) (k0_pay40 x3) (k0_pay41 x2) x0 x4 x5 x6 (diag i x0 x1 x2 x3 x4 x5 x6 (start i w)) n).1⌝ ∗ Held c arg2 harg2 arg3 harg3 arg4 harg4 arg5 harg5 arg6 harg6 arg7 harg7 arg8 harg8 arg9 harg9 arg10 harg10 arg11 harg11 x0 x4 x5 x6 (stateAt i (k0_pay39 x1) (k0_pay40 x3) (k0_pay41 x2) x0 x4 x5 x6 (diag i x0 x1 x2 x3 x4 x5 x6 (start i w)) n).2)) $$ [H0 H4 H5 H6 H11]
  case region =>
    intro k acc
    iintro ⟨%ha, HH⟩
    subst ha
    rw [show (stateAt i (k0_pay39 x1) (k0_pay40 x3) (k0_pay41 x2) x0 x4 x5 x6 (diag i x0 x1 x2 x3 x4 x5 x6 (start i w)) (k.val + 1)) = trip i (k0_pay39 x1) (k0_pay40 x3) (k0_pay41 x2) x0 x4 x5 x6 k (stateAt i (k0_pay39 x1) (k0_pay40 x3) (k0_pay41 x2) x0 x4 x5 x6 (diag i x0 x1 x2 x3 x4 x5 x6 (start i w)) k.val) from dif_pos k.isLt]
    generalize (stateAt i (k0_pay39 x1) (k0_pay40 x3) (k0_pay41 x2) x0 x4 x5 x6 (diag i x0 x1 x2 x3 x4 x5 x6 (start i w)) k.val) = s
    sl_unfold_words
    rw [show View.ld x1 (Rect.unit (s := S512x128) ![0, 0] ![512, 128] inb_S512x128_S512x128_0_0) = x1 from ld_rows _ _, show View.ld x3 (Rect.unit (s := S512x128) ![0, 0] ![512, 128] inb_S512x128_S512x128_0_0) = x3 from ld_rows _ _, show View.ld x2 (Rect.unit (s := S128x512) ![0, 0] ![128, 512] inb_S128x512_S128x512_0_0) = x2 from ld_cols _ _]
    iapply (wp_wand_r Idealize.ShloMosaic.frame (wpE (defs₀ (F := F)) Variants.none (c : Thread nD τ) none) Set.univ)
    isplitl [HH]
    · iapply (trip_run c i arg2 harg2 arg3 harg3 arg4 harg4 arg5 harg5 arg6 harg6 arg7 harg7 arg8 harg8 arg9 harg9 arg10 harg10 arg11 harg11 _ (k0_pay39 x1) (k0_pay40 x3) (k0_pay41 x2) x0 x4 x5 x6 k s)
      iexact HH
    iintro %r HH
    iexact HH
  · unfold Held owns
    isplitr
    · ipureintro
      rw [show (stateAt i (k0_pay39 x1) (k0_pay40 x3) (k0_pay41 x2) x0 x4 x5 x6 (diag i x0 x1 x2 x3 x4 x5 x6 (start i w)) 0) = diag i x0 x1 x2 x3 x4 x5 x6 (start i w) from rfl]
      simp only [show View.ld x1 (Rect.unit (s := S512x128) ![0, 0] ![512, 128] inb_S512x128_S512x128_0_0) = x1 from ld_rows _ _, show View.ld x3 (Rect.unit (s := S512x128) ![0, 0] ![512, 128] inb_S512x128_S512x128_0_0) = x3 from ld_rows _ _, show View.ld x2 (Rect.unit (s := S128x512) ![0, 0] ![128, 512] inb_S128x512_S128x512_0_0) = x2 from ld_cols _ _]
      rfl
    isplitl [H0]
    · iexists _; isplitr; · ipureintro; exact harg2.read_unread _
      iexact H0
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; isplitr
    swap; · iexact H11
    ipureintro
    rw [show start i w = w from if_neg h1]
    refine (View.read_writes_cons_put _ _ _ _ _ rfl).trans ?_
    sl_unfold_words
    simp only [View.writes_nil, View.readAt_eq_ld, Memref.IsWhole.read_unread]
    simp only [show View.ld x1 (Rect.unit (s := S512x128) ![0, 0] ![512, 128] inb_S512x128_S512x128_0_0) = x1 from ld_rows _ _, show View.ld x3 (Rect.unit (s := S512x128) ![0, 0] ![512, 128] inb_S512x128_S512x128_0_0) = x3 from ld_rows _ _, show View.ld x2 (Rect.unit (s := S128x512) ![0, 0] ![128, 512] inb_S128x512_S128x512_0_0) = x2 from ld_cols _ _]
    rfl
  rw [show (stateAt i (k0_pay39 x1) (k0_pay40 x3) (k0_pay41 x2) x0 x4 x5 x6 (diag i x0 x1 x2 x3 x4 x5 x6 (start i w)) (Scf.trips (k0_t1_loop i).lb (k0_t1_loop i).ub (k0_t1_loop i).st)) = mid i x0 x1 x2 x3 x4 x5 x6 w from rfl]
  rw [show point i x0 x1 x2 x3 x4 x5 x6 w = mid i x0 x1 x2 x3 x4 x5 x6 w from if_neg h2]
  generalize mid i x0 x1 x2 x3 x4 x5 x6 w = s
  obtain ⟨⟨a1, a2⟩, w'⟩ := s
  dsimp only
  iintro %acc ⟨%ha, HH⟩
  subst ha
  unfold Held owns
  icases HH with ⟨⟨%f0, %hg0, H0⟩, ⟨%f4, %hg4, H4⟩, ⟨%f5, %hg5, H5⟩, ⟨%f6, %hg6, H6⟩, ⟨%f11, %hg11, H11⟩⟩
  obtain rfl := harg2.eq_unread hg0; obtain rfl := harg6.eq_unread hg4; obtain rfl := harg7.eq_unread hg5; obtain rfl := harg8.eq_unread hg6; obtain rfl := harg11.eq_unread hg11
  clear hg0 hg4 hg5 hg6 hg11
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H9]
  · iexists _; isplitr
    swap; · iexact H9
    ipureintro
    exact View.read_writes_full _ _ _ _ _
  isplitl [H10]
  · iexists _; isplitr
    swap; · iexact H10
    ipureintro
    exact View.read_writes_full _ _ _ _ _
  iexists _; isplitr; · ipureintro; exact harg11.read_unread _
  iexact H11

theorem body_run (c : Dev nD) (i : grid0.Coords) (arg2 : Memref sig .tc .vmem S16384x128 .bf16) (harg2 : arg2.IsWhole) (arg3 : Memref sig .tc .vmem S512x128 .bf16) (harg3 : arg3.IsWhole) (arg4 : Memref sig .tc .vmem S128x512 .bf16) (harg4 : arg4.IsWhole) (arg5 : Memref sig .tc .vmem S512x128 .bf16) (harg5 : arg5.IsWhole) (arg6 : Memref sig .tc .vmem S16384x128 .bf16) (harg6 : arg6.IsWhole) (arg7 : Memref sig .tc .vmem S1x32x512 .f32) (harg7 : arg7.IsWhole) (arg8 : Memref sig .tc .vmem S1x32x512 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x32x128x512 .f32) (harg11 : arg11.IsWhole) (x0 : Vec F S16384x128 .bf16) (x1 : Vec F S512x128 .bf16) (x2 : Vec F S128x512 .bf16) (x3 : Vec F S512x128 .bf16) (x4 : Vec F S16384x128 .bf16) (x5 : Vec F S1x32x512 .f32) (x6 : Vec F S1x32x512 .f32) (w : Vec F S1x32x128x512 .f32) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ (∃ d, owns (c : Thread nD τ) arg10 fullShare d) ∗ owns (c : Thread nD τ) arg11 fullShare w
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (k0_pay8 (point i x0 x1 x2 x3 x4 x5 x6 w).1.1) ∗ owns (c : Thread nD τ) arg10 fullShare (point i x0 x1 x2 x3 x4 x5 x6 w).1.2 ∗ owns (c : Thread nD τ) arg11 fullShare (point i x0 x1 x2 x3 x4 x5 x6 w).2) -∗ K ⟨⟩))
      ⊢ wp frame (wpE (defs₀ (F := F)) Variants.none c none) Set.univ (cc0_attn_bwd i arg2 harg2 arg3 harg3 arg4 harg4 arg5 harg5 arg6 harg6 arg7 harg7 arg8 harg8 arg9 harg9 arg10 harg10 arg11 harg11) K := by
  by_cases h1 : First i
  · by_cases h2 : k0_cond2 i = 1#1
    · exact runAA c i h1 h2 arg2 harg2 arg3 harg3 arg4 harg4 arg5 harg5 arg6 harg6 arg7 harg7 arg8 harg8 arg9 harg9 arg10 harg10 arg11 harg11 x0 x1 x2 x3 x4 x5 x6 w K
    · exact runAB c i h1 h2 arg2 harg2 arg3 harg3 arg4 harg4 arg5 harg5 arg6 harg6 arg7 harg7 arg8 harg8 arg9 harg9 arg10 harg10 arg11 harg11 x0 x1 x2 x3 x4 x5 x6 w K
  · by_cases h2 : k0_cond2 i = 1#1
    · exact runBA c i h1 h2 arg2 harg2 arg3 harg3 arg4 harg4 arg5 harg5 arg6 harg6 arg7 harg7 arg8 harg8 arg9 harg9 arg10 harg10 arg11 harg11 x0 x1 x2 x3 x4 x5 x6 w K
    · exact runBB c i h1 h2 arg2 harg2 arg3 harg3 arg4 harg4 arg5 harg5 arg6 harg6 arg7 harg7 arg8 harg8 arg9 harg9 arg10 harg10 arg11 harg11 x0 x1 x2 x3 x4 x5 x6 w K

end Cert.Kernel6Ideal.Grad

end
-- ==== Proof.Grad.Frame.lean ====
module

public import proofs.«01_k».proof.Proof.Grad.Run
public import Idealize.ShloMosaic.Lib.Claim
public import Idealize.ShloMosaic.Lib.Pipeline.TableIdle
public import proofs.«01_k».proof.Proof.Gen.Kernel6Ideal.Launch
public import proofs.«01_k».proof.Proof.Gen.Kernel6Ideal.Skeleton
public import proofs.«01_k».proof.Proof.Gen.Kernel6Ideal.Loops
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.LoopRemainder

/-! The gradient call of the attention: every run ends, the arguments unchanged, and the arrays as the blocks leave them. -/

@[expose] public section

set_option maxRecDepth 16384

noncomputable section

namespace Cert.Kernel6Ideal.Grad

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The host operations before the call -/

/-- A core's buffers when the call starts. -/
abbrev V (m : (ℓ : Loc nD τ sig) → Buf (Elt F) ℓ) (c : Dev nD) (b : Ref sig .tc) : Buf (Elt F) ((c : Thread nD τ).loc b) := StableHlo.after hostOps0 (fun b => m (c, b)) b

variable (m : (ℓ : Loc nD τ sig) → Buf (Elt F) ℓ) (ρ : Dev nD → PrngReg)

theorem host_fresh : (hostOps0 : List (HloOp τ sig (Elt F))).Forall fun op => op.fresh = ∅ := by
  simp only [List.Forall]; repeat' constructor

theorem main_host (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub host_fresh main_chain

theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- A window's block at a grid point, of the array as the call finds it. -/
def blkIn (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem held0_of {c : Dev nD} (dat : Dat τ (Elt F) Unit ℕ (UR sig nD τ) ℕ cfg0 c) (hA : dat.A 0 = V m c (Pipeline.arrRef spec0 0))
    (hafter : ∀ t, dat.after 0 t = blkIn m c 0 t) (t : Fin cfg0.N) (d) : dat.before 0 t d = blkIn m c 0 t :=
  (dat.before_in_eq_fetched 0 rfl (fun _ => rfl) (fun _ _ _ => rfl) (fun t => by rw [hafter]; unfold Dat.blockOf blkIn; rw [hA]; try rfl) t d).trans
    (by unfold Dat.fetched Dat.blockOf blkIn; rw [hA]; try rfl)

theorem held1_of {c : Dev nD} (dat : Dat τ (Elt F) Unit ℕ (UR sig nD τ) ℕ cfg0 c) (hA : dat.A 1 = V m c (Pipeline.arrRef spec0 1))
    (hafter : ∀ t, dat.after 1 t = blkIn m c 1 t) (t : Fin cfg0.N) (d) : dat.before 1 t d = blkIn m c 1 t :=
  (dat.before_in_eq_fetched 1 rfl (fun _ => rfl) (fun _ _ _ => rfl) (fun t => by rw [hafter]; unfold Dat.blockOf blkIn; rw [hA]; try rfl) t d).trans
    (by unfold Dat.fetched Dat.blockOf blkIn; rw [hA]; try rfl)

theorem held2_of {c : Dev nD} (dat : Dat τ (Elt F) Unit ℕ (UR sig nD τ) ℕ cfg0 c) (hA : dat.A 2 = V m c (Pipeline.arrRef spec0 2))
    (hafter : ∀ t, dat.after 2 t = blkIn m c 2 t) (t : Fin cfg0.N) (d) : dat.before 2 t d = blkIn m c 2 t :=
  (dat.before_in_eq_fetched 2 rfl (fun _ => rfl) (fun _ _ _ => rfl) (fun t => by rw [hafter]; unfold Dat.blockOf blkIn; rw [hA]; try rfl) t d).trans
    (by unfold Dat.fetched Dat.blockOf blkIn; rw [hA]; try rfl)

theorem held3_of {c : Dev nD} (dat : Dat τ (Elt F) Unit ℕ (UR sig nD τ) ℕ cfg0 c) (hA : dat.A 3 = V m c (Pipeline.arrRef spec0 3))
    (hafter : ∀ t, dat.after 3 t = blkIn m c 3 t) (t : Fin cfg0.N) (d) : dat.before 3 t d = blkIn m c 3 t :=
  (dat.before_in_eq_fetched 3 rfl (fun _ => rfl) (fun _ _ _ => rfl) (fun t => by rw [hafter]; unfold Dat.blockOf blkIn; rw [hA]; try rfl) t d).trans
    (by unfold Dat.fetched Dat.blockOf blkIn; rw [hA]; try rfl)

theorem held4_of {c : Dev nD} (dat : Dat τ (Elt F) Unit ℕ (UR sig nD τ) ℕ cfg0 c) (hA : dat.A 4 = V m c (Pipeline.arrRef spec0 4))
    (hafter : ∀ t, dat.after 4 t = blkIn m c 4 t) (t : Fin cfg0.N) (d) : dat.before 4 t d = blkIn m c 4 t :=
  (dat.before_in_eq_fetched 4 rfl (fun _ => rfl) (fun _ _ _ => rfl) (fun t => by rw [hafter]; unfold Dat.blockOf blkIn; rw [hA]; try rfl) t d).trans
    (by unfold Dat.fetched Dat.blockOf blkIn; rw [hA]; try rfl)

theorem held5_of {c : Dev nD} (dat : Dat τ (Elt F) Unit ℕ (UR sig nD τ) ℕ cfg0 c) (hA : dat.A 5 = V m c (Pipeline.arrRef spec0 5))
    (hafter : ∀ t, dat.after 5 t = blkIn m c 5 t) (t : Fin cfg0.N) (d) : dat.before 5 t d = blkIn m c 5 t :=
  (dat.before_in_eq_fetched 5 rfl (fun _ => rfl) (fun _ _ _ => rfl) (fun t => by rw [hafter]; unfold Dat.blockOf blkIn; rw [hA]; try rfl) t d).trans
    (by unfold Dat.fetched Dat.blockOf blkIn; rw [hA]; try rfl)

theorem held6_of {c : Dev nD} (dat : Dat τ (Elt F) Unit ℕ (UR sig nD τ) ℕ cfg0 c) (hA : dat.A 6 = V m c (Pipeline.arrRef spec0 6))
    (hafter : ∀ t, dat.after 6 t = blkIn m c 6 t) (t : Fin cfg0.N) (d) : dat.before 6 t d = blkIn m c 6 t :=
  (dat.before_in_eq_fetched 6 rfl (fun _ => rfl) (fun _ _ _ => rfl) (fun t => by rw [hafter]; unfold Dat.blockOf blkIn; rw [hA]; try rfl) t d).trans
    (by unfold Dat.fetched Dat.blockOf blkIn; rw [hA]; try rfl)

abbrev ms0 (t : Fin cfg0.N) : Memref sig .tc .vmem S16384x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x512 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x128 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S16384x128 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x32x512 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x32x512 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S512x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S512x128 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x32x128x512 .f32 := win0_9.stage (cfg0.slots t 9)
abbrev hs9 (t : Fin cfg0.N) : (ms9 t).IsWhole := hstage0_9 ((cfg0.slots t 9).cast nbuf0_9)

/-! ## What the body leaves -/

theorem coords_j : ∀ t : Fin cfg0.N, (grid0.coords t 1).val = t.val % 32 := by decide +kernel

/-- At the first block of keys the queries' gradient starts anew, whatever the buffer held. -/
theorem point_first (i : grid0.Coords) (h : First i) (x0 : Vec F S16384x128 .bf16) (x1 : Vec F S512x128 .bf16) (x2 : Vec F S128x512 .bf16) (x3 : Vec F S512x128 .bf16) (x4 : Vec F S16384x128 .bf16) (x5 : Vec F S1x32x512 .f32) (x6 : Vec F S1x32x512 .f32) (w w' : Vec F S1x32x128x512 .f32) :
    point i x0 x1 x2 x3 x4 x5 x6 w = point i x0 x1 x2 x3 x4 x5 x6 w' := by
  have e : start i w = start i w' := by unfold start; rw [if_pos h, if_pos h]
  unfold point mid
  rw [e]

/-- What grid point `t` leaves, from the queries' gradient the point before left. -/
def pointAt (c : Dev nD) (t : Fin cfg0.N) (w : Vec F S1x32x128x512 .f32) : St F :=
  point (grid0.coords t) (blkIn m c 0 t) (blkIn m c 1 t) (blkIn m c 2 t) (blkIn m c 3 t) (blkIn m c 4 t) (blkIn m c 5 t) (blkIn m c 6 t) w

/-- What the points up to `n` leave. -/
def leftAt (c : Dev nD) : (n : ℕ) → n < cfg0.N → St F
  | 0, hn => pointAt m c ⟨0, hn⟩ k0_pay42
  | n + 1, hn => pointAt m c ⟨n + 1, hn⟩ (leftAt c n (Nat.lt_of_succ_lt hn)).2

theorem leftAt_first (c : Dev nD) (t : Fin cfg0.N) (h : t.val % 32 = 0) (w : Vec F S1x32x128x512 .f32) :
    leftAt m c t.val t.isLt = pointAt m c t w := by
  obtain ⟨n, hn⟩ := t
  have hf : First (grid0.coords ⟨n, hn⟩) := (first_iff _).mpr ((coords_j _).trans h)
  cases n with
  | zero => exact point_first _ hf _ _ _ _ _ _ _ _ _
  | succ n => exact point_first _ hf _ _ _ _ _ _ _ _ _

theorem leftAt_next (c : Dev nD) (t : Fin cfg0.N) (h : ¬t.val % 32 = 0) :
    leftAt m c t.val t.isLt = pointAt m c t (leftAt m c (t.val - 1) (Nat.lt_of_le_of_lt (Nat.sub_le _ _) t.isLt)).2 := by
  obtain ⟨n, hn⟩ := t
  cases n with
  | zero => exact absurd rfl h
  | succ n => rfl

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => blkIn m c 0 t
    | ⟨1, _⟩ => blkIn m c 1 t
    | ⟨2, _⟩ => blkIn m c 2 t
    | ⟨3, _⟩ => blkIn m c 3 t
    | ⟨4, _⟩ => blkIn m c 4 t
    | ⟨5, _⟩ => blkIn m c 5 t
    | ⟨6, _⟩ => blkIn m c 6 t
    | ⟨7, _⟩ => k0_pay8 (leftAt m c t.val t.isLt).1.1
    | ⟨8, _⟩ => (leftAt m c t.val t.isLt).1.2
    | ⟨9, _⟩ => (leftAt m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = blkIn m c 0 t := by dsimp only [dats]
theorem after1 (c : Dev nD) (t : Fin cfg0.N) : (dats m 0 c).after 1 t = blkIn m c 1 t := by dsimp only [dats]
theorem after2 (c : Dev nD) (t : Fin cfg0.N) : (dats m 0 c).after 2 t = blkIn m c 2 t := by dsimp only [dats]
theorem after3 (c : Dev nD) (t : Fin cfg0.N) : (dats m 0 c).after 3 t = blkIn m c 3 t := by dsimp only [dats]
theorem after4 (c : Dev nD) (t : Fin cfg0.N) : (dats m 0 c).after 4 t = blkIn m c 4 t := by dsimp only [dats]
theorem after5 (c : Dev nD) (t : Fin cfg0.N) : (dats m 0 c).after 5 t = blkIn m c 5 t := by dsimp only [dats]
theorem after6 (c : Dev nD) (t : Fin cfg0.N) : (dats m 0 c).after 6 t = blkIn m c 6 t := by dsimp only [dats]
theorem after7 (c : Dev nD) (t : Fin cfg0.N) : (dats m 0 c).after 7 t = k0_pay8 (leftAt m c t.val t.isLt).1.1 := by dsimp only [dats]
theorem after8 (c : Dev nD) (t : Fin cfg0.N) : (dats m 0 c).after 8 t = (leftAt m c t.val t.isLt).1.2 := by dsimp only [dats]
theorem after9 (c : Dev nD) (t : Fin cfg0.N) : (dats m 0 c).after 9 t = (leftAt m c t.val t.isLt).2 := by dsimp only [dats]
theorem held0 (c : Dev nD) (t : Fin cfg0.N) (d) : (dats m 0 c).before 0 t d = blkIn m c 0 t :=
  held0_of m (dats m 0 c) (A_eq m c 0) (after0 m c) t d
theorem held1 (c : Dev nD) (t : Fin cfg0.N) (d) : (dats m 0 c).before 1 t d = blkIn m c 1 t :=
  held1_of m (dats m 0 c) (A_eq m c 1) (after1 m c) t d
theorem held2 (c : Dev nD) (t : Fin cfg0.N) (d) : (dats m 0 c).before 2 t d = blkIn m c 2 t :=
  held2_of m (dats m 0 c) (A_eq m c 2) (after2 m c) t d
theorem held3 (c : Dev nD) (t : Fin cfg0.N) (d) : (dats m 0 c).before 3 t d = blkIn m c 3 t :=
  held3_of m (dats m 0 c) (A_eq m c 3) (after3 m c) t d
theorem held4 (c : Dev nD) (t : Fin cfg0.N) (d) : (dats m 0 c).before 4 t d = blkIn m c 4 t :=
  held4_of m (dats m 0 c) (A_eq m c 4) (after4 m c) t d
theorem held5 (c : Dev nD) (t : Fin cfg0.N) (d) : (dats m 0 c).before 5 t d = blkIn m c 5 t :=
  held5_of m (dats m 0 c) (A_eq m c 5) (after5 m c) t d
theorem held6 (c : Dev nD) (t : Fin cfg0.N) (d) : (dats m 0 c).before 6 t d = blkIn m c 6 t :=
  held6_of m (dats m 0 c) (A_eq m c 6) (after6 m c) t d

/-- Where the queries' gradient starts anew. -/
def freshAt (n : ℕ) : Bool := n % 32 == 0

theorem freshAt_step : ∀ t : Fin cfg0.N,
    freshAt (t.val + 1) = ((cfg0.win 9).flush t || (cfg0.idle 9 (cfg0.grid.coords t) && freshAt t.val)) := by decide +kernel

theorem fresh_eq (t : Fin cfg0.N) : cfg0.fresh 9 t.val = freshAt t.val :=
  Pipeline.Cfg.fresh_tab cfg0 9 freshAt rfl freshAt_step t.val (Nat.le_of_lt t.isLt)

theorem live9 : ∀ t : Fin cfg0.N, cfg0.idle 9 (grid0.coords t) = false := by decide +kernel

theorem before9 (c : Dev nD) (t : Fin cfg0.N) (h : ¬t.val % 32 = 0) (d) :
    (dats m 0 c).before 9 t d = (leftAt m c (t.val - 1) (Nat.lt_of_le_of_lt (Nat.sub_le _ _) t.isLt)).2 := by
  have hf : ¬ cfg0.fresh 9 t.val = true := by
    rw [fresh_eq t]; unfold freshAt; simpa using h
  rw [Dat.before_out_traj _ 9 rfl (fun _ _ => rfl) (fun t _ hi _ => absurd ((live9 t).symm.trans hi) Bool.false_ne_true) t.val t rfl d, if_neg hf]
  dsimp only [dats]

/-! ## The body at every grid point -/

abbrev bodyAt (t : Fin cfg0.N) : Prog (TpuEff nD τ sig (Elt F) Λ₀ .tc) PUnit :=
  cc0_attn_bwd (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t)

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t))

theorem sound_body (c : Dev nD) (t : Fin cfg0.N) :
    bodyPre m c t ⊢ wp frame (wpE (defs₀ (F := F)) Variants.none c none) Set.univ (bodyAt t) (fun _ => bodyPost m c t) := by
  unfold bodyPre bodyPost bodyAt
  simp only [held0, held1, held2, held3, held4, held5, held6]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9]
  by_cases h : t.val % 32 = 0
  · simp only [leftAt_first m c t h k0_pay42]
    unfold pointAt
    have e : ∀ d, point (grid0.coords t) (blkIn m c 0 t) (blkIn m c 1 t) (blkIn m c 2 t) (blkIn m c 3 t) (blkIn m c 4 t) (blkIn m c 5 t) (blkIn m c 6 t) k0_pay42 = point (grid0.coords t) (blkIn m c 0 t) (blkIn m c 1 t) (blkIn m c 2 t) (blkIn m c 3 t) (blkIn m c 4 t) (blkIn m c 5 t) (blkIn m c 6 t) d := fun d =>
      point_first _ ((first_iff _).mpr ((coords_j _).trans h)) _ _ _ _ _ _ _ _ _
    iintro ⟨Hi, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    rw [e ((dats m 0 c).before 9 t d9)]
    iapply (body_run c (grid0.coords t) _ _ _ _ _ _ _ _ _ _ _ _ _ _ _ _ _ _ _ _ (blkIn m c 0 t) (blkIn m c 1 t) (blkIn m c 2 t) (blkIn m c 3 t) (blkIn m c 4 t) (blkIn m c 5 t) (blkIn m c 6 t) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexact H9
    iintro ⟨H0, H1, H2, H3, H4, H5, H6, H7, H8, H9⟩
    isplitl [Hi]; · iexact Hi
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · simp only [before9 m c t h, leftAt_next m c t h]
    unfold pointAt
    iintro ⟨Hi, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (body_run c (grid0.coords t) _ _ _ _ _ _ _ _ _ _ _ _ _ _ _ _ _ _ _ _ (blkIn m c 0 t) (blkIn m c 1 t) (blkIn m c 2 t) (blkIn m c 3 t) (blkIn m c 4 t) (blkIn m c 5 t) (blkIn m c 6 t) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexact H9
    iintro ⟨H0, H1, H2, H3, H4, H5, H6, H7, H8, H9⟩
    isplitl [Hi]; · iexact Hi
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem body_row (t : Fin cfg0.N) :
    defs₀ (F := F) .tc cfg0.body (cfg0.bodyArgs t (cfg0.slots t)) = bodyAt t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The run -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := main_host m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
      ((h c).2 main_arg0 (Pipeline.mem_restRefs_of main_arg0 (by decide) (by decide))).trans (V_arg0 m c),
      ((h c).2 main_arg1 (Pipeline.mem_restRefs_of main_arg1 (by decide) (by decide))).trans (V_arg1 m c),
      ((h c).2 main_arg2 (Pipeline.mem_restRefs_of main_arg2 (by decide) (by decide))).trans (V_arg2 m c),
      ((h c).2 main_arg3 (Pipeline.mem_restRefs_of main_arg3 (by decide) (by decide))).trans (V_arg3 m c)⟩) (run_main m ρ)

theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel6Ideal.Grad

end
-- ==== Proof.Grad.Step.lean ====
/- The gradient kernel's operations, each at its index. -/
module

public import proofs.«01_k».proof.Proof.Grad.Run
public import proofs.«01_k».proof.Proof.Attn.Spec
public import Idealize.ShloMosaic.Lib.Pointwise
public import Idealize.ShloMosaic.Lib.Pipeline.ValueKit

@[expose] public section

set_option maxRecDepth 16384

noncomputable section

namespace Grad

open Idealize Idealize.ShloMosaic Cert.Kernel6Ideal Cert.Kernel6Ideal.Gen Cert.Kernel6Ideal.Grad Conv
open Attn (Tok Col Head row lane neg_inf mask_select)

/-- A block's products of rows, … -/
def dots (x Q : Vec Ideal S512x128 .bf16) (j r : Fin 512) : EReal := ∑ d : Fin 128, x (ix2 j d) * Q (ix2 r d)

theorem id39 (x : Vec Ideal S512x128 .bf16) : k0_pay39 x = x := by
  funext i; obtain ⟨j, d, rfl⟩ : ∃ (j : Fin 512) (d : Fin 128), i = ix2 j d := ⟨i 0, i 1, eq_ix2 i⟩
  pointwise [k0_pay39]
theorem id40 (x : Vec Ideal S512x128 .bf16) : k0_pay40 x = x := by
  funext i; obtain ⟨j, d, rfl⟩ : ∃ (j : Fin 512) (d : Fin 128), i = ix2 j d := ⟨i 0, i 1, eq_ix2 i⟩
  pointwise [k0_pay40]
theorem id41 (x : Vec Ideal S128x512 .bf16) : k0_pay41 x = x := by
  funext i; obtain ⟨j, d, rfl⟩ : ∃ (j : Fin 128) (d : Fin 512), i = ix2 j d := ⟨i 0, i 1, eq_ix2 i⟩
  pointwise [k0_pay41]

variable (v1 v3 Q DO : Vec Ideal S512x128 .bf16) (v5 : Vec Ideal S128x512 .bf16) (L D : Vec Ideal S1x1x512 .f32)

theorem pay12_apply (j r : Fin 512) :
    k0_pay12 v1 Q L (ix2 j r) = Ideal.exp2 (dots v1 Q j r - L (ix3 (0 : Fin 1) (0 : Fin 1) r)) := by
  pointwise [k0_pay12]
  rfl
theorem pay19_apply (j r : Fin 512) :
    k0_pay19 (k0_pay9 v1 Q) L (ix2 j r) = Ideal.exp2 (dots v1 Q j r - L (ix3 (0 : Fin 1) (0 : Fin 1) r)) := by
  pointwise [k0_pay19, k0_pay9]
  rfl
theorem pay38_apply (j r : Fin 512) :
    k0_pay38 v1 Q L (ix2 j r) = Ideal.exp2 (dots v1 Q j r - L (ix3 (0 : Fin 1) (0 : Fin 1) r)) := by
  pointwise [k0_pay38, k0_pay34]
  rfl
theorem pay46_apply (j r : Fin 512) :
    k0_pay46 v1 Q L (ix2 j r) = Ideal.exp2 ((if j ≤ r then dots v1 Q j r else ⊥) - L (ix3 (0 : Fin 1) (0 : Fin 1) r)) := by
  pointwise [k0_pay46, k0_pay39]
  rw [mask_select _ _ (by omega) (by omega), neg_inf]
  rfl
theorem pay13_apply (j r : Fin 512) :
    k0_pay13 v1 v3 Q DO L D (ix2 j r) = k0_pay12 v1 Q L (ix2 j r) * (dots v3 DO j r - D (ix3 (0 : Fin 1) (0 : Fin 1) r)) := by
  pointwise [k0_pay13, k0_pay11]
  rfl
theorem pay20_apply (j r : Fin 512) :
    k0_pay20 v3 (k0_pay9 v1 Q) DO L D (ix2 j r) = k0_pay19 (k0_pay9 v1 Q) L (ix2 j r) * (dots v3 DO j r - D (ix3 (0 : Fin 1) (0 : Fin 1) r)) := by
  pointwise [k0_pay20, k0_pay18]
  rfl
theorem pay35_apply (j r : Fin 512) :
    k0_pay35 v1 v3 Q DO L D (ix2 j r) = k0_pay38 v1 Q L (ix2 j r) * (dots v3 DO j r - D (ix3 (0 : Fin 1) (0 : Fin 1) r)) := by
  pointwise [k0_pay35, k0_pay33, k0_pay38]
  rfl
theorem pay47_apply (P : FVec Ideal S512x512 .f32) (j r : Fin 512) :
    k0_pay47 v3 (k0_pay45 DO) P (constant S512x512 .f32 0x00000000#32) D (ix2 j r) = P (ix2 j r) * (dots v3 DO j r - D (ix3 (0 : Fin 1) (0 : Fin 1) r)) := by
  pointwise [k0_pay47, k0_pay45]
  rfl

theorem pay14_apply (ds : FVec Ideal S512x512 .bf16) (o : Vec Ideal S1x1x128x512 .f32) (d : Fin 128) (r : Fin 512) :
    k0_pay14 v5 ds o (ix4 (0 : Fin 1) (0 : Fin 1) d r) = o (ix4 (0 : Fin 1) (0 : Fin 1) d r) + ∑ j : Fin 512, v5 (ix2 d j) * ds (ix2 j r) := by
  pointwise [k0_pay14]
theorem pay1_apply (ds : FVec Ideal S512x512 .bf16) (o : Vec Ideal S1x1x128x512 .f32) (d : Fin 128) (r : Fin 512) :
    k0_pay1 v5 ds o (ix4 (0 : Fin 1) (0 : Fin 1) d r) = o (ix4 (0 : Fin 1) (0 : Fin 1) d r) + ∑ j : Fin 512, v5 (ix2 d j) * ds (ix2 j r) := by
  pointwise [k0_pay1]
theorem pay36_apply (o : Vec Ideal S1x1x128x512 .f32) (d : Fin 128) (r : Fin 512) :
    k0_pay36 v1 v3 v5 Q DO L D o (ix4 (0 : Fin 1) (0 : Fin 1) d r)
      = o (ix4 (0 : Fin 1) (0 : Fin 1) d r) + ∑ j : Fin 512, v5 (ix2 d j) * k0_pay35 v1 v3 Q DO L D (ix2 j r) := by
  pointwise [k0_pay36]
theorem pay48_apply (P : FVec Ideal S512x512 .f32) (z : FVec Ideal S512x512 .f32) (o : Vec Ideal S1x1x128x512 .f32) (d : Fin 128) (r : Fin 512) :
    k0_pay48 v3 v5 (k0_pay45 DO) P z D o (ix4 (0 : Fin 1) (0 : Fin 1) d r)
      = o (ix4 (0 : Fin 1) (0 : Fin 1) d r) + ∑ j : Fin 512, v5 (ix2 d j) * k0_pay47 v3 (k0_pay45 DO) P z D (ix2 j r) := by
  pointwise [k0_pay48]

theorem pay15_apply (a : FVec Ideal S512x128 .f32) (ds : FVec Ideal S512x512 .bf16) (j : Fin 512) (d : Fin 128) :
    k0_pay15 a (k0_pay10 Q) ds (ix2 j d) = a (ix2 j d) + ∑ r : Fin 512, ds (ix2 j r) * Q (ix2 r d) := by
  pointwise [k0_pay15, k0_pay10]
theorem pay2_apply (a : FVec Ideal S512x128 .f32) (ds : FVec Ideal S512x512 .bf16) (j : Fin 512) (d : Fin 128) :
    k0_pay2 a (k0_pay17 Q) ds (ix2 j d) = a (ix2 j d) + ∑ r : Fin 512, ds (ix2 j r) * Q (ix2 r d) := by
  pointwise [k0_pay2, k0_pay17]
theorem pay37_apply (a : FVec Ideal S512x128 .f32) (j : Fin 512) (d : Fin 128) :
    k0_pay37 v1 v3 a Q Q DO L D (ix2 j d) = a (ix2 j d) + ∑ r : Fin 512, k0_pay35 v1 v3 Q DO L D (ix2 j r) * Q (ix2 r d) := by
  pointwise [k0_pay37]
theorem pay49_apply (P : FVec Ideal S512x512 .f32) (z : FVec Ideal S512x512 .f32) (j : Fin 512) (d : Fin 128) :
    k0_pay49 v3 k0_pay43 (k0_pay44 Q) (k0_pay45 DO) P z D (ix2 j d) = ∑ r : Fin 512, k0_pay47 v3 (k0_pay45 DO) P z D (ix2 j r) * Q (ix2 r d) := by
  pointwise [k0_pay49, k0_pay44, k0_pay43]

theorem pay16_apply (a : FVec Ideal S512x128 .f32) (P : FVec Ideal S512x512 .f32) (j : Fin 512) (d : Fin 128) :
    k0_pay16 a (k0_pay11 DO) P (ix2 j d) = a (ix2 j d) + ∑ r : Fin 512, P (ix2 j r) * DO (ix2 r d) := by
  pointwise [k0_pay16, k0_pay11]
theorem pay3_apply (a : FVec Ideal S512x128 .f32) (P : FVec Ideal S512x512 .f32) (j : Fin 512) (d : Fin 128) :
    k0_pay3 a (k0_pay18 DO) P (ix2 j d) = a (ix2 j d) + ∑ r : Fin 512, P (ix2 j r) * DO (ix2 r d) := by
  pointwise [k0_pay3, k0_pay18]
theorem pay7_apply (a : FVec Ideal S512x128 .f32) (P : FVec Ideal S512x512 .bf16) (j : Fin 512) (d : Fin 128) :
    k0_pay7 a (k0_pay33 DO) P (ix2 j d) = a (ix2 j d) + ∑ r : Fin 512, P (ix2 j r) * DO (ix2 r d) := by
  pointwise [k0_pay7, k0_pay33]
theorem pay50_apply (P : FVec Ideal S512x512 .f32) (j : Fin 512) (d : Fin 128) :
    k0_pay50 k0_pay43 (k0_pay45 DO) P (ix2 j d) = ∑ r : Fin 512, P (ix2 j r) * DO (ix2 r d) := by
  pointwise [k0_pay50, k0_pay45, k0_pay43]

theorem pay8_apply (a : FVec Ideal S512x128 .f32) (j : Fin 512) (d : Fin 128) :
    k0_pay8 a (ix2 j d) = a (ix2 j d) * ((Real.log 2 : ℝ) : EReal) := by
  pointwise [k0_pay8]
  rw [show (Named.named (F := Ideal) κ "ln2" (φ := .f32) 0x3F317218#32) = ((Real.log 2 : ℝ) : EReal) from
    IdealRules.named_const.ideal_named_scalar _ _ _ _ rfl]
theorem pay42_apply (a : Fin 32) (d : Fin 128) (r : Fin 512) : k0_pay42 (F := Ideal) (ix4 (0 : Fin 1) a d r) = 0 := by
  pointwise [k0_pay42]

/-! Loads of a block of rows and of a row of a table, and a block put into the slab. -/

theorem ld_block (x : Vec Ideal S16384x128 .bf16) (off : Fin 2 → ℕ) (inb) (n : Fin 32) (ho : off = ![512 * n.val, 0]) (r : Fin 512) (d : Fin 128) :
    View.ld x (Rect.unit (s := S16384x128) off S512x128.size inb) (ix2 r d) = x (ix2 (row n r) d) := by
  subst ho
  refine View.ld_unit_apply_of _ _ _ _ _ _ fun a => ?_
  match a with
  | ⟨0, _⟩ => rfl
  | ⟨1, _⟩ => exact (Nat.zero_add _).symm

theorem ld_row (x : Vec Ideal S1x32x512 .f32) (off : Fin 3 → ℕ) (inb) (n : Fin 32) (ho : off = ![0, n.val, 0]) (r : Fin 512) :
    View.ld x (Rect.unit (s := S1x32x512) off S1x1x512.size inb) (ix3 (0 : Fin 1) (0 : Fin 1) r) = x (ix3 (0 : Fin 1) n r) := by
  subst ho
  refine View.ld_unit_apply_of _ _ _ _ _ _ fun a => ?_
  match a with
  | ⟨0, _⟩ => rfl
  | ⟨1, _⟩ => rfl
  | ⟨2, _⟩ => exact (Nat.zero_add _).symm

theorem ld_slab (x : Vec Ideal S1x32x128x512 .f32) (off : Fin 4 → ℕ) (inb) (n : Fin 32) (ho : off = ![0, n.val, 0, 0]) (d : Fin 128) (r : Fin 512) :
    View.ld x (Rect.unit (s := S1x32x128x512) off S1x1x128x512.size inb) (ix4 (0 : Fin 1) (0 : Fin 1) d r) = x (ix4 (0 : Fin 1) n d r) := by
  subst ho
  refine View.ld_unit_apply_of _ _ _ _ _ _ fun a => ?_
  match a with
  | ⟨0, _⟩ => rfl
  | ⟨1, _⟩ => rfl
  | ⟨2, _⟩ => exact (Nat.zero_add _).symm
  | ⟨3, _⟩ => exact (Nat.zero_add _).symm

theorem put_slab (x : Vec Ideal S1x32x128x512 .f32) (off : Fin 4 → ℕ) (n : Fin 32) (ho : off = ![0, n.val, 0, 0]) (w : Vec Ideal S1x1x128x512 .f32)
    (a : Fin 32) (d : Fin 128) (r : Fin 512) :
    VecWindow.put x off S1x1x128x512.size w (ix4 (0 : Fin 1) a d r)
      = if a = n then w (ix4 (0 : Fin 1) (0 : Fin 1) d r) else x (ix4 (0 : Fin 1) a d r) := by
  subst ho
  unfold VecWindow.put
  by_cases h : a = n
  · subst h
    rw [if_pos rfl, dif_pos (fun b => by
      match b with
      | ⟨0, _⟩ => exact ⟨le_rfl, Nat.zero_lt_one⟩
      | ⟨1, _⟩ => exact ⟨le_rfl, Nat.lt_succ_self _⟩
      | ⟨2, _⟩ => exact ⟨Nat.zero_le _, by show d.val < 0 + 128; omega⟩
      | ⟨3, _⟩ => exact ⟨Nat.zero_le _, by show r.val < 0 + 512; omega⟩)]
    refine congrArg w (funext fun b => Fin.ext ?_)
    match b with
    | ⟨0, _⟩ => rfl
    | ⟨1, _⟩ => exact Nat.sub_self _
    | ⟨2, _⟩ => rfl
    | ⟨3, _⟩ => rfl
  · rw [if_neg h, dif_neg]
    intro e
    have e1 : n.val ≤ a.val := (e (1 : Fin 4)).1
    have e2 : a.val < n.val + 1 := (e (1 : Fin 4)).2
    exact h (Fin.ext (by omega))

end Grad

end
-- ==== Proof.Grad.Points.lean ====
/- What a grid point adds to the three gradients: the blocks of queries from its own block of keys on, one after another. -/
module

public import proofs.«01_k».proof.Proof.Grad.Step

@[expose] public section

set_option maxRecDepth 16384

noncomputable section

namespace Grad

open Idealize Idealize.ShloMosaic Cert.Kernel6Ideal Cert.Kernel6Ideal.Gen Cert.Kernel6Ideal.Grad Conv
open Attn (Tok Col Head row lane neg_inf mask_select)

theorem off1_eq : ∀ i : grid0.Coords, k0_off1 i = ![512 * (i 1).val, 0] := by decide +kernel
theorem off2_eq : ∀ i : grid0.Coords, k0_off2 i = ![0, (i 1).val, 0] := by decide +kernel
theorem off3_eq : ∀ i : grid0.Coords, k0_off3 i = ![0, (i 1).val, 0, 0] := by decide +kernel

/-- A sum over the blocks from `b` up to, not with, `n`. -/
def sumTo (b n : ℕ) (f : Fin 32 → EReal) : EReal := ∑ a : Fin 32, if b ≤ a.val ∧ a.val < n then f a else 0

theorem sumTo_self (b : ℕ) (f : Fin 32 → EReal) : sumTo b b f = 0 :=
  Finset.sum_eq_zero fun a _ => if_neg (by omega)

theorem sumTo_succ (b : ℕ) (n : Fin 32) (hb : b ≤ n.val) (f : Fin 32 → EReal) : sumTo b (n.val + 1) f = sumTo b n.val f + f n := by
  unfold sumTo
  have e : f n = ∑ a : Fin 32, if a = n then f a else 0 := by simp
  rw [e, ← Finset.sum_add_distrib]
  refine Finset.sum_congr rfl fun a _ => ?_
  by_cases h : a = n
  · subst h
    rw [if_pos ⟨hb, Nat.lt_succ_self _⟩, if_neg (by omega), if_pos rfl, zero_add]
  · have h' : a.val ≠ n.val := fun e => h (Fin.ext e)
    rw [if_neg h, add_zero]
    exact if_congr ⟨fun e => ⟨e.1, by omega⟩, fun e => ⟨e.1, by omega⟩⟩ rfl rfl

section Body

variable (b : Fin 32) (x0 : Vec Ideal S16384x128 .bf16) (x1 : Vec Ideal S512x128 .bf16) (x2 : Vec Ideal S128x512 .bf16)
  (x3 : Vec Ideal S512x128 .bf16) (x4 : Vec Ideal S16384x128 .bf16) (x5 x6 : Vec Ideal S1x32x512 .f32) (w : Vec Ideal S1x32x128x512 .f32)

/-- The probability a query of block `a` gives a key of block `b`, and its score's gradient. -/
def pr (a : Fin 32) (j r : Fin 512) : EReal :=
  Ideal.exp2 ((if 512 * b.val + j.val ≤ 512 * a.val + r.val then ∑ d : Fin 128, x1 (ix2 j d) * x0 (ix2 (row a r) d) else ⊥)
    - x5 (ix3 (0 : Fin 1) a r))
def dsc (a : Fin 32) (j r : Fin 512) : EReal :=
  pr b x0 x1 x5 a j r * ((∑ d : Fin 128, x3 (ix2 j d) * x4 (ix2 (row a r) d)) - x6 (ix3 (0 : Fin 1) a r))

/-- What block `a` of queries adds to the keys', the values' and its own gradient. -/
def addK (j : Fin 512) (d : Fin 128) (a : Fin 32) : EReal := ∑ r : Fin 512, dsc b x0 x1 x3 x4 x5 x6 a j r * x0 (ix2 (row a r) d)
def addV (j : Fin 512) (d : Fin 128) (a : Fin 32) : EReal := ∑ r : Fin 512, pr b x0 x1 x5 a j r * x4 (ix2 (row a r) d)
def addQ (d : Fin 128) (r : Fin 512) (a : Fin 32) : EReal := ∑ j : Fin 512, x2 (ix2 d j) * dsc b x0 x1 x3 x4 x5 x6 a j r

/-- The state with the blocks below `n` in. -/
def Part (n : ℕ) (s : St Ideal) : Prop :=
  (∀ j d, s.1.1 (ix2 j d) = sumTo b.val n (addK b x0 x1 x3 x4 x5 x6 j d))
    ∧ (∀ j d, s.1.2 (ix2 j d) = sumTo b.val n (addV b x0 x1 x4 x5 j d))
    ∧ ∀ a d r, s.2 (ix4 (0 : Fin 1) a d r)
        = w (ix4 (0 : Fin 1) a d r) + if b.val ≤ a.val ∧ a.val < n then addQ b x0 x1 x2 x3 x4 x5 x6 d r a else 0

theorem Part.step {n : Fin 32} (hb : b.val ≤ n.val) {s s' : St Ideal} (h : Part b x0 x1 x2 x3 x4 x5 x6 w n.val s)
    (h1 : ∀ j d, s'.1.1 (ix2 j d) = s.1.1 (ix2 j d) + addK b x0 x1 x3 x4 x5 x6 j d n)
    (h2 : ∀ j d, s'.1.2 (ix2 j d) = s.1.2 (ix2 j d) + addV b x0 x1 x4 x5 j d n)
    (h3 : ∀ a d r, s'.2 (ix4 (0 : Fin 1) a d r)
      = if a = n then s.2 (ix4 (0 : Fin 1) n d r) + addQ b x0 x1 x2 x3 x4 x5 x6 d r n else s.2 (ix4 (0 : Fin 1) a d r)) :
    Part b x0 x1 x2 x3 x4 x5 x6 w (n.val + 1) s' := by
  obtain ⟨e1, e2, e3⟩ := h
  refine ⟨fun j d => ?_, fun j d => ?_, fun a d r => ?_⟩
  · rw [h1, e1, sumTo_succ _ _ hb]
  · rw [h2, e2, sumTo_succ _ _ hb]
  · rw [h3]
    by_cases hn : a = n
    · subst hn
      rw [if_pos rfl, e3, if_neg (by omega), add_zero, if_pos ⟨hb, Nat.lt_succ_self _⟩]
    · have hn' : a.val ≠ n.val := fun e => hn (Fin.ext e)
      rw [if_neg hn, e3]
      exact congrArg _ (if_congr ⟨fun e => ⟨e.1, by omega⟩, fun e => ⟨e.1, by omega⟩⟩ rfl rfl)

section Block

variable (off : Fin 2 → ℕ) (inb : ∀ a, off a + S512x128.size a ≤ S16384x128.size a) (offr : Fin 3 → ℕ)
  (inbr : ∀ a, offr a + S1x1x512.size a ≤ S1x32x512.size a) (n : Fin 32) (ho : off = ![512 * n.val, 0]) (hr : offr = ![0, n.val, 0])

include ho in
theorem dots_ld (x : Vec Ideal S512x128 .bf16) (y : Vec Ideal S16384x128 .bf16) (j r : Fin 512) :
    dots x (View.ld y (Rect.unit (s := S16384x128) off S512x128.size inb)) j r = ∑ d : Fin 128, x (ix2 j d) * y (ix2 (row n r) d) := by
  simp only [dots, ld_block y off inb n ho]

include ho hr in
/-- A block past the keys' own hides nothing, … -/
theorem pr_full (hn : b.val < n.val) (j r : Fin 512) :
    Ideal.exp2 (dots x1 (View.ld x0 (Rect.unit (s := S16384x128) off S512x128.size inb)) j r
      - View.ld x5 (Rect.unit (s := S1x32x512) offr S1x1x512.size inbr) (ix3 (0 : Fin 1) (0 : Fin 1) r)) = pr b x0 x1 x5 n j r := by
  rw [dots_ld off inb n ho, ld_row x5 offr inbr n hr, pr, if_pos (by omega)]

include ho hr in
/-- … and their own hides what comes after the query. -/
theorem pr_diag (hn : b = n) (j r : Fin 512) :
    Ideal.exp2 ((if j ≤ r then dots x1 (View.ld x0 (Rect.unit (s := S16384x128) off S512x128.size inb)) j r else ⊥)
      - View.ld x5 (Rect.unit (s := S1x32x512) offr S1x1x512.size inbr) (ix3 (0 : Fin 1) (0 : Fin 1) r)) = pr b x0 x1 x5 n j r := by
  subst hn
  rw [dots_ld off inb b ho, ld_row x5 offr inbr b hr, pr]
  refine congrArg (fun s => Ideal.exp2 (s - _)) (if_congr ?_ rfl rfl)
  rw [Fin.le_def]
  omega

include ho hr in
theorem ds_eq {P : EReal} {j r : Fin 512} (hP : P = pr b x0 x1 x5 n j r) :
    P * (dots x3 (View.ld x4 (Rect.unit (s := S16384x128) off S512x128.size inb)) j r
      - View.ld x6 (Rect.unit (s := S1x32x512) offr S1x1x512.size inbr) (ix3 (0 : Fin 1) (0 : Fin 1) r)) = dsc b x0 x1 x3 x4 x5 x6 n j r := by
  rw [hP, dots_ld off inb n ho, ld_row x6 offr inbr n hr, dsc]

end Block

theorem diag_part (i : grid0.Coords) (hi : (i 1).val = b.val) :
    Part b x0 x1 x2 x3 x4 x5 x6 w (b.val + 1) (diag i x0 x1 x2 x3 x4 x5 x6 w) := by
  have o1 : k0_off1 i = ![512 * b.val, 0] := hi ▸ off1_eq i
  have o2 : k0_off2 i = ![0, b.val, 0] := hi ▸ off2_eq i
  have o3 : k0_off3 i = ![0, b.val, 0, 0] := hi ▸ off3_eq i
  refine Part.step b x0 x1 x2 x3 x4 x5 x6 w le_rfl (s := ((fun _ => 0, fun _ => 0), w)) ⟨fun j d => (sumTo_self _ _).symm, fun j d => (sumTo_self _ _).symm,
    fun a d r => by rw [if_neg (by omega), add_zero]⟩ (fun j d => ?_) (fun j d => ?_) fun a d r => ?_
  · show k0_pay49 _ _ _ _ _ _ _ _ = 0 + _
    rw [zero_add, id40, pay49_apply]
    refine Finset.sum_congr rfl fun r _ => ?_
    rw [pay47_apply, pay46_apply, ld_block x0 _ _ b o1,
      ds_eq b x0 x1 x3 x4 x5 x6 _ _ _ _ b o1 o2 (pr_diag b x0 x1 x5 _ _ _ _ b o1 o2 rfl j r)]
  · show k0_pay50 _ _ _ _ = 0 + _
    rw [zero_add, pay50_apply]
    refine Finset.sum_congr rfl fun r _ => ?_
    rw [pay46_apply, ld_block x4 _ _ b o1, pr_diag b x0 x1 x5 _ _ _ _ b o1 o2 rfl j r]
  · show VecWindow.put w _ _ _ _ = _
    rw [put_slab w _ b o3]
    refine if_congr Iff.rfl ?_ rfl
    rw [id40, id41, pay48_apply, ld_slab w _ _ b o3]
    refine congrArg _ (Finset.sum_congr rfl fun j _ => ?_)
    rw [pay47_apply, pay46_apply, ds_eq b x0 x1 x3 x4 x5 x6 _ _ _ _ b o1 o2 (pr_diag b x0 x1 x5 _ _ _ _ b o1 o2 rfl j r)]

theorem trip_part (i : grid0.Coords) (k : Fin (k0_t1_loop i).trips) (n n' : Fin 32) (hn : n.val = (i 1).val + 1 + 2 * k.val)
    (hn' : n'.val = (i 1).val + 2 + 2 * k.val) (hb : b.val < n.val) (s : St Ideal) (h : Part b x0 x1 x2 x3 x4 x5 x6 w n.val s) :
    Part b x0 x1 x2 x3 x4 x5 x6 w (n.val + 2) (trip i x1 x3 x2 x0 x4 x5 x6 k s) := by
  have o4 : k0_off4 i k = ![512 * n.val, 0] := hn ▸ off4_eq i k
  have o6 : k0_off6 i k = ![0, n.val, 0] := hn ▸ off6_eq i k
  have o7 : k0_off7 i k = ![0, n.val, 0, 0] := hn ▸ off7_eq i k
  have o5 : k0_off5 i k = ![512 * n'.val, 0] := hn' ▸ off5_eq i k
  have o8 : k0_off8 i k = ![0, n'.val, 0] := hn' ▸ off8_eq i k
  have o9 : k0_off9 i k = ![0, n'.val, 0, 0] := hn' ▸ off9_eq i k
  have hb' : b.val < n'.val := by omega
  have hne : n' ≠ n := fun e => by have := congrArg Fin.val e; omega
  have e : n.val + 1 = n'.val := by omega
  -- the state between the two blocks
  have h1 : Part b x0 x1 x2 x3 x4 x5 x6 w (n.val + 1) ((fun y => s.1.1 y + addK b x0 x1 x3 x4 x5 x6 (y 0) (y 1) n,
      fun y => s.1.2 y + addV b x0 x1 x4 x5 (y 0) (y 1) n),
      fun y => (fun (a : Fin 32) (d : Fin 128) (r : Fin 512) => if a = n then s.2 (ix4 (0 : Fin 1) n d r) + addQ b x0 x1 x2 x3 x4 x5 x6 d r n
        else s.2 (ix4 (0 : Fin 1) a d r)) (y 1) (y 2) (y 3)) :=
    Part.step b x0 x1 x2 x3 x4 x5 x6 w hb.le h (fun _ _ => rfl) (fun _ _ => rfl) fun _ _ _ => rfl
  rw [e] at h1
  have h2 : Part b x0 x1 x2 x3 x4 x5 x6 w (n'.val + 1) (trip i x1 x3 x2 x0 x4 x5 x6 k s) := by
    refine Part.step b x0 x1 x2 x3 x4 x5 x6 w hb'.le h1 (fun j d => ?_) (fun j d => ?_) fun a d r => ?_
    · show k0_pay2 _ _ _ _ = s.1.1 (ix2 j d) + addK b x0 x1 x3 x4 x5 x6 j d n + _
      rw [pay2_apply, pay15_apply]
      refine congrArg₂ (· + ·) (congrArg _ (Finset.sum_congr rfl fun r _ => ?_)) (Finset.sum_congr rfl fun r _ => ?_)
      · rw [pay13_apply, pay12_apply, ld_block x0 _ _ n o4,
          ds_eq b x0 x1 x3 x4 x5 x6 _ _ _ _ n o4 o6 (pr_full b x0 x1 x5 _ _ _ _ n o4 o6 hb j r)]
      · rw [pay20_apply, pay19_apply, ld_block x0 _ _ n' o5,
          ds_eq b x0 x1 x3 x4 x5 x6 _ _ _ _ n' o5 o8 (pr_full b x0 x1 x5 _ _ _ _ n' o5 o8 hb' j r)]
    · show k0_pay3 _ _ _ _ = s.1.2 (ix2 j d) + addV b x0 x1 x4 x5 j d n + _
      rw [pay3_apply, pay16_apply]
      refine congrArg₂ (· + ·) (congrArg _ (Finset.sum_congr rfl fun r _ => ?_)) (Finset.sum_congr rfl fun r _ => ?_)
      · rw [pay12_apply, ld_block x4 _ _ n o4, pr_full b x0 x1 x5 _ _ _ _ n o4 o6 hb j r]
      · rw [pay19_apply, ld_block x4 _ _ n' o5, pr_full b x0 x1 x5 _ _ _ _ n' o5 o8 hb' j r]
    · show VecWindow.put (VecWindow.put _ _ _ _) _ _ _ _ = if a = n' then (if n' = n then _ else s.2 (ix4 (0 : Fin 1) n' d r)) + _
        else if a = n then s.2 (ix4 (0 : Fin 1) n d r) + _ else s.2 (ix4 (0 : Fin 1) a d r)
      rw [put_slab _ _ n' o9, put_slab _ _ n o7, if_neg hne]
      refine if_congr Iff.rfl ?_ (if_congr Iff.rfl ?_ rfl)
      · rw [pay1_apply, ld_slab s.2 _ _ n' o9]
        refine congrArg _ (Finset.sum_congr rfl fun j _ => ?_)
        rw [pay20_apply, pay19_apply, ds_eq b x0 x1 x3 x4 x5 x6 _ _ _ _ n' o5 o8 (pr_full b x0 x1 x5 _ _ _ _ n' o5 o8 hb' j r)]
      · rw [pay14_apply, ld_slab s.2 _ _ n o7]
        refine congrArg _ (Finset.sum_congr rfl fun j _ => ?_)
        rw [pay13_apply, pay12_apply, ds_eq b x0 x1 x3 x4 x5 x6 _ _ _ _ n o4 o6 (pr_full b x0 x1 x5 _ _ _ _ n o4 o6 hb j r)]
        rfl
  rwa [show n.val + 2 = n'.val + 1 by omega]

theorem last_part (hb : b.val < 31) (s : St Ideal) (h : Part b x0 x1 x2 x3 x4 x5 x6 w 31 s) :
    Part b x0 x1 x2 x3 x4 x5 x6 w 32 (last x1 x3 x2 x0 x4 x5 x6 s) := by
  refine Part.step b x0 x1 x2 x3 x4 x5 x6 w (n := 31) hb.le h (fun j d => ?_) (fun j d => ?_) fun a d r => ?_
  · show k0_pay37 _ _ _ _ _ _ _ _ _ = _
    rw [pay37_apply]
    refine congrArg _ (Finset.sum_congr rfl fun r _ => ?_)
    rw [pay35_apply, pay38_apply, ld_block x0 ![15872, 0] _ 31 rfl,
      ds_eq b x0 x1 x3 x4 x5 x6 ![15872, 0] _ ![0, 31, 0] _ 31 rfl rfl (pr_full b x0 x1 x5 ![15872, 0] _ ![0, 31, 0] _ 31 rfl rfl hb j r)]
  · show k0_pay7 _ _ _ _ = _
    rw [pay7_apply]
    refine congrArg _ (Finset.sum_congr rfl fun r _ => ?_)
    rw [pay38_apply, ld_block x4 ![15872, 0] _ 31 rfl, pr_full b x0 x1 x5 ![15872, 0] _ ![0, 31, 0] _ 31 rfl rfl hb j r]
  · show VecWindow.put _ _ _ _ _ = _
    rw [put_slab _ ![0, 31, 0, 0] 31 rfl]
    refine if_congr Iff.rfl ?_ rfl
    rw [pay36_apply, ld_slab s.2 ![0, 31, 0, 0] _ 31 rfl]
    refine congrArg _ (Finset.sum_congr rfl fun j _ => ?_)
    rw [pay35_apply, pay38_apply, ds_eq b x0 x1 x3 x4 x5 x6 ![15872, 0] _ ![0, 31, 0] _ 31 rfl rfl (pr_full b x0 x1 x5 ![15872, 0] _ ![0, 31, 0] _ 31 rfl rfl hb j r)]

theorem state_part (i : grid0.Coords) (hi : (i 1).val = b.val) (s : St Ideal) (h : Part b x0 x1 x2 x3 x4 x5 x6 w (b.val + 1) s) (n : ℕ)
    (hn : n ≤ (k0_t1_loop i).trips) : Part b x0 x1 x2 x3 x4 x5 x6 w (b.val + 1 + 2 * n) (stateAt i x1 x3 x2 x0 x4 x5 x6 s n) := by
  induction n with
  | zero => exact h
  | succ n ih =>
    have hlt : n < (k0_t1_loop i).trips := hn
    have ht := trips_eq i
    rw [stateAt, dif_pos hlt]
    exact trip_part b x0 x1 x2 x3 x4 x5 x6 w i ⟨n, hlt⟩ ⟨b.val + 1 + 2 * n, by omega⟩ ⟨b.val + 2 + 2 * n, by omega⟩ (by rw [hi]) (by rw [hi])
      (by show b.val < b.val + 1 + 2 * n; omega) _ (ih hlt.le)

/-- A grid point takes in every block of queries from its own on. -/
theorem point_part (i : grid0.Coords) (hi : (i 1).val = b.val) :
    Part b x0 x1 x2 x3 x4 x5 x6 (start i w) 32 (point i x0 x1 x2 x3 x4 x5 x6 w) := by
  have ht := trips_eq i
  have h := state_part b x0 x1 x2 x3 x4 x5 x6 (start i w) i hi _ (diag_part b x0 x1 x2 x3 x4 x5 x6 (start i w) i hi) _ le_rfl
  unfold point mid
  rw [id39, id40, id41]
  split_ifs with hc
  · have ho := (odd_iff i).1 hc
    rw [show b.val + 1 + 2 * (k0_t1_loop i).trips = 31 by omega] at h
    exact last_part b x0 x1 x2 x3 x4 x5 x6 _ (by omega) _ h
  · have ho : ¬ (31 - (i 1).val) % 2 = 1 := fun e => hc ((odd_iff i).2 e)
    rw [show b.val + 1 + 2 * (k0_t1_loop i).trips = 32 by omega] at h
    exact h

end Body

end Grad

end
-- ==== Proof.Grad.Spec.lean ====
/- The gradient of causal attention, head by head, over the reals. -/
module

public import proofs.«01_k».proof.Proof.Attn.Spec
public import Idealize.ShloMosaic.Lib.Pipeline.ValueKit

@[expose] public section

noncomputable section

namespace Grad

open Idealize Idealize.ShloMosaic Conv
open Attn (Tok Col Head row lane scale score weight norm norm_pos)

/-- A column's head. -/
def headOf (c : Col) : Head := ⟨c.val / 128, by omega⟩
theorem headOf_lane (h : Head) (d : Fin 128) : headOf (lane h d) = h :=
  Fin.ext (by show (128 * h.val + d.val) / 128 = h.val; omega)

variable (q k v g : Tok → Col → ℝ)

/-- The probability a query gives a key, … -/
def prob (h : Head) (t j : Tok) : ℝ := weight q k h t j / norm q k h t

/-- … its gradient, … -/
def dprob (h : Head) (t j : Tok) : ℝ := ∑ d : Fin 128, g t (lane h d) * v j (lane h d)

/-- … the gradients' mean, and the score's gradient. -/
def delta (h : Head) (t : Tok) : ℝ := ∑ j, prob q k h t j * dprob v g h t j
def dscore (h : Head) (t j : Tok) : ℝ := prob q k h t j * (dprob v g h t j - delta q k v g h t)

/-- The gradients of the keys, of the values, and of the scaled queries. -/
def gradK (j : Tok) (c : Col) : ℝ := ∑ t, dscore q k v g (headOf c) t j * (q t c * scale)
def gradV (j : Tok) (c : Col) : ℝ := ∑ t, prob q k (headOf c) t j * g t c
def gradQ (h : Head) (t : Tok) (d : Fin 128) : ℝ := ∑ j, dscore q k v g h t j * k j (lane h d)

theorem prob_hidden (h : Head) (t j : Tok) (hj : ¬ j ≤ t) : prob q k h t j = 0 := by
  rw [prob, weight, if_neg hj, zero_div]
theorem dscore_hidden (h : Head) (t j : Tok) (hj : ¬ j ≤ t) : dscore q k v g h t j = 0 := by
  rw [dscore, prob_hidden q k h t j hj, zero_mul]

/-- The mean is the attended values' product with the gradient. -/
theorem delta_eq (h : Head) (t : Tok) :
    ∑ d : Fin 128, (∑ j, prob q k h t j * v j (lane h d)) * g t (lane h d) = delta q k v g h t := by
  simp only [Finset.sum_mul, delta, dprob, Finset.mul_sum]
  rw [Finset.sum_comm]
  exact Finset.sum_congr rfl fun j _ => Finset.sum_congr rfl fun d _ => by ring

/-- A sum over the blocks' rows is one over the tokens. -/
theorem sum_rows (f : Tok → ℝ) : ∑ a : Fin 32, ∑ r : Fin 512, f (row a r) = ∑ t, f t := by
  refine (Fin.sum_mul_add_congr (L := 16384) (S := 32) (n := 512) (F := fun a r => f (row a r)) (f := f) ?_)
  intro a r h
  exact congrArg f (Fin.ext (by dsimp only; omega))

theorem one : Ideal.ofBits .f32 0x3F800000#32 = ((1 : ℝ) : EReal) := by
  simp [Ideal.ofBits, Ideal.ieee, -EReal.coe_mul]
  try norm_num

end Grad

end
-- ==== Proof.Grad.Host.lean ====
/- What the host hands the gradient kernel: the scaled queries, the keys, the values, the gradient, the normalisers' logarithms and the
   means of the probabilities' gradients. -/
module

public import proofs.«01_k».proof.Proof.Grad.Frame
public import proofs.«01_k».proof.Proof.Grad.Points
public import proofs.«01_k».proof.Proof.Grad.Spec
public import Idealize.ShloMosaic.Lib.KernelVsHost

@[expose] public section

set_option maxRecDepth 16384

noncomputable section

namespace Grad

open Idealize Idealize.ShloMosaic Cert.Kernel6Ideal Cert.Kernel6Ideal.Gen Cert.Kernel6Ideal.Grad Conv
open Attn (Tok Col Head row lane scale scale_eq two score weight norm norm_pos neg_inf mask_select ScoreE fold_real)

section Ops

variable (x0 x1 x2 x3 : Vec Ideal S16384x1024 .f32)

/-- The host's masked scores, their maxima, exponentials, and the exponentials' sums. -/
def hScore : FVec Ideal S8x16384x16384 .f32 :=
  select (cmpi .sle (iotaInDim S8x16384x16384 32 2) (iotaInDim S8x16384x16384 32 1))
    (mulf (Host.dotGeneral dot_S16384x8x128_S16384x8x128_S8x16384x16384_2_2_0_0_1_1 none
      (shapeCast S16384x8x128 x0 shapeCasts_S16384x1024_S16384x8x128 : FVec Ideal S16384x8x128 .f32)
      (shapeCast S16384x8x128 x1 shapeCasts_S16384x1024_S16384x8x128 : FVec Ideal S16384x8x128 .f32))
      (broadcastInDim S8x16384x16384 ![] bcast_S_S8x16384x16384 (constant S_ .f32 0x3DD105EC#32)))
    (broadcastInDim S8x16384x16384 ![] bcast_S_S8x16384x16384 (constant S_ .f32 0xFF800000#32))
def hMax : FVec Ideal S8x16384 .f32 :=
  Host.reduce FloatOps.maximumf (hScore x0 x1) (constant S_ .f32 0xFF800000#32) reducesTo_S8x16384x16384_S8x16384_d2 h_S_
def expOf (s : FVec Ideal S8x16384x16384 .f32) (w : FVec Ideal S8x16384 .f32) : FVec Ideal S8x16384x16384 .f32 :=
  Host.exp (subf s (broadcastInDim S8x16384x16384 ![0, 1, 2] bcast_S8x16384x1_S8x16384x16384_0_1_2
    (broadcastInDim S8x16384x1 ![0, 1] bcast_S8x16384_S8x16384x1_0_1 w)))
def sumOf (e : FVec Ideal S8x16384x16384 .f32) : FVec Ideal S8x16384 .f32 :=
  Host.reduceAdd e (constant S_ .f32 0x00000000#32) reducesTo_S8x16384x16384_S8x16384_d2 h_S_
def lseOf (w l : FVec Ideal S8x16384 .f32) : FVec Ideal S8x32x512 .f32 :=
  shapeCast S8x32x512 (Host.divf (addf (broadcastInDim S8x16384x1 ![0, 1] bcast_S8x16384_S8x16384x1_0_1 w)
    (Host.log (broadcastInDim S8x16384x1 ![0, 1] bcast_S8x16384_S8x16384x1_0_1 l)))
    (broadcastInDim S8x16384x1 ![] bcast_S_S8x16384x1 (Host.log (constant S_ .f32 0x40000000#32)))) shapeCasts_S8x16384x1_S8x32x512
def probOf (e : FVec Ideal S8x16384x16384 .f32) (l : FVec Ideal S8x16384 .f32) : FVec Ideal S8x16384x16384 .f32 :=
  Host.divf e (broadcastInDim S8x16384x16384 ![0, 1, 2] bcast_S8x16384x1_S8x16384x16384_0_1_2
    (broadcastInDim S8x16384x1 ![0, 1] bcast_S8x16384_S8x16384x1_0_1 l))
def deltaOf (p : FVec Ideal S8x16384x16384 .f32) : FVec Ideal S8x32x512 .f32 :=
  shapeCast S8x32x512 (Host.reduceAdd (mulf (Host.dotGeneral dot_S8x16384x16384_S16384x8x128_S8x16384x128_2_0_1_2_0_1 none p
      (shapeCast S16384x8x128 x2 shapeCasts_S16384x1024_S16384x8x128 : FVec Ideal S16384x8x128 .f32) : FVec Ideal S8x16384x128 .f32)
    (transpose S8x16384x128 [1, 0, 2] (shapeCast S16384x8x128 x3 shapeCasts_S16384x1024_S16384x8x128 : FVec Ideal S16384x8x128 .f32)
      transposes_S16384x8x128_S8x16384x128_1_0_2))
    (constant S_ .f32 0x00000000#32) reducesTo_S8x16384x128_S8x16384_d2 h_S_) shapeCasts_S8x16384_S8x32x512

theorem fold_of (s : FVec Ideal S8x16384x16384 .f32) (h : Head) (t : Tok) :
    Host.reduce FloatOps.maximumf s (constant S_ .f32 0xFF800000#32) reducesTo_S8x16384x16384_S8x16384_d2 h_S_ (ix2 h t)
      = (Finset.univ : Finset Tok).fold max ⊥ fun j => s (ix3 h t j) := by
  rw [hostReduce_maximumf_eq_multiReduction s 0xFF800000#32 reducesTo_S8x16384x16384_S8x16384_d2 h_S_ (by decide) (.inl rfl) rfl]
  pointwise
  rw [neg_inf]

theorem exp_of (s : FVec Ideal S8x16384x16384 .f32) (w : FVec Ideal S8x16384 .f32) (h : Head) (t j : Tok) :
    expOf s w (ix3 h t j) = Ideal.exp (s (ix3 h t j) - w (ix2 h t)) := by
  pointwise [expOf]
theorem sum_of (e : FVec Ideal S8x16384x16384 .f32) (h : Head) (t : Tok) : sumOf e (ix2 h t) = ∑ j : Tok, e (ix3 h t j) := by
  pointwise [sumOf]
theorem prob_of (e : FVec Ideal S8x16384x16384 .f32) (l : FVec Ideal S8x16384 .f32) (h : Head) (t j : Tok) :
    probOf e l (ix3 h t j) = Ideal.div (e (ix3 h t j)) (l (ix2 h t)) := by
  pointwise [probOf]
theorem lse_of (w l : FVec Ideal S8x16384 .f32) (h : Head) (b : Fin 32) (r : Fin 512) :
    lseOf w l (ix3 h b r)
      = Ideal.div (w (ix2 h (row b r)) + Ideal.log (l (ix2 h (row b r)))) (Ideal.log (Ideal.ofBits .f32 0x40000000#32)) := by
  pointwise [lseOf]
  rw [show (⟨b.val * 512 + r.val, by omega⟩ : Tok) = row b r from Fin.ext (by dsimp only; omega)]
theorem delta_of (p : FVec Ideal S8x16384x16384 .f32) (h : Head) (b : Fin 32) (r : Fin 512) :
    deltaOf x2 x3 p (ix3 h b r) = ∑ d : Fin 128, (∑ j : Tok, p (ix3 h (row b r) j) * x2 (ix2 j (lane h d))) * x3 (ix2 (row b r) (lane h d)) := by
  have e1 : ∀ p, (⟨b.val * 512 + r.val, p⟩ : Tok) = row b r := fun _ => Fin.ext (by dsimp only; omega)
  have e2 : ∀ (d : Fin 128) p, (⟨h.val * 128 + d.val, p⟩ : Col) = lane h d := fun _ _ => Fin.ext (by dsimp only; omega)
  pointwise [deltaOf]
  simp only [e1, e2]

variable (q k v g : Tok → Col → ℝ) (hq : ∀ t j, x0 (ix2 t j) = q t j) (hk : ∀ t j, x1 (ix2 t j) = k t j)
  (hv : ∀ t j, x2 (ix2 t j) = v t j) (hg : ∀ t j, x3 (ix2 t j) = g t j)

include hq hk in
theorem h_score (h : Head) (t j : Tok) : hScore x0 x1 (ix3 h t j) = if j ≤ t then (score q k h t j : EReal) else ⊥ := by
  have e2 : ∀ (d : Fin 128) p, (⟨h.val * 128 + d.val, p⟩ : Col) = lane h d := fun _ _ => Fin.ext (by dsimp only; omega)
  pointwise [hScore]
  simp only [e2]
  rw [neg_inf, mask_select j.val t.val (by omega) (by omega), score, scale_eq, EReal.coe_mul, coe_sum]
  refine if_congr Iff.rfl (congrArg (· * (scale : EReal)) (Finset.sum_congr rfl fun d _ => ?_)) rfl
  rw [hq, hk, ← EReal.coe_mul]

include hq hk in
theorem h_scoreE (h : Head) (t j : Tok) : ScoreE (hScore x0 x1 (ix3 h t j)) (weight q k h t j) := by
  rw [h_score x0 x1 q k hq hk, weight]
  split_ifs
  · exact Or.inl ⟨_, rfl, rfl⟩
  · exact Or.inr ⟨rfl, rfl⟩

include hq hk in
theorem h_max (h : Head) (t : Tok) : ∃ M : ℝ, hMax x0 x1 (ix2 h t) = M := by
  unfold hMax
  rw [fold_of]
  refine fold_real _ (fun j => (h_scoreE x0 x1 q k hq hk h t j).ne_top) t (score q k h t t) ?_
  rw [h_score x0 x1 q k hq hk, if_pos le_rfl]

include hq hk in
theorem h_exp (h : Head) (t j : Tok) (M : ℝ) (hM : hMax x0 x1 (ix2 h t) = M) :
    expOf (hScore x0 x1) (hMax x0 x1) (ix3 h t j) = ((Real.exp (-M) * weight q k h t j : ℝ) : EReal) := by
  rw [exp_of, hM, (h_scoreE x0 x1 q k hq hk h t j).exp]

include hq hk in
theorem h_sum (h : Head) (t : Tok) (M : ℝ) (hM : hMax x0 x1 (ix2 h t) = M) :
    sumOf (expOf (hScore x0 x1) (hMax x0 x1)) (ix2 h t) = ((Real.exp (-M) * norm q k h t : ℝ) : EReal) := by
  rw [sum_of]
  simp only [h_exp x0 x1 q k hq hk h t _ M hM]
  rw [← coe_sum, Attn.norm, Finset.mul_sum]

include hq hk in
theorem h_prob (h : Head) (t j : Tok) :
    probOf (expOf (hScore x0 x1) (hMax x0 x1)) (sumOf (expOf (hScore x0 x1) (hMax x0 x1))) (ix3 h t j) = (prob q k h t j : EReal) := by
  obtain ⟨M, hM⟩ := h_max x0 x1 q k hq hk h t
  have hn := norm_pos q k h t
  rw [prob_of, h_exp x0 x1 q k hq hk h t j M hM, h_sum x0 x1 q k hq hk h t M hM, Ideal.div_coe (mul_pos (Real.exp_pos _) hn).ne',
    ← EReal.coe_mul, prob]
  refine congrArg _ ?_
  have := (Real.exp_pos (-M)).ne'
  field_simp

include hq hk in
theorem h_lse (h : Head) (b : Fin 32) (r : Fin 512) :
    lseOf (hMax x0 x1) (sumOf (expOf (hScore x0 x1) (hMax x0 x1))) (ix3 h b r)
      = ((Real.log (norm q k h (row b r)) * (Real.log 2)⁻¹ : ℝ) : EReal) := by
  obtain ⟨M, hM⟩ := h_max x0 x1 q k hq hk h (row b r)
  have hn := norm_pos q k h (row b r)
  have h2 : Real.log 2 ≠ 0 := (Real.log_pos one_lt_two).ne'
  rw [lse_of, hM, h_sum x0 x1 q k hq hk h (row b r) M hM, two, Ideal.log_coe, Ideal.log_coe,
    if_neg (not_le.2 two_pos), if_neg (not_le.2 (mul_pos (Real.exp_pos _) hn)), Ideal.div_coe h2, ← EReal.coe_add, ← EReal.coe_mul,
    Real.log_mul (Real.exp_pos _).ne' hn.ne', Real.log_exp]
  exact congrArg _ (by ring)

include hq hk hv hg in
theorem h_delta (h : Head) (b : Fin 32) (r : Fin 512) :
    deltaOf x2 x3 (probOf (expOf (hScore x0 x1) (hMax x0 x1)) (sumOf (expOf (hScore x0 x1) (hMax x0 x1)))) (ix3 h b r)
      = (delta q k v g h (row b r) : EReal) := by
  rw [delta_of]
  simp only [h_prob x0 x1 q k hq hk, hv, hg, ← EReal.coe_mul, ← coe_sum]
  rw [delta_eq]

end Ops

variable (m : (ℓ : Loc nD τ sig) → Buf (Elt Ideal) ℓ) (c : Dev nD)

/-- The launch memory's arguments. -/
abbrev in0 : Vec Ideal S16384x1024 .f32 := m ((c.tc : Thread nD τ).loc main_arg0)
abbrev in1 : Vec Ideal S16384x1024 .f32 := m ((c.tc : Thread nD τ).loc main_arg1)
abbrev in2 : Vec Ideal S16384x1024 .f32 := m ((c.tc : Thread nD τ).loc main_arg2)
abbrev in3 : Vec Ideal S16384x1024 .f32 := m ((c.tc : Thread nD τ).loc main_arg3)

theorem e_q (t : Tok) (j : Col) : V m c main_v30 (ix2 t j)
    = Ideal.div (in0 m c (ix2 t j) * Ideal.ofBits .f32 0x3DD105EC#32) (Ideal.log (Ideal.ofBits .f32 0x40000000#32)) := by
  entry_read
  rfl
theorem e_k (t : Tok) (j : Col) : V m c main_v31 (ix2 t j) = in1 m c (ix2 t j) := by
  entry_read
  rfl
theorem e_kt (t : Tok) (j : Col) : V m c main_v32 (ix2 j t) = in1 m c (ix2 t j) := by
  entry_read
  pointwise
  try rfl
theorem e_v (t : Tok) (j : Col) : V m c main_v33 (ix2 t j) = in2 m c (ix2 t j) := by
  entry_read
  rfl
theorem e_g (t : Tok) (j : Col) : V m c main_v34 (ix2 t j) = in3 m c (ix2 t j) := by
  entry_read
  rfl
theorem e_lse : V m c main_v40 = lseOf (hMax (in0 m c) (in1 m c)) (sumOf (expOf (hScore (in0 m c) (in1 m c)) (hMax (in0 m c) (in1 m c)))) := by
  entry_read
  rfl
theorem e_delta : V m c main_v41 = deltaOf (in2 m c) (in3 m c) (probOf (expOf (hScore (in0 m c) (in1 m c)) (hMax (in0 m c) (in1 m c)))
    (sumOf (expOf (hScore (in0 m c) (in1 m c)) (hMax (in0 m c) (in1 m c))))) := by
  entry_read
  rfl

end Grad

end
-- ==== Proof.Grad.Arrays.lean ====
/- What the three result arrays hold after the whole grid. -/
module

public import proofs.«01_k».proof.Proof.Grad.Host
public import proofs.«01_k».proof.Proof.Attn.Algebra

@[expose] public section

set_option maxRecDepth 16384

noncomputable section

namespace Grad

open Idealize Idealize.ShloMosaic Cert.Kernel6Ideal Cert.Kernel6Ideal.Gen Cert.Kernel6Ideal.Grad Conv
open Idealize.ShloMosaic.Pipeline (Dat)
open Attn (Tok Col Head row lane scale scale_eq two score weight norm norm_pos Score2)

variable (m : (ℓ : Loc nD τ sig) → Buf (Elt Ideal) ℓ) (c : Dev nD)

theorem idx0 : ∀ t : Fin cfg0.N, win0_0.index t = ![0, t.val / 32] := (by decide +kernel : ∀ t : Fin grid0.N, _)
theorem idx1 : ∀ t : Fin cfg0.N, win0_1.index t = ![t.val % 32, t.val / 32] := (by decide +kernel : ∀ t : Fin grid0.N, _)
theorem idx2 : ∀ t : Fin cfg0.N, win0_2.index t = ![t.val / 32, t.val % 32] := (by decide +kernel : ∀ t : Fin grid0.N, _)
theorem idx3 : ∀ t : Fin cfg0.N, win0_3.index t = ![t.val % 32, t.val / 32] := (by decide +kernel : ∀ t : Fin grid0.N, _)
theorem idx4 : ∀ t : Fin cfg0.N, win0_4.index t = ![0, t.val / 32] := (by decide +kernel : ∀ t : Fin grid0.N, _)
theorem idx5 : ∀ t : Fin cfg0.N, win0_5.index t = ![t.val / 32, 0, 0] := (by decide +kernel : ∀ t : Fin grid0.N, _)
theorem idx6 : ∀ t : Fin cfg0.N, win0_6.index t = ![t.val / 32, 0, 0] := (by decide +kernel : ∀ t : Fin grid0.N, _)
theorem idx7 : ∀ t : Fin cfg0.N, win0_7.index t = ![t.val % 32, t.val / 32] := (by decide +kernel : ∀ t : Fin grid0.N, _)
theorem idx8 : ∀ t : Fin cfg0.N, win0_8.index t = ![t.val % 32, t.val / 32] := (by decide +kernel : ∀ t : Fin grid0.N, _)
theorem idx9 : ∀ t : Fin cfg0.N, win0_9.index t = ![t.val / 32, 0, 0, 0] := (by decide +kernel : ∀ t : Fin grid0.N, _)
theorem flush9 : ∀ t : Fin cfg0.N, (cfg0.win 9).flush t = true → t.val % 32 = 31 := (by decide +kernel : ∀ t : Fin grid0.N, _)
theorem N_0' : cfg0.N = 256 := by decide +kernel

/-- A point's head and block of keys. -/
abbrev hd (t : Fin cfg0.N) : Head := ⟨t.val / 32, by have := Nat.lt_of_lt_of_eq t.isLt N_0'; omega⟩
abbrev bk (t : Fin cfg0.N) : Fin 32 := ⟨t.val % 32, by omega⟩

/-- A point's blocks. -/
abbrev bq (t : Fin cfg0.N) : Vec Ideal S16384x128 .bf16 := blkIn m c 0 t
abbrev bkey (t : Fin cfg0.N) : Vec Ideal S512x128 .bf16 := blkIn m c 1 t
abbrev bkt (t : Fin cfg0.N) : Vec Ideal S128x512 .bf16 := blkIn m c 2 t
abbrev bv (t : Fin cfg0.N) : Vec Ideal S512x128 .bf16 := blkIn m c 3 t
abbrev bg (t : Fin cfg0.N) : Vec Ideal S16384x128 .bf16 := blkIn m c 4 t
abbrev bl (t : Fin cfg0.N) : Vec Ideal S1x32x512 .f32 := blkIn m c 5 t
abbrev bd (t : Fin cfg0.N) : Vec Ideal S1x32x512 .f32 := blkIn m c 6 t

theorem blk_q (t : Fin cfg0.N) (i : Tok) (d : Fin 128) : bq m c t (ix2 i d) = V m c main_v30 (ix2 i (lane (hd t) d)) := by
  blk_ext [bq, blkIn, idx0 t]
theorem blk_k (t : Fin cfg0.N) (j : Fin 512) (d : Fin 128) : bkey m c t (ix2 j d) = V m c main_v31 (ix2 (row (bk t) j) (lane (hd t) d)) := by
  blk_ext [bkey, blkIn, idx1 t]
theorem blk_kt (t : Fin cfg0.N) (j : Fin 512) (d : Fin 128) : bkt m c t (ix2 d j) = V m c main_v32 (ix2 (lane (hd t) d) (row (bk t) j)) := by
  blk_ext [bkt, blkIn, idx2 t]
theorem blk_v (t : Fin cfg0.N) (j : Fin 512) (d : Fin 128) : bv m c t (ix2 j d) = V m c main_v33 (ix2 (row (bk t) j) (lane (hd t) d)) := by
  blk_ext [bv, blkIn, idx3 t]
theorem blk_g (t : Fin cfg0.N) (i : Tok) (d : Fin 128) : bg m c t (ix2 i d) = V m c main_v34 (ix2 i (lane (hd t) d)) := by
  blk_ext [bg, blkIn, idx4 t]
theorem blk_l (t : Fin cfg0.N) (a : Fin 32) (r : Fin 512) : bl m c t (ix3 (0 : Fin 1) a r) = V m c main_v40 (ix3 (hd t) a r) := by
  blk_ext [bl, blkIn, idx5 t]
set_option maxRecDepth 65536 in
theorem blk_d (t : Fin cfg0.N) (a : Fin 32) (r : Fin 512) : bd m c t (ix3 (0 : Fin 1) a r) = V m c main_v41 (ix3 (hd t) a r) := by
  blk_ext [bd, blkIn, idx6 t]

variable (q k v g : Tok → Col → ℝ) (hq : ∀ t j, in0 m c (ix2 t j) = q t j) (hk : ∀ t j, in1 m c (ix2 t j) = k t j)
  (hv : ∀ t j, in2 m c (ix2 t j) = v t j) (hg : ∀ t j, in3 m c (ix2 t j) = g t j)

theorem log2_ne : Real.log 2 ≠ 0 := (Real.log_pos one_lt_two).ne'

include hq in
theorem e_qr (t : Tok) (j : Col) : V m c main_v30 (ix2 t j) = ((q t j * scale * (Real.log 2)⁻¹ : ℝ) : EReal) := by
  rw [e_q, hq, scale_eq, two, Ideal.log_coe, if_neg (by norm_num), Ideal.div_coe log2_ne]
  simp only [← EReal.coe_mul]
  try exact congrArg _ (by ring)

include hk in
theorem e_kr (t : Tok) (j : Col) : V m c main_v31 (ix2 t j) = (k t j : EReal) := (e_k m c t j).trans (hk t j)
include hk in
theorem e_ktr (t : Tok) (j : Col) : V m c main_v32 (ix2 j t) = (k t j : EReal) := (e_kt m c t j).trans (hk t j)
include hv in
theorem e_vr (t : Tok) (j : Col) : V m c main_v33 (ix2 t j) = (v t j : EReal) := (e_v m c t j).trans (hv t j)
include hg in
theorem e_gr (t : Tok) (j : Col) : V m c main_v34 (ix2 t j) = (g t j : EReal) := (e_g m c t j).trans (hg t j)

/-- The normaliser's logarithm undone. -/
theorem two_log (n : ℝ) (hn : 0 < n) : (2 : ℝ) ^ (-(Real.log n * (Real.log 2)⁻¹)) = n⁻¹ := by
  rw [Real.rpow_def_of_pos two_pos, show Real.log 2 * -(Real.log n * (Real.log 2)⁻¹) = -Real.log n by
    have := log2_ne
    field_simp, Real.exp_neg, Real.exp_log hn]

include hq hk in
theorem score_at (t : Fin cfg0.N) (a : Fin 32) (j r : Fin 512) :
    Score2 (if 512 * (bk t).val + j.val ≤ 512 * a.val + r.val then ∑ d : Fin 128, bkey m c t (ix2 j d) * bq m c t (ix2 (row a r) d) else ⊥)
      (weight q k (hd t) (row a r) (row (bk t) j)) := by
  have h2 := log2_ne
  rw [weight]
  by_cases hj : 512 * (bk t).val + j.val ≤ 512 * a.val + r.val
  · rw [if_pos hj, if_pos (show row (bk t) j ≤ row a r from hj)]
    refine Or.inl ⟨score q k (hd t) (row a r) (row (bk t) j) * (Real.log 2)⁻¹, ?_, ?_⟩
    · rw [score, Finset.sum_mul, Finset.sum_mul, coe_sum]
      refine Finset.sum_congr rfl fun d _ => ?_
      rw [blk_k, blk_q, e_k, e_qr m c q hq, hk, ← EReal.coe_mul]
      exact congrArg _ (by ring)
    · rw [Real.rpow_def_of_pos two_pos]
      exact congrArg _ (by field_simp)
  · rw [if_neg hj, if_neg (show ¬ row (bk t) j ≤ row a r from hj)]
    exact Or.inr ⟨rfl, rfl⟩

include hq hk in
theorem pr_at (t : Fin cfg0.N) (a : Fin 32) (j r : Fin 512) :
    pr (bk t) (bq m c t) (bkey m c t) (bl m c t) a j r = (prob q k (hd t) (row a r) (row (bk t) j) : EReal) := by
  have hn := norm_pos q k (hd t) (row a r)
  rw [pr, blk_l, e_lse, h_lse _ _ q k hq hk, (score_at m c q k hq hk t a j r).exp2, two_log _ hn, prob]
  exact congrArg _ (by ring)

include hq hk hv hg in
theorem dsc_at (t : Fin cfg0.N) (a : Fin 32) (j r : Fin 512) :
    dsc (bk t) (bq m c t) (bkey m c t) (bv m c t) (bg m c t) (bl m c t) (bd m c t) a j r
      = (dscore q k v g (hd t) (row a r) (row (bk t) j) : EReal) := by
  rw [dsc, pr_at m c q k hq hk, blk_d, e_delta, h_delta _ _ _ _ q k v g hq hk hv hg, dscore, dprob]
  simp only [blk_v, blk_g, e_vr m c v hv, e_gr m c g hg, ← EReal.coe_mul, ← coe_sum, ← EReal.coe_sub]
  simp only [mul_comm (v _ _)]

include hq hk hv hg in
theorem addK_at (t : Fin cfg0.N) (j : Fin 512) (d : Fin 128) (a : Fin 32) :
    addK (bk t) (bq m c t) (bkey m c t) (bv m c t) (bg m c t) (bl m c t) (bd m c t) j d a
      = ((∑ r : Fin 512, dscore q k v g (hd t) (row a r) (row (bk t) j) * (q (row a r) (lane (hd t) d) * scale * (Real.log 2)⁻¹) : ℝ) : EReal) := by
  rw [addK]
  simp only [dsc_at m c q k v g hq hk hv hg, blk_q, e_qr m c q hq, ← EReal.coe_mul, ← coe_sum]

include hq hk hg in
theorem addV_at (t : Fin cfg0.N) (j : Fin 512) (d : Fin 128) (a : Fin 32) :
    addV (bk t) (bq m c t) (bkey m c t) (bg m c t) (bl m c t) j d a
      = ((∑ r : Fin 512, prob q k (hd t) (row a r) (row (bk t) j) * g (row a r) (lane (hd t) d) : ℝ) : EReal) := by
  rw [addV]
  simp only [pr_at m c q k hq hk, blk_g, e_gr m c g hg, ← EReal.coe_mul, ← coe_sum]

/-- What a block of keys adds to a query's gradient. -/
def addR (h : Head) (a : Fin 32) (d : Fin 128) (r : Fin 512) (b : Fin 32) : ℝ :=
  ∑ j : Fin 512, dscore q k v g h (row a r) (row b j) * k (row b j) (lane h d)

include hq hk hv hg in
theorem addQ_at (t : Fin cfg0.N) (d : Fin 128) (r : Fin 512) (a : Fin 32) :
    addQ (bk t) (bq m c t) (bkey m c t) (bkt m c t) (bv m c t) (bg m c t) (bl m c t) (bd m c t) d r a = (addR q k v g (hd t) a d r (bk t) : EReal) := by
  rw [addQ, addR]
  simp only [dsc_at m c q k v g hq hk hv hg, blk_kt, e_ktr m c k hk, ← EReal.coe_mul, ← coe_sum, mul_comm (k _ _)]

/-- Blocks before the keys' own add nothing. -/
theorem sumTo_all (b : Fin 32) (f : Fin 32 → EReal) (e : Fin 32 → ℝ) (h : ∀ a, f a = e a) (h0 : ∀ a : Fin 32, a.val < b.val → e a = 0) :
    sumTo b.val 32 f = ((∑ a, e a : ℝ) : EReal) := by
  rw [sumTo, coe_sum]
  refine Finset.sum_congr rfl fun a _ => ?_
  by_cases ha : b.val ≤ a.val
  · rw [if_pos ⟨ha, a.isLt⟩, h]
  · rw [if_neg fun e => ha e.1, h0 a (by omega), EReal.coe_zero]

theorem not_le_row {a b : Fin 32} (h : a.val < b.val) (j r : Fin 512) : ¬ row b j ≤ row a r := by
  show ¬ 512 * b.val + j.val ≤ 512 * a.val + r.val
  omega

/-- A point's state, from the gradient it finds. -/
theorem part_at (t : Fin cfg0.N) (w : Vec Ideal S1x32x128x512 .f32) :
    Part (bk t) (bq m c t) (bkey m c t) (bkt m c t) (bv m c t) (bg m c t) (bl m c t) (bd m c t) (start (grid0.coords t) w) 32 (pointAt m c t w) :=
  point_part (bk t) _ _ _ _ _ _ _ w (grid0.coords t) (coords_j t)

theorem left_at (t : Fin cfg0.N) : ∃ w, leftAt m c t.val t.isLt = pointAt m c t w := by
  by_cases h : t.val % 32 = 0
  · exact ⟨k0_pay42 (F := Ideal), leftAt_first m c t h _⟩
  · exact ⟨_, leftAt_next m c t h⟩

include hq hk hv hg in
theorem at_k (t : Fin cfg0.N) (j : Fin 512) (d : Fin 128) :
    k0_pay8 (leftAt m c t.val t.isLt).1.1 (ix2 j d) = (gradK q k v g (row (bk t) j) (lane (hd t) d) : EReal) := by
  have h2 := log2_ne
  obtain ⟨w, hw⟩ := left_at m c t
  rw [pay8_apply, hw, (part_at m c t w).1 j d, sumTo_all _ _ _ (addK_at m c q k v g hq hk hv hg t j d) (fun a ha =>
    Finset.sum_eq_zero fun r _ => by rw [dscore_hidden q k v g _ _ _ (not_le_row ha j r), zero_mul]),
    sum_rows fun i => dscore q k v g (hd t) i (row (bk t) j) * (q i (lane (hd t) d) * scale * (Real.log 2)⁻¹), ← EReal.coe_mul, gradK,
    headOf_lane, Finset.sum_mul]
  exact congrArg _ (Finset.sum_congr rfl fun i _ => by field_simp)

include hq hk hg in
theorem at_v (t : Fin cfg0.N) (j : Fin 512) (d : Fin 128) :
    (leftAt m c t.val t.isLt).1.2 (ix2 j d) = (gradV q k g (row (bk t) j) (lane (hd t) d) : EReal) := by
  obtain ⟨w, hw⟩ := left_at m c t
  rw [hw, (part_at m c t w).2.1 j d, sumTo_all _ _ _ (addV_at m c q k g hq hk hg t j d) (fun a ha =>
    Finset.sum_eq_zero fun r _ => by rw [prob_hidden q k _ _ _ (not_le_row ha j r), zero_mul]),
    sum_rows fun i => prob q k (hd t) i (row (bk t) j) * g i (lane (hd t) d), gradV, headOf_lane]

include hq hk hv hg in
/-- One point adds its block of keys to every query's gradient. -/
theorem step_q (t : Fin cfg0.N) (w : Vec Ideal S1x32x128x512 .f32) (a : Fin 32) (d : Fin 128) (r : Fin 512) :
    (pointAt m c t w).2 (ix4 (0 : Fin 1) a d r)
      = start (grid0.coords t) w (ix4 (0 : Fin 1) a d r) + (addR q k v g (hd t) a d r (bk t) : EReal) := by
  rw [(part_at m c t w).2.2 a d r]
  refine congrArg (_ + ·) ?_
  by_cases ha : (bk t).val ≤ a.val
  · rw [if_pos ⟨ha, a.isLt⟩, addQ_at m c q k v g hq hk hv hg]
  · rw [if_neg fun e => ha e.1, addR, Finset.sum_eq_zero fun j _ => by rw [dscore_hidden q k v g _ _ _ (not_le_row (by omega) j r), zero_mul],
      EReal.coe_zero]

include hq hk hv hg in
theorem sum_q (n : ℕ) : ∀ (t : Fin cfg0.N), t.val % 32 = n → ∀ (a : Fin 32) (d : Fin 128) (r : Fin 512),
    (leftAt m c t.val t.isLt).2 (ix4 (0 : Fin 1) a d r)
      = ((∑ b : Fin 32, if b.val < n + 1 then addR q k v g (hd t) a d r b else 0 : ℝ) : EReal) := by
  induction n with
  | zero =>
    intro t ht a d r
    rw [leftAt_first m c t ht (k0_pay42 (F := Ideal)), step_q m c q k v g hq hk hv hg, start, if_pos ((first_iff _).2 ((coords_j t).trans ht)), pay42_apply,
      zero_add]
    refine congrArg _ ?_
    rw [Finset.sum_eq_single (bk t) (fun b _ hb => if_neg fun e => hb (Fin.ext (by show b.val = t.val % 32; omega)))
      (fun h => absurd (Finset.mem_univ _) h), if_pos (by show t.val % 32 < 0 + 1; omega)]
  | succ n ih =>
    intro t ht a d r
    have hp := Nat.lt_of_le_of_lt (Nat.sub_le t.val 1) t.isLt
    have e := ih ⟨t.val - 1, hp⟩ (by show (t.val - 1) % 32 = n; omega) a d r
    rw [show hd ⟨t.val - 1, hp⟩ = hd t from Fin.ext (by show (t.val - 1) / 32 = t.val / 32; omega)] at e
    rw [leftAt_next m c t (by omega), step_q m c q k v g hq hk hv hg, start,
      if_neg fun h => absurd ((coords_j t).symm.trans ((first_iff _).1 h)) (by omega), e, ← EReal.coe_add]
    refine congrArg _ ?_
    rw [← Finset.add_sum_erase _ _ (Finset.mem_univ (bk t)), ← Finset.add_sum_erase _ _ (Finset.mem_univ (bk t)),
      if_neg (by show ¬ t.val % 32 < n + 1; omega), if_pos (by show t.val % 32 < n + 1 + 1; omega), zero_add, add_comm]
    refine congrArg (_ + ·) (Finset.sum_congr rfl fun b hb => ?_)
    have hne : b.val ≠ t.val % 32 := fun e => (Finset.mem_erase.1 hb).1 (Fin.ext e)
    exact if_congr ⟨fun _ => by omega, fun _ => by omega⟩ rfl rfl

include hq hk hv hg in
theorem at_q (t : Fin cfg0.N) (ht : t.val % 32 = 31) (a : Fin 32) (d : Fin 128) (r : Fin 512) :
    (leftAt m c t.val t.isLt).2 (ix4 (0 : Fin 1) a d r) = (gradQ q k v g (hd t) (row a r) d : EReal) := by
  rw [sum_q m c q k v g hq hk hv hg 31 t ht a d r, gradQ, ← sum_rows]
  exact congrArg _ (Finset.sum_congr rfl fun b _ => if_pos (by omega))

include hq hk hv hg in
theorem arr_k : (dats m 0 c).arrAt 7 cfg0.N = fun i : S16384x1024.Idx => (gradK q k v g (i 0) (i 1) : EReal) := by
  refine (dats m 0 c).arrAt_eq_of_covers 7 _ (by decide +kernel) fun t hf y => ?_
  blk_simp
  rw [after7]
  obtain ⟨j, d, rfl⟩ : ∃ (j : Fin 512) (d : Fin 128), y = ix2 j d := ⟨y 0, y 1, eq_ix2 y⟩
  rw [show (win0_7.blk t).view.emb (ix2 j d) = ix2 (row (bk t) j) (lane (hd t) d) by blk_ext [idx7 t]]
  exact at_k m c q k v g hq hk hv hg t j d

include hq hk hg in
theorem arr_v : (dats m 0 c).arrAt 8 cfg0.N = fun i : S16384x1024.Idx => (gradV q k g (i 0) (i 1) : EReal) := by
  refine (dats m 0 c).arrAt_eq_of_covers 8 _ (by decide +kernel) fun t hf y => ?_
  blk_simp
  rw [after8]
  obtain ⟨j, d, rfl⟩ : ∃ (j : Fin 512) (d : Fin 128), y = ix2 j d := ⟨y 0, y 1, eq_ix2 y⟩
  rw [show (win0_8.blk t).view.emb (ix2 j d) = ix2 (row (bk t) j) (lane (hd t) d) by blk_ext [idx8 t]]
  exact at_v m c q k g hq hk hg t j d

include hq hk hv hg in
theorem arr_q : (dats m 0 c).arrAt 9 cfg0.N
    = fun i : S8x32x128x512.Idx => (gradQ q k v g (i 0) (row (i 1) (i 3)) (i 2) : EReal) := by
  refine (dats m 0 c).arrAt_eq_of_covers 9 _ (by decide +kernel) fun t hf y => ?_
  blk_simp
  rw [after9]
  obtain ⟨a, d, r, rfl⟩ : ∃ (a : Fin 32) (d : Fin 128) (r : Fin 512), y = ix4 (0 : Fin 1) a d r :=
    ⟨y 1, y 2, y 3, (eq_ix4 y).trans (congrArg (fun z => ix4 z (y 1) (y 2) (y 3)) (Subsingleton.elim (α := Fin 1) _ _))⟩
  rw [show (win0_9.blk t).view.emb (ix4 (0 : Fin 1) a d r) = ix4 (hd t) a d r by blk_ext [idx9 t]]
  exact at_q m c q k v g hq hk hv hg t (flush9 t hf) a d r

end Grad

end
-- ==== Proof.Grad.Ref.lean ====
/- What the reference's gradient computes, read at a head and a token. -/
module

public import proofs.«01_k».proof.Proof.Gen.Reference6Ideal.Read
public import proofs.«01_k».proof.Proof.Grad.Spec
public import Idealize.ShloMosaic.Lib.KernelVsHost

@[expose] public section

set_option maxRecDepth 16384

noncomputable section

namespace Grad.Ref

open Idealize Idealize.ShloMosaic Cert.Reference6Ideal Cert.Reference6Ideal.Gen Cert.Reference6Ideal.Read Conv Grad
open Attn (Tok Col Head row lane scale scale_eq score weight norm norm_pos neg_inf mask_select ScoreE fold_real)

/-! The reference's steps of any scores `s`, row maxima `w`, exponentials `e`, their sums `l` and gradients `y`. -/

theorem fold_of (s : FVec Ideal S8x16384x16384 .f32) (h : Head) (t : Tok) :
    Host.reduce FloatOps.maximumf s (constant S_ .f32 0xFF800000#32) reducesTo_S8x16384x16384_S8x16384_d2 h_S_ (ix2 h t)
      = (Finset.univ : Finset Tok).fold max ⊥ fun j => s (ix3 h t j) := by
  rw [hostReduce_maximumf_eq_multiReduction s 0xFF800000#32 reducesTo_S8x16384x16384_S8x16384_d2 h_S_ (by decide) (.inl rfl) rfl]
  pointwise
  rw [neg_inf]

theorem exp_of (s : FVec Ideal S8x16384x16384 .f32) (w : FVec Ideal S8x16384 .f32) (h : Head) (t j : Tok) :
    Host.exp (subf s (broadcastInDim S8x16384x16384 ![0, 1, 2] bcast_S8x16384x1_S8x16384x16384_0_1_2
      (broadcastInDim S8x16384x1 ![0, 1] bcast_S8x16384_S8x16384x1_0_1 w))) (ix3 h t j)
      = Ideal.exp (s (ix3 h t j) - w (ix2 h t)) := by
  pointwise

theorem max_of (w : FVec Ideal S8x16384 .f32) :
    maximumf (broadcastInDim S8x16384 ![] bcast_S_S8x16384 (constant S_ .f32 0xFF800000#32)) w = w := by
  funext i
  show max (Ideal.ofBits .f32 0xFF800000#32) (w i) = w i
  rw [neg_inf]
  exact max_bot_left _

theorem sum_of (e : FVec Ideal S8x16384x16384 .f32) (h : Head) (t : Tok) :
    Host.reduceAdd e (constant S_ .f32 0x00000000#32) reducesTo_S8x16384x16384_S8x16384_d2 h_S_ (ix2 h t) = ∑ j : Tok, e (ix3 h t j) := by
  pointwise

theorem prob_of (e : FVec Ideal S8x16384x16384 .f32) (l : FVec Ideal S8x16384 .f32) (h : Head) (t j : Tok) :
    Host.divf e (broadcastInDim S8x16384x16384 ![0, 1, 2] bcast_S8x16384x1_S8x16384x16384_0_1_2
      (broadcastInDim S8x16384x1 ![0, 1] bcast_S8x16384_S8x16384x1_0_1 l)) (ix3 h t j)
      = Ideal.div (e (ix3 h t j)) (l (ix2 h t)) := by
  pointwise

theorem mean_of (y e : FVec Ideal S8x16384x16384 .f32) (l : FVec Ideal S8x16384 .f32) (h : Head) (t : Tok) :
    Host.reduceAdd (mulf (mulf y (broadcastInDim S8x16384x16384 ![0, 1, 2] bcast_S8x16384x1_S8x16384x16384_0_1_2
      (Host.divf (broadcastInDim S8x16384x1 ![] bcast_S_S8x16384x1 (constant S_ .f32 0x3F800000#32))
        (mulf (broadcastInDim S8x16384x1 ![0, 1] bcast_S8x16384_S8x16384x1_0_1 l)
          (broadcastInDim S8x16384x1 ![0, 1] bcast_S8x16384_S8x16384x1_0_1 l))))) e)
      (constant S_ .f32 0x00000000#32) reducesTo_S8x16384x16384_S8x16384_d2 h_S_ (ix2 h t)
      = ∑ j : Tok, y (ix3 h t j) * Ideal.div (Ideal.ofBits .f32 0x3F800000#32) (l (ix2 h t) * l (ix2 h t)) * e (ix3 h t j) := by
  pointwise

theorem ds_of (y e : FVec Ideal S8x16384x16384 .f32) (l s : FVec Ideal S8x16384 .f32) (h : Head) (t j : Tok) :
    mulf (addf (Host.divf y (broadcastInDim S8x16384x16384 ![0, 1, 2] bcast_S8x16384x1_S8x16384x16384_0_1_2
        (broadcastInDim S8x16384x1 ![0, 1] bcast_S8x16384_S8x16384x1_0_1 l)))
      (broadcastInDim S8x16384x16384 ![0, 1] bcast_S8x16384_S8x16384x16384_0_1
        (Host.reduceAdd (Host.negf (shapeCast _ s shapeCasts_S8x16384_S8x16384x1)) (constant S_ .f32 0x00000000#32)
          reducesTo_S8x16384x1_S8x16384_d2 h_S_))) e (ix3 h t j)
      = (Ideal.div (y (ix3 h t j)) (l (ix2 h t)) + -s (ix2 h t)) * e (ix3 h t j) := by
  pointwise
  rw [Fin.sum_univ_one]

variable (x0 x1 x2 x3 : Vec Ideal S16384x1024 .f32) (q k v g : Tok → Col → ℝ) (hq : ∀ t j, x0 (ix2 t j) = q t j)
  (hk : ∀ t j, x1 (ix2 t j) = k t j) (hv : ∀ t j, x2 (ix2 t j) = v t j) (hg : ∀ t j, x3 (ix2 t j) = g t j)

theorem r_q (t : Tok) (h : Head) (d : Fin 128) : val_main_v2 (F := Ideal) x0 (ix3 t h d) = x0 (ix2 t (lane h d)) * (scale : EReal) := by
  pointwise [val_main_v0, val_main_cst, val_main_v1, val_main_v2]
  rw [scale_eq]
  exact congrArg (fun c => x0 (ix2 t c) * _) (Fin.ext (by dsimp only; omega))
theorem r_k (t : Tok) (h : Head) (d : Fin 128) : val_main_v3 (F := Ideal) x1 (ix3 t h d) = x1 (ix2 t (lane h d)) := by
  pointwise [val_main_v3]
  exact congrArg (fun c => x1 (ix2 t c)) (Fin.ext (by dsimp only; omega))
theorem r_v (t : Tok) (h : Head) (d : Fin 128) : val_main_v4 (F := Ideal) x2 (ix3 t h d) = x2 (ix2 t (lane h d)) := by
  pointwise [val_main_v4]
  exact congrArg (fun c => x2 (ix2 t c)) (Fin.ext (by dsimp only; omega))
theorem r_g (t : Tok) (h : Head) (d : Fin 128) : val_main_v43 (F := Ideal) x3 (ix3 h d t) = x3 (ix2 t (lane h d)) := by
  pointwise [val_main_v42, val_main_v43]
  exact congrArg (fun c => x3 (ix2 t c)) (Fin.ext (by dsimp only; omega))

include hq hk in
theorem r_dot (h : Head) (t j : Tok) : val_main_v5 (F := Ideal) x0 x1 (ix3 h t j) = (score q k h t j : EReal) := by
  pointwise [val_main_v5]
  simp only [r_q, r_k]
  rw [score, Finset.sum_mul, coe_sum]
  refine Finset.sum_congr rfl fun d _ => ?_
  rw [hq, hk, ← EReal.coe_mul, ← EReal.coe_mul]
  exact congrArg _ (by ring)

include hq hk in
theorem r_score (h : Head) (t j : Tok) :
    val_main_v10 (F := Ideal) x0 x1 (ix3 h t j) = if j ≤ t then (score q k h t j : EReal) else ⊥ := by
  pointwise [val_main_v6, val_main_v7, val_main_v8, val_main_cst_0, val_main_v9, val_main_v10]
  rw [r_dot x0 x1 q k hq hk, neg_inf, mask_select j.val t.val (by omega) (by omega)]
  rfl

include hq hk in
theorem r_scoreE (h : Head) (t j : Tok) : ScoreE (val_main_v10 (F := Ideal) x0 x1 (ix3 h t j)) (weight q k h t j) := by
  rw [r_score x0 x1 q k hq hk, weight]
  split_ifs
  · exact Or.inl ⟨_, rfl, rfl⟩
  · exact Or.inr ⟨rfl, rfl⟩

include hq hk in
theorem r_max (h : Head) (t : Tok) : ∃ M : ℝ, val_main_v12 (F := Ideal) x0 x1 (ix2 h t) = M := by
  rw [show val_main_v12 (F := Ideal) x0 x1 (ix2 h t) = _ from fold_of _ h t]
  refine fold_real _ (fun j => (r_scoreE x0 x1 q k hq hk h t j).ne_top) t (score q k h t t) ?_
  rw [r_score x0 x1 q k hq hk, if_pos le_rfl]

theorem max_here : val_main_v19 (F := Ideal) x0 x1 = val_main_v12 x0 x1 := max_of _

include hq hk in
theorem r_exp (h : Head) (t j : Tok) (M : ℝ) (hM : val_main_v12 (F := Ideal) x0 x1 (ix2 h t) = M) :
    val_main_v32 (F := Ideal) x0 x1 (ix3 h t j) = ((Real.exp (-M) * weight q k h t j : ℝ) : EReal) := by
  unfold val_main_v32 val_main_v31 val_main_v30 val_main_v29
  rw [exp_of, max_here, hM, (r_scoreE x0 x1 q k hq hk h t j).exp]

include hq hk in
theorem r_sum (h : Head) (t : Tok) (M : ℝ) (hM : val_main_v12 (F := Ideal) x0 x1 (ix2 h t) = M) :
    val_main_v33 (F := Ideal) x0 x1 (ix2 h t) = ((Real.exp (-M) * norm q k h t : ℝ) : EReal) := by
  unfold val_main_v33 val_main_cst_10
  rw [sum_of]
  simp only [r_exp x0 x1 q k hq hk h t _ M hM]
  rw [← coe_sum, Attn.norm, Finset.mul_sum]

include hq hk in
theorem r_prob (h : Head) (t j : Tok) : val_main_v36 (F := Ideal) x0 x1 (ix3 h t j) = (prob q k h t j : EReal) := by
  obtain ⟨M, hM⟩ := r_max x0 x1 q k hq hk h t
  have hn := norm_pos q k h t
  unfold val_main_v36 val_main_v35 val_main_v34
  rw [prob_of, r_exp x0 x1 q k hq hk h t j M hM, r_sum x0 x1 q k hq hk h t M hM, Ideal.div_coe (mul_pos (Real.exp_pos _) hn).ne',
    ← EReal.coe_mul, prob]
  refine congrArg _ ?_
  have := (Real.exp_pos (-M)).ne'
  field_simp

include hv hg in
theorem r_dprob (h : Head) (t j : Tok) : val_main_v44 (F := Ideal) x2 x3 (ix3 h t j) = (dprob v g h t j : EReal) := by
  pointwise [val_main_v44]
  simp only [r_v, r_g, hv, hg, ← EReal.coe_mul]
  rw [← coe_sum, dprob]

include hq hk hv hg in
theorem r_mean (h : Head) (t : Tok) (M : ℝ) (hM : val_main_v12 (F := Ideal) x0 x1 (ix2 h t) = M) :
    val_main_v50 (F := Ideal) x0 x1 x2 x3 (ix2 h t)
      = ((delta q k v g h t * (1 / (Real.exp (-M) * norm q k h t)) : ℝ) : EReal) := by
  have hn := norm_pos q k h t
  have he := Real.exp_pos (-M)
  unfold val_main_v50 val_main_v49 val_main_v48 val_main_v47 val_main_v39 val_main_v38 val_main_cst_11 val_main_v37 val_main_v34 val_main_cst_12
  rw [mean_of, r_sum x0 x1 q k hq hk h t M hM, one, ← EReal.coe_mul, Ideal.div_coe (mul_pos (mul_pos he hn) (mul_pos he hn)).ne', ← EReal.coe_mul]
  simp only [r_exp x0 x1 q k hq hk h t _ M hM, r_dprob x2 x3 v g hv hg, ← EReal.coe_mul]
  rw [← coe_sum, delta, Finset.sum_mul]
  refine congrArg _ (Finset.sum_congr rfl fun j _ => ?_)
  rw [prob]
  field_simp

include hq hk hv hg in
theorem r_ds (h : Head) (t j : Tok) : val_main_v60 (F := Ideal) x0 x1 x2 x3 (ix3 h t j) = (dscore q k v g h t j : EReal) := by
  obtain ⟨M, hM⟩ := r_max x0 x1 q k hq hk h t
  have hn := norm_pos q k h t
  have he := Real.exp_pos (-M)
  have e : val_main_v58 (F := Ideal) x0 x1 x2 x3 (ix3 h t j) = (dscore q k v g h t j : EReal) := by
    unfold val_main_v58 val_main_v57 val_main_v56 val_main_v55 val_main_v54 val_main_v53 val_main_v52 val_main_v51 val_main_v34 val_main_cst_13
    rw [ds_of, r_exp x0 x1 q k hq hk h t j M hM, r_sum x0 x1 q k hq hk h t M hM, r_mean x0 x1 x2 x3 q k v g hq hk hv hg h t M hM,
      r_dprob x2 x3 v g hv hg, Ideal.div_coe (mul_pos he hn).ne', ← EReal.coe_mul, ← EReal.coe_neg, ← EReal.coe_add, ← EReal.coe_mul, dscore, prob]
    refine congrArg _ ?_
    field_simp
    try ring
  pointwise [val_main_v6, val_main_v7, val_main_v8, val_main_cst_14, val_main_v59, val_main_v60]
  rw [e, mask_select j.val t.val (by omega) (by omega)]
  split_ifs with hj
  · rfl
  · rw [dscore_hidden q k v g h t j hj, EReal.coe_zero]

include hq hk hv hg in
theorem r_gradK (j : Tok) (c : Col) : val_main_v67 (F := Ideal) x0 x1 x2 x3 (ix2 j c) = (gradK q k v g j c : EReal) := by
  pointwise [val_main_v61, val_main_v62, val_main_v67]
  simp only [r_q, r_ds x0 x1 x2 x3 q k v g hq hk hv hg, hq, ← EReal.coe_mul]
  rw [← coe_sum, gradK]
  refine congrArg _ (Finset.sum_congr rfl fun t _ => ?_)
  exact congrArg₂ (fun h c => dscore q k v g h t j * (q t c * scale)) (Fin.ext rfl) (Fin.ext (by dsimp only; omega))

include hq hk hg in
theorem r_gradV (j : Tok) (c : Col) : val_main_v68 (F := Ideal) x0 x1 x3 (ix2 j c) = (gradV q k g j c : EReal) := by
  pointwise [val_main_v45, val_main_v46, val_main_v68]
  simp only [r_g, r_prob x0 x1 q k hq hk, hg, ← EReal.coe_mul]
  rw [← coe_sum, gradV]
  refine congrArg _ (Finset.sum_congr rfl fun t _ => ?_)
  rw [mul_comm]
  exact congrArg₂ (fun h c => prob q k h t j * g t c) (Fin.ext rfl) (Fin.ext (by dsimp only; omega))

include hq hk hv hg in
theorem r_gradQ (h : Head) (b : Fin 32) (d : Fin 128) (r : Fin 512) :
    val_main_v66 (F := Ideal) x0 x1 x2 x3 (ix4 h b d r) = (gradQ q k v g h (row b r) d : EReal) := by
  have e1 : ∀ p, (⟨b.val * 512 + r.val, p⟩ : Tok) = row b r := fun _ => Fin.ext (by dsimp only; omega)
  pointwise [val_main_v63, val_main_v64, val_main_v65, val_main_v66]
  simp only [r_k, r_ds x0 x1 x2 x3 q k v g hq hk hv hg, hk, ← EReal.coe_mul]
  rw [← coe_sum, gradQ]
  try simp only [e1]

end Grad.Ref

end
-- ==== Proof.Grad.Join.lean ====
/- The three arrays after the whole grid are the reference's three results, where every argument is finite. -/
module

public import proofs.«01_k».proof.Proof.Grad.Arrays
public import proofs.«01_k».proof.Proof.Grad.Ref
public import proofs.«01_k».proof.Proof.Back.Pre
public import proofs.«01_k».proof.Proof.Gen.Reference6Ideal.Run
public import proofs.«01_k».proof.Defs

@[expose] public section

set_option maxRecDepth 16384

noncomputable section

namespace Grad

open Idealize Idealize.ShloMosaic Idealize.SL.Sem Cert.Kernel6Ideal Cert.Kernel6Ideal.Gen Cert.Kernel6Ideal.Grad
open Conv hiding Tok
open Cert.Reference6Ideal.Read (val_main_v66 val_main_v67 val_main_v68 val_main_v66_eq val_main_v67_eq val_main_v68_eq)
open Attn (Tok Col Head row)

theorem pre_facts : Cert.Pre_finite6.Facts where
  bcast_S_S16384x1024 := by decide
  reducesTo_S16384x1024_S_d0_1 := by decide
  h_S_ := by decide

/-- Where the precondition is one, every argument has real entries. -/
theorem real_of_pre [Cert.Pre_finite6.Facts] (x0 x1 x2 x3 : FVec Ideal Cert.Pre_finite6.S16384x1024 .f32)
    (h : Cert.Pre_finite6.fn x0 x1 x2 x3 = fun _ => 1#1) :
    (∀ i, Back.Real' (x0 i)) ∧ (∀ i, Back.Real' (x1 i)) ∧ (∀ i, Back.Real' (x2 i)) ∧ ∀ i, Back.Real' (x3 i) := by
  have e := congrFun h (fun k => k.elim0)
  obtain ⟨e, e3⟩ := IntOp.andi_eq_one.1 (e : IntOp.andi _ _ = 1#1)
  obtain ⟨e, e2⟩ := IntOp.andi_eq_one.1 (e : IntOp.andi _ _ = 1#1)
  obtain ⟨e0, e1⟩ := IntOp.andi_eq_one.1 (e : IntOp.andi _ _ = 1#1)
  exact ⟨Back.real_of_all x0 _ _ _ _ e0, Back.real_of_all x1 _ _ _ _ e1, Back.real_of_all x2 _ _ _ _ e2, Back.real_of_all x3 _ _ _ _ e3⟩

section Arrays

variable (m : (ℓ : Loc nD τ sig) → Buf (Elt Ideal) ℓ) (c : Dev nD) (q k v g : Tok → Col → ℝ)
  (hq : ∀ t j, in0 m c (ix2 t j) = q t j) (hk : ∀ t j, in1 m c (ix2 t j) = k t j)
  (hv : ∀ t j, in2 m c (ix2 t j) = v t j) (hg : ∀ t j, in3 m c (ix2 t j) = g t j)

include hq hk hv hg in
theorem j_k : (dats m 0 c).arrAt 7 cfg0.N = val_main_v67 (F := Ideal) (in0 m c) (in1 m c) (in2 m c) (in3 m c) := by
  rw [arr_k m c q k v g hq hk hv hg]
  funext i
  obtain ⟨j, x, rfl⟩ : ∃ (j : Tok) (x : Col), i = ix2 j x := ⟨i 0, i 1, eq_ix2 i⟩
  exact (Ref.r_gradK (in0 m c) (in1 m c) (in2 m c) (in3 m c) q k v g hq hk hv hg j x).symm

include hq hk hg in
theorem j_v : (dats m 0 c).arrAt 8 cfg0.N = val_main_v68 (F := Ideal) (in0 m c) (in1 m c) (in3 m c) := by
  rw [arr_v m c q k g hq hk hg]
  funext i
  obtain ⟨j, x, rfl⟩ : ∃ (j : Tok) (x : Col), i = ix2 j x := ⟨i 0, i 1, eq_ix2 i⟩
  exact (Ref.r_gradV (in0 m c) (in1 m c) (in3 m c) q k g hq hk hg j x).symm

include hq hk hv hg in
theorem j_q : (dats m 0 c).arrAt 9 cfg0.N = val_main_v66 (F := Ideal) (in0 m c) (in1 m c) (in2 m c) (in3 m c) := by
  rw [arr_q m c q k v g hq hk hv hg]
  funext i
  obtain ⟨h, b, d, r, rfl⟩ : ∃ (h : Head) (b : Fin 32) (d : Fin 128) (r : Fin 512), i = ix4 h b d r :=
    ⟨i 0, i 1, i 2, i 3, eq_ix4 i⟩
  exact (Ref.r_gradQ (in0 m c) (in1 m c) (in2 m c) (in3 m c) q k v g hq hk hv hg h b d r).symm

end Arrays

/-- The run with its three arrays named. -/
theorem run_arrays (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v42_0) = (dats m 0 c).arrAt 7 cfg0.N
      ∧ r.2.mem ((c.tc : Thread nD τ).loc main_v42_1) = (dats m 0 c).arrAt 8 cfg0.N
      ∧ r.2.mem ((c.tc : Thread nD τ).loc main_v42_2) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h.1 c).1 7, (h.1 c).1 8, (h.1 c).1 9, h.2 c⟩) (θ_run_and (run_main m ρ) (unchanged m ρ))

/-- The kernel's three arrays are the reference's three results. -/
theorem value : Cert.algebraic_Kernel6Ideal_Reference6Ideal_pre_finite6 (hKernel6Ideal := Cert.Kernel6Ideal.Gen.facts)
    (hReference6Ideal := Cert.Reference6Ideal.Gen.facts) (hPre_finite6 := pre_facts) := by
  intro m ρ m' ρ' hpre hagree
  refine ⟨_, _, _, run_arrays m ρ, ?_⟩
  refine (θ_run Cert.Reference6Ideal.defs _ _).mono (fun r h c => ?_) (Cert.Reference6Ideal.Value.run m' ρ')
  obtain ⟨h0, h1, h2, ha⟩ := h c
  obtain ⟨a0, a1, a2, a3⟩ := hagree c
  obtain ⟨f0, f1, f2, f3⟩ := @real_of_pre pre_facts _ _ _ _ (hpre c)
  choose q hq using fun (t : Tok) (j : Col) => f0 (ix2 t j)
  choose k hk using fun (t : Tok) (j : Col) => f1 (ix2 t j)
  choose v hv using fun (t : Tok) (j : Col) => f2 (ix2 t j)
  choose g hg using fun (t : Tok) (j : Col) => f3 (ix2 t j)
  refine ⟨h0.trans ?_, h1.trans ?_, h2.trans ?_, ha⟩
  · refine (val_main_v67_eq _ _).trans (Eq.trans ?_ (j_k m c q k v g hq hk hv hg).symm)
    rw [a0, a1, a2, a3]
  · refine (val_main_v68_eq _ _ _).trans (Eq.trans ?_ (j_v m c q k g hq hk hg).symm)
    rw [a0, a1, a3]
  · refine (val_main_v66_eq _ _).trans (Eq.trans ?_ (j_q m c q k v g hq hk hv hg).symm)
    rw [a0, a1, a2, a3]

end Grad

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Loops
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Loops
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Loops
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Loops
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Conv.Join
public import proofs.«01_k».proof.Proof.Prod.Join
public import proofs.«01_k».proof.Proof.Back.Join
public import proofs.«01_k».proof.Proof.Half.Join
public import proofs.«01_k».proof.Proof.Attn.FrameBits
public import proofs.«01_k».proof.Proof.Attn.Join
public import proofs.«01_k».proof.Proof.Grad.FrameBits
public import proofs.«01_k».proof.Proof.Grad.Join
public import Idealize.ShloMosaic.Adequacy
public import Idealize.ShloMosaic.Init

@[expose] public section

noncomputable section

namespace Cert.Proof

open Idealize.ShloMosaic Idealize.SL.Sem Cert.Kernel

theorem frame_r : Cert.quiescent_ReferenceIdeal := fun m ρ _ =>
  (θ_run Cert.ReferenceIdeal.defs _ _).mono (fun r h => ⟨fun c => (h c).2.2.2.2.2.2,
      Idealize.ShloMosaic.sem_eq_zero_of_no_sems (by decide) r.2⟩)
    (Cert.ReferenceIdeal.Value.run (F := Ideal) m ρ)

theorem frame_r2 : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

theorem frame_r3 : Cert.quiescent_Reference3Ideal := fun m ρ _ =>
  (θ_run Cert.Reference3Ideal.defs _ _).mono (fun r h => ⟨fun c => (h c).2.2.2.2.2.2.2,
      Idealize.ShloMosaic.sem_eq_zero_of_no_sems (by decide) r.2⟩)
    (Cert.Reference3Ideal.Value.run (F := Ideal) m ρ)

theorem frame_r4 : Cert.quiescent_Reference4Ideal := fun m ρ _ =>
  (θ_run Cert.Reference4Ideal.defs _ _).mono (fun r h => ⟨fun c => (h c).2.2.2,
      Idealize.ShloMosaic.sem_eq_zero_of_no_sems (by decide) r.2⟩)
    (Cert.Reference4Ideal.Value.run (F := Ideal) m ρ)

theorem frame_r5 : Cert.quiescent_Reference5Ideal := fun m ρ _ =>
  (θ_run Cert.Reference5Ideal.defs _ _).mono (fun r h => ⟨fun c => (h c).2.2,
      Idealize.ShloMosaic.sem_eq_zero_of_no_sems (by decide) r.2⟩)
    (Cert.Reference5Ideal.Value.run (F := Ideal) m ρ)

theorem frame_r6 : Cert.quiescent_Reference6Ideal := fun m ρ _ =>
  (θ_run Cert.Reference6Ideal.defs _ _).mono (fun r h => ⟨fun c => (h c).2.2.2,
      Idealize.ShloMosaic.sem_eq_zero_of_no_sems (by decide) r.2⟩)
    (Cert.Reference6Ideal.Value.run (F := Ideal) m ρ)

/-- The attention's one named constant: the reciprocal of the logarithm of two. -/
theorem preserves5 : Cert.preserves_Kernel5_Kernel5Ideal :=
  Idealize.ShloMosaic.IdealRules.named_const.statement Cert.Kernel5Ideal.κ "log2e" .f32 0x3FB8AA3B#32 (((Real.log 2)⁻¹ : ℝ) : EReal) rfl

/-- Its backward's: the logarithm of two. -/
theorem preserves6 : Cert.preserves_Kernel6_Kernel6Ideal :=
  Idealize.ShloMosaic.IdealRules.named_const.statement Cert.Kernel6Ideal.κ "ln2" .f32 0x3F317218#32 ((Real.log 2 : ℝ) : EReal) rfl

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, Back.pre_facts, Attn.pre_facts, Grad.pre_facts,
    fun m ρ _ => Cert.Kernel.Gen.frame m ρ, fun m ρ _ => Cert.KernelIdeal.Gen.frame m ρ, frame_r,
    fun m ρ _ => Cert.Kernel2.Gen.frame m ρ, fun m ρ _ => Cert.Kernel2Ideal.Gen.frame m ρ, frame_r2,
    fun m ρ _ => Cert.Kernel3.Gen.frame m ρ, fun m ρ _ => Cert.Kernel3Ideal.Gen.frame m ρ,
    fun m ρ _ => Cert.Kernel3Ideal.Gen.frame m ρ, frame_r3, fun m ρ _ => frame_r3 m ρ trivial,
    fun m ρ _ => Cert.Kernel4.Gen.frame m ρ, fun m ρ _ => Cert.Kernel4Ideal.Gen.frame m ρ, frame_r4,
    fun m ρ _ => Cert.Kernel5.Attn.quiet m ρ, fun m ρ _ => Cert.Kernel5Ideal.Attn.quiet m ρ,
    fun m ρ _ => Cert.Kernel5Ideal.Attn.quiet m ρ, frame_r5, fun m ρ _ => frame_r5 m ρ trivial,
    fun m ρ _ => Cert.Kernel6.Grad.quiet m ρ, fun m ρ _ => Cert.Kernel6Ideal.Grad.quiet m ρ,
    fun m ρ _ => Cert.Kernel6Ideal.Grad.quiet m ρ, frame_r6, fun m ρ _ => frame_r6 m ρ trivial,
    trivial, Conv.value, trivial, Prod.value, trivial, Back.value, trivial, Half.value, preserves5, Attn.value,
    preserves6, Grad.value⟩

end Cert.Proof

end
